-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2 (m : (ℓ : Loc Cert.Reference2.nD Cert.Reference2.τ Cert.Reference2.sig) → Buf (Elt Bits) ℓ) : Prop :=
  True

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3 (m : (ℓ : Loc Cert.Reference3.nD Cert.Reference3.τ Cert.Reference3.sig) → Buf (Elt Bits) ℓ) : Prop :=
  True

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 [hPre_rows_in_range : Cert.Pre_rows_in_range.Facts] (m : (ℓ : Loc Cert.Kernel4.nD Cert.Kernel4.τ Cert.Kernel4.sig) → Buf (Elt Bits) ℓ) : Prop :=
  ∀ c : Dev Cert.Kernel4.nD,
    (Cert.Pre_rows_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_rows_in_range : Cert.Pre_rows_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_rows_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4 (m : (ℓ : Loc Cert.Reference4.nD Cert.Reference4.τ Cert.Reference4.sig) → Buf (Elt Bits) ℓ) : Prop :=
  True

def Pre_Reference4Ideal (m : (ℓ : Loc Cert.Reference4Ideal.nD Cert.Reference4Ideal.τ Cert.Reference4Ideal.sig) → Buf (Elt Ideal) ℓ) : Prop :=
  True

def Pre_Reference4Ideal_rows_in_range [hPre_rows_in_range : Cert.Pre_rows_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_rows_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_front [hPre_finite_front : Cert.Pre_finite_front.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_front.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_front [hPre_finite_front : Cert.Pre_finite_front.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_front.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4)
      ∧ r.2.mem ((c.tc : Thread Cert.Reference2.nD Cert.Reference2.τ).loc Cert.Reference2.main_arg5) = m ((c.tc : Thread Cert.Reference2.nD Cert.Reference2.τ).loc Cert.Reference2.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] [hPre_rows_in_range : Cert.Pre_rows_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_rows_in_range : Cert.Pre_rows_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_rows_in_range [hReference4Ideal : Cert.Reference4Ideal.Facts] [hPre_rows_in_range : Cert.Pre_rows_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_rows_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Kernel5Ideal_pre_finite_front [hKernel5Ideal : Cert.Kernel5Ideal.Facts] [hPre_finite_front : Cert.Pre_finite_front.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_front m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Reference5Ideal_pre_finite_front [hReference5Ideal : Cert.Reference5Ideal.Facts] [hPre_finite_front : Cert.Pre_finite_front.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_front m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v29)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v29) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v73) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "mask" .f32 0xF149F2CA#32 ⊥

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] [hPre_rows_in_range : Cert.Pre_rows_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_front [hKernel5Ideal : Cert.Kernel5Ideal.Facts] [hReference5Ideal : Cert.Reference5Ideal.Facts] [hPre_finite_front : Cert.Pre_finite_front.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_front m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v32_0)) (v1 : (c : Dev Cert.Kernel5Ideal.nD) → Buf (Elt Ideal) ((c.tc : Thread Cert.Kernel5Ideal.nD Cert.Kernel5Ideal.τ).loc Cert.Kernel5Ideal.main_v32_1)) (v2 : (c : Dev Cert.Kernel5Ideal.nD) → Buf (Elt Ideal) ((c.tc : Thread Cert.Kernel5Ideal.nD Cert.Kernel5Ideal.τ).loc Cert.Kernel5Ideal.main_v32_2)) (v3 : (c : Dev Cert.Kernel5Ideal.nD) → Buf (Elt Ideal) ((c.tc : Thread Cert.Kernel5Ideal.nD Cert.Kernel5Ideal.τ).loc Cert.Kernel5Ideal.main_v32_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32_0) = v0 c
          ∧ r.2.mem ((c.tc : Thread Cert.Kernel5Ideal.nD Cert.Kernel5Ideal.τ).loc Cert.Kernel5Ideal.main_v32_1) = v1 c
          ∧ r.2.mem ((c.tc : Thread Cert.Kernel5Ideal.nD Cert.Kernel5Ideal.τ).loc Cert.Kernel5Ideal.main_v32_2) = v2 c
          ∧ r.2.mem ((c.tc : Thread Cert.Kernel5Ideal.nD Cert.Kernel5Ideal.τ).loc Cert.Kernel5Ideal.main_v32_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v155) = v0 c
          ∧ r.2.mem ((c.tc : Thread Cert.Reference5Ideal.nD Cert.Reference5Ideal.τ).loc Cert.Reference5Ideal.main_v157) = v1 c
          ∧ r.2.mem ((c.tc : Thread Cert.Reference5Ideal.nD Cert.Reference5Ideal.τ).loc Cert.Reference5Ideal.main_v159) = v2 c
          ∧ r.2.mem ((c.tc : Thread Cert.Reference5Ideal.nD Cert.Reference5Ideal.τ).loc Cert.Reference5Ideal.main_v161) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def Claim : Prop :=
  ∃ (hKernel : Cert.Kernel.Facts) (hKernelIdeal : Cert.KernelIdeal.Facts) (hReference : Cert.Reference.Facts) (hReferenceIdeal : Cert.ReferenceIdeal.Facts) (hKernel2 : Cert.Kernel2.Facts) (hKernel2Ideal : Cert.Kernel2Ideal.Facts) (hReference2 : Cert.Reference2.Facts) (hReference2Ideal : Cert.Reference2Ideal.Facts) (hKernel3 : Cert.Kernel3.Facts) (hKernel3Ideal : Cert.Kernel3Ideal.Facts) (hReference3 : Cert.Reference3.Facts) (hReference3Ideal : Cert.Reference3Ideal.Facts) (hKernel4 : Cert.Kernel4.Facts) (hKernel4Ideal : Cert.Kernel4Ideal.Facts) (hReference4 : Cert.Reference4.Facts) (hReference4Ideal : Cert.Reference4Ideal.Facts) (hKernel5 : Cert.Kernel5.Facts) (hKernel5Ideal : Cert.Kernel5Ideal.Facts) (hReference5Ideal : Cert.Reference5Ideal.Facts) (hPre_in_range : Cert.Pre_in_range.Facts) (hPre_experts_in_range : Cert.Pre_experts_in_range.Facts) (hPre_finite_scores : Cert.Pre_finite_scores.Facts) (hPre_rows_in_range : Cert.Pre_rows_in_range.Facts) (hPre_finite_front : Cert.Pre_finite_front.Facts),
    quiescent_Kernel (hKernel := hKernel) (hPre_in_range := hPre_in_range)
    ∧ quiescent_KernelIdeal (hKernelIdeal := hKernelIdeal) (hPre_in_range := hPre_in_range)
    ∧ quiescent_Reference (hReference := hReference)
    ∧ quiescent_Reference_pre_in_range (hReference := hReference) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2 (hReference2 := hReference2)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3 (hReference3 := hReference3)
    ∧ quiescent_Reference3Ideal (hReference3Ideal := hReference3Ideal)
    ∧ quiescent_Reference3Ideal_pre_finite_scores (hReference3Ideal := hReference3Ideal) (hPre_finite_scores := hPre_finite_scores)
    ∧ quiescent_Kernel4 (hKernel4 := hKernel4) (hPre_rows_in_range := hPre_rows_in_range)
    ∧ quiescent_Kernel4Ideal (hKernel4Ideal := hKernel4Ideal) (hPre_rows_in_range := hPre_rows_in_range)
    ∧ quiescent_Reference4 (hReference4 := hReference4)
    ∧ quiescent_Reference4Ideal (hReference4Ideal := hReference4Ideal)
    ∧ quiescent_Reference4Ideal_pre_rows_in_range (hReference4Ideal := hReference4Ideal) (hPre_rows_in_range := hPre_rows_in_range)
    ∧ quiescent_Kernel5 (hKernel5 := hKernel5)
    ∧ quiescent_Kernel5Ideal (hKernel5Ideal := hKernel5Ideal)
    ∧ quiescent_Kernel5Ideal_pre_finite_front (hKernel5Ideal := hKernel5Ideal) (hPre_finite_front := hPre_finite_front)
    ∧ quiescent_Reference5Ideal (hReference5Ideal := hReference5Ideal)
    ∧ quiescent_Reference5Ideal_pre_finite_front (hReference5Ideal := hReference5Ideal) (hPre_finite_front := hPre_finite_front)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
    ∧ preserves_Kernel4_Kernel4Ideal
    ∧ algebraic_Kernel4Ideal_Reference4Ideal (hKernel4Ideal := hKernel4Ideal) (hReference4Ideal := hReference4Ideal) (hPre_rows_in_range := hPre_rows_in_range)
    ∧ preserves_Kernel5_Kernel5Ideal
    ∧ algebraic_Kernel5Ideal_Reference5Ideal_pre_finite_front (hKernel5Ideal := hKernel5Ideal) (hReference5Ideal := hReference5Ideal) (hPre_finite_front := hPre_finite_front)
-- ==== Pre_experts_in_range.lean ====
abbrev S192 : Shape := ⟨1, ![192]⟩
abbrev S1 : Shape := ⟨1, ![1]⟩
abbrev S49152x1024 : Shape := ⟨2, ![49152, 1024]⟩
abbrev S64x2048x512 : Shape := ⟨3, ![64, 2048, 512]⟩
abbrev S64x512x2048 : Shape := ⟨3, ![64, 512, 2048]⟩
abbrev S_ : Shape := ⟨0, ![]⟩

class Facts : Prop where
  bcast_S_S192 : S_.BroadcastsInDim S192 (![] : Fin 0 → Fin S192.rank)
  reducesTo_S192_S_d0 : S192.ReducesTo [0] S_
  h_S_ : 0 < S_.numel

variable [Facts]

def fn {F : FTy → Type} [FloatOps F] (main_arg0 : IVec S192 32) (main_arg1 : IVec S1 32) (main_arg2 : IVec S49152x1024 32) (main_arg3 : FVec F S64x2048x512 .f32) (main_arg4 : FVec F S64x2048x512 .f32) (main_arg5 : FVec F S64x512x2048 .f32) : IVec S_ 1 :=
  let main_c : IVec S_ 32 := constantI S_ 32 0#32
  let main_v0 : IVec S192 32 := broadcastInDim S192 ![] bcast_S_S192 main_c
  let main_v1 : IVec S192 1 := cmpi .sge main_arg0 main_v0
  let main_c_0 : IVec S_ 32 := constantI S_ 32 64#32
  let main_v2 : IVec S192 32 := broadcastInDim S192 ![] bcast_S_S192 main_c_0
  let main_v3 : IVec S192 1 := cmpi .slt main_arg0 main_v2
  let main_v4 : IVec S192 1 := andi main_v1 main_v3
  let main_c_1 : IVec S_ 1 := constantI S_ 1 1#1
  let main_v5 : IVec S_ 1 := (fun x v => Host.reduce IntOp.andi x v reducesTo_S192_S_d0 h_S_) main_v4 main_c_1
  main_v5
-- ==== Pre_finite_front.lean ====
abbrev S16384x2048 : Shape := ⟨2, ![16384, 2048]⟩
abbrev S2048 : Shape := ⟨1, ![2048]⟩
abbrev S2048x2880 : Shape := ⟨2, ![2048, 2880]⟩
abbrev S1024 : Shape := ⟨1, ![1024]⟩
abbrev S8x128x128 : Shape := ⟨3, ![8, 128, 128]⟩
abbrev S8x128 : Shape := ⟨2, ![8, 128]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S2048x32 : Shape := ⟨2, ![2048, 32]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x2880 : S_.BroadcastsInDim S2048x2880 (![] : Fin 0 → Fin S2048x2880.rank)
  reducesTo_S2048x2880_S_d0_1 : S2048x2880.ReducesTo [0, 1] S_
  bcast_S_S512 : S_.BroadcastsInDim S512 (![] : Fin 0 → Fin S512.rank)
  reducesTo_S512_S_d0 : S512.ReducesTo [0] S_
  bcast_S_S512x1536 : S_.BroadcastsInDim S512x1536 (![] : Fin 0 → Fin S512x1536.rank)
  reducesTo_S512x1536_S_d0_1 : S512x1536.ReducesTo [0, 1] S_

variable [Facts]

def fn_part1 {F : FTy → Type} [FloatOps F] (main_arg8 : FVec F S512x1536 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1536 .f32 := Host.absf main_arg8
  let main_cst_6 : FVec F S_ .f32 := constant S_ .f32 0x7F800000#32
  let main_v20 : FVec F S512x1536 .f32 := broadcastInDim S512x1536 ![] bcast_S_S512x1536 main_cst_6
  let main_v21 : IVec S512x1536 1 := cmpf .olt main_v19 main_v20
  let main_c_7 : IVec S_ 1 := constantI S_ 1 1#1
  let main_v22 : IVec S_ 1 := (fun x v => Host.reduce IntOp.andi x v reducesTo_S512x1536_S_d0_1 h_S_) main_v21 main_c_7
  let main_v23 : IVec S_ 1 := andi main_v18 main_v22
  main_v23

def fn {F : FTy → Type} [FloatOps F] (main_arg0 : FVec F S16384x2048 .f32) (main_arg1 : FVec F S2048 .f32) (main_arg2 : FVec F S2048x2880 .f32) (main_arg3 : FVec F S1024 .f32) (main_arg4 : FVec F S1024 .f32) (main_arg5 : FVec F S8x128x128 .f32) (main_arg6 : FVec F S8x128 .f32) (main_arg7 : FVec F S512 .f32) (main_arg8 : FVec F S512x1536 .f32) (main_arg9 : FVec F S256 .f32) (main_arg10 : FVec F S256x2048 .f32) (main_arg11 : FVec F S1024 .f32) (main_arg12 : FVec F S2048x32 .f32) (main_arg13 : FVec F S2048x32 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x2880 .f32 := Host.absf main_arg2
  let main_cst_2 : FVec F S_ .f32 := constant S_ .f32 0x7F800000#32
  let main_v10 : FVec F S2048x2880 .f32 := broadcastInDim S2048x2880 ![] bcast_S_S2048x2880 main_cst_2
  let main_v11 : IVec S2048x2880 1 := cmpf .olt main_v9 main_v10
  let main_c_3 : IVec S_ 1 := constantI S_ 1 1#1
  let main_v12 : IVec S_ 1 := (fun x v => Host.reduce IntOp.andi x v reducesTo_S2048x2880_S_d0_1 h_S_) main_v11 main_c_3
  let main_v13 : IVec S_ 1 := andi main_v8 main_v12
  let main_v14 : FVec F S512 .f32 := Host.absf main_arg7
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg8 main_v13 main_v16
-- ==== Pre_finite_scores.lean ====
abbrev S16384x2048 : Shape := ⟨2, ![16384, 2048]⟩
abbrev S16384x1024 : Shape := ⟨2, ![16384, 1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .bf16) (main_arg1 : FVec F S16384x2048 .bf16) (main_arg2 : FVec F S16384x1024 .bf16) : IVec S_ 1 :=
  let main_v0 : FVec F S16384x2048 .bf16 := Host.absf main_arg0
  let main_cst : FVec F S_ .bf16 := constant S_ .bf16 0x7F80#16
  let main_v1 : FVec F S16384x2048 .bf16 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .bf16 := Host.absf main_arg1
  let main_cst_0 : FVec F S_ .bf16 := constant S_ .bf16 0x7F80#16
  let main_v5 : FVec F S16384x2048 .bf16 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Pre_in_range.lean ====
abbrev S16384x2 : Shape := ⟨2, ![16384, 2]⟩
abbrev S16384x1024 : Shape := ⟨2, ![16384, 1024]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : IVec S16384x2 32) (main_arg1 : IVec S16384x1024 32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 64#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  main_v5
-- ==== Pre_rows_in_range.lean ====
abbrev S32768 : Shape := ⟨1, ![32768]⟩
abbrev S16384x2048 : Shape := ⟨2, ![16384, 2048]⟩
abbrev S16384x128 : Shape := ⟨2, ![16384, 128]⟩
abbrev S2048 : Shape := ⟨1, ![2048]⟩
abbrev S49152x1024 : Shape := ⟨2, ![49152, 1024]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : IVec S32768 32) (main_arg1 : FVec F S16384x2048 .f32) (main_arg2 : FVec F S16384x128 .f32) (main_arg3 : FVec F S2048 .f32) (main_arg4 : IVec S49152x1024 32) : IVec S_ 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 49152#32
  let main_v2 : IVec S32768 32 := broadcastInDim S32768 ![] bcast_S_S32768 main_c_0
  let main_v3 : IVec S32768 1 := cmpi .slt main_arg0 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== Kernel.lean ====
abbrev S16384x2 : Shape := ⟨2, ![16384, 2]⟩
abbrev S16384x1024 : Shape := ⟨2, ![16384, 1024]⟩
abbrev S32768 : Shape := ⟨1, ![32768]⟩
abbrev S32768x1 : Shape := ⟨2, ![32768, 1]⟩
abbrev S64 : Shape := ⟨1, ![64]⟩
abbrev S1x64 : Shape := ⟨2, ![1, 64]⟩
abbrev S32768x64 : Shape := ⟨2, ![32768, 64]⟩
abbrev S_ : Shape := ⟨0, ![]⟩
abbrev S49152x1024 : Shape := ⟨2, ![49152, 1024]⟩
abbrev S64x1x512 : Shape := ⟨3, ![64, 1, 512]⟩
abbrev S1x1x512 : Shape := ⟨3, ![1, 1, 512]⟩
abbrev S256x1024 : Shape := ⟨2, ![256, 1024]⟩
abbrev S1x1x1 : Shape := ⟨3, ![1, 1, 1]⟩
abbrev S1x1024 : Shape := ⟨2, ![1, 1024]⟩

abbrev nBuf : Space → Nat
  | .hbm => 61
  | .vmem => 2
  | .smem => 2
  | _ => 0

abbrev bufTy : (tb : Table) → Fin (tcTables nBuf tb) → BufTy
  | .hbm, ⟨0, _⟩ => ⟨S16384x2, .i32⟩
  | .hbm, ⟨1, _⟩ => ⟨S16384x1024, .i32⟩
  | .hbm, ⟨2, _⟩ => ⟨S32768, .i32⟩
  | .hbm, ⟨3, _⟩ => ⟨S32768x1, .i32⟩
  | .hbm, ⟨4, _⟩ => ⟨S64, .i32⟩
  | .hbm, ⟨5, _⟩ => ⟨S1x64, .i32⟩
  | .hbm, ⟨6, _⟩ => ⟨S32768x64, .i32⟩
  | .hbm, ⟨7, _⟩ => ⟨S32768x64, .i32⟩
  | .hbm, ⟨8, _⟩ => ⟨S32768x64, .i1⟩
  | .hbm, ⟨9, _⟩ => ⟨S32768x64, .i32⟩
  | .hbm, ⟨10, _⟩ => ⟨S_, .i32⟩
  | .hbm, ⟨11, _⟩ => ⟨S_, .i32⟩
  | .hbm, ⟨12, _⟩ => ⟨S32768x64, .i32⟩
  | .hbm, ⟨13, _⟩ => ⟨S32768x64, .i32⟩
  | .hbm, ⟨14, _⟩ => ⟨S_, .i32⟩
  | .hbm, ⟨15, _⟩ => ⟨S32768, .i32⟩
  | .hbm, ⟨16, _⟩ => ⟨S_, .i32⟩
  | .hbm, ⟨17, _⟩ => ⟨S32768, .i32⟩
  | .hbm, ⟨18, _⟩ => ⟨S32768, .i32⟩
  | .hbm, ⟨19, _⟩ => ⟨S1x64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S64, .i32⟩
  | .hbm, ⟨34, _⟩ => ⟨S64, .i1⟩
  | .hbm, ⟨35, _⟩ => ⟨S64, .i32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S64, .i1⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S64, .i32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S_, .i32⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S1x64, .i32⟩
  | .hbm, ⟨53, _⟩ => ⟨S32768x64, .i32⟩
  | .hbm, ⟨54, _⟩ => ⟨S32768x64, .i32⟩
  | .hbm, ⟨55, _⟩ => ⟨S_, .i32⟩
  | .hbm, ⟨56, _⟩ => ⟨S32768, .i32⟩
  | .hbm, ⟨57, _⟩ => ⟨S32768, .i32⟩
  | .hbm, ⟨58, _⟩ => ⟨S_, .i32⟩
  | .hbm, ⟨59, _⟩ => ⟨S49152x1024, .i32⟩
  | .hbm, ⟨60, _⟩ => ⟨S64x1x512, .i32⟩
  | .local _ .vmem, ⟨0, _⟩ => ⟨S256x1024, .i32⟩
  | .local _ .vmem, ⟨1, _⟩ => ⟨S256x1024, .i32⟩
  | .local _ .smem, ⟨0, _⟩ => ⟨S1x1x512, .i32⟩
  | .local _ .smem, ⟨1, _⟩ => ⟨S1x1x512, .i32⟩
  | _, _ => ⟨S16384x2, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_call0_c : Ref sig .tc := ⟨.hbm, 10, rfl⟩
abbrev main_call0_call0_v0 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_call2_call0_c : Ref sig .tc := ⟨.hbm, 48, rfl⟩
abbrev main_call2_call0_v0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_5 : Ref sig .tc := ⟨.hbm, 55, rfl⟩
abbrev main_v27 : Ref sig .tc := ⟨.hbm, 56, rfl⟩
abbrev main_v28 : Ref sig .tc := ⟨.hbm, 57, rfl⟩
abbrev main_c_6 : Ref sig .tc := ⟨.hbm, 58, rfl⟩
abbrev main_v29 : Ref sig .tc := ⟨.hbm, 59, rfl⟩
abbrev main_v30 : Ref sig .tc := ⟨.hbm, 60, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0 : Index := 0#32
  let c0_6 : Index := 0#32
  let c0_i32 : BitVec 32 := 0#32
  let c1_i32 : BitVec 32 := 1#32
  let arg6 : BitVec 32 := Scf.iv c0_i32 c1_i32 k0_t1
  let c2_i32 : BitVec 32 := 2#32
  let v2 : BitVec 32 := Scalar.muli arg6 c2_i32
  let c0_i32_5 : BitVec 32 := 0#32
  let v3 : BitVec 32 := Scalar.addi v2 c0_i32_5
  let v4 : Index := Scalar.indexCast v3
  ![0, 0, v4.toNat]
def k0_off2 (v5 : BitVec 32) : Fin 2 → Nat :=
  let c0_i32_7 : BitVec 32 := 0#32
  ![v5.toNat, 0]

def k0_chk1 (v5 : BitVec 32) : Prop :=
  (∀ a, (k0_off2 v5) a + S1x1024.size a ≤ S49152x1024.size a)
theorem k0_off2_inb : ∀ (v5 : BitVec 32) (k0_hw1 : k0_chk1 v5), ∀ a, (k0_off2 v5) a + S1x1024.size a ≤ S49152x1024.size a := fun v5 k0_hw1 => k0_hw1

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_8 : BitVec 32 := 0#32
  ![arg6.toNat, 0]
def k0_off4 (k0_t1 : Fin k0_t1_loop.trips) : Fin 3 → Nat :=
  let c0_11 : Index := 0#32
  let c0_12 : Index := 0#32
  let c0_i32 : BitVec 32 := 0#32
  let c1_i32 : BitVec 32 := 1#32
  let arg6 : BitVec 32 := Scf.iv c0_i32 c1_i32 k0_t1
  let c2_i32_9 : BitVec 32 := 2#32
  let v8 : BitVec 32 := Scalar.muli arg6 c2_i32_9
  let c1_i32_10 : BitVec 32 := 1#32
  let v9 : BitVec 32 := Scalar.addi v8 c1_i32_10
  let v10 : Index := Scalar.indexCast v9
  ![0, 0, v10.toNat]
def k0_off5 (v11 : BitVec 32) : Fin 2 → Nat :=
  let c0_i32_13 : BitVec 32 := 0#32
  ![v11.toNat, 0]

def k0_chk2 (v11 : BitVec 32) : Prop :=
  (∀ a, (k0_off5 v11) a + S1x1024.size a ≤ S49152x1024.size a)
theorem k0_off5_inb : ∀ (v11 : BitVec 32) (k0_hw2 : k0_chk2 v11), ∀ a, (k0_off5 v11) a + S1x1024.size a ≤ S49152x1024.size a := fun v11 k0_hw2 => k0_hw2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_14 : BitVec 32 := 0#32
  ![arg6.toNat, 0]
@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off7 (k0_t2 : Fin k0_t2_loop.trips) : Fin 2 → Nat :=
  let c0_i32_1 : BitVec 32 := 0#32
  let c1_i32_3 : BitVec 32 := 1#32
  let arg6 : BitVec 32 := Scf.iv c0_i32_1 c1_i32_3 k0_t2
  let c0_i32_5 : BitVec 32 := 0#32
  ![arg6.toNat, 0]
def k0_off8 (k0_t2 : Fin k0_t2_loop.trips) : Fin 2 → Nat :=
  let c0_i32_1 : BitVec 32 := 0#32
  let c1_i32_3 : BitVec 32 := 1#32
  let arg6 : BitVec 32 := Scf.iv c0_i32_1 c1_i32_3 k0_t2
  let c0_i32_6 : BitVec 32 := 0#32
  ![arg6.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S16384x2 : Shape := ⟨2, ![16384, 2]⟩
abbrev S16384x1024 : Shape := ⟨2, ![16384, 1024]⟩
abbrev S32768 : Shape := ⟨1, ![32768]⟩
abbrev S16384 : Shape := ⟨1, ![16384]⟩
abbrev S_ : Shape := ⟨0, ![]⟩
abbrev S32768x1 : Shape := ⟨2, ![32768, 1]⟩
abbrev S64 : Shape := ⟨1, ![64]⟩
abbrev S49152 : Shape := ⟨1, ![49152]⟩
abbrev S1x1024 : Shape := ⟨2, ![1, 1024]⟩
abbrev S16385x1024 : Shape := ⟨2, ![16385, 1024]⟩
abbrev S49152x1 : Shape := ⟨2, ![49152, 1]⟩
abbrev S49152x1024 : Shape := ⟨2, ![49152, 1024]⟩

abbrev nBuf : Space → Nat
  | .hbm => 123
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S16384x1024, .i32⟩
  | .hbm, ⟨2, _⟩ => ⟨S32768, .i32⟩
  | .hbm, ⟨3, _⟩ => ⟨S16384, .i32⟩
  | .hbm, ⟨4, _⟩ => ⟨S16384x2, .i32⟩
  | .hbm, ⟨5, _⟩ => ⟨S32768, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S_, .i32⟩
  | .hbm, ⟨10, _⟩ => ⟨S32768, .i32⟩
  | .hbm, ⟨11, _⟩ => ⟨S32768, .i1⟩
  | .hbm, ⟨12, _⟩ => ⟨S_, .i32⟩
  | .hbm, ⟨13, _⟩ => ⟨S32768, .i32⟩
  | .hbm, ⟨14, _⟩ => ⟨S32768, .i32⟩
  | .hbm, ⟨15, _⟩ => ⟨S32768, .i32⟩
  | .hbm, ⟨16, _⟩ => ⟨S32768x1, .i32⟩
  | .hbm, ⟨17, _⟩ => ⟨S32768, .i32⟩
  | .hbm, ⟨18, _⟩ => ⟨S_, .i32⟩
  | .hbm, ⟨19, _⟩ => ⟨S64, .i32⟩
  | .hbm, ⟨20, _⟩ => ⟨S_, .i32⟩
  | .hbm, ⟨21, _⟩ => ⟨S_, .i32⟩
  | .hbm, ⟨22, _⟩ => ⟨S32768, .i32⟩
  | .hbm, ⟨23, _⟩ => ⟨S32768, .i32⟩
  | .hbm, ⟨24, _⟩ => ⟨S_, .i32⟩
  | .hbm, ⟨25, _⟩ => ⟨S32768, .i32⟩
  | .hbm, ⟨26, _⟩ => ⟨S32768, .i1⟩
  | .hbm, ⟨27, _⟩ => ⟨S_, .i32⟩
  | .hbm, ⟨28, _⟩ => ⟨S32768, .i32⟩
  | .hbm, ⟨29, _⟩ => ⟨S32768, .i32⟩
  | .hbm, ⟨30, _⟩ => ⟨S32768, .i32⟩
  | .hbm, ⟨31, _⟩ => ⟨S32768x1, .i32⟩
  | .hbm, ⟨32, _⟩ => ⟨S_, .i32⟩
  | .hbm, ⟨33, _⟩ => ⟨S32768, .i32⟩
  | .hbm, ⟨34, _⟩ => ⟨S64, .i32⟩
  | .hbm, ⟨35, _⟩ => ⟨S_, .i32⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S_, .i32⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S_, .i32⟩
  | .hbm, ⟨51, _⟩ => ⟨S64, .i32⟩
  | .hbm, ⟨52, _⟩ => ⟨S64, .i1⟩
  | .hbm, ⟨53, _⟩ => ⟨S64, .i32⟩
  | .hbm, ⟨54, _⟩ => ⟨S64, .i32⟩
  | .hbm, ⟨55, _⟩ => ⟨S_, .i32⟩
  | .hbm, ⟨56, _⟩ => ⟨S64, .i32⟩
  | .hbm, ⟨57, _⟩ => ⟨S64, .i1⟩
  | .hbm, ⟨58, _⟩ => ⟨S64, .i1⟩
  | .hbm, ⟨59, _⟩ => ⟨S_, .i32⟩
  | .hbm, ⟨60, _⟩ => ⟨S64, .i32⟩
  | .hbm, ⟨61, _⟩ => ⟨S64, .i32⟩
  | .hbm, ⟨62, _⟩ => ⟨S64, .i32⟩
  | .hbm, ⟨63, _⟩ => ⟨S_, .i32⟩
  | .hbm, ⟨64, _⟩ => ⟨S64, .i32⟩
  | .hbm, ⟨65, _⟩ => ⟨S64, .i32⟩
  | .hbm, ⟨66, _⟩ => ⟨S_, .i32⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S_, .i32⟩
  | .hbm, ⟨71, _⟩ => ⟨S32768, .i32⟩
  | .hbm, ⟨72, _⟩ => ⟨S32768, .i1⟩
  | .hbm, ⟨73, _⟩ => ⟨S_, .i32⟩
  | .hbm, ⟨74, _⟩ => ⟨S32768, .i32⟩
  | .hbm, ⟨75, _⟩ => ⟨S32768, .i32⟩
  | .hbm, ⟨76, _⟩ => ⟨S32768, .i32⟩
  | .hbm, ⟨77, _⟩ => ⟨S32768x1, .i32⟩
  | .hbm, ⟨78, _⟩ => ⟨S32768, .i32⟩
  | .hbm, ⟨79, _⟩ => ⟨S32768, .i32⟩
  | .hbm, ⟨80, _⟩ => ⟨S_, .i32⟩
  | .hbm, ⟨81, _⟩ => ⟨S32768, .i32⟩
  | .hbm, ⟨82, _⟩ => ⟨S32768, .i1⟩
  | .hbm, ⟨83, _⟩ => ⟨S_, .i32⟩
  | .hbm, ⟨84, _⟩ => ⟨S32768, .i32⟩
  | .hbm, ⟨85, _⟩ => ⟨S32768, .i32⟩
  | .hbm, ⟨86, _⟩ => ⟨S32768, .i32⟩
  | .hbm, ⟨87, _⟩ => ⟨S32768x1, .i32⟩
  | .hbm, ⟨88, _⟩ => ⟨S32768, .i32⟩
  | .hbm, ⟨89, _⟩ => ⟨S32768, .i32⟩
  | .hbm, ⟨90, _⟩ => ⟨S32768, .i32⟩
  | .hbm, ⟨91, _⟩ => ⟨S_, .i32⟩
  | .hbm, ⟨92, _⟩ => ⟨S49152, .i32⟩
  | .hbm, ⟨93, _⟩ => ⟨S_, .i32⟩
  | .hbm, ⟨94, _⟩ => ⟨S32768, .i32⟩
  | .hbm, ⟨95, _⟩ => ⟨S32768, .i1⟩
  | .hbm, ⟨96, _⟩ => ⟨S_, .i32⟩
  | .hbm, ⟨97, _⟩ => ⟨S32768, .i32⟩
  | .hbm, ⟨98, _⟩ => ⟨S32768, .i32⟩
  | .hbm, ⟨99, _⟩ => ⟨S32768, .i32⟩
  | .hbm, ⟨100, _⟩ => ⟨S32768x1, .i32⟩
  | .hbm, ⟨101, _⟩ => ⟨S32768, .i32⟩
  | .hbm, ⟨102, _⟩ => ⟨S_, .i32⟩
  | .hbm, ⟨103, _⟩ => ⟨S32768, .i32⟩
  | .hbm, ⟨104, _⟩ => ⟨S32768, .i1⟩
  | .hbm, ⟨105, _⟩ => ⟨S_, .i32⟩
  | .hbm, ⟨106, _⟩ => ⟨S32768, .i32⟩
  | .hbm, ⟨107, _⟩ => ⟨S32768, .i32⟩
  | .hbm, ⟨108, _⟩ => ⟨S32768, .i32⟩
  | .hbm, ⟨109, _⟩ => ⟨S32768x1, .i32⟩
  | .hbm, ⟨110, _⟩ => ⟨S49152, .i32⟩
  | .hbm, ⟨111, _⟩ => ⟨S_, .i32⟩
  | .hbm, ⟨112, _⟩ => ⟨S1x1024, .i32⟩
  | .hbm, ⟨113, _⟩ => ⟨S16385x1024, .i32⟩
  | .hbm, ⟨114, _⟩ => ⟨S_, .i32⟩
  | .hbm, ⟨115, _⟩ => ⟨S49152, .i32⟩
  | .hbm, ⟨116, _⟩ => ⟨S49152, .i1⟩
  | .hbm, ⟨117, _⟩ => ⟨S_, .i32⟩
  | .hbm, ⟨118, _⟩ => ⟨S49152, .i32⟩
  | .hbm, ⟨119, _⟩ => ⟨S49152, .i32⟩
  | .hbm, ⟨120, _⟩ => ⟨S49152, .i32⟩
  | .hbm, ⟨121, _⟩ => ⟨S49152x1, .i32⟩
  | .hbm, ⟨122, _⟩ => ⟨S49152x1024, .i32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1_0 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_call2_call0_c : Ref sig .tc := ⟨.hbm, 35, rfl⟩
abbrev main_call2_call0_v0 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_v6 : Ref sig .tc := ⟨.hbm, 52, rfl⟩
abbrev main_call3_v7 : Ref sig .tc := ⟨.hbm, 53, rfl⟩
abbrev main_call3_v8 : Ref sig .tc := ⟨.hbm, 54, rfl⟩
abbrev main_call3_c : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_c_0 : Ref sig .tc := ⟨.hbm, 59, rfl⟩
abbrev main_call3_v12 : Ref sig .tc := ⟨.hbm, 60, rfl⟩
abbrev main_call3_v13 : Ref sig .tc := ⟨.hbm, 61, rfl⟩
abbrev main_v28 : Ref sig .tc := ⟨.hbm, 62, rfl⟩
abbrev main_c_9 : Ref sig .tc := ⟨.hbm, 63, rfl⟩
abbrev main_v29 : Ref sig .tc := ⟨.hbm, 64, rfl⟩
abbrev main_v30 : Ref sig .tc := ⟨.hbm, 65, rfl⟩
abbrev main_call4_call0_c : Ref sig .tc := ⟨.hbm, 66, rfl⟩
abbrev main_call4_call0_v0 : Ref sig .tc := ⟨.hbm, 67, rfl⟩
abbrev main_v31 : Ref sig .tc := ⟨.hbm, 68, rfl⟩
abbrev main_v32 : Ref sig .tc := ⟨.hbm, 69, rfl⟩
abbrev main_c_10 : Ref sig .tc := ⟨.hbm, 70, rfl⟩
abbrev main_v33 : Ref sig .tc := ⟨.hbm, 71, rfl⟩
abbrev main_v34 : Ref sig .tc := ⟨.hbm, 72, rfl⟩
abbrev main_c_11 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_c_12 : Ref sig .tc := ⟨.hbm, 80, rfl⟩
abbrev main_v41 : Ref sig .tc := ⟨.hbm, 81, rfl⟩
abbrev main_v42 : Ref sig .tc := ⟨.hbm, 82, rfl⟩
abbrev main_c_13 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_c_14 : Ref sig .tc := ⟨.hbm, 91, rfl⟩
abbrev main_v50 : Ref sig .tc := ⟨.hbm, 92, rfl⟩
abbrev main_c_15 : Ref sig .tc := ⟨.hbm, 93, rfl⟩
abbrev main_v51 : Ref sig .tc := ⟨.hbm, 94, rfl⟩
abbrev main_v52 : Ref sig .tc := ⟨.hbm, 95, rfl⟩
abbrev main_c_16 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_c_17 : Ref sig .tc := ⟨.hbm, 102, rfl⟩
abbrev main_v58 : Ref sig .tc := ⟨.hbm, 103, rfl⟩
abbrev main_v59 : Ref sig .tc := ⟨.hbm, 104, rfl⟩
abbrev main_c_18 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_c_19 : Ref sig .tc := ⟨.hbm, 111, rfl⟩
abbrev main_v65 : Ref sig .tc := ⟨.hbm, 112, rfl⟩
abbrev main_v66 : Ref sig .tc := ⟨.hbm, 113, rfl⟩
abbrev main_c_20 : Ref sig .tc := ⟨.hbm, 114, rfl⟩
abbrev main_v67 : Ref sig .tc := ⟨.hbm, 115, rfl⟩
abbrev main_v68 : Ref sig .tc := ⟨.hbm, 116, rfl⟩
abbrev main_c_21 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩

abbrev nD : Nat := 1
abbrev τ : Topo := Topo.v7x

variable {F : FTy → Type} [FloatOps F]
-- ==== Kernel2.lean ====
abbrev S192 : Shape := ⟨1, ![192]⟩
abbrev S1 : Shape := ⟨1, ![1]⟩
abbrev S49152x1024 : Shape := ⟨2, ![49152, 1024]⟩
abbrev S64x2048x512 : Shape := ⟨3, ![64, 2048, 512]⟩
abbrev S64x512x2048 : Shape := ⟨3, ![64, 512, 2048]⟩
abbrev S49152x2048 : Shape := ⟨2, ![49152, 2048]⟩
abbrev S256x1024 : Shape := ⟨2, ![256, 1024]⟩
abbrev S1x2048x512 : Shape := ⟨3, ![1, 2048, 512]⟩
abbrev S1x512x2048 : Shape := ⟨3, ![1, 512, 2048]⟩
abbrev S256x2048 : Shape := ⟨2, ![256, 2048]⟩
abbrev S2048x512 : Shape := ⟨2, ![2048, 512]⟩
abbrev S512x2048 : Shape := ⟨2, ![512, 2048]⟩
abbrev S1024x512 : Shape := ⟨2, ![1024, 512]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S49152x1024, .i32⟩
  | .hbm, ⟨1, _⟩ => ⟨S64x2048x512, .f32⟩
  | .hbm, ⟨2, _⟩ => ⟨S64x2048x512, .f32⟩
  | .hbm, ⟨3, _⟩ => ⟨S64x512x2048, .f32⟩
  | .hbm, ⟨4, _⟩ => ⟨S49152x2048, .bf16⟩
  | .local _ .vmem, ⟨0, _⟩ => ⟨S256x1024, .i32⟩
  | .local _ .vmem, ⟨1, _⟩ => ⟨S256x1024, .i32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .bf16⟩
  | .local _ .vmem, ⟨9, _⟩ => ⟨S256x2048, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S192, .i32⟩
  | .local _ .smem, ⟨1, _⟩ => ⟨S1, .i32⟩
  | _, _ => ⟨S49152x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![192], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v9 : BitVec 32) : BitVec 1 :=
  let arg0 : BitVec 32 := BitVec.ofNat 32 (i 0).val
  let v10 : BitVec 1 := Scalar.cmpi .slt arg0 v9
  let v14 : BitVec 32 := Scalar.extui v10
  let c0_i32_2 : BitVec 32 := 0#32
  let v15 : BitVec 1 := Scalar.cmpi .ne v14 c0_i32_2
  v15

def k0_cond3 (i : grid0.Coords) (v9 : BitVec 32) : BitVec 1 :=
  let arg0 : BitVec 32 := BitVec.ofNat 32 (i 0).val
  let v10 : BitVec 1 := Scalar.cmpi .slt arg0 v9
  let v_true : BitVec 1 := 1#1
  let v16 : BitVec 1 := Scalar.xori v10 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2.lean ====
abbrev S192 : Shape := ⟨1, ![192]⟩
abbrev S1 : Shape := ⟨1, ![1]⟩
abbrev S49152x1024 : Shape := ⟨2, ![49152, 1024]⟩
abbrev S64x2048x512 : Shape := ⟨3, ![64, 2048, 512]⟩
abbrev S64x512x2048 : Shape := ⟨3, ![64, 512, 2048]⟩
abbrev S_ : Shape := ⟨0, ![]⟩
abbrev S49152x2048 : Shape := ⟨2, ![49152, 2048]⟩
abbrev S192x256x2048 : Shape := ⟨3, ![192, 256, 2048]⟩
abbrev S192x1 : Shape := ⟨2, ![192, 1]⟩
abbrev S192x2048x512 : Shape := ⟨3, ![192, 2048, 512]⟩
abbrev S192x256x512 : Shape := ⟨3, ![192, 256, 512]⟩
abbrev S192x512x2048 : Shape := ⟨3, ![192, 512, 2048]⟩
abbrev S192x1x1 : Shape := ⟨3, ![192, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S192, .i32⟩
  | .hbm, ⟨1, _⟩ => ⟨S1, .i32⟩
  | .hbm, ⟨2, _⟩ => ⟨S49152x1024, .i32⟩
  | .hbm, ⟨3, _⟩ => ⟨S64x2048x512, .f32⟩
  | .hbm, ⟨4, _⟩ => ⟨S64x2048x512, .f32⟩
  | .hbm, ⟨5, _⟩ => ⟨S64x512x2048, .f32⟩
  | .hbm, ⟨6, _⟩ => ⟨S_, .i32⟩
  | .hbm, ⟨7, _⟩ => ⟨S49152x1024, .i32⟩
  | .hbm, ⟨8, _⟩ => ⟨S49152x1024, .i32⟩
  | .hbm, ⟨9, _⟩ => ⟨S49152x1024, .i16⟩
  | .hbm, ⟨10, _⟩ => ⟨S49152x1024, .bf16⟩
  | .hbm, ⟨11, _⟩ => ⟨S49152x1024, .i16⟩
  | .hbm, ⟨12, _⟩ => ⟨S49152x1024, .bf16⟩
  | .hbm, ⟨13, _⟩ => ⟨S49152x2048, .bf16⟩
  | .hbm, ⟨14, _⟩ => ⟨S49152x2048, .f32⟩
  | .hbm, ⟨15, _⟩ => ⟨S192x256x2048, .f32⟩
  | .hbm, ⟨16, _⟩ => ⟨S_, .i32⟩
  | .hbm, ⟨17, _⟩ => ⟨S192, .i32⟩
  | .hbm, ⟨18, _⟩ => ⟨S192, .i1⟩
  | .hbm, ⟨19, _⟩ => ⟨S_, .i32⟩
  | .hbm, ⟨20, _⟩ => ⟨S192, .i32⟩
  | .hbm, ⟨21, _⟩ => ⟨S192, .i32⟩
  | .hbm, ⟨22, _⟩ => ⟨S192, .i32⟩
  | .hbm, ⟨23, _⟩ => ⟨S192x1, .i32⟩
  | .hbm, ⟨24, _⟩ => ⟨S192x2048x512, .f32⟩
  | .hbm, ⟨25, _⟩ => ⟨S192x256x512, .f32⟩
  | .hbm, ⟨26, _⟩ => ⟨S192x256x512, .f32⟩
  | .hbm, ⟨27, _⟩ => ⟨S192x256x512, .f32⟩
  | .hbm, ⟨28, _⟩ => ⟨S_, .f32⟩
  | .hbm, ⟨29, _⟩ => ⟨S192x256x512, .f32⟩
  | .hbm, ⟨30, _⟩ => ⟨S192x256x512, .f32⟩
  | .hbm, ⟨31, _⟩ => ⟨S_, .f32⟩
  | .hbm, ⟨32, _⟩ => ⟨S192x256x512, .f32⟩
  | .hbm, ⟨33, _⟩ => ⟨S192x256x512, .f32⟩
  | .hbm, ⟨34, _⟩ => ⟨S192x256x512, .f32⟩
  | .hbm, ⟨35, _⟩ => ⟨S_, .i32⟩
  | .hbm, ⟨36, _⟩ => ⟨S192, .i32⟩
  | .hbm, ⟨37, _⟩ => ⟨S192, .i1⟩
  | .hbm, ⟨38, _⟩ => ⟨S_, .i32⟩
  | .hbm, ⟨39, _⟩ => ⟨S192, .i32⟩
  | .hbm, ⟨40, _⟩ => ⟨S192, .i32⟩
  | .hbm, ⟨41, _⟩ => ⟨S192, .i32⟩
  | .hbm, ⟨42, _⟩ => ⟨S192x1, .i32⟩
  | .hbm, ⟨43, _⟩ => ⟨S192x2048x512, .f32⟩
  | .hbm, ⟨44, _⟩ => ⟨S192x256x512, .f32⟩
  | .hbm, ⟨45, _⟩ => ⟨S192x256x512, .f32⟩
  | .hbm, ⟨46, _⟩ => ⟨S_, .i32⟩
  | .hbm, ⟨47, _⟩ => ⟨S192, .i32⟩
  | .hbm, ⟨48, _⟩ => ⟨S192, .i1⟩
  | .hbm, ⟨49, _⟩ => ⟨S_, .i32⟩
  | .hbm, ⟨50, _⟩ => ⟨S192, .i32⟩
  | .hbm, ⟨51, _⟩ => ⟨S192, .i32⟩
  | .hbm, ⟨52, _⟩ => ⟨S192, .i32⟩
  | .hbm, ⟨53, _⟩ => ⟨S192x1, .i32⟩
  | .hbm, ⟨54, _⟩ => ⟨S192x512x2048, .f32⟩
  | .hbm, ⟨55, _⟩ => ⟨S192x256x2048, .f32⟩
  | .hbm, ⟨56, _⟩ => ⟨S192, .i32⟩
  | .hbm, ⟨57, _⟩ => ⟨S_, .i32⟩
  | .hbm, ⟨58, _⟩ => ⟨S192, .i32⟩
  | .hbm, ⟨59, _⟩ => ⟨S192, .i1⟩
  | .hbm, ⟨60, _⟩ => ⟨S192x1x1, .i1⟩
  | .hbm, ⟨61, _⟩ => ⟨S_, .f32⟩
  | .hbm, ⟨62, _⟩ => ⟨S_, .f32⟩
  | .hbm, ⟨63, _⟩ => ⟨S192x256x2048, .i1⟩
  | .hbm, ⟨64, _⟩ => ⟨S192x256x2048, .f32⟩
  | .hbm, ⟨65, _⟩ => ⟨S192x256x2048, .f32⟩
  | .hbm, ⟨66, _⟩ => ⟨S49152x2048, .f32⟩
  | .hbm, ⟨67, _⟩ => ⟨S49152x2048, .bf16⟩
  | _, _ => ⟨S192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel3.lean ====
abbrev S16384x2048 : Shape := ⟨2, ![16384, 2048]⟩
abbrev S16384x1024 : Shape := ⟨2, ![16384, 1024]⟩
abbrev S8x2048x2048 : Shape := ⟨3, ![8, 2048, 2048]⟩
abbrev S8x2048x1024 : Shape := ⟨3, ![8, 2048, 1024]⟩
abbrev S1x2048x256 : Shape := ⟨3, ![1, 2048, 256]⟩
abbrev S1x2048x128 : Shape := ⟨3, ![1, 2048, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩
abbrev S1x512x256 : Shape := ⟨3, ![1, 512, 256]⟩
abbrev S512x256 : Shape := ⟨2, ![512, 256]⟩
abbrev S256x512 : Shape := ⟨2, ![256, 512]⟩
abbrev S1x512x128 : Shape := ⟨3, ![1, 512, 128]⟩
abbrev S512x128 : Shape := ⟨2, ![512, 128]⟩
abbrev S1x768x256 : Shape := ⟨3, ![1, 768, 256]⟩
abbrev S768x256 : Shape := ⟨2, ![768, 256]⟩
abbrev S256x768 : Shape := ⟨2, ![256, 768]⟩
abbrev S1x768x128 : Shape := ⟨3, ![1, 768, 128]⟩
abbrev S768x128 : Shape := ⟨2, ![768, 128]⟩
abbrev S1x1024x256 : Shape := ⟨3, ![1, 1024, 256]⟩
abbrev S1024x256 : Shape := ⟨2, ![1024, 256]⟩
abbrev S256x1024 : Shape := ⟨2, ![256, 1024]⟩
abbrev S1x1024x128 : Shape := ⟨3, ![1, 1024, 128]⟩
abbrev S1024x128 : Shape := ⟨2, ![1024, 128]⟩
abbrev S1x1280x256 : Shape := ⟨3, ![1, 1280, 256]⟩
abbrev S1280x256 : Shape := ⟨2, ![1280, 256]⟩
abbrev S256x1280 : Shape := ⟨2, ![256, 1280]⟩
abbrev S1x1280x128 : Shape := ⟨3, ![1, 1280, 128]⟩
abbrev S1280x128 : Shape := ⟨2, ![1280, 128]⟩
abbrev S1x1536x256 : Shape := ⟨3, ![1, 1536, 256]⟩
abbrev S1536x256 : Shape := ⟨2, ![1536, 256]⟩
abbrev S256x1536 : Shape := ⟨2, ![256, 1536]⟩
abbrev S1x1536x128 : Shape := ⟨3, ![1, 1536, 128]⟩
abbrev S1536x128 : Shape := ⟨2, ![1536, 128]⟩
abbrev S1x1792x256 : Shape := ⟨3, ![1, 1792, 256]⟩
abbrev S1792x256 : Shape := ⟨2, ![1792, 256]⟩
abbrev S256x1792 : Shape := ⟨2, ![256, 1792]⟩
abbrev S1x1792x128 : Shape := ⟨3, ![1, 1792, 128]⟩
abbrev S1792x128 : Shape := ⟨2, ![1792, 128]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S8x2048x2048, .bf16⟩
  | .hbm, ⟨4, _⟩ => ⟨S8x2048x2048, .bf16⟩
  | .hbm, ⟨5, _⟩ => ⟨S8x2048x1024, .bf16⟩
  | .hbm, ⟨6, _⟩ => ⟨S8x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel3Ideal.lean ====
variable {F : FTy → Type} [FloatOps F] [Named F]
def κ : String → Option EReal := fun
  | "mask" => some ⊥
  | _ => none
-- ==== Reference3.lean ====
abbrev S16384x2048 : Shape := ⟨2, ![16384, 2048]⟩
abbrev S16384x1024 : Shape := ⟨2, ![16384, 1024]⟩
abbrev S8x2048x8x256 : Shape := ⟨4, ![8, 2048, 8, 256]⟩
abbrev S8x8x2048x2048 : Shape := ⟨4, ![8, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x8x2048 : Shape := ⟨3, ![8, 8, 2048]⟩
abbrev S8x8x2048x1 : Shape := ⟨4, ![8, 8, 2048, 1]⟩
abbrev S8x2048x8x128 : Shape := ⟨4, ![8, 2048, 8, 128]⟩
abbrev S8x8x128x2048 : Shape := ⟨4, ![8, 8, 128, 2048]⟩
abbrev S8x2048x1024 : Shape := ⟨3, ![8, 2048, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x2048, .f32⟩
  | .hbm, ⟨4, _⟩ => ⟨S8x2048x8x256, .f32⟩
  | .hbm, ⟨5, _⟩ => ⟨S16384x2048, .f32⟩
  | .hbm, ⟨6, _⟩ => ⟨S8x2048x8x256, .f32⟩
  | .hbm, ⟨7, _⟩ => ⟨S8x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S8x8x2048x2048, .i1⟩
  | .hbm, ⟨17, _⟩ => ⟨S8x8x2048x2048, .f32⟩
  | .hbm, ⟨18, _⟩ => ⟨S8x8x2048x2048, .f32⟩
  | .hbm, ⟨19, _⟩ => ⟨S_, .f32⟩
  | .hbm, ⟨20, _⟩ => ⟨S8x8x2048, .f32⟩
  | .hbm, ⟨21, _⟩ => ⟨S_, .f32⟩
  | .hbm, ⟨22, _⟩ => ⟨S8x8x2048, .f32⟩
  | .hbm, ⟨23, _⟩ => ⟨S8x8x2048, .f32⟩
  | .hbm, ⟨24, _⟩ => ⟨S8x8x2048x1, .f32⟩
  | .hbm, ⟨25, _⟩ => ⟨S8x8x2048x2048, .f32⟩
  | .hbm, ⟨26, _⟩ => ⟨S8x8x2048x2048, .f32⟩
  | .hbm, ⟨27, _⟩ => ⟨S8x8x2048x2048, .f32⟩
  | .hbm, ⟨28, _⟩ => ⟨S_, .f32⟩
  | .hbm, ⟨29, _⟩ => ⟨S8x8x2048, .f32⟩
  | .hbm, ⟨30, _⟩ => ⟨S8x8x2048x1, .f32⟩
  | .hbm, ⟨31, _⟩ => ⟨S8x8x2048x2048, .f32⟩
  | .hbm, ⟨32, _⟩ => ⟨S8x8x2048x2048, .f32⟩
  | .hbm, ⟨33, _⟩ => ⟨S16384x1024, .f32⟩
  | .hbm, ⟨34, _⟩ => ⟨S8x2048x8x128, .f32⟩
  | .hbm, ⟨35, _⟩ => ⟨S8x8x128x2048, .f32⟩
  | .hbm, ⟨36, _⟩ => ⟨S8x2048x8x128, .f32⟩
  | .hbm, ⟨37, _⟩ => ⟨S8x2048x1024, .f32⟩
  | .hbm, ⟨38, _⟩ => ⟨S8x2048x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel4.lean ====
abbrev S32768 : Shape := ⟨1, ![32768]⟩
abbrev S16384x2048 : Shape := ⟨2, ![16384, 2048]⟩
abbrev S16384x128 : Shape := ⟨2, ![16384, 128]⟩
abbrev S2048 : Shape := ⟨1, ![2048]⟩
abbrev S49152x1024 : Shape := ⟨2, ![49152, 1024]⟩
abbrev S1x2048 : Shape := ⟨2, ![1, 2048]⟩
abbrev S64x1x512 : Shape := ⟨3, ![64, 1, 512]⟩
abbrev S1x1x512 : Shape := ⟨3, ![1, 1, 512]⟩
abbrev S256x2048 : Shape := ⟨2, ![256, 2048]⟩
abbrev S256x128 : Shape := ⟨2, ![256, 128]⟩
abbrev S2x256x1024 : Shape := ⟨3, ![2, 256, 1024]⟩
abbrev S_ : Shape := ⟨0, ![]⟩
abbrev S1x1x1 : Shape := ⟨3, ![1, 1, 1]⟩
abbrev S1x1x1024 : Shape := ⟨3, ![1, 1, 1024]⟩
abbrev S1x1024 : Shape := ⟨2, ![1, 1024]⟩
abbrev S256x1024 : Shape := ⟨2, ![256, 1024]⟩
abbrev S1x256x1024 : Shape := ⟨3, ![1, 256, 1024]⟩
abbrev S256x1 : Shape := ⟨2, ![256, 1]⟩
abbrev S256 : Shape := ⟨1, ![256]⟩

abbrev nBuf : Space → Nat
  | .hbm => 8
  | .vmem => 8
  | .smem => 2
  | _ => 0

abbrev bufTy : (tb : Table) → Fin (tcTables nBuf tb) → BufTy
  | .hbm, ⟨0, _⟩ => ⟨S32768, .i32⟩
  | .hbm, ⟨1, _⟩ => ⟨S16384x2048, .f32⟩
  | .hbm, ⟨2, _⟩ => ⟨S16384x128, .f32⟩
  | .hbm, ⟨3, _⟩ => ⟨S2048, .f32⟩
  | .hbm, ⟨4, _⟩ => ⟨S49152x1024, .i32⟩
  | .hbm, ⟨5, _⟩ => ⟨S1x2048, .f32⟩
  | .hbm, ⟨6, _⟩ => ⟨S64x1x512, .i32⟩
  | .hbm, ⟨7, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S2x256x1024, .i32⟩
  | .local _ .smem, ⟨0, _⟩ => ⟨S1x1x512, .i32⟩
  | .local _ .smem, ⟨1, _⟩ => ⟨S1x1x512, .i32⟩
  | _, _ => ⟨S32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0_28 : Index := 0#32
  let c0_29 : Index := 0#32
  let c0_i32 : BitVec 32 := 0#32
  let c1_i32 : BitVec 32 := 1#32
  let arg9 : BitVec 32 := Scf.iv c0_i32 c1_i32 k0_t1
  let c2_i32 : BitVec 32 := 2#32
  let v61 : BitVec 32 := Scalar.muli arg9 c2_i32
  let c0_i32_27 : BitVec 32 := 0#32
  let v62 : BitVec 32 := Scalar.addi v61 c0_i32_27
  let v63 : Index := Scalar.indexCast v62
  ![0, 0, v63.toNat]
def k0_off2 (k0_t1 : Fin k0_t1_loop.trips) : Fin 3 → Nat :=
  let c0_i32_30 : BitVec 32 := 0#32
  let c0_i32 : BitVec 32 := 0#32
  let c1_i32 : BitVec 32 := 1#32
  let arg9 : BitVec 32 := Scf.iv c0_i32 c1_i32 k0_t1
  let c0_i32_31 : BitVec 32 := 0#32
  ![0, arg9.toNat, 0]
def k0_off3 (v64 : BitVec 32) : Fin 2 → Nat :=
  let c0_i32_32 : BitVec 32 := 0#32
  ![v64.toNat, 0]

def k0_chk1 (v64 : BitVec 32) : Prop :=
  (∀ a, (k0_off3 v64) a + S1x1024.size a ≤ S49152x1024.size a)
theorem k0_off3_inb : ∀ (v64 : BitVec 32) (k0_hw1 : k0_chk1 v64), ∀ a, (k0_off3 v64) a + S1x1024.size a ≤ S49152x1024.size a := fun v64 k0_hw1 => k0_hw1

def k0_off4 (k0_t1 : Fin k0_t1_loop.trips) : Fin 3 → Nat :=
  let c0_35 : Index := 0#32
  let c0_36 : Index := 0#32
  let c0_i32 : BitVec 32 := 0#32
  let c1_i32 : BitVec 32 := 1#32
  let arg9 : BitVec 32 := Scf.iv c0_i32 c1_i32 k0_t1
  let c2_i32_33 : BitVec 32 := 2#32
  let v68 : BitVec 32 := Scalar.muli arg9 c2_i32_33
  let c1_i32_34 : BitVec 32 := 1#32
  let v69 : BitVec 32 := Scalar.addi v68 c1_i32_34
  let v70 : Index := Scalar.indexCast v69
  ![0, 0, v70.toNat]
def k0_off5 (k0_t1 : Fin k0_t1_loop.trips) : Fin 3 → Nat :=
  let c1_i32_37 : BitVec 32 := 1#32
  let c0_i32 : BitVec 32 := 0#32
  let c1_i32 : BitVec 32 := 1#32
  let arg9 : BitVec 32 := Scf.iv c0_i32 c1_i32 k0_t1
  let c0_i32_38 : BitVec 32 := 0#32
  ![1, arg9.toNat, 0]
def k0_off6 (v71 : BitVec 32) : Fin 2 → Nat :=
  let c0_i32_39 : BitVec 32 := 0#32
  ![v71.toNat, 0]

def k0_chk2 (v71 : BitVec 32) : Prop :=
  (∀ a, (k0_off6 v71) a + S1x1024.size a ≤ S49152x1024.size a)
theorem k0_off6_inb : ∀ (v71 : BitVec 32) (k0_hw2 : k0_chk2 v71), ∀ a, (k0_off6 v71) a + S1x1024.size a ≤ S49152x1024.size a := fun v71 k0_hw2 => k0_hw2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off7 (k0_t2 : Fin k0_t2_loop.trips) : Fin 3 → Nat :=
  let c0_i32_27 : BitVec 32 := 0#32
  let c0_i32_1 : BitVec 32 := 0#32
  let c1_i32_3 : BitVec 32 := 1#32
  let arg9 : BitVec 32 := Scf.iv c0_i32_1 c1_i32_3 k0_t2
  let c0_i32_28 : BitVec 32 := 0#32
  ![0, arg9.toNat, 0]
def k0_off8 (k0_t2 : Fin k0_t2_loop.trips) : Fin 2 → Nat :=
  let c0_i32_1 : BitVec 32 := 0#32
  let c1_i32_3 : BitVec 32 := 1#32
  let arg9 : BitVec 32 := Scf.iv c0_i32_1 c1_i32_3 k0_t2
  let c0_i32_29 : BitVec 32 := 0#32
  ![arg9.toNat, 0]
def k0_off9 (k0_t2 : Fin k0_t2_loop.trips) : Fin 3 → Nat :=
  let c1_i32_30 : BitVec 32 := 1#32
  let c0_i32_1 : BitVec 32 := 0#32
  let c1_i32_3 : BitVec 32 := 1#32
  let arg9 : BitVec 32 := Scf.iv c0_i32_1 c1_i32_3 k0_t2
  let c0_i32_31 : BitVec 32 := 0#32
  ![1, arg9.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4.lean ====
abbrev S32768 : Shape := ⟨1, ![32768]⟩
abbrev S16384x2048 : Shape := ⟨2, ![16384, 2048]⟩
abbrev S16384x128 : Shape := ⟨2, ![16384, 128]⟩
abbrev S2048 : Shape := ⟨1, ![2048]⟩
abbrev S49152x1024 : Shape := ⟨2, ![49152, 1024]⟩
abbrev S_ : Shape := ⟨0, ![]⟩
abbrev S49152x2048 : Shape := ⟨2, ![49152, 2048]⟩
abbrev S32768x1 : Shape := ⟨2, ![32768, 1]⟩
abbrev S32768x2048 : Shape := ⟨2, ![32768, 2048]⟩
abbrev S16384x2x2048 : Shape := ⟨3, ![16384, 2, 2048]⟩
abbrev S16384x2 : Shape := ⟨2, ![16384, 2]⟩
abbrev S16384x2x1 : Shape := ⟨3, ![16384, 2, 1]⟩
abbrev S16384 : Shape := ⟨1, ![16384]⟩
abbrev S16384x1 : Shape := ⟨2, ![16384, 1]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S32768, .i32⟩
  | .hbm, ⟨1, _⟩ => ⟨S16384x2048, .f32⟩
  | .hbm, ⟨2, _⟩ => ⟨S16384x128, .f32⟩
  | .hbm, ⟨3, _⟩ => ⟨S2048, .f32⟩
  | .hbm, ⟨4, _⟩ => ⟨S49152x1024, .i32⟩
  | .hbm, ⟨5, _⟩ => ⟨S_, .i32⟩
  | .hbm, ⟨6, _⟩ => ⟨S49152x1024, .i32⟩
  | .hbm, ⟨7, _⟩ => ⟨S49152x1024, .i32⟩
  | .hbm, ⟨8, _⟩ => ⟨S49152x1024, .i16⟩
  | .hbm, ⟨9, _⟩ => ⟨S49152x1024, .bf16⟩
  | .hbm, ⟨10, _⟩ => ⟨S49152x1024, .i16⟩
  | .hbm, ⟨11, _⟩ => ⟨S49152x1024, .bf16⟩
  | .hbm, ⟨12, _⟩ => ⟨S49152x2048, .bf16⟩
  | .hbm, ⟨13, _⟩ => ⟨S49152x2048, .f32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S32768x2048, .f32⟩
  | .hbm, ⟨23, _⟩ => ⟨S16384x2x2048, .f32⟩
  | .hbm, ⟨24, _⟩ => ⟨S16384x2, .f32⟩
  | .hbm, ⟨25, _⟩ => ⟨S16384x2x1, .f32⟩
  | .hbm, ⟨26, _⟩ => ⟨S16384x2x2048, .f32⟩
  | .hbm, ⟨27, _⟩ => ⟨S16384x2x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x2048, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2048x2880 : Shape := ⟨2, ![2048, 2880]⟩
abbrev S1024 : Shape := ⟨1, ![1024]⟩
abbrev S8x128x128 : Shape := ⟨3, ![8, 128, 128]⟩
abbrev S8x128 : Shape := ⟨2, ![8, 128]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S2048x32 : Shape := ⟨2, ![2048, 32]⟩
abbrev S2048x64 : Shape := ⟨2, ![2048, 64]⟩
abbrev S2048x2944 : Shape := ⟨2, ![2048, 2944]⟩
abbrev S512x8x192 : Shape := ⟨3, ![512, 8, 192]⟩
abbrev S512x8x64 : Shape := ⟨3, ![512, 8, 64]⟩
abbrev S512x8x32 : Shape := ⟨3, ![512, 8, 32]⟩
abbrev S512x8x256 : Shape := ⟨3, ![512, 8, 256]⟩
abbrev S512x2048 : Shape := ⟨2, ![512, 2048]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S2048x128 : Shape := ⟨2, ![2048, 128]⟩
abbrev S1x2048 : Shape := ⟨2, ![1, 2048]⟩
abbrev S1x1024 : Shape := ⟨2, ![1, 1024]⟩
abbrev S1x512 : Shape := ⟨2, ![1, 512]⟩
abbrev S1x256 : Shape := ⟨2, ![1, 256]⟩
abbrev S16384x1024 : Shape := ⟨2, ![16384, 1024]⟩
abbrev S512x128 : Shape := ⟨2, ![512, 128]⟩
abbrev S512x1024 : Shape := ⟨2, ![512, 1024]⟩
abbrev S512x1 : Shape := ⟨2, ![512, 1]⟩
abbrev S512x2944 : Shape := ⟨2, ![512, 2944]⟩
abbrev S512x512 : Shape := ⟨2, ![512, 512]⟩
abbrev S512x256 : Shape := ⟨2, ![512, 256]⟩

abbrev nBuf : Space → Nat
  | .hbm => 63
  | .vmem => 23
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2880, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S512, .f32⟩
  | .hbm, ⟨8, _⟩ => ⟨S512x1536, .f32⟩
  | .hbm, ⟨9, _⟩ => ⟨S256, .f32⟩
  | .hbm, ⟨10, _⟩ => ⟨S256x2048, .f32⟩
  | .hbm, ⟨11, _⟩ => ⟨S1024, .f32⟩
  | .hbm, ⟨12, _⟩ => ⟨S2048x32, .f32⟩
  | .hbm, ⟨13, _⟩ => ⟨S2048x32, .f32⟩
  | .hbm, ⟨14, _⟩ => ⟨S2048x64, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x64, .f32⟩
  | .hbm, ⟨19, _⟩ => ⟨S2048x2944, .f32⟩
  | .hbm, ⟨20, _⟩ => ⟨S2048x2944, .bf16⟩
  | .hbm, ⟨21, _⟩ => ⟨S512x8x192, .f32⟩
  | .hbm, ⟨22, _⟩ => ⟨S512x8x64, .f32⟩
  | .hbm, ⟨23, _⟩ => ⟨S512x8x32, .f32⟩
  | .hbm, ⟨24, _⟩ => ⟨S512x8x32, .f32⟩
  | .hbm, ⟨25, _⟩ => ⟨S512x8x32, .f32⟩
  | .hbm, ⟨26, _⟩ => ⟨S512x8x64, .f32⟩
  | .hbm, ⟨27, _⟩ => ⟨S512x8x256, .f32⟩
  | .hbm, ⟨28, _⟩ => ⟨S512x2048, .f32⟩
  | .hbm, ⟨29, _⟩ => ⟨S512x2048, .bf16⟩
  | .hbm, ⟨30, _⟩ => ⟨S256x2048, .bf16⟩
  | .hbm, ⟨31, _⟩ => ⟨S_, .i1⟩
  | .hbm, ⟨32, _⟩ => ⟨S128x128, .i1⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S_, .i1⟩
  | .hbm, ⟨40, _⟩ => ⟨S128x128, .i1⟩
  | .hbm, ⟨41, _⟩ => ⟨S128x128, .i1⟩
  | .hbm, ⟨42, _⟩ => ⟨S1x128x128, .i1⟩
  | .hbm, ⟨43, _⟩ => ⟨S_, .f32⟩
  | .hbm, ⟨44, _⟩ => ⟨S_, .f32⟩
  | .hbm, ⟨45, _⟩ => ⟨S8x128x128, .i1⟩
  | .hbm, ⟨46, _⟩ => ⟨S8x128x128, .f32⟩
  | .hbm, ⟨47, _⟩ => ⟨S8x128x128, .f32⟩
  | .hbm, ⟨48, _⟩ => ⟨S8x128x128, .bf16⟩
  | .hbm, ⟨49, _⟩ => ⟨S128x8, .f32⟩
  | .hbm, ⟨50, _⟩ => ⟨S128x8x128, .f32⟩
  | .hbm, ⟨51, _⟩ => ⟨S128x1024, .f32⟩
  | .hbm, ⟨52, _⟩ => ⟨S2048x128, .f32⟩
  | .hbm, ⟨53, _⟩ => ⟨S1x2048, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x512, .f32⟩
  | .hbm, ⟨58, _⟩ => ⟨S1x256, .f32⟩
  | .hbm, ⟨59, _⟩ => ⟨S16384x1024, .bf16⟩
  | .hbm, ⟨60, _⟩ => ⟨S16384x2048, .bf16⟩
  | .hbm, ⟨61, _⟩ => ⟨S16384x2048, .bf16⟩
  | .hbm, ⟨62, _⟩ => ⟨S16384x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2944, .bf16⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S128x1024, .f32⟩
  | .local _ .vmem, ⟨8, _⟩ => ⟨S1x1024, .f32⟩
  | .local _ .vmem, ⟨9, _⟩ => ⟨S1x512, .f32⟩
  | .local _ .vmem, ⟨10, _⟩ => ⟨S512x2048, .bf16⟩
  | .local _ .vmem, ⟨11, _⟩ => ⟨S1x256, .f32⟩
  | .local _ .vmem, ⟨12, _⟩ => ⟨S256x2048, .bf16⟩
  | .local _ .vmem, ⟨13, _⟩ => ⟨S512x128, .f32⟩
  | .local _ .vmem, ⟨14, _⟩ => ⟨S512x128, .f32⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x1024, .bf16⟩
  | .local _ .vmem, ⟨22, _⟩ => ⟨S512x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_0 : Ref sig .tc := ⟨.hbm, 39, rfl⟩
abbrev main_call0_v5 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32_0 : Ref sig .tc := ⟨.hbm, 59, rfl⟩
abbrev main_v32_1 : Ref sig .tc := ⟨.hbm, 60, rfl⟩
abbrev main_v32_2 : Ref sig .tc := ⟨.hbm, 61, rfl⟩
abbrev main_v32_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S16384x2048 : Shape := ⟨2, ![16384, 2048]⟩
abbrev S2048 : Shape := ⟨1, ![2048]⟩
abbrev S2048x2880 : Shape := ⟨2, ![2048, 2880]⟩
abbrev S1024 : Shape := ⟨1, ![1024]⟩
abbrev S8x128x128 : Shape := ⟨3, ![8, 128, 128]⟩
abbrev S8x128 : Shape := ⟨2, ![8, 128]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S2048x32 : Shape := ⟨2, ![2048, 32]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x2880 : Shape := ⟨2, ![16384, 2880]⟩
abbrev S16384x1024 : Shape := ⟨2, ![16384, 1024]⟩
abbrev S1x1024 : Shape := ⟨2, ![1, 1024]⟩
abbrev S128x128x8x128 : Shape := ⟨4, ![128, 128, 8, 128]⟩
abbrev S128x128 : Shape := ⟨2, ![128, 128]⟩
abbrev S1x128x128 : Shape := ⟨3, ![1, 128, 128]⟩
abbrev S8x128x128x128 : Shape := ⟨4, ![8, 128, 128, 128]⟩
abbrev S128x8 : Shape := ⟨2, ![128, 8]⟩
abbrev S1x128x8x1 : Shape := ⟨4, ![1, 128, 8, 1]⟩
abbrev S16384x512 : Shape := ⟨2, ![16384, 512]⟩
abbrev S1x512 : Shape := ⟨2, ![1, 512]⟩
abbrev S16384x1536 : Shape := ⟨2, ![16384, 1536]⟩
abbrev S8x2048x8x192 : Shape := ⟨4, ![8, 2048, 8, 192]⟩
abbrev S16384x256 : Shape := ⟨2, ![16384, 256]⟩
abbrev S1x256 : Shape := ⟨2, ![1, 256]⟩
abbrev S8x2048x8x256 : Shape := ⟨4, ![8, 2048, 8, 256]⟩
abbrev S8x2048x8x64 : Shape := ⟨4, ![8, 2048, 8, 64]⟩
abbrev S1x2048x1x32 : Shape := ⟨4, ![1, 2048, 1, 32]⟩
abbrev S8x2048x8x32 : Shape := ⟨4, ![8, 2048, 8, 32]⟩
abbrev S16384x64 : Shape := ⟨2, ![16384, 64]⟩
abbrev S8x2048x64 : Shape := ⟨3, ![8, 2048, 64]⟩
abbrev S1x2048x32 : Shape := ⟨3, ![1, 2048, 32]⟩
abbrev S8x2048x32 : Shape := ⟨3, ![8, 2048, 32]⟩
abbrev S8x2048x1x64 : Shape := ⟨4, ![8, 2048, 1, 64]⟩
abbrev S8x2048x8x128 : Shape := ⟨4, ![8, 2048, 8, 128]⟩

abbrev nBuf : Space → Nat
  | .hbm => 212
  | .vmem => 0
  | .smem => 0
  | _ => 0

abbrev hbmTy0_0 (i : Nat) : BufTy := match i % 128 with
  | 0 => ⟨S16384x2048, .f32⟩
  | 1 => ⟨S2048, .f32⟩
  | 2 => ⟨S2048x2880, .f32⟩
  | 3 => ⟨S1024, .f32⟩
  | 4 => ⟨S1024, .f32⟩
  | 5 => ⟨S8x128x128, .f32⟩
  | 6 => ⟨S8x128, .f32⟩
  | 7 => ⟨S512, .f32⟩
  | 8 => ⟨S512x1536, .f32⟩
  | 9 => ⟨S256, .f32⟩
  | 10 => ⟨S256x2048, .f32⟩
  | 11 => ⟨S1024, .f32⟩
  | 12 => ⟨S2048x32, .f32⟩
  | 13 => ⟨S2048x32, .f32⟩
  | 14 => ⟨S16384x2048, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1, .f32⟩
  | 25 => ⟨S16384x2048, .f32⟩
  | 26 => ⟨S16384x2048, .f32⟩
  | 27 => ⟨S1x2048, .f32⟩
  | 28 => ⟨S16384x2048, .f32⟩
  | 29 => ⟨S16384x2048, .f32⟩
  | 30 => ⟨S16384x2880, .f32⟩
  | 31 => ⟨S16384x2048, .f32⟩
  | 32 => ⟨S16384x2048, .f32⟩
  | 33 => ⟨S16384x2048, .f32⟩
  | 34 => ⟨S_, .f32⟩
  | 35 => ⟨S16384x2048, .f32⟩
  | 36 => ⟨S16384x2048, .f32⟩
  | 37 => ⟨S16384x2048, .f32⟩
  | 38 => ⟨S_, .f32⟩
  | 39 => ⟨S16384x2048, .f32⟩
  | 40 => ⟨S16384x2048, .f32⟩
  | 41 => ⟨S16384x2048, .f32⟩
  | 42 => ⟨S_, .f32⟩
  | 43 => ⟨S16384x2048, .f32⟩
  | 44 => ⟨S16384x2048, .f32⟩
  | 45 => ⟨S_, .f32⟩
  | 46 => ⟨S16384x2048, .f32⟩
  | 47 => ⟨S16384x2048, .f32⟩
  | 48 => ⟨S16384x2048, .f32⟩
  | 49 => ⟨S16384x1024, .f32⟩
  | 50 => ⟨S16384x1024, .f32⟩
  | 51 => ⟨S_, .f32⟩
  | 52 => ⟨S16384, .f32⟩
  | 53 => ⟨S16384x1, .f32⟩
  | 54 => ⟨S_, .f32⟩
  | 55 => ⟨S16384x1, .f32⟩
  | 56 => ⟨S16384x1, .f32⟩
  | 57 => ⟨S16384x1024, .f32⟩
  | 58 => ⟨S16384x1024, .f32⟩
  | 59 => ⟨S16384x1024, .f32⟩
  | 60 => ⟨S_, .f32⟩
  | 61 => ⟨S16384, .f32⟩
  | 62 => ⟨S16384x1, .f32⟩
  | 63 => ⟨S_, .f32⟩
  | 64 => ⟨S16384x1, .f32⟩
  | 65 => ⟨S16384x1, .f32⟩
  | 66 => ⟨S16384x1024, .f32⟩
  | 67 => ⟨S16384x1024, .f32⟩
  | 68 => ⟨S_, .f32⟩
  | 69 => ⟨S16384x1, .f32⟩
  | 70 => ⟨S16384x1, .f32⟩
  | 71 => ⟨S16384x1, .f32⟩
  | 72 => ⟨S16384x1024, .f32⟩
  | 73 => ⟨S16384x1024, .f32⟩
  | 74 => ⟨S1x1024, .f32⟩
  | 75 => ⟨S16384x1024, .f32⟩
  | 76 => ⟨S16384x1024, .f32⟩
  | 77 => ⟨S1x1024, .f32⟩
  | 78 => ⟨S16384x1024, .f32⟩
  | 79 => ⟨S16384x1024, .f32⟩
  | 80 => ⟨S128x128x8x128, .f32⟩
  | 81 => ⟨S_, .i1⟩
  | 82 => ⟨S128x128, .i1⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .i1⟩
  | 90 => ⟨S128x128, .i1⟩
  | 91 => ⟨S128x128, .i1⟩
  | 92 => ⟨S1x128x128, .i1⟩
  | 93 => ⟨S_, .f32⟩
  | 94 => ⟨S_, .f32⟩
  | 95 => ⟨S8x128x128, .i1⟩
  | 96 => ⟨S8x128x128, .f32⟩
  | 97 => ⟨S8x128x128, .f32⟩
  | 98 => ⟨S8x128x128x128, .f32⟩
  | 99 => ⟨S128x128x8x128, .f32⟩
  | 100 => ⟨S128x8, .f32⟩
  | 101 => ⟨S1x128x8x1, .f32⟩
  | 102 => ⟨S128x128x8x128, .f32⟩
  | 103 => ⟨S128x128x8x128, .f32⟩
  | 104 => ⟨S16384x1024, .f32⟩
  | 105 => ⟨S16384x1024, .f32⟩
  | 106 => ⟨S16384x1024, .f32⟩
  | 107 => ⟨S_, .f32⟩
  | 108 => ⟨S16384, .f32⟩
  | 109 => ⟨S16384x1, .f32⟩
  | 110 => ⟨S_, .f32⟩
  | 111 => ⟨S16384x1, .f32⟩
  | 112 => ⟨S16384x1, .f32⟩
  | 113 => ⟨S_, .f32⟩
  | 114 => ⟨S16384x1, .f32⟩
  | 115 => ⟨S16384x1, .f32⟩
  | 116 => ⟨S16384x1, .f32⟩
  | 117 => ⟨S16384x1024, .f32⟩
  | 118 => ⟨S16384x1024, .f32⟩
  | 119 => ⟨S1x1024, .f32⟩
  | 120 => ⟨S16384x1024, .f32⟩
  | 121 => ⟨S16384x1024, .f32⟩
  | 122 => ⟨S16384x512, .f32⟩
  | 123 => ⟨S16384x512, .f32⟩
  | 124 => ⟨S_, .f32⟩
  | 125 => ⟨S16384, .f32⟩
  | 126 => ⟨S16384x1, .f32⟩
  | 127 => ⟨S_, .f32⟩
  | _ => ⟨S16384x2048, .f32⟩

abbrev hbmTy0_1 (i : Nat) : BufTy := match i % 128 with
  | 0 => ⟨S16384x1, .f32⟩
  | 1 => ⟨S16384x1, .f32⟩
  | 2 => ⟨S_, .f32⟩
  | 3 => ⟨S16384x1, .f32⟩
  | 4 => ⟨S16384x1, .f32⟩
  | 5 => ⟨S16384x1, .f32⟩
  | 6 => ⟨S16384x512, .f32⟩
  | 7 => ⟨S16384x512, .f32⟩
  | 8 => ⟨S1x512, .f32⟩
  | 9 => ⟨S16384x512, .f32⟩
  | 10 => ⟨S16384x512, .f32⟩
  | 11 => ⟨S16384x1536, .f32⟩
  | 12 => ⟨S_, .f32⟩
  | 13 => ⟨S16384x1536, .f32⟩
  | 14 => ⟨S16384x1536, .f32⟩
  | 15 => ⟨S8x2048x8x192, .f32⟩
  | 16 => ⟨S16384x256, .f32⟩
  | 17 => ⟨S16384x256, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S_, .f32⟩
  | 25 => ⟨S16384x1, .f32⟩
  | 26 => ⟨S16384x1, .f32⟩
  | 27 => ⟨S16384x1, .f32⟩
  | 28 => ⟨S16384x256, .f32⟩
  | 29 => ⟨S16384x256, .f32⟩
  | 30 => ⟨S1x256, .f32⟩
  | 31 => ⟨S16384x256, .f32⟩
  | 32 => ⟨S16384x256, .f32⟩
  | 33 => ⟨S16384x2048, .f32⟩
  | 34 => ⟨S8x2048x8x256, .f32⟩
  | 35 => ⟨S8x2048x8x64, .f32⟩
  | 36 => ⟨S1x2048x1x32, .f32⟩
  | 37 => ⟨S1x2048x1x32, .f32⟩
  | 38 => ⟨S8x2048x8x32, .f32⟩
  | 39 => ⟨S8x2048x8x32, .f32⟩
  | 40 => ⟨S8x2048x8x32, .f32⟩
  | 41 => ⟨S8x2048x8x32, .f32⟩
  | 42 => ⟨S8x2048x8x32, .f32⟩
  | 43 => ⟨S8x2048x8x32, .f32⟩
  | 44 => ⟨S8x2048x8x32, .f32⟩
  | 45 => ⟨S8x2048x8x32, .f32⟩
  | 46 => ⟨S8x2048x8x32, .f32⟩
  | 47 => ⟨S8x2048x8x32, .f32⟩
  | 48 => ⟨S8x2048x8x32, .f32⟩
  | 49 => ⟨S8x2048x8x32, .f32⟩
  | 50 => ⟨S8x2048x8x64, .f32⟩
  | 51 => ⟨S16384x64, .f32⟩
  | 52 => ⟨S8x2048x64, .f32⟩
  | 53 => ⟨S1x2048x32, .f32⟩
  | 54 => ⟨S1x2048x32, .f32⟩
  | 55 => ⟨S8x2048x32, .f32⟩
  | 56 => ⟨S8x2048x32, .f32⟩
  | 57 => ⟨S8x2048x32, .f32⟩
  | 58 => ⟨S8x2048x32, .f32⟩
  | 59 => ⟨S8x2048x32, .f32⟩
  | 60 => ⟨S8x2048x32, .f32⟩
  | 61 => ⟨S8x2048x32, .f32⟩
  | 62 => ⟨S8x2048x32, .f32⟩
  | 63 => ⟨S8x2048x32, .f32⟩
  | 64 => ⟨S8x2048x32, .f32⟩
  | 65 => ⟨S8x2048x32, .f32⟩
  | 66 => ⟨S8x2048x32, .f32⟩
  | 67 => ⟨S8x2048x64, .f32⟩
  | 68 => ⟨S8x2048x1x64, .f32⟩
  | 69 => ⟨S8x2048x8x64, .f32⟩
  | 70 => ⟨S8x2048x8x128, .f32⟩
  | 71 => ⟨S8x2048x8x256, .f32⟩
  | 72 => ⟨S8x2048x8x128, .f32⟩
  | 73 => ⟨S_, .f32⟩
  | 74 => ⟨S8x2048x8x64, .f32⟩
  | 75 => ⟨S8x2048x8x256, .f32⟩
  | 76 => ⟨S8x2048x8x128, .f32⟩
  | 77 => ⟨S16384x1024, .bf16⟩
  | 78 => ⟨S16384x2048, .f32⟩
  | 79 => ⟨S16384x2048, .bf16⟩
  | 80 => ⟨S16384x2048, .f32⟩
  | 81 => ⟨S16384x2048, .bf16⟩
  | 82 => ⟨S16384x1024, .f32⟩
  | 83 => ⟨S16384x1024, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c : Ref sig .tc := ⟨.hbm, 81, rfl⟩
abbrev main_v55 : Ref sig .tc := ⟨.hbm, 82, rfl⟩
abbrev main_call0_v0 : Ref sig .tc := ⟨.hbm, 83, rfl⟩
abbrev main_call0_c : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_c_0 : Ref sig .tc := ⟨.hbm, 89, rfl⟩
abbrev main_call0_v5 : Ref sig .tc := ⟨.hbm, 90, rfl⟩
abbrev main_v56 : Ref sig .tc := ⟨.hbm, 91, rfl⟩
abbrev main_v57 : Ref sig .tc := ⟨.hbm, 92, rfl⟩
abbrev main_cst_11 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_12 : Ref sig .tc := ⟨.hbm, 107, rfl⟩
abbrev main_v68 : Ref sig .tc := ⟨.hbm, 108, rfl⟩
abbrev main_v69 : Ref sig .tc := ⟨.hbm, 109, rfl⟩
abbrev main_cst_13 : Ref sig .tc := ⟨.hbm, 110, rfl⟩
abbrev main_v70 : Ref sig .tc := ⟨.hbm, 111, rfl⟩
abbrev main_v71 : Ref sig .tc := ⟨.hbm, 112, rfl⟩
abbrev main_cst_14 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_15 : Ref sig .tc := ⟨.hbm, 124, rfl⟩
abbrev main_v82 : Ref sig .tc := ⟨.hbm, 125, rfl⟩
abbrev main_v83 : Ref sig .tc := ⟨.hbm, 126, rfl⟩
abbrev main_cst_16 : Ref sig .tc := ⟨.hbm, 127, rfl⟩
abbrev main_v84 : Ref sig .tc := ⟨.hbm, 128, rfl⟩
abbrev main_v85 : Ref sig .tc := ⟨.hbm, 129, rfl⟩
abbrev main_cst_17 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_18 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_19 : Ref sig .tc := ⟨.hbm, 146, rfl⟩
abbrev main_v100 : Ref sig .tc := ⟨.hbm, 147, rfl⟩
abbrev main_v101 : Ref sig .tc := ⟨.hbm, 148, rfl⟩
abbrev main_cst_20 : Ref sig .tc := ⟨.hbm, 149, rfl⟩
abbrev main_v102 : Ref sig .tc := ⟨.hbm, 150, rfl⟩
abbrev main_v103 : Ref sig .tc := ⟨.hbm, 151, rfl⟩
abbrev main_cst_21 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_22 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩

abbrev nD : Nat := 1
abbrev τ : Topo := Topo.v7x

variable {F : FTy → Type} [FloatOps F]
-- ==== Proof.Ranks.lean ====
/-
  Counting: where the assignments of a routing go. An assignment `a < 32768` names an expert `e a < 64`; the buffer
  gives each expert a block of rows, its count rounded up to a multiple of 256, block after block, and an assignment
  the row of its block after those of the earlier assignments to the same expert.
-/
module

public import Idealize.ShloMosaic.Lib.Routing.Count
public import Idealize.ShloMosaic.Lib.SortFacts

@[expose] public section

namespace Cert.Ranks

open Idealize.ShloMosaic Idealize.ShloMosaic.Routing

/-- How many assignments name expert `x`. -/
def cnt (e : ℕ → ℕ) (x : ℕ) : ℕ := Nat.count (fun i => e i = x) 32768
/-- A count rounded up to a multiple of 256. -/
def pad (n : ℕ) : ℕ := (n + 255) / 256 * 256
/-- The first row of expert `x`'s block. -/
def pst (e : ℕ → ℕ) (x : ℕ) : ℕ := ((List.range x).map fun y => pad (cnt e y)).sum
/-- How many earlier assignments name the same expert. -/
def rank (e : ℕ → ℕ) (a : ℕ) : ℕ := Nat.count (fun i => e i = e a) a
/-- The row of assignment `a`. -/
def dest (e : ℕ → ℕ) (a : ℕ) : ℕ := pst e (e a) + rank e a

theorem le_pad (n : ℕ) : n ≤ pad n := by unfold pad; omega
theorem pad_le (n : ℕ) : pad n ≤ n + 255 := by unfold pad; omega

theorem cnt_le (e : ℕ → ℕ) (x : ℕ) : cnt e x ≤ 32768 := Nat.count_le _

theorem rank_lt (e : ℕ → ℕ) {a : ℕ} (ha : a < 32768) : rank e a < cnt e (e a) :=
  Nat.count_strict_mono (p := fun i => e i = e a) rfl ha

theorem pst_succ (e : ℕ → ℕ) (x : ℕ) : pst e (x + 1) = pst e x + pad (cnt e x) := by
  unfold pst; rw [List.range_succ, List.map_append, List.sum_append]; simp

theorem pst_mono (e : ℕ → ℕ) {x y : ℕ} (h : x ≤ y) : pst e x ≤ pst e y := by
  induction y with
  | zero => rw [Nat.le_zero.1 h]
  | succ y ih =>
    rcases Nat.lt_or_ge y x with h1 | h1
    · rw [show x = y + 1 by omega]
    · exact (ih h1).trans (by rw [pst_succ]; omega)

/-- The counts below `x`, summed, are the assignments to experts below `x`. -/
theorem sum_cnt (e : ℕ → ℕ) (x : ℕ) : ((List.range x).map (cnt e)).sum = Nat.count (fun i => e i < x) 32768 := by
  cases x with
  | zero => simp
  | succ x => exact (sum_count_eq e x 32768).trans (count_congr_of_lt _ fun i _ => Nat.lt_succ_iff.symm)

theorem pst_le (e : ℕ → ℕ) (x : ℕ) : pst e x ≤ Nat.count (fun i => e i < x) 32768 + 255 * x := by
  rw [← sum_cnt]
  induction x with
  | zero => simp [pst]
  | succ x ih =>
    rw [pst_succ, List.range_succ, List.map_append, List.sum_append]
    have := pad_le (cnt e x)
    simp only [List.map_cons, List.map_nil, List.sum_cons, List.sum_nil]
    omega

theorem pst_lt (e : ℕ → ℕ) {x : ℕ} (hx : x ≤ 64) : pst e x < 49152 := by
  have h1 := pst_le e x
  have h2 : Nat.count (fun i => e i < x) 32768 ≤ 32768 := Nat.count_le _
  omega

theorem dest_lt_next (e : ℕ → ℕ) {a : ℕ} (ha : a < 32768) : dest e a < pst e (e a + 1) := by
  have h1 := rank_lt e ha
  have h2 := le_pad (cnt e (e a))
  rw [pst_succ]; unfold dest; omega

theorem dest_lt (e : ℕ → ℕ) (he : ∀ i, i < 32768 → e i < 64) {a : ℕ} (ha : a < 32768) : dest e a < 49152 :=
  (dest_lt_next e ha).trans (pst_lt e (he a ha))

/-- Two assignments never share a row. -/
theorem dest_inj (e : ℕ → ℕ) {a b : ℕ} (ha : a < 32768) (hb : b < 32768) (h : dest e a = dest e b) : a = b := by
  have key : ∀ {a b : ℕ}, a < 32768 → b < 32768 → dest e a = dest e b → ¬ e a < e b := by
    intro a b ha _ h hlt
    have h1 := dest_lt_next e ha
    have h2 := pst_mono e (show e a + 1 ≤ e b from hlt)
    unfold dest at h h1; omega
  have he : e a = e b := Nat.le_antisymm (Nat.not_lt.1 (key hb ha h.symm)) (Nat.not_lt.1 (key ha hb h))
  have hr : rank e a = rank e b := by unfold dest at h; rw [he] at h; omega
  unfold rank at hr
  rw [he] at hr
  by_contra hne
  rcases Nat.lt_or_gt_of_ne hne with hlt | hlt
  · have := Nat.count_strict_mono (p := fun i => e i = e b) he hlt; omega
  · have := Nat.count_strict_mono (p := fun i => e i = e b) rfl hlt; omega

/-! ## The stable sort by expert -/

/-- Two relations that agree wherever the first argument stands after the second in the list sort it alike. -/
theorem stableSort_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

variable {N : ℕ}

/-- Expert first, then number. -/
def key (N : ℕ) (e : ℕ → ℕ) (a : ℕ) : ℕ := e a * N + a

theorem key_lt {e : ℕ → ℕ} {a b : ℕ} (ha : a < N) (hb : b < N) :
    key N e a < key N e b ↔ e a < e b ∨ (e a = e b ∧ a < b) := by
  unfold key
  constructor
  · intro h
    rcases Nat.lt_trichotomy (e a) (e b) with h1 | h1 | h1
    · exact Or.inl h1
    · rw [h1] at h; exact Or.inr ⟨h1, by omega⟩
    · have := Nat.mul_le_mul_right N (show e b + 1 ≤ e a from h1); rw [Nat.succ_mul] at this; omega
  · rintro (h | ⟨h, h2⟩)
    · have := Nat.mul_le_mul_right N (show e a + 1 ≤ e b from h); rw [Nat.succ_mul] at this; omega
    · rw [h]; omega

theorem sortedFrom_key (e : ℕ → ℕ) :
    sortedFrom (fun a b : Fin N => decide (e a.val < e b.val)) = sortedFrom fun a b : Fin N => decide (key N e a.val < key N e b.val) := by
  have hs : sortPositions N (fun a b : Fin N => decide (e a.val < e b.val))
      = sortPositions N fun a b : Fin N => decide (key N e a.val < key N e b.val) := by
    refine stableSort_later _ _ _ ((List.pairwise_lt_finRange N).imp fun {a b} hab => ?_)
    have hab' : a.val < b.val := hab
    rw [decide_eq_decide, key_lt b.isLt a.isLt]
    omega
  funext k
  unfold sortedFrom
  rw [List.get_of_eq hs]
  rfl

/-- The order the stable sort lists the assignments in. -/
def order (e : ℕ → ℕ) : Fin N → Fin N := sortedFrom fun a b : Fin N => decide (e a.val < e b.val)

theorem order_bijective (e : ℕ → ℕ) : Function.Bijective (order (N := N) e) := ⟨sortedFrom_injective _, sortedFrom_surjective _⟩

theorem order_lt (e : ℕ → ℕ) {p q : Fin N} (h : p < q) : key N e (order e p).val < key N e (order e q).val := by
  have h1 : decide (key N e (order e q).val < key N e (order e p).val) = false := by
    unfold order
    rw [sortedFrom_key]
    exact sortedFrom_noInversion (fun a b : Fin N => decide (key N e a.val < key N e b.val)) _
      (fun a b h => by simp only [decide_eq_true_eq, decide_eq_false_iff_not] at h ⊢; omega) (fun _ _ h => h)
      (fun a b c h₁ h₂ => by simp only [decide_eq_false_iff_not] at h₁ h₂ ⊢; omega) p q h
  have h2 := of_decide_eq_false h1
  have h3 : (order e p).val ≠ (order e q).val := fun he => absurd ((order_bijective e).1 (Fin.ext he)) (ne_of_lt h)
  have h4 : key N e (order e p).val ≠ key N e (order e q).val := fun he => h3 (by
    have := (order e p).isLt
    have := (order e q).isLt
    have h5 := (key_lt (e := e) (order e p).isLt (order e q).isLt).not.1 (by omega)
    have h6 := (key_lt (e := e) (order e q).isLt (order e p).isLt).not.1 (by omega)
    omega)
  omega

theorem count_below (Q : ℕ → Prop) [DecidablePred Q] {a M : ℕ} (h : a ≤ M) : Nat.count (fun i => Q i ∧ i < a) M = Nat.count Q a := by
  obtain ⟨k, rfl⟩ := Nat.exists_eq_add_of_le h
  have h0 : Nat.count (fun k => Q (a + k) ∧ a + k < a) k = 0 := Nat.count_iff_forall_not.2 fun i _ => by omega
  rw [Nat.count_add, h0, Nat.add_zero]
  exact count_congr_of_lt _ fun i hi => ⟨fun h => h.1, fun h => ⟨h, hi⟩⟩

/-- Position `p` of the sorted list holds an assignment whose expert's assignments start at
    the count of those to smaller experts, at its rank among them. -/
theorem order_pos (e : ℕ → ℕ) (p : Fin N) :
    p.val = Nat.count (fun i => e i < e (order e p).val) N + rank e (order e p).val := by
  have hiff : ∀ q : Fin N, key N e (order e q).val < key N e (order e p).val ↔ q.val < p.val := by
    intro q
    constructor
    · intro h
      by_contra hn
      rcases Nat.lt_or_eq_of_le (Nat.not_lt.1 hn) with h1 | h1
      · have := order_lt e (p := p) (q := q) h1; omega
      · rw [Fin.ext h1.symm] at h; omega
    · exact fun h => order_lt e h
  have hc : (Finset.univ.filter fun q : Fin N => q.val < p.val).card
      = (Finset.univ.filter fun a : Fin N => key N e a.val < key N e (order e p).val).card := by
    refine Finset.card_bij (fun q _ => order e q) (fun q hq => ?_) (fun q _ q' _ h => (order_bijective e).1 h) (fun a ha => ?_)
    · simp only [Finset.mem_filter, Finset.mem_univ, true_and] at hq ⊢
      exact (hiff q).2 hq
    · obtain ⟨q, rfl⟩ := (order_bijective e).2 a
      simp only [Finset.mem_filter, Finset.mem_univ, true_and] at ha
      exact ⟨q, by simp only [Finset.mem_filter, Finset.mem_univ, true_and]; exact (hiff q).1 ha, rfl⟩
  generalize order e p = a at hc ⊢
  rw [card_filter_fin N (fun q => q < p.val)] at hc
  have h0 : Nat.count (fun q => q < p.val) N = p.val := by
    rw [count_congr_of_lt (Q := fun i => True ∧ i < p.val) N fun i _ => (true_and _).symm.to_iff, count_below (fun _ => True) p.isLt.le]
    exact Nat.count_iff_forall.2 fun _ _ => trivial
  have h1 : (Finset.univ.filter fun b : Fin N => key N e b.val < key N e a.val)
      = (Finset.univ.filter fun b : Fin N => e b.val < e a.val) ∪ (Finset.univ.filter fun b : Fin N => e b.val = e a.val ∧ b.val < a.val) := by
    ext b
    simp only [Finset.mem_filter, Finset.mem_univ, true_and, Finset.mem_union]
    exact key_lt b.isLt a.isLt
  rw [h0, h1, Finset.card_union_of_disjoint (by
    rw [Finset.disjoint_left]
    intro b hb hb'
    simp only [Finset.mem_filter, Finset.mem_univ, true_and] at hb hb'
    omega), card_filter_fin N (fun i => e i < e a.val), card_filter_fin N (fun i => e i = e a.val ∧ i < a.val)] at hc
  rw [hc]
  exact congrArg _ (count_below _ a.isLt.le)

end Cert.Ranks

end
-- ==== Proof.Rows.lean ====
/-
  Hand-written. One grid point of the row scatter: 256 rows of the staged block are each copied to two rows of the
  result array, all 512 copies in flight on one semaphore; then the copies are waited for. The statement is over any
  value instance: the array afterwards is any array `Y'` that holds the copied rows on their target rows and the old
  contents elsewhere.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.Routed
public import Idealize.ShloMosaic.Lib.Tactic
public import Idealize.ShloMosaic.Lib.Transfers
public import Idealize.ShloMosaic.Lib.Ring
public import Idealize.ShloMosaic.Lib.ValueIdxCore

@[expose] public section

noncomputable section

namespace Cert.KernelIdeal.Scatter

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The result array, whole. -/
abbrev xsM : Memref sig .tc .hbm S49152x1024 .i32 := Memref.whole main_v29

/-! ## The rows -/

/-- The elements of row `r` of the result array. -/
def dRow (r : ℕ) : Finset S49152x1024.Idx := Finset.univ.filter fun i => (i 0).val = r

theorem mem_dRow {r : ℕ} {i : S49152x1024.Idx} : i ∈ dRow r ↔ (i 0).val = r := by
  simp only [dRow, Finset.mem_filter, Finset.mem_univ, true_and]

theorem dRow_disjoint {r r' : ℕ} (h : r ≠ r') : Disjoint (dRow r) (dRow r') := by
  rw [Finset.disjoint_left]; intro i hi hi'; rw [mem_dRow] at hi hi'; exact h (hi.symm.trans hi')

/-- The elements of row `t` of a staged block, in the block's buffer. -/
def sRow (a : Memref sig .tc .vmem S256x1024 .i32) (t : ℕ) : Finset a.view.ty.Idx :=
  a.view.setOn (Finset.univ.filter fun i : S256x1024.Idx => (i 0).val = t)

theorem sRow_disjoint (a : Memref sig .tc .vmem S256x1024 .i32) {t t' : ℕ} (h : t ≠ t') :
    Disjoint (sRow a t) (sRow a t') := by
  unfold sRow View.setOn
  rw [Finset.disjoint_map, Finset.disjoint_left]
  intro i hi hi'
  simp only [Finset.mem_filter, Finset.mem_univ, true_and] at hi hi'
  exact h (hi.symm.trans hi')

theorem sRow_cover (a : Memref sig .tc .vmem S256x1024 .i32) :
    (Finset.univ : Finset (Fin 256)).biUnion (fun t => sRow a t.val) = a.view.set := by
  ext x
  simp only [Finset.mem_biUnion, Finset.mem_univ, true_and]
  constructor
  · rintro ⟨t, ht⟩
    unfold sRow View.setOn at ht
    obtain ⟨y, -, rfl⟩ := Finset.mem_map.mp ht
    exact View.emb_mem_set _ y
  · intro hx
    unfold View.set at hx
    obtain ⟨y, -, rfl⟩ := Finset.mem_map.mp hx
    refine ⟨⟨(y 0).val, idx2_lt0 y⟩, ?_⟩
    unfold sRow View.setOn
    exact Finset.mem_map_of_mem _ (by simp)

/-- The row at `r` cut out of the result array is its row `r`. -/
theorem dRow_slice {off : Fin 2 → ℕ} {r : ℕ} (h0 : off 0 = r) (h1 : off 1 = 0)
    (inb : ∀ a, off a + S1x1024.size a ≤ S49152x1024.size a) :
    (xsM.slice (Rect.unit (s := S49152x1024) off S1x1024.size inb) (fun _ => rfl)).view.set = dRow r := by
  refine (View.set_slice_whole main_v29 (Rect.unit (s := S49152x1024) off S1x1024.size inb)).trans ?_
  ext i
  rw [Rect.mem_set_unit, mem_dRow]
  constructor
  · intro h
    have : off 0 ≤ (i 0).val ∧ (i 0).val < off 0 + 1 := h 0
    omega
  · intro h a
    match a with
    | ⟨0, _⟩ =>
      show off 0 ≤ (i 0).val ∧ (i 0).val < off 0 + 1
      omega
    | ⟨1, _⟩ =>
      show off 1 ≤ (i 1).val ∧ (i 1).val < off 1 + 1024
      have := idx2_lt1 i
      omega

/-- The row at `t` cut out of the staged block is its row `t`. -/
theorem sRow_slice (a : Memref sig .tc .vmem S256x1024 .i32) {off : Fin 2 → ℕ} {t : ℕ} (h0 : off 0 = t) (h1 : off 1 = 0)
    (inb : ∀ b, off b + S1x1024.size b ≤ S256x1024.size b) :
    (a.slice (Rect.unit (s := S256x1024) off S1x1024.size inb) (fun _ => rfl)).view.set = sRow a t := by
  refine (View.set_slice a.view (Rect.unit (s := S256x1024) off S1x1024.size inb)).trans ?_
  unfold sRow View.setOn
  congr 1
  ext i
  rw [Rect.mem_set_unit]
  simp only [Finset.mem_filter, Finset.mem_univ, true_and]
  constructor
  · intro h
    have : off 0 ≤ (i 0).val ∧ (i 0).val < off 0 + 1 := h 0
    omega
  · intro h b
    match b with
    | ⟨0, _⟩ =>
      show off 0 ≤ (i 0).val ∧ (i 0).val < off 0 + 1
      omega
    | ⟨1, _⟩ =>
      show off 1 ≤ (i 1).val ∧ (i 1).val < off 1 + 1024
      have := idx2_lt1 i
      omega

/-- What a copy of row `t` of the block leaves on row `r` of the array, element by element. -/
theorem copied (c : Dev nD) (a : Memref sig .tc .vmem S256x1024 .i32) {off off' : Fin 2 → ℕ} {r t : ℕ}
    (h0 : off 0 = r) (h1 : off 1 = 0) (inb : ∀ b, off b + S1x1024.size b ≤ S49152x1024.size b)
    (h0' : off' 0 = t) (h1' : off' 1 = 0) (inb' : ∀ b, off' b + S1x1024.size b ≤ S256x1024.size b)
    (ht : t < 256) (hr : r < 49152)
    (fs : Buf (Elt F) (a.view.loc (c : Thread nD τ))) (fd : Buf (Elt F) (xsM.view.loc (c : Thread nD τ)))
    (i : S49152x1024.Idx) (hi : i ∈ dRow r) :
    (xsM.slice (Rect.unit (s := S49152x1024) off S1x1024.size inb) (fun _ => rfl)).view.write (Elt F) fd
        (ReadAs.same.apply ((a.slice (Rect.unit (s := S256x1024) off' S1x1024.size inb') (fun _ => rfl)).view.read (Elt F) fs))
        Finset.univ i
      = a.view.read (Elt F) fs (ix2 (n0 := 256) (n1 := 1024) ⟨t, ht⟩ (i 1)) := by
  have hx : i ∈ (xsM.slice (Rect.unit (s := S49152x1024) off S1x1024.size inb) (fun _ => rfl)).view.set := by
    rw [dRow_slice h0 h1]; exact hi
  unfold View.set at hx
  obtain ⟨x, -, rfl⟩ := Finset.mem_map.mp hx
  rw [View.write_emb_of_mem _ _ (Finset.mem_univ x)]
  have hx1 : (((xsM.slice (Rect.unit (s := S49152x1024) off S1x1024.size inb) (fun _ => rfl)).view.emb x) 1).val = (x 1).val := by
    show off 1 + 1 * (x 1).val = _
    rw [h1]; omega
  rw [cast_eq, ReadAs.apply_same]
  show a.view.read (Elt F) fs ((Rect.unit (s := S256x1024) off' S1x1024.size inb').emb x) = _
  congr 1
  funext b
  match b with
  | ⟨0, _⟩ =>
    apply Fin.ext
    show off' 0 + 1 * (x 0).val = t
    have : (x 0).val < 1 := (x 0).isLt
    omega
  | ⟨1, _⟩ =>
    apply Fin.ext
    show off' 1 + 1 * (x 1).val = _
    rw [h1']
    show 0 + 1 * (x 1).val = (((xsM.slice (Rect.unit (s := S49152x1024) off S1x1024.size inb) (fun _ => rfl)).view.emb x) 1).val
    rw [hx1]; omega

/-! ## One trip of each loop -/

/-- The units one row's copy adds to the semaphore. -/
abbrev unit1 : ℕ := sig.dmaCredit Kind.tc (Kind.table Kind.tc Space.hbm) xsM.view.buf S1x1024 EltTy.i32

theorem unit1_pos : 0 < unit1 := sig.dmaCredit_pos _ _ _ _ _ (by decide)

section Point

variable (c : Dev nD) (a : Memref sig .tc .vmem S256x1024 .i32) (b : Memref sig .tc .smem S1x1x512 .i32)
  (d : ℕ → ℕ) (q : PosShare TreeShare)
  (f2 : Buf (Elt F) (a.view.loc (c : Thread nD τ))) (f1 : Buf (Elt F) (b.view.loc (c : Thread nD τ)))
  (Y Y' : Buf (Elt F) (xsM.view.loc (c : Thread nD τ)))

/-- A row of the array at given contents. -/
abbrev dPt (r : ℕ) (Z : Buf (Elt F) (xsM.view.loc (c : Thread nD τ))) : sProp 𝕄 :=
  xsM.view.loc (c : Thread nD τ) ↦[dRow r]{fullShare} Z

/-- A row of the block at one share. -/
abbrev sPt (t : ℕ) (p : PosShare TreeShare) : sProp 𝕄 :=
  a.view.loc (c : Thread nD τ) ↦[sRow a t]{p} f2

/-- What the two copies of block row `t` take: both target rows and the source row's two half shares. -/
def piece (t : ℕ) : sProp 𝕄 :=
  iprop(dPt c (d (2 * t)) Y ∗ dPt c (d (2 * t + 1)) Y ∗ sPt c a f2 t q.left ∗ sPt c a f2 t q.right)

/-- What the first copy of block row `t` gives back. -/
def delivA (t : ℕ) : sProp 𝕄 := iprop(dPt c (d (2 * t)) Y' ∗ sPt c a f2 t q.left)
/-- What the second copy of block row `t` gives back. -/
def delivB (t : ℕ) : sProp 𝕄 := iprop(dPt c (d (2 * t + 1)) Y' ∗ sPt c a f2 t q.right)

instance (t : ℕ) : Storable (upEmb : UEmb _ 𝕄) (delivA c a d q f2 Y' t) := by unfold delivA; infer_instance
instance (t : ℕ) : Storable (upEmb : UEmb _ 𝕄) (delivB c a d q f2 Y' t) := by unfold delivB; infer_instance

/-- The 512 deliveries in the order the copies are issued. -/
def deliv : Fin (2 * 256) → sProp 𝕄 := Ring.interleaved 256 (delivA c a d q f2 Y') (delivB c a d q f2 Y')

instance (t : Fin (2 * 256)) : Storable (upEmb : UEmb _ 𝕄) (deliv c a d q f2 Y' t) := by
  unfold deliv; infer_instance

/-- The batch of copies: `j` issued, `u` units waited for. -/
abbrev batch (j u : ℕ) : sProp 𝕄 :=
  Transfers.Batch (countersEmb (U := Pipeline.UC sig nD τ)) (c : Thread nD τ) (.dma cc0_scratch0.sem) () unit1 (deliv c a d q f2 Y') j u

/-- Before trip `k` of the first loop. -/
def issueInv (k : ℕ) : sProp 𝕄 :=
  iprop(batch c a d q f2 Y' (2 * k) 0 ∗ bigSep (Ring.rangeSet 256 k 256) (fun t => piece c a d q f2 Y t.val)
    ∗ (b.view.loc (c : Thread nD τ) ↦[b.view.set]{q} f1))

/-- Before trip `k` of the second loop. -/
def drainInv (k : ℕ) : sProp 𝕄 :=
  iprop(batch c a d q f2 Y' (2 * 256) (unit1 * (2 * k)) ∗ ∃ W, owes (c : Thread nD τ) 0 W)

variable (ha : a.IsWhole) (hb : b.IsWhole)

theorem off3_0 (k : Fin k0_t1_loop.trips) : k0_off3 k 0 = k.val := by
  have hk : k.val < 256 := k.isLt
  unfold k0_off3 Scf.iv
  simp
  omega

theorem off6_0 (k : Fin k0_t1_loop.trips) : k0_off6 k 0 = k.val := by
  have hk : k.val < 256 := k.isLt
  unfold k0_off6 Scf.iv
  simp
  omega

theorem off1_2 (k : Fin k0_t1_loop.trips) : k0_off1 k 2 = 2 * k.val := by
  have hk : k.val < 256 := k.isLt
  unfold k0_off1 Scf.iv Scalar.muli Scalar.addi Scalar.indexCast IntOp.addi IntOp.muli
  simp
  omega

theorem off4_2 (k : Fin k0_t1_loop.trips) : k0_off4 k 2 = 2 * k.val + 1 := by
  have hk : k.val < 256 := k.isLt
  unfold k0_off4 Scf.iv Scalar.muli Scalar.addi Scalar.indexCast IntOp.addi IntOp.muli
  simp
  omega

/-- Starting one copy: from the source row at a share, the target row and the batch with `j` copies issued, to the batch
    with `j + 1`; the copy's delivery is the target row at `Y'` with the source row. -/
theorem issue_one {α : Type} {off off' : Fin 2 → ℕ} {r t : ℕ}
    (h0 : off 0 = r) (h1 : off 1 = 0) (inb : ∀ b, off b + S1x1024.size b ≤ S49152x1024.size b)
    (h0' : off' 0 = t) (h1' : off' 1 = 0) (inb' : ∀ b, off' b + S1x1024.size b ≤ S256x1024.size b)
    (ht : t < 256) (hr : r < 49152) (p : PosShare TreeShare) (j : ℕ) (hj : j < 2 * 256)
    (hnew : ∀ z ∈ dRow r, Y' z = a.view.read (Elt F) f2 (ix2 (n0 := 256) (n1 := 1024) ⟨t, ht⟩ (z 1)))
    (hD : iprop(dPt c r Y' ∗ sPt c a f2 t p) ⊢ deliv c a d q f2 Y' ⟨j, hj⟩)
    {x1 x2 x3} (k : PUnit → Prog (TpuEff nD τ sig (Elt F) Λ₀ .tc) α) (Q : α → sProp 𝕄) :
    iprop(sPt c a f2 t p ∗ dPt c r Y ∗ batch c a d q f2 Y' j 0)
      ⊢ iprop((batch c a d q f2 Y' (j + 1) 0 -∗ wp frame (wpE (defs₀ (F := F)) Variants.none (c : Thread nD τ) none) Set.univ (k ⟨⟩) Q)
          -∗ wp frame (wpE (defs₀ (F := F)) Variants.none (c : Thread nD τ) none) Set.univ
              (Prog.op (TpuEff.enqueueDma (a.slice (Rect.unit (s := S256x1024) off' S1x1024.size inb') (fun _ => rfl))
                (.here (xsM.slice (Rect.unit (s := S49152x1024) off S1x1024.size inb) (fun _ => rfl)))
                (.dma cc0_scratch0.sem) x1 x2 x3) k) Q) := by
  have hs := sRow_slice a h0' h1' inb'
  have hd := dRow_slice h0 h1 inb
  have hDD : iprop((xsM.view.loc (c : Thread nD τ) ↦[dRow r]{fullShare}
        (xsM.slice (Rect.unit (s := S49152x1024) off S1x1024.size inb) (fun _ => rfl)).view.write (Elt F) Y
          (ReadAs.same.apply ((a.slice (Rect.unit (s := S256x1024) off' S1x1024.size inb') (fun _ => rfl)).view.read (Elt F) f2))
          Finset.univ)
      ∗ sPt c a f2 t p) ⊢ deliv c a d q f2 Y' ⟨j, hj⟩ := by
    refine BIBase.Entails.trans (sep_mono_left (Entails.of_eq (pointsTo_congr (g := Y') ?_))) hD
    intro z hz
    rw [hnew z hz]
    exact copied c a h0 h1 inb h0' h1' inb' ht hr f2 Y z hz
  have key := Transfers.wp_dmaBatch (Q := Q) (k := k) (q := p) (fs := f2) (fd := Y) (D := deliv c a d q f2 Y') (u := 0)
    (via := ReadAs.same) (hsrc := x1) (hdst := x2) (hsem := x3) (defs := defs₀ (F := F)) (Sd := dRow r)
    (countersEmb (U := Pipeline.UC sig nD τ)) Variants.none (c : Thread nD τ) none
    (src := a.slice (Rect.unit (s := S256x1024) off' S1x1024.size inb') (fun _ => rfl))
    (dst := xsM.slice (Rect.unit (s := S49152x1024) off S1x1024.size inb) (fun _ => rfl))
    (sm := .dma cc0_scratch0.sem) () unit1 rfl hd.le hj (Nat.zero_le _) (by rw [hs]; exact hDD)
  rw [hs] at key
  exact key

theorem issue_step (i : grid0.Coords) (k : Fin k0_t1_loop.trips) (acc : Unit)
    (hd : ∀ j (hj : j < 512), ((b.view.read (Elt F) f1 (fun | ⟨0, _⟩ => (0 : Fin 1) | ⟨1, _⟩ => (0 : Fin 1) | ⟨2, _⟩ => (⟨j, hj⟩ : Fin 512)) : Elt F .i32) : BitVec 32).toNat = d j)
    (hlt : ∀ j, j < 512 → d j < 49152)
    (hnew : ∀ j (hj : j < 512), ∀ z ∈ dRow (d j), Y' z = a.view.read (Elt F) f2 (ix2 (n0 := 256) (n1 := 1024) ⟨j / 2, by omega⟩ (z 1))) :
    issueInv c a b d q f2 f1 Y Y' k.val
      ⊢ wp frame (wpE (defs₀ (F := F)) Variants.none (c : Thread nD τ) none) Set.univ
          (k0_t1_body i b hb a ha xsM (Memref.isWhole_whole _) xsM (Memref.isWhole_whole _) cc0_scratch0 k acc)
          (fun _ => issueInv c a b d q f2 f1 Y Y' (k.val + 1)) := by
  unfold issueInv k0_t1_body
  have hk : k.val < 256 := k.isLt
  rw [Ring.bigSep_rangeSet_head (by exact hk) (by exact hk)]
  unfold piece
  iintro ⟨HB, ⟨⟨HA, HA', HS, HS'⟩, HP⟩, Hw⟩
  sl_exec
  have e1 : ((issue_step.sl.r c b f1 k : Elt F .i32) : BitVec 32).toNat = d (2 * k.val) := by
    rw [← hd (2 * k.val) (by omega)]
    refine congrArg BitVec.toNat ?_
    show b.view.read (Elt F) f1 _ = _
    congr 1
    funext x
    match x with
    | ⟨0, _⟩ => exact Subsingleton.elim (α := Fin 1) _ _
    | ⟨1, _⟩ => exact Subsingleton.elim (α := Fin 1) _ _
    | ⟨2, _⟩ =>
      apply Fin.ext
      show k0_off1 k 2 + 1 * 0 = 2 * k.val
      have := off1_2 k
      omega
  have w1 : k0_chk1 (issue_step.sl.r c b f1 k) := by
    have := hlt (2 * k.val) (by omega)
    intro x
    match x with
    | ⟨0, _⟩ => show BitVec.toNat _ + 1 ≤ 49152; rw [e1]; omega
    | ⟨1, _⟩ => show 0 + 1024 ≤ 1024; omega
  iapply (wp_assume Variants.none (c : Thread nD τ) none Set.univ w1)
  sl_whnfR [Prog.lift]
  iapply (issue_one c a d q f2 Y Y' (r := d (2 * k.val)) (t := k.val) e1 rfl (k0_off2_inb _ w1) (off3_0 k) rfl (k0_off3_inb k) hk
    (hlt _ (by omega)) q.left (2 * k.val) (by omega) (by
      intro z hz
      rw [hnew (2 * k.val) (by omega) z hz]
      congr 3
      omega) (by
      unfold deliv
      rw [Ring.interleaved_even]
      exact .rfl)) $$ [HS HA HB]
  · isplitl [HS]; · iexact HS
    isplitl [HA]; · iexact HA
    iexact HB
  iintro HB
  sl_whnfR [Prog.bind]
  sl_exec
  have e2 : ((issue_step.sl.r_1 c b f1 k : Elt F .i32) : BitVec 32).toNat = d (2 * k.val + 1) := by
    rw [← hd (2 * k.val + 1) (by omega)]
    refine congrArg BitVec.toNat ?_
    show b.view.read (Elt F) f1 _ = _
    congr 1
    funext x
    match x with
    | ⟨0, _⟩ => exact Subsingleton.elim (α := Fin 1) _ _
    | ⟨1, _⟩ => exact Subsingleton.elim (α := Fin 1) _ _
    | ⟨2, _⟩ =>
      apply Fin.ext
      show k0_off4 k 2 + 1 * 0 = 2 * k.val + 1
      have := off4_2 k
      omega
  have w2 : k0_chk2 (issue_step.sl.r_1 c b f1 k) := by
    have := hlt (2 * k.val + 1) (by omega)
    intro x
    match x with
    | ⟨0, _⟩ => show BitVec.toNat _ + 1 ≤ 49152; rw [e2]; omega
    | ⟨1, _⟩ => show 0 + 1024 ≤ 1024; omega
  iapply (wp_assume Variants.none (c : Thread nD τ) none Set.univ w2)
  sl_exec
  iapply (issue_one c a d q f2 Y Y' (r := d (2 * k.val + 1)) (t := k.val) e2 rfl (k0_off5_inb _ w2) (off6_0 k) rfl (k0_off6_inb k) hk
    (hlt _ (by omega)) q.right (2 * k.val + 1) (by omega) (by
      intro z hz
      rw [hnew (2 * k.val + 1) (by omega) z hz]
      congr 3
      omega) (by
      unfold deliv
      rw [Ring.interleaved_odd]
      exact .rfl)) $$ [HS' HA' HB]
  · isplitl [HS']; · iexact HS'
    isplitl [HA']; · iexact HA'
    iexact HB
  iintro HB
  sl_exec
  sl_step
  isplitl [HB]; · iexact HB
  isplitl [HP]; · iexact HP
  iexact Hw

theorem drain_step (i : grid0.Coords) (k : Fin k0_t2_loop.trips) (acc : Unit) :
    drainInv c a d q f2 Y' k.val
      ⊢ wp frame (wpE (defs₀ (F := F)) Variants.none (c : Thread nD τ) none) Set.univ
          (k0_t2_body i b hb a ha xsM (Memref.isWhole_whole _) xsM (Memref.isWhole_whole _) cc0_scratch0 k acc)
          (fun _ => drainInv c a d q f2 Y' (k.val + 1)) := by
  unfold drainInv k0_t2_body
  have hk : k.val < 256 := k.isLt
  iintro ⟨HB, ⟨%W, HO⟩⟩
  sl_whnfR [Prog.lift]
  have hmul : ∀ n : ℕ, unit1 * n + 1 * unit1 = unit1 * (n + 1) := fun n => by rw [Nat.one_mul, Nat.mul_succ]
  iapply (Transfers.wp_waitBatchMul (countersEmb (U := Pipeline.UC sig nD τ)) Variants.none (c : Thread nD τ) none () (N := unit1)
    (D := deliv c a d q f2 Y') (j := 2 * 256) (u := unit1 * (2 * k.val)) (W := W) 1
    (Nat.one_mul _).symm (by rw [hmul]; exact Nat.mul_le_mul_left _ (by omega))) $$ [HB HO]
  · isplitl [HB]; · iexact HB
    iexact HO
  iintro ⟨HB, HO⟩
  sl_whnfR [Prog.bind]
  iapply (Transfers.wp_waitBatchMul (countersEmb (U := Pipeline.UC sig nD τ)) Variants.none (c : Thread nD τ) none () (N := unit1)
    (D := deliv c a d q f2 Y') (j := 2 * 256) (u := unit1 * (2 * k.val) + 1 * unit1) (W := insert (SemLoc.dma cc0_scratch0.sem, ()) W) 1
    (Nat.one_mul _).symm (by rw [hmul, hmul]; exact Nat.mul_le_mul_left _ (by omega))) $$ [HB HO]
  · isplitl [HB]; · iexact HB
    iexact HO
  iintro ⟨HB, HO⟩
  rw [hmul, hmul]
  sl_whnfR [Prog.bind]
  sl_step
  isplitl [HB]; · iexact HB
  iexists _; iexact HO

/-! ## The rows taken out and put back -/

omit [FloatOps F] in
theorem eq_of_both {P Q : sProp 𝕄} (h : BIBase.BiEntails P Q) : P = Q := Idealize.SL.BI.Entails.antisymm h.1 h.2

/-- The two target rows of block row `t`. -/
def two (t : Fin 256) : Finset S49152x1024.Idx := dRow (d (2 * t.val)) ∪ dRow (d (2 * t.val + 1))

/-- All the rows one point writes. -/
def touched : Finset S49152x1024.Idx := Finset.univ.biUnion (two d)

theorem not_touched {z : S49152x1024.Idx} (h : z ∉ touched d) (j : ℕ) (hj : j < 512) : (z 0).val ≠ d j := by
  intro e
  apply h
  unfold touched two
  rw [Finset.mem_biUnion]
  refine ⟨⟨j / 2, by omega⟩, Finset.mem_univ _, ?_⟩
  rw [Finset.mem_union, mem_dRow, mem_dRow, e]
  rcases Nat.mod_two_eq_zero_or_one j with h | h
  · left; congr 1; show j = 2 * (j / 2); omega
  · right; congr 1; show j = 2 * (j / 2) + 1; omega

section Split

variable (hinj : ∀ j j', j < 512 → j' < 512 → d j = d j' → j = j')

include hinj

theorem two_inner (t : Fin 256) : Disjoint (dRow (d (2 * t.val))) (dRow (d (2 * t.val + 1))) :=
  dRow_disjoint fun e => by have := hinj _ _ (by omega) (by omega) e; omega

theorem two_disjoint (t t' : Fin 256) (h : t ≠ t') : Disjoint (two d t) (two d t') := by
  have hv : t.val ≠ t'.val := fun e => h (Fin.ext e)
  have := t.isLt
  have := t'.isLt
  unfold two
  rw [Finset.disjoint_union_left, Finset.disjoint_union_right, Finset.disjoint_union_right]
  refine ⟨⟨?_, ?_⟩, ?_, ?_⟩ <;>
    · refine dRow_disjoint fun e => ?_
      have := hinj _ _ (by omega) (by omega) e
      omega

theorem touched_eq (Z : Buf (Elt F) (xsM.view.loc (c : Thread nD τ))) :
    (xsM.view.loc (c : Thread nD τ) ↦[touched d]{fullShare} Z : sProp 𝕄)
      = bigSep Finset.univ fun t : Fin 256 => iprop(dPt c (d (2 * t.val)) Z ∗ dPt c (d (2 * t.val + 1)) Z) := by
  have ht : (touched d : Finset (Idx (xsM.view.loc (c : Thread nD τ))))
      = (Finset.univ : Finset (Fin 256)).biUnion fun t => (two d t : Finset (Idx (xsM.view.loc (c : Thread nD τ)))) := by
    ext z; unfold touched; simp only [Finset.mem_biUnion]
  rw [ht, pointsTo_biUnion _ _ (fun t _ t' _ hne => two_disjoint d hinj t t' hne)]
  refine congrArg _ (funext fun t => ?_)
  exact eq_of_both (pointsTo_union (two_inner d hinj t))

theorem whole_eq (Z : Buf (Elt F) (xsM.view.loc (c : Thread nD τ))) :
    (xsM.view.loc (c : Thread nD τ) ↦{fullShare} Z : sProp 𝕄)
      = iprop((bigSep Finset.univ fun t : Fin 256 => iprop(dPt c (d (2 * t.val)) Z ∗ dPt c (d (2 * t.val + 1)) Z))
        ∗ xsM.view.loc (c : Thread nD τ) ↦[Finset.univ \ touched d]{fullShare} Z) := by
  rw [← touched_eq c d hinj]
  exact eq_of_both (pointsTo_split_subset (Finset.subset_univ _))

omit hinj in
theorem block_eq :
    (a.view.loc (c : Thread nD τ) ↦[a.view.set]{q} f2 : sProp 𝕄)
      = bigSep Finset.univ fun t : Fin 256 => iprop(sPt c a f2 t.val q.left ∗ sPt c a f2 t.val q.right) := by
  have ht : (a.view.set : Finset (Idx (a.view.loc (c : Thread nD τ))))
      = (Finset.univ : Finset (Fin 256)).biUnion fun t => (sRow a t.val : Finset (Idx (a.view.loc (c : Thread nD τ)))) := by
    rw [← sRow_cover a]
  rw [ht, pointsTo_biUnion _ _ (fun t _ t' _ hne => sRow_disjoint a fun e => hne (Fin.ext e))]
  refine congrArg _ (funext fun t => ?_)
  exact eq_of_both (pointsTo_share (PosShare.mem_left_op_right q))

theorem take_out :
    iprop((a.view.loc (c : Thread nD τ) ↦[a.view.set]{q} f2) ∗ (xsM.view.loc (c : Thread nD τ) ↦{fullShare} Y))
      ⊢ (iprop(bigSep (Ring.rangeSet 256 0 256) (fun t => piece c a d q f2 Y t.val)
          ∗ xsM.view.loc (c : Thread nD τ) ↦[Finset.univ \ touched d]{fullShare} Y) : sProp 𝕄) := by
  rw [whole_eq c d hinj, block_eq, Ring.rangeSet_univ]
  have e : (bigSep Finset.univ (fun t : Fin 256 => piece c a d q f2 Y t.val) : sProp 𝕄)
      = iprop((bigSep Finset.univ fun t : Fin 256 => iprop(dPt c (d (2 * t.val)) Y ∗ dPt c (d (2 * t.val + 1)) Y))
        ∗ bigSep Finset.univ fun t : Fin 256 => iprop(sPt c a f2 t.val q.left ∗ sPt c a f2 t.val q.right)) := by
    refine Eq.trans (congrArg _ (funext fun t => ?_)) (BI.bigSep_sep Finset.univ
      (fun t : Fin 256 => iprop(dPt c (d (2 * t.val)) Y ∗ dPt c (d (2 * t.val + 1)) Y))
      (fun t : Fin 256 => iprop(sPt c a f2 t.val q.left ∗ sPt c a f2 t.val q.right)))
    unfold piece
    exact (eq_of_both sep_assoc).symm
  rw [e]
  iintro ⟨HS, HD, HR⟩
  isplitl [HS HD]
  · isplitl [HD]; · iexact HD
    iexact HS
  iexact HR

/-- The deliveries together are the two families of target rows at the new contents and the block's two half shares. -/
theorem deliv_all :
    (bigSep Finset.univ (deliv c a d q f2 Y') : sProp 𝕄)
      = iprop((bigSep Finset.univ fun t : Fin 256 => iprop(dPt c (d (2 * t.val)) Y' ∗ dPt c (d (2 * t.val + 1)) Y'))
        ∗ bigSep Finset.univ fun t : Fin 256 => iprop(sPt c a f2 t.val q.left ∗ sPt c a f2 t.val q.right)) := by
  unfold deliv
  rw [Ring.bigSep_interleaved]
  have hr : ∀ Ψ : ℕ → sProp 𝕄, bigSep (Finset.range 256) Ψ = bigSep Finset.univ fun t : Fin 256 => Ψ t.val := fun Ψ => by
    have h := Ring.bigSep_rangeSet_eq_range (NB := 256) (Φ := fun t : Fin 256 => Ψ t.val) (lo := 0) (hi := 256) le_rfl Ψ
      (fun k h => congrArg Ψ (Nat.zero_add k).symm)
    rw [Ring.rangeSet_univ] at h
    exact h.symm
  rw [hr, hr]
  refine (BI.bigSep_sep Finset.univ _ _).symm.trans (Eq.trans (congrArg _ (funext fun t => ?_)) (BI.bigSep_sep Finset.univ
      (fun t : Fin 256 => iprop(dPt c (d (2 * t.val)) Y' ∗ dPt c (d (2 * t.val + 1)) Y'))
      (fun t : Fin 256 => iprop(sPt c a f2 t.val q.left ∗ sPt c a f2 t.val q.right))))
  unfold delivA delivB
  show iprop((dPt c (d (2 * t.val)) Y' ∗ sPt c a f2 t.val q.left) ∗ (dPt c (d (2 * t.val + 1)) Y' ∗ sPt c a f2 t.val q.right))
    = iprop((dPt c (d (2 * t.val)) Y' ∗ dPt c (d (2 * t.val + 1)) Y') ∗ (sPt c a f2 t.val q.left ∗ sPt c a f2 t.val q.right))
  apply eq_of_both
  constructor
  · iintro ⟨⟨H1, H2⟩, H3, H4⟩
    isplitl [H1 H3]
    · isplitl [H1] <;> iassumption
    · isplitl [H2] <;> iassumption
  · iintro ⟨⟨H1, H2⟩, H3, H4⟩
    isplitl [H1 H3]
    · isplitl [H1] <;> iassumption
    · isplitl [H2] <;> iassumption

theorem put_back (hold : ∀ z : S49152x1024.Idx, (∀ j, j < 512 → (z 0).val ≠ d j) → Y' z = Y z) :
    iprop(bigSep Finset.univ (deliv c a d q f2 Y') ∗ xsM.view.loc (c : Thread nD τ) ↦[Finset.univ \ touched d]{fullShare} Y)
      ⊢ (iprop((a.view.loc (c : Thread nD τ) ↦[a.view.set]{q} f2) ∗ (xsM.view.loc (c : Thread nD τ) ↦{fullShare} Y')) : sProp 𝕄) := by
  have e : (xsM.view.loc (c : Thread nD τ) ↦[Finset.univ \ touched d]{fullShare} Y : sProp 𝕄)
      = xsM.view.loc (c : Thread nD τ) ↦[Finset.univ \ touched d]{fullShare} Y' := by
    refine pointsTo_congr fun z hz => (hold z ?_).symm
    exact not_touched d (Finset.mem_sdiff.mp hz).2
  rw [deliv_all c a d q f2 Y' hinj, e, whole_eq c d hinj Y', block_eq]
  iintro ⟨⟨HD, HS⟩, HR⟩
  isplitl [HS]; · iexact HS
  isplitl [HD]; · iexact HD
  iexact HR

end Split

/-! ## The whole point -/

/-- One grid point: from the two staged blocks, the result array at `Y`, the semaphore at zero and nothing owed, the
    kernel runs to its return with the blocks as they were, the array at `Y'` and the semaphore back at zero. -/
theorem point_run (i : grid0.Coords)
    (hd : ∀ j (hj : j < 512), ((b.view.read (Elt F) f1 (fun | ⟨0, _⟩ => (0 : Fin 1) | ⟨1, _⟩ => (0 : Fin 1) | ⟨2, _⟩ => (⟨j, hj⟩ : Fin 512)) : Elt F .i32) : BitVec 32).toNat = d j)
    (hlt : ∀ j, j < 512 → d j < 49152)
    (hinj : ∀ j j', j < 512 → j' < 512 → d j = d j' → j = j')
    (hnew : ∀ j (hj : j < 512), ∀ z ∈ dRow (d j), Y' z = a.view.read (Elt F) f2 (ix2 (n0 := 256) (n1 := 1024) ⟨j / 2, by omega⟩ (z 1)))
    (hold : ∀ z : S49152x1024.Idx, (∀ j, j < 512 → (z 0).val ≠ d j) → Y' z = Y z)
    (W : Waits sig Unit) (K : PUnit → sProp 𝕄) :
    iprop((b.view.loc (c : Thread nD τ) ↦[b.view.set]{q} f1) ∗ (a.view.loc (c : Thread nD τ) ↦[a.view.set]{q} f2)
        ∗ (xsM.view.loc (c : Thread nD τ) ↦{fullShare} Y)
        ∗ semVal ((c : Thread nD τ), SemLoc.dma cc0_scratch0.sem) 0 ∗ owes (c : Thread nD τ) 0 W
        ∗ (iprop((b.view.loc (c : Thread nD τ) ↦[b.view.set]{q} f1) ∗ (a.view.loc (c : Thread nD τ) ↦[a.view.set]{q} f2)
            ∗ (xsM.view.loc (c : Thread nD τ) ↦{fullShare} Y')
            ∗ semVal ((c : Thread nD τ), SemLoc.dma cc0_scratch0.sem) 0 ∗ ∃ W', owes (c : Thread nD τ) 0 W') -∗ K ⟨⟩))
      ⊢ wp frame (wpE (defs₀ (F := F)) Variants.none (c : Thread nD τ) none) Set.univ
          (cc0_dispatch i b hb a ha xsM (Memref.isWhole_whole _) xsM (Memref.isWhole_whole _) cc0_scratch0) K := by
  simp only [cc0_dispatch_eq_skeleton]
  unfold cc0_dispatch_skel
  iintro ⟨Hb, Ha, HY, HV, HO, HK⟩
  ihave HT := (take_out c a d q f2 Y hinj) $$ [Ha HY]
  · isplitl [Ha] <;> iassumption
  icases HT with ⟨HP, HR⟩
  imod (Transfers.batch_alloc' (countersEmb (U := Pipeline.UC sig nD τ)) (c : Thread nD τ) (sm := .dma cc0_scratch0.sem) () unit1
    (deliv c a d q f2 Y') (E := Set.univ)) $$ HV with HB
  sl_for (fun k (_ : Unit) => issueInv c a b d q f2 f1 Y Y' k) $$ [HB HP Hb]
  case region => exact fun k acc => issue_step c a b d q f2 f1 Y Y' ha hb i k acc hd hlt hnew
  · unfold issueInv
    isplitl [HB]; · iexact HB
    isplitl [HP]; · iexact HP
    iexact Hb
  iintro %acc HI
  unfold issueInv
  icases HI with ⟨HB, HE, Hb⟩
  sl_for (fun k (_ : Unit) => drainInv c a d q f2 Y' k) $$ [HB HO]
  case region => exact fun k acc => drain_step c a b d q f2 Y' ha hb i k acc
  · unfold drainInv
    isplitl [HB]; · iexact HB
    iexists W; iexact HO
  iintro %acc2 HI
  unfold drainInv
  icases HI with ⟨HB, HO⟩
  ihave HBc := (Transfers.batch_collect' (countersEmb (U := Pipeline.UC sig nD τ)) (c := (c : Thread nD τ)) (sm := .dma cc0_scratch0.sem)
    (ι := ()) unit1_pos (D := deliv c a d q f2 Y')) $$ [HB]
  · iexact HB
  imod HBc with ⟨HD, HV⟩
  sl_exec
  sl_step
  iapply HK
  ihave HT := (put_back c a d q f2 Y Y' hinj hold) $$ [HD HR]
  · isplitl [HD] <;> iassumption
  icases HT with ⟨Ha, HY⟩
  isplitl [Hb]; · iexact Hb
  isplitl [Ha]; · iexact Ha
  isplitl [HY]; · iexact HY
  isplitl [HV]; · iexact HV
  iexact HO

end Point

end Cert.KernelIdeal.Scatter

end
-- ==== Proof.Launch.lean ====
/-
  Hand-written. The launch of the row scatter: 64 grid points in order, each turning the result array filled by the
  points before it into the one filled by itself as well. The target rows are named by any function `dG` the staged
  target words agree with, below the array's height and without repetition.
-/
module

public import proofs.«01_k».proof.Proof.Rows
public import proofs.«01_k».proof.Proof.Gen.KernelIdeal.Points
public import proofs.«01_k».proof.Proof.Gen.KernelIdeal.Launch

@[expose] public section

noncomputable section

namespace Cert.KernelIdeal.Scatter

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (Pipeline.UC sig nD τ) ℕ

/-! ## The array after some of the copies -/

/-- The array after the first `n` copies: the row that copy `j` targets holds token row `j / 2`; a row no copy has
    targeted yet is zero. -/
def filled (dG : ℕ → ℕ) (hp : S16384x1024.Idx → BitVec 32) (n : ℕ) : S49152x1024.Idx → BitVec 32 := fun z =>
  if h : ∃ j : Fin 32768, j.val < n ∧ dG j.val = (z 0).val
  then hp (ix2 (n0 := 16384) (n1 := 1024) ⟨h.choose.val / 2, by have := h.choose.isLt; omega⟩ (z 1)) else 0#32

theorem filled_hit {dG : ℕ → ℕ} (hinj : ∀ j j', j < 32768 → j' < 32768 → dG j = dG j' → j = j')
    (hp : S16384x1024.Idx → BitVec 32) {n j : ℕ} (hj : j < 32768) (hn : j < n) (z : S49152x1024.Idx) (hz : (z 0).val = dG j) :
    filled dG hp n z = hp (ix2 (n0 := 16384) (n1 := 1024) ⟨j / 2, by omega⟩ (z 1)) := by
  have h : ∃ j : Fin 32768, j.val < n ∧ dG j.val = (z 0).val := ⟨⟨j, hj⟩, hn, hz.symm⟩
  have e : h.choose.val = j := hinj _ _ h.choose.isLt hj (h.choose_spec.2.trans hz)
  unfold filled
  rw [dif_pos h]
  congr 1
  funext b
  match b with
  | ⟨0, _⟩ => apply Fin.ext; show h.choose.val / 2 = j / 2; rw [e]
  | ⟨1, _⟩ => rfl

theorem filled_miss {dG : ℕ → ℕ} (hp : S16384x1024.Idx → BitVec 32) {n : ℕ} (z : S49152x1024.Idx)
    (h : ∀ j, j < 32768 → j < n → (z 0).val ≠ dG j) : filled dG hp n z = 0#32 := by
  unfold filled
  rw [dif_neg]
  rintro ⟨j, hj, e⟩
  exact h j.val j.isLt hj e.symm

theorem filled_zero (dG : ℕ → ℕ) (hp : S16384x1024.Idx → BitVec 32) : filled dG hp 0 = fun _ => 0#32 :=
  funext fun z => filled_miss hp z fun j _ h => absurd h (Nat.not_lt_zero _)

/-- A row none of the 512 new copies targets is as it was. -/
theorem filled_old {dG : ℕ → ℕ} (hinj : ∀ j j', j < 32768 → j' < 32768 → dG j = dG j' → j = j')
    (hp : S16384x1024.Idx → BitVec 32) (n : ℕ) (z : S49152x1024.Idx)
    (h : ∀ j, j < 512 → (z 0).val ≠ dG (n + j)) : filled dG hp (n + 512) z = filled dG hp n z := by
  by_cases hx : ∃ j, j < 32768 ∧ j < n ∧ (z 0).val = dG j
  · obtain ⟨j, h1, h2, h3⟩ := hx
    rw [filled_hit hinj hp h1 (by omega) z h3, filled_hit hinj hp h1 h2 z h3]
  · rw [filled_miss hp z, filled_miss hp z]
    · exact fun j h1 h2 h3 => hx ⟨j, h1, h2, h3⟩
    · intro j h1 h2 h3
      by_cases hj : j < n
      · exact hx ⟨j, h1, hj, h3⟩
      · refine h (j - n) (by omega) ?_
        rw [show n + (j - n) = j by omega]; exact h3

variable (m : (ℓ : Loc nD τ sig) → Buf (Elt F) ℓ) (ρ : Dev nD → PrngReg)

/-! ## The staged blocks -/

theorem coords_val (t : Fin cfg0.N) : (grid0.coords t 0).val = t.val := by
  have h : ∀ t : Fin 64, (grid0.coords t 0).val = t.val := by decide
  exact h t

/-- The staged block of target words at point `t`. -/
theorem words_at (c : Dev nD) (t : Fin cfg0.N) (j : ℕ) (hj : j < 512) :
    iblk m c 0 t (fun | ⟨0, _⟩ => (0 : Fin 1) | ⟨1, _⟩ => (0 : Fin 1) | ⟨2, _⟩ => (⟨j, hj⟩ : Fin 512))
      = V m c main_v30 (ix3 (n0 := 64) (n1 := 1) (n2 := 512) ⟨t.val, t.isLt⟩ 0 ⟨j, hj⟩) := by
  unfold iblk
  show V m c main_v30 _ = V m c main_v30 _
  congr 1
  funext a
  match a with
  | ⟨0, _⟩ =>
    apply Fin.ext
    show (BitVec.ofNat 32 (grid0.coords t 0).val).toNat * 1 + 1 * 0 = t.val
    rw [coords_val, BitVec.toNat_ofNat, Nat.mod_eq_of_lt (by have : t.val < 64 := t.isLt; omega)]; omega
  | ⟨1, _⟩ => apply Fin.ext; show 0 * 1 + 1 * 0 = 0; omega
  | ⟨2, _⟩ => apply Fin.ext; show 0 * 512 + 1 * j = j; omega

/-- The staged block of token rows at point `t`. -/
theorem rows_at (c : Dev nD) (t : Fin cfg0.N) (r : ℕ) (hr : r < 256) (x : Fin 1024) :
    iblk m c 1 t (ix2 (n0 := 256) (n1 := 1024) ⟨r, hr⟩ x)
      = m ((c : Thread nD τ).loc main_arg1) (ix2 (n0 := 16384) (n1 := 1024) ⟨256 * t.val + r, by have : t.val < 64 := t.isLt; omega⟩ x) := by
  rw [← V_main_arg1 m c]
  unfold iblk
  show V m c main_arg1 _ = V m c main_arg1 _
  congr 1
  funext a
  match a with
  | ⟨0, _⟩ =>
    apply Fin.ext
    show (BitVec.ofNat 32 (grid0.coords t 0).val).toNat * 256 + 1 * r = 256 * t.val + r
    rw [coords_val, BitVec.toNat_ofNat, Nat.mod_eq_of_lt (by have : t.val < 64 := t.isLt; omega)]; omega
  | ⟨1, _⟩ => apply Fin.ext; show 0 * 1024 + 1 * x.val = x.val; omega

/-! ## The proof data -/

/-- The kernel's own semaphore, by its number in the pool. -/
abbrev osem0 : Fin 1 → SemLoc sig := fun j => (![SemLoc.dma 4] : Fin 1 → SemLoc sig) j
theorem ownSemFacts0 : Pipeline.OwnSemFacts spec0 osem0 := by decide
theorem ownSems00_eq (c : Dev nD) :
    (Pipeline.ownSems0 (Ix := Unit) (Name := ℕ) (U := Pipeline.UC sig nD τ) (Lvl := ℕ) (Val := Elt F) (τ := τ) osem0 c : sProp 𝕄)
      = semVal ((c : Thread nD τ), SemLoc.dma 4) 0 := by
  rw [Pipeline.ownSems0_eq_of_list c osem0 [0] (by decide) (by decide)]; rfl

/-- The result array's contents before point `p`. -/
def atPoint (dG : Dev nD → ℕ → ℕ) (c : Dev nD) (p : ℕ) : Buf (Elt F) (xsM.view.loc (c : Thread nD τ)) :=
  filled (dG c) (m ((c : Thread nD τ).loc main_arg1)) (512 * p)

/-- The invariant before point `p`: the result array filled by the points before, the semaphore at zero, the generator
    register at some state. -/
def inv (dG : Dev nD → ℕ → ℕ) (c : Dev nD) (p : ℕ) : sProp 𝕄 :=
  iprop((xsM.view.loc (c : Thread nD τ) ↦{fullShare} atPoint m dG c p)
    ∗ semVal ((c : Thread nD τ), SemLoc.dma cc0_scratch0.sem) 0 ∗ ∃ r, prngReg c r)

variable (dG : Dev nD → ℕ → ℕ)

/-- The proof data on core `c`: the two staged arrays as the region finds them, each point leaving its blocks in place. -/
def dats (_ : Fin 1) (c : Dev nD) : Dat τ (Elt F) Unit ℕ (Pipeline.UC sig nD τ) ℕ cfg0 c where
  A w := V m c (Pipeline.arrRef spec0 w)
  after := fun | 0 => fun t => iblk m c 0 t | 1 => fun t => iblk m c 1 t | ⟨_ + 2, h⟩ => absurd h (Nat.not_lt.2 (Nat.le_add_left _ _))
  Φ p := inv m dG c p.val
  q _ := fullShare
  owed _ := 0

theorem A_eq (c : Dev nD) (w : Fin cfg0.W) : (dats m dG 0 c).A w = V m c (Pipeline.arrRef spec0 w) := by dsimp only [dats]
theorem after0_0 (c : Dev nD) (t : Fin cfg0.N) : (dats m dG 0 c).after 0 t = iblk m c 0 t := by dsimp only [dats]
theorem after0_1 (c : Dev nD) (t : Fin cfg0.N) : (dats m dG 0 c).after 1 t = iblk m c 1 t := by dsimp only [dats]
theorem before0_0 (c : Dev nD) (t : Fin cfg0.N) (d) : (dats m dG 0 c).before 0 t d = iblk m c 0 t :=
  ((dats m dG 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m dG 0 c).before 1 t d = iblk m c 1 t :=
  ((dats m dG 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- What is asked of the target words: they name the rows `dG`, all below the array's height, none twice. -/
structure Targets (c : Dev nD) : Prop where
  words : ∀ (p : Fin 64) (j : Fin 512),
    ((V m c main_v30 (ix3 (n0 := 64) (n1 := 1) (n2 := 512) p 0 j) : Elt F .i32) : BitVec 32).toNat = dG c (512 * p.val + j.val)
  lt : ∀ j, j < 32768 → dG c j < 49152
  inj : ∀ j j', j < 32768 → j' < 32768 → dG c j = dG c j' → j = j'

section Body

variable {m dG} (hT : ∀ c, Targets m dG c)
include hT

/-- The body at a point, from the staged blocks and the invariant before the point to those after it. -/
theorem sound_body (c : Dev nD) (t : Fin cfg0.N) :
    iprop((dats m dG 0 c).Φ t.castSucc ∗ (dats m dG 0 c).owesAt () t.castSucc
        ∗ (∃ d, owns (c : Thread nD τ) (win0_0.stage (cfg0.slots t 0)) fullShare ((dats m dG 0 c).before 0 t d))
        ∗ (∃ d, owns (c : Thread nD τ) (win0_1.stage (cfg0.slots t 1)) fullShare ((dats m dG 0 c).before 1 t d)))
      ⊢ wp frame (wpE (defs₀ (F := F)) Variants.none c none) Set.univ (bodyAt0 t)
          (fun _ => iprop((dats m dG 0 c).Φ t.succ ∗ (dats m dG 0 c).owesAt () t.succ
            ∗ owns (c : Thread nD τ) (win0_0.stage (cfg0.slots t 0)) fullShare (iblk m c 0 t)
            ∗ owns (c : Thread nD τ) (win0_1.stage (cfg0.slots t 1)) fullShare (iblk m c 1 t))) := by
  simp only [before0_0, before0_1]
  unfold bodyAt0
  rw [show (dats m dG 0 c).owesAt () t.succ = (dats m dG 0 c).owesAt () t.castSucc from rfl,
    show (dats m dG 0 c).Φ t.castSucc = inv m dG c t.val from rfl,
    show (dats m dG 0 c).Φ t.succ = inv m dG c (t.val + 1) from rfl]
  unfold Dat.owesAt Pipeline.owesWithin inv owns
  rw [show (dats m dG 0 c).owed t.castSucc = 0 from rfl]
  iintro ⟨⟨HY, HV, Hg⟩, ⟨%W, %hW, HO⟩, ⟨%_, %f1, %e1, H1⟩, ⟨%_, %f2, %e2, H2⟩⟩
  have ht : t.val < 64 := t.isLt
  iapply (point_run c (win0_1.stage (cfg0.slots t 1)) (win0_0.stage (cfg0.slots t 0)) (fun j => dG c (512 * t.val + j)) fullShare f2 f1
    (atPoint m dG c t.val) (atPoint m dG c (t.val + 1)) (hstage0_1 ((cfg0.slots t 1).cast nbuf0_1)) (hstage0_0 ((cfg0.slots t 0).cast nbuf0_0))
    (grid0.coords t)
    (by
      intro j hj
      refine (congrArg BitVec.toNat (congrFun e1 _)).trans ?_
      exact (congrArg BitVec.toNat (words_at m c t j hj)).trans ((hT c).words ⟨t.val, ht⟩ ⟨j, hj⟩))
    (fun j hj => (hT c).lt _ (by omega))
    (fun j j' hj hj' e => by have := (hT c).inj _ _ (by omega) (by omega) e; omega)
    (by
      intro j hj z hz
      rw [mem_dRow] at hz
      refine Eq.trans ?_ ((congrFun e2 _).trans (rows_at m c t (j / 2) (by omega) (z 1))).symm
      unfold atPoint
      rw [filled_hit (hT c).inj _ (j := 512 * t.val + j) (by omega) (by omega) z hz]
      congr 2
      apply Fin.ext
      show (512 * t.val + j) / 2 = 256 * t.val + j / 2
      omega)
    (by
      intro z hz
      unfold atPoint
      rw [Nat.mul_succ]
      exact filled_old (hT c).inj _ _ z hz)
    W _)
  isplitl [H1]; · iexact H1
  isplitl [H2]; · iexact H2
  isplitl [HY]; · iexact HY
  isplitl [HV]; · iexact HV
  isplitl [HO]; · iexact HO
  iintro ⟨H1, H2, HY, HV, ⟨%W', HO⟩⟩
  isplitl [HY HV Hg]
  · isplitl [HY]; · iexact HY
    isplitl [HV]; · iexact HV
    iexact Hg
  isplitl [HO]
  · iexists W'; isplitr; · ipureintro; exact fun _ _ => Or.inl trivial
    iexact HO
  isplitl [H1]
  · iexists f1; isplitr; · ipureintro; exact e1
    iexact H1
  · iexists f2; isplitr; · ipureintro; exact e2
    iexact H2

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m dG 0 c) (defs₀ (F := F)) Variants.none () Set.univ := fun t => by
  rw [bigSep_W0, bigSep_W0, defs₀_row hT]
  exact triple_restated (sound_body hT c t) rfl .rfl fun _ => .rfl

set_option maxHeartbeats 800000 in
theorem hmainC (𝒱₀ : Variants) :
    Pipeline.HMain (Ix := Unit) (Name := ℕ) (U := Pipeline.UC sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The array the kernel carries from point to point. -/
def R0 : Finset (Ref sig .tc) := {main_v29}
omit hT in
theorem R0_sub : R0 ⊆ Pipeline.restRefs sig spec0 := by decide

/-- The contents after the last point: the result array filled, every other buffer as the region found it. -/
def Yend (m : (ℓ : Loc nD τ sig) → Buf (Elt F) ℓ) (dG : Dev nD → ℕ → ℕ) (c : Dev nD) (b : Ref sig .tc) : Buf (Elt F) ((c : Thread nD τ).loc b) :=
  Function.update (V m c) main_v29 (atPoint m dG c 64) b

set_option backward.isDefEq.respectTransparency.types false in
/-- Every weakly fair run of the launch ends with the result array filled by all the copies, the arguments as they
    were and every semaphore counter at zero. -/
theorem run_main (hz : ∀ c, V m c main_v29 = fun _ => 0#32) :
    θ_run defs (onTc (τ := τ) (main (F := F))) (s₀ m ρ)
      (fun r => (∀ c : Dev nD,
        r.2.mem ((c : Thread nD τ).loc main_v29) = filled (dG c) (m ((c : Thread nD τ).loc main_arg1)) 32768
        ∧ r.2.mem ((c : Thread nD τ).loc main_arg0) = m ((c : Thread nD τ).loc main_arg0)
        ∧ r.2.mem ((c : Thread nD τ).loc main_arg1) = m ((c : Thread nD τ).loc main_arg1))
        ∧ r.2.sem = fun _ => 0) :=
  Pipeline.θ_run_frame_routed cfgs (dats m dG) (0 : Fin 1) launch0 (osem := osem0) ownSemFacts0 defs₀ Variants.none m ρ main
    (hbody := fun c => (body_obligation hT c).loose) (hshare := fun c => (dats m dG 0 c).share_full fun _ => rfl)
    (howed := fun _ _ => rfl) (V := V m) (hmain := hmainC hT Variants.none) (hA := A_eq m dG)
    (R := R0) (hR := R0_sub) (Y := Yend m dG)
    (hin := fun c => by
      unfold Pipeline.Ends R0
      rw [Pipeline.routed_singleton, ownSems00_eq, scopedRest0_eq, hz c]
      rw [show (dats m dG 0 c).Φ 0 = inv m dG c 0 from rfl]
      unfold inv atPoint
      rw [filled_zero]
      iintro ⟨HY, HV, -, Hg⟩
      isplitl [HY]; · iexact HY
      isplitl [HV]; · iexact HV
      iexact Hg)
    (hout := fun c => by
      unfold Pipeline.Ends R0
      rw [Pipeline.routed_singleton, ownSems00_eq, scopedRest0_eq]
      rw [show Yend m dG c main_v29 = atPoint m dG c 64 from Function.update_self ..]
      rw [show (dats m dG 0 c).Φ (Fin.last (cfgs 0).N) = inv m dG c 64 from rfl]
      unfold inv
      iintro ⟨HY, HV, Hg⟩
      isplitl [HY]; · iexact HY
      isplitl [HV]; · iexact HV
      isplitr; · iempintro
      iexact Hg)
    (Q' := _) (hQ' := fun r h => by
      refine ⟨fun c => ⟨?_, ?_, ?_⟩, h.2⟩
      · exact ((h.1 c).2.1 main_v29 (Finset.mem_singleton_self _)).trans (Function.update_self ..)
      · exact ((h.1 c).2.2 main_arg0 (Finset.mem_sdiff.2 ⟨Pipeline.mem_restRefs_of main_arg0 (by decide) (by decide), by decide⟩)).trans
          (V_main_arg0 m c)
      · exact ((h.1 c).1 1).trans ((Dat.arrAt_in _ 1 rfl _).trans ((A_eq m dG c 1).trans (V_main_arg1 m c))))

end Body
end Cert.KernelIdeal.Scatter
-- ==== Proof.HostDest.lean ====
/-
  Hand-written. What the kernel's host code hands the launch: a result array of zeros, and for every assignment the
  row `Ranks.dest` gives it.
-/
module

public import proofs.«01_k».proof.Proof.Ranks
public import proofs.«01_k».proof.Proof.Launch
public import Idealize.ShloMosaic.Lib.StableHlo.Run
public import Idealize.ShloMosaic.Lib.Routing.OpsOne
public import Idealize.ShloMosaic.Lib.Routing.Words

@[expose] public section

noncomputable section

namespace Cert.KernelIdeal.Scatter

open Cert.KernelIdeal Cert.KernelIdeal.Gen Cert.KernelIdeal.Facts
open Idealize.ShloMosaic Idealize.ShloMosaic.TcCoe
open Idealize.ShloMosaic.ValueIdx Idealize.ShloMosaic.Routing
open Cert.Ranks

/-! ## The host code's terms -/

/-- A one at each assignment's expert. -/
def oneHotW (x : IVec S16384x2 32) : IVec S32768x64 32 :=
  extui 32 (cmpi .eq
    (broadcastInDim S32768x64 ![0, 1] bcast_S32768x1_S32768x64_0_1 (broadcastInDim S32768x1 ![0] bcast_S32768_S32768x1_0 (shapeCast S32768 x shapeCasts_S16384x2_S32768)))
    (broadcastInDim S32768x64 ![0, 1] bcast_S1x64_S32768x64_0_1 (broadcastInDim S1x64 ![1] bcast_S64_S1x64_1 (iotaInDim S64 32 0)))) natLt_1_32

/-- The ones summed down each column so far. -/
def runW (x : IVec S16384x2 32) : IVec S32768x64 32 :=
  Host.reduceWindow IntOp.addi ![32768, 1] ![1, 1] ![32767, 0] ![0, 0] (oneHotW x) (broadcastInDim S_ ![] bcast_S_S_ (constantI S_ 32 0#32))
    reduceWindows_S32768x64_S32768x64_w32768s1p32767_0_w1s1p0_0 h_S_

/-- Each expert's count. -/
def countW (x : IVec S16384x2 32) : IVec S64 32 :=
  shapeCast S64 (extractStridedSlice S1x64 ![32767, 0] (runW x) slices_S32768x64_S1x64_32767_0) shapeCasts_S1x64_S64

/-- Each count rounded up. -/
def padW (x : IVec S64 32) : IVec S64 32 :=
  muli (pyDiv bcast_S_S64 (subi (addi x (broadcastInDim S64 ![] bcast_S_S64 (constantI S_ 32 256#32))) (broadcastInDim S64 ![] bcast_S_S64 (constantI S_ 32 1#32)))
    (constantI S_ 32 256#32)) (broadcastInDim S64 ![] bcast_S_S64 (constantI S_ 32 256#32))

/-- The exclusive sums of a vector of 64 words. -/
def startW (y : IVec S64 32) : IVec S64 32 :=
  subi (Host.reduceWindow IntOp.addi ![64] ![1] ![63] ![0] y (broadcastInDim S_ ![] bcast_S_S_ (constantI S_ 32 0#32)) reduceWindows_S64_S64_w64s1p63_0 h_S_) y

/-- Each assignment's row. -/
def destW (x : IVec S16384x2 32) : IVec S32768 32 :=
  addi (Host.reduce IntOp.addi (muli (oneHotW x) (broadcastInDim S32768x64 ![0, 1] bcast_S1x64_S32768x64_0_1
      (broadcastInDim S1x64 ![1] bcast_S64_S1x64_1 (startW (padW (countW x)))))) (constantI S_ 32 0#32) reducesTo_S32768x64_S32768_d1 h_S_)
    (subi (Host.reduce IntOp.addi (muli (oneHotW x) (runW x)) (constantI S_ 32 0#32) reducesTo_S32768x64_S32768_d1 h_S_)
      (broadcastInDim S32768 ![] bcast_S_S32768 (constantI S_ 32 1#32)))

section Read

variable {F : FTy → Type} [FloatOps F] [∀ e, Nonempty (Elt F e)] (m : (ℓ : Loc nD τ sig) → Buf (Elt F) ℓ)

set_option maxRecDepth 8192 in
set_option maxHeartbeats 4000000 in
theorem V_main_v30 (c : Dev nD) : V m c main_v30 = shapeCast S64x1x512 (destW (m ((c : Thread nD τ).loc main_arg0))) shapeCasts_S32768_S64x1x512 := by
  unfold V
  simp only [hostOps0, hostOps0_1, hostOps0_2, hostOps0_3, hostOps0_4, hostOps0_5, hostOps0_6, List.flatten_cons, List.flatten_nil, List.append_nil, List.cons_append,
    List.nil_append, StableHlo.TRef.binary, StableHlo.TRef.nullary, StableHlo.TRef.unary, StableHlo.TRef.ternary, StableHlo.TRef.toBuf, StableHlo.TRef.ofBuf, cast_eq]
  after_results_simp
  rfl

set_option maxRecDepth 8192 in
set_option maxHeartbeats 4000000 in
theorem V_main_v29 (c : Dev nD) : V m c main_v29 = fun _ => 0#32 := by
  unfold V
  simp only [hostOps0, hostOps0_1, hostOps0_2, hostOps0_3, hostOps0_4, hostOps0_5, hostOps0_6, List.flatten_cons, List.flatten_nil, List.append_nil, List.cons_append,
    List.nil_append, StableHlo.TRef.binary, StableHlo.TRef.nullary, StableHlo.TRef.unary, StableHlo.TRef.ternary, StableHlo.TRef.toBuf, StableHlo.TRef.ofBuf, cast_eq]
  after_results_simp
  rfl

end Read

/-! ## The words the terms hold -/

/-- A sum over a row of which one entry alone is not zero. -/
theorem row_pick {n k : ℕ} (x : IVec (shape2 n k) 32) (h : (shape2 n k).ReducesTo [1] (shape1 n)) (hu : 0 < shape0.numel) (i : Fin n) (q : Fin k)
    (hx : ∀ q' : Fin k, q' ≠ q → x (ix2 i q') = 0#32) : Host.reduce IntOp.addi x (constantI shape0 32 0#32) h hu (ix1 i) = x (ix2 i q) := by
  classical
  rw [Host.reduce_eq_fold]
  have hdrop : ∀ j : (shape2 n k).Idx, h.drop j = ix1 i ↔ j 0 = i := by
    intro j
    have hv : (h.drop j 0 : Nat) = j 0 := Shape.ReducesTo.drop_apply_val h j 0
    constructor
    · intro e; rw [e] at hv; exact Fin.ext hv.symm
    · intro e; funext b; have hb : b = 0 := Subsingleton.elim _ _; subst hb; exact Fin.ext (by rw [hv, e]; rfl)
  have hzero : ∀ s : Finset (shape2 n k).Idx, (∀ j ∈ s, x j = 0#32) → Finset.fold IntOp.addi 0#32 x s = 0#32 := by
    intro s
    induction s using Finset.induction_on with
    | empty => intro _; rfl
    | insert a s ha ih =>
      intro hs
      rw [Finset.fold_insert ha, ih fun j hj => hs j (Finset.mem_insert_of_mem hj), hs a (Finset.mem_insert_self a s)]
      rfl
  have hmem : ix2 i q ∈ Finset.univ.filter fun j : (shape2 n k).Idx => h.drop j = ix1 i :=
    Finset.mem_filter.2 ⟨Finset.mem_univ _, (hdrop _).2 rfl⟩
  show Finset.fold IntOp.addi 0#32 x (Finset.univ.filter fun j : (shape2 n k).Idx => h.drop j = ix1 i) = _
  rw [← Finset.insert_erase hmem, Finset.fold_insert (Finset.notMem_erase _ _), hzero _ fun j hj => ?_]
  · exact BitVec.add_zero _
  · obtain ⟨hne, hj⟩ := Finset.mem_erase.1 hj
    have h0 : j 0 = i := (hdrop j).1 (Finset.mem_filter.1 hj).2
    have hj' : j = ix2 i (j 1) := by
      funext b; match b with
      | ⟨0, _⟩ => exact h0
      | ⟨1, _⟩ => rfl
    rw [hj']
    exact hx _ fun h1 => hne (hj'.trans (congrArg (ix2 i) h1))

/-- The expert of assignment `a`. -/
def expertOf (x : IVec S16384x2 32) (a : ℕ) : ℕ :=
  if h : a < 32768 then (x (ix2 (n0 := 16384) (n1 := 2) ⟨a / 2, by omega⟩ ⟨a % 2, by omega⟩)).toNat else 0

theorem flat_word (x : IVec S16384x2 32) (h : S16384x2.ShapeCasts S32768) (a : Fin 32768) :
    shapeCast S32768 x h (ix1 a) = BitVec.ofNat 32 (expertOf x a.val) := by
  refine (cast21 (a := 16384) (b := 2) (n := 32768) x h ⟨a.val / 2, by omega⟩ ⟨a.val % 2, by omega⟩ a (by show a.val = a.val / 2 * 2 + a.val % 2; omega)).trans ?_
  unfold expertOf
  rw [dif_pos a.isLt, BitVec.ofNat_toNat, BitVec.setWidth_eq]

section Words

variable (x : IVec S16384x2 32) (he : ∀ i, i < 32768 → expertOf x i < 64)
include he

theorem oneHotW_ap (a : Fin 32768) (q : Fin 64) : oneHotW x (ix2 a q) = BitVec.ofNat 32 (if expertOf x a.val = q.val then 1 else 0) := by
  rw [← setWidth_ofBool]
  show (BitVec.ofBool (_ == _)).setWidth 32 = _
  refine congrArg (fun b => (BitVec.ofBool b).setWidth 32) ?_
  have h1 := (bcRows (n := 32768) (m := 64) bcast_S32768_S32768x1_0 bcast_S32768x1_S32768x64_0_1 (shapeCast S32768 x shapeCasts_S16384x2_S32768) a q).trans
    (flat_word x _ a)
  have h2 := (bcCols (n := 32768) (m := 64) bcast_S64_S1x64_1 bcast_S1x64_S32768x64_0_1 (iotaInDim S64 32 0) a q).trans (iota1_ap q)
  refine (congrArg₂ (fun u v : BitVec 32 => u == v) h1 h2).trans ?_
  have ha := he a.val a.isLt
  have hq := q.isLt
  rw [Bool.eq_iff_iff, beq_iff_eq, decide_eq_true_eq]
  constructor
  · intro h
    have := congrArg BitVec.toNat h
    rw [BitVec.toNat_ofNat, BitVec.toNat_ofNat] at this; omega
  · intro h; rw [h]

theorem runW_ap (a : Fin 32768) (q : Fin 64) : runW x (ix2 a q) = BitVec.ofNat 32 (Nat.count (fun i => expertOf x i = q.val) (a.val + 1)) := by
  refine (cumsum_rows (R := 32768) (Rm1 := 32767) (C := 64) rfl (oneHotW x) (fun i c => if expertOf x i = c then 1 else 0) (oneHotW_ap x he) _ rfl _ _ a q).trans ?_
  exact congrArg (BitVec.ofNat 32) (sum_map_ite _ _)

theorem countW_ap (q : Fin 64) : countW x (ix1 q) = BitVec.ofNat 32 (cnt (expertOf x) q.val) := by
  refine (cast21 (a := 1) (b := 64) (n := 64) _ shapeCasts_S1x64_S64 0 q q (by show q.val = 0 * 64 + q.val; omega)).trans ?_
  refine Eq.trans (b := runW x (ix2 (n0 := 32768) (n1 := 64) ⟨32767, by omega⟩ q)) ?_ ?_
  · unfold extractStridedSlice
    refine congrArg (runW x) (funext fun b => Fin.ext ?_)
    match b with
    | ⟨0, _⟩ => rfl
    | ⟨1, _⟩ => show 0 + q.val = q.val; exact Nat.zero_add _
  · exact runW_ap x he ⟨32767, by omega⟩ q

omit he in
theorem padW_ap (y : IVec S64 32) (g : ℕ → ℕ) (hg : ∀ i, g i ≤ 32768) (hy : ∀ q : Fin 64, y (ix1 q) = BitVec.ofNat 32 (g q.val)) (q : Fin 64) :
    padW y (ix1 q) = BitVec.ofNat 32 (pad (g q.val)) := by
  have h1 : subi (addi y (broadcastInDim S64 ![] bcast_S_S64 (constantI S_ 32 256#32))) (broadcastInDim S64 ![] bcast_S_S64 (constantI S_ 32 1#32)) (ix1 q)
      = BitVec.ofNat 32 (g q.val + 255) := by
    rw [subi_ap, addi_ap, bc0, bc0, hy]
    show BitVec.ofNat 32 (g q.val) + BitVec.ofNat 32 256 - BitVec.ofNat 32 1 = _
    rw [← BitVec.ofNat_add, ofNat32_sub (by omega)]
    exact congrArg _ (by omega)
  unfold padW
  rw [muli_ap, pyDiv_ap _ _ _ _ h1 (show constantI S_ 32 256#32 ix0 = BitVec.ofNat 32 256 from rfl) (by have := hg q.val; omega) (by omega) (by omega), bc0]
  exact (BitVec.ofNat_mul _ _).symm

omit he in
theorem startW_ap (y : IVec S64 32) (g : ℕ → ℕ) (hy : ∀ q : Fin 64, y (ix1 q) = BitVec.ofNat 32 (g q.val)) (q : Fin 64) :
    startW y (ix1 q) = BitVec.ofNat 32 ((List.range q.val).map g).sum := by
  unfold startW
  rw [subi_ap, cumsum1 (N := 64) (Nm1 := 63) rfl y g hy _ rfl, hy, List.range_succ, List.map_append, List.sum_append]
  rw [ofNat32_sub (by simp)]
  exact congrArg _ (by simp)

theorem destW_ap (a : Fin 32768) : destW x (ix1 a) = BitVec.ofNat 32 (dest (expertOf x) a.val) := by
  have ha := he a.val a.isLt
  have hpick : ∀ w : IVec S32768x64 32, Host.reduce IntOp.addi (muli (oneHotW x) w) (constantI S_ 32 0#32) reducesTo_S32768x64_S32768_d1 h_S_ (ix1 a)
      = w (ix2 (n0 := 32768) (n1 := 64) a ⟨expertOf x a.val, ha⟩) := by
    intro w
    refine (row_pick (n := 32768) (k := 64) (muli (oneHotW x) w) _ _ a ⟨expertOf x a.val, ha⟩ fun q' hq' => ?_).trans ?_
    · rw [muli_ap, oneHotW_ap x he, if_neg fun h => hq' (Fin.ext h.symm)]
      exact BitVec.zero_mul
    · rw [muli_ap, oneHotW_ap x he, if_pos rfl]
      exact BitVec.one_mul _
  unfold destW
  rw [addi_ap, subi_ap, hpick, hpick, bc0, runW_ap x he]
  have hpad := padW_ap (countW x) (cnt (expertOf x)) (fun i => cnt_le (expertOf x) i) (countW_ap x he)
  have h1 := (bcCols (n := 32768) (m := 64) bcast_S64_S1x64_1 bcast_S1x64_S32768x64_0_1 (startW (padW (countW x))) a ⟨expertOf x a.val, ha⟩).trans
    (startW_ap _ (fun y => pad (cnt (expertOf x) y)) hpad ⟨expertOf x a.val, ha⟩)
  refine (congrArg (· + _) h1).trans ?_
  show BitVec.ofNat 32 (pst (expertOf x) (expertOf x a.val)) + (BitVec.ofNat 32 (Nat.count (fun i => expertOf x i = expertOf x a.val) (a.val + 1)) - BitVec.ofNat 32 1) = _
  rw [Nat.count_succ, if_pos rfl, ofNat32_sub (by omega), ← BitVec.ofNat_add]
  rfl

end Words

section Targets

variable {F : FTy → Type} [FloatOps F] [∀ e, Nonempty (Elt F e)] (m : (ℓ : Loc nD τ sig) → Buf (Elt F) ℓ)

theorem targets_of (he : ∀ c : Dev nD, ∀ i, i < 32768 → expertOf (m ((c : Thread nD τ).loc main_arg0)) i < 64) (c : Dev nD) :
    Targets m (fun c => dest (expertOf (m ((c : Thread nD τ).loc main_arg0)))) c where
  words p j := by
    have hp : 512 * p.val + j.val < 32768 := by omega
    rw [V_main_v30]
    refine (congrArg BitVec.toNat ((cast13 (a := 64) (b := 1) (c := 512) (n := 32768) (destW (m ((c : Thread nD τ).loc main_arg0))) shapeCasts_S32768_S64x1x512 p 0 j
      ⟨512 * p.val + j.val, hp⟩ (by show 512 * p.val + j.val = (p.val * 1 + 0) * 512 + j.val; omega)).trans (destW_ap _ (he c) _))).trans ?_
    rw [BitVec.toNat_ofNat]
    exact Nat.mod_eq_of_lt ((dest_lt _ (he c) hp).trans (by omega))
  lt j hj := dest_lt _ (he c) hj
  inj j j' hj hj' h := dest_inj _ hj hj' h

end Targets

end Cert.KernelIdeal.Scatter

end
-- ==== Proof.RefDest.lean ====
/-
  Hand-written. What the reference's sort, counts, scatter and gather come to: the array `filled` that the kernel's
  copies leave.
-/
module

public import proofs.«01_k».proof.Proof.HostDest
public import proofs.«01_k».proof.Proof.Gen.Reference.Run
public import proofs.«01_k».proof.Proof.Gen.ReferenceIdeal.Run
public import Idealize.ShloMosaic.Lib.Routing.OpsPair
public import Idealize.ShloMosaic.Lib.Routing.OpsSearch
public import Idealize.ShloMosaic.Lib.Routing.OpsSet
public import Idealize.ShloMosaic.Lib.Routing.SortLink

@[expose] public section

noncomputable section

namespace Cert.Scattered

open Cert.Reference Cert.Reference.Gen Cert.Reference.Facts
open Idealize.ShloMosaic Idealize.ShloMosaic.TcCoe
open Idealize.ShloMosaic.ValueIdx Idealize.ShloMosaic.Routing
open Cert.Ranks
open Cert.KernelIdeal.Scatter (expertOf filled filled_hit filled_miss padW padW_ap startW startW_ap flat_word)

/-! ## Scalars scattered into a vector of another length -/

/-- An update lands at the entry its index names. -/
theorem lands {M N : ℕ} (d : ScatterDims (shape1 M) (shape2 N 1) (shape1 N)) (hiw : d.insertedWindowDims = [0])
    (hsd : d.scatterDimsToOperandDims = [0]) (hivd : d.indexVectorDim = 1) (idx : IVec (shape2 N 1) 32) (i : Fin N) (k : ℕ)
    (hk : idx (ix2 i (0 : Fin 1)) = BitVec.ofNat 32 k) (h31 : k < 2 ^ 31) (x : Fin M) :
    d.resultIdx? (ix1 i) idx = some (ix1 x) ↔ k = x.val := by
  have hmem : (0 : Fin 1) ∈ d.scatterDimsToOperandDims := hsd ▸ List.mem_singleton.2 rfl
  have hw : d.window (ix1 i) 0 = 0 := by
    unfold ScatterDims.window
    refine dif_neg fun h => ?_
    exact of_decide_eq_true (List.mem_filter.1 h).2 (hiw ▸ List.mem_singleton.2 rfl)
  have hat : d.siIdx (ix1 i) ⟨d.scatterDimsToOperandDims.idxOf 0, List.idxOf_lt_length_iff.2 hmem⟩ = ix2 i (0 : Fin 1) := by
    funext b
    match b with
    | ⟨0, _⟩ =>
      apply Fin.ext
      unfold ScatterDims.siIdx
      rw [dif_neg (by rw [hivd]; exact Nat.zero_ne_one)]
      unfold ScatterDims.siCoord
      have hone : ∀ y : Fin 1, (ix1 i y).val = i.val := fun y => by rw [Subsingleton.elim y 0]
      exact hone _
    | ⟨1, _⟩ => exact Subsingleton.elim (α := Fin 1) _ _
  have hs : d.start (ix1 i) idx 0 = (k : Int) := by
    unfold ScatterDims.start
    rw [dif_pos hmem, hat, hk]
    exact StableHlo.Predicate.toInt_ofNat_small _ h31
  rw [resultIdx?_ix1, hs, hw]
  omega

/-- Ones added at their indices count them. -/
theorem hist {M N : ℕ} (d : ScatterDims (shape1 M) (shape2 N 1) (shape1 N)) (hiw : d.insertedWindowDims = [0])
    (hsd : d.scatterDimsToOperandDims = [0]) (hivd : d.indexVectorDim = 1) (x0 : IVec (shape1 M) 32) (hx0 : ∀ i, x0 i = 0#32)
    (idx : IVec (shape2 N 1) 32) (upd : IVec (shape1 N) 32) (hupd : ∀ i, upd i = 1#32) (g : ℕ → ℕ)
    (hg : ∀ i : Fin N, idx (ix2 i (0 : Fin 1)) = BitVec.ofNat 32 (g i.val)) (h31 : ∀ i : Fin N, g i.val < 2 ^ 31) (x : Fin M) :
    Host.scatter d IntOp.addi x0 idx upd (ix1 x) = BitVec.ofNat 32 (Nat.count (fun i => g i = x.val) N) := by
  have hstep : ∀ l : List (Fin (shape1 N).numel), ∀ a : BitVec 32,
      l.foldl (fun a n => if d.resultIdx? ((shape1 N).rowMajor.symm n) idx = some (ix1 x) then IntOp.addi a (upd ((shape1 N).rowMajor.symm n)) else a) a
        = l.foldl (fun a n => IntOp.addi a (if g n.val = x.val then 1#32 else 0#32)) a := by
    intro l
    induction l with
    | nil => intro a; rfl
    | cons n l ih =>
      intro a
      rw [List.foldl_cons, List.foldl_cons, ← ih, hupd, symm1]
      congr 1
      by_cases h : g n.val = x.val
      · rw [if_pos h, if_pos ((lands d hiw hsd hivd idx (n.cast (numel1 N)) (g n.val) (hg (n.cast (numel1 N))) (h31 (n.cast (numel1 N))) x).2 h)]
      · rw [if_neg h, if_neg fun h' => h ((lands d hiw hsd hivd idx (n.cast (numel1 N)) (g n.val) (hg (n.cast (numel1 N))) (h31 (n.cast (numel1 N))) x).1 h')]
        exact (BitVec.add_zero a).symm
  rw [scatter_at, hstep, hx0]
  refine (foldl_addi_ofNat _ _ (fun n => if g n.val = x.val then 1 else 0) (fun n _ => ?_) _ 0 rfl).trans ?_
  · split <;> rfl
  · rw [Nat.zero_add, ← sum_map_ite]
    refine congrArg (BitVec.ofNat 32) ?_
    have hN : (shape1 N).numel = N := numel1 N
    have hl : ∀ (K : ℕ) (f : ℕ → ℕ), ((List.finRange K).map fun n => f n.val) = (List.range K).map f := by
      intro K f
      rw [← List.map_coe_finRange_eq_range, List.map_map]
      rfl
    rw [hl _ (fun n => if g n = x.val then 1 else 0), hN]

/-- A column of indices, none of them negative, is what it was after its negative ones are wrapped. -/
theorem wrap_col {n : ℕ} (hb : shape0.BroadcastsInDim (shape1 n) (![] : Fin 0 → Fin (shape1 n).rank))
    (hc : (shape1 n).BroadcastsInDim (shape2 n 1) (![0] : Fin 1 → Fin (shape2 n 1).rank)) (v : IVec (shape1 n) 32) (w : BitVec 32) (i : Fin n) {k : ℕ}
    (hk : v (ix1 i) = BitVec.ofNat 32 k) (h31 : k < 2 ^ 31) :
    broadcastInDim (shape2 n 1) ![0] hc (select (cmpi .slt v (broadcastInDim (shape1 n) ![] hb (constantI shape0 32 0#32)))
      (addi v (broadcastInDim (shape1 n) ![] hb (constantI shape0 32 w))) v) (ix2 i (0 : Fin 1)) = BitVec.ofNat 32 k := by
  rw [bcCol]
  show Scalar.select (IntOp.cmpi .slt (v (ix1 i)) 0#32) (v (ix1 i) + w) (v (ix1 i)) = _
  rw [hk]
  refine wrap_of_lt _ _ ?_
  rw [BitVec.toNat_ofNat]
  exact lt_of_le_of_lt (Nat.mod_le _ _) h31

/-! ## The reference's terms -/

def flatW (x : IVec S16384x2 32) : IVec S32768 32 := shapeCast S32768 x shapeCasts_S16384x2_S32768
def sortW (x : IVec S16384x2 32) : IVec S32768 32 := (Host.sort2 S32768 0 comparator_i32_i32_d0 (flatW x) (iotaInDim S32768 32 0)).2
/-- Indices as the column a gather takes. -/
def colW (v : IVec S32768 32) (w : BitVec 32) : IVec S32768x1 32 :=
  broadcastInDim S32768x1 ![0] bcast_S32768_S32768x1_0 (select (cmpi .slt v (broadcastInDim S32768 ![] bcast_S_S32768 (constantI S_ 32 0#32)))
    (addi v (broadcastInDim S32768 ![] bcast_S_S32768 (constantI S_ 32 w))) v)
def sortedW (x : IVec S16384x2 32) : IVec S32768 32 := Host.gather gather_S32768_S32768x1_S32768_n_0_n_n_0_1_1 (flatW x) (colW (sortW x) 32768#32)
def histW (x : IVec S16384x2 32) : IVec S64 32 :=
  Host.scatter scatter_S64_S32768x1_S32768_n_0_0_1 IntOp.addi (broadcastInDim S64 ![] bcast_S_S64 (constantI S_ 32 0#32))
    (colW (maxsi (broadcastInDim S32768 ![] bcast_S_S32768 (id (constantI S_ 32 0#32))) (flatW x)) 64#32) (broadcastInDim S32768 ![] bcast_S_S32768 (constantI S_ 32 1#32))
def rowW (x : IVec S16384x2 32) : IVec S32768 32 :=
  addi (Host.gather gather_S64_S32768x1_S32768_n_0_n_n_0_1_1 (startW (padW (histW x))) (colW (sortedW x) 64#32))
    (subi (iotaInDim S32768 32 0) (Host.gather gather_S64_S32768x1_S32768_n_0_n_n_0_1_1 (startW (histW x)) (colW (sortedW x) 64#32)))
def tokW : IVec S32768 32 := shapeCast S32768 (broadcastInDim S16384x2 ![0] bcast_S16384_S16384x2_0 (iotaInDim S16384 32 0)) shapeCasts_S16384x2_S32768
def fromW (x : IVec S16384x2 32) : IVec S49152 32 :=
  Host.scatter scatter_S49152_S32768x1_S32768_n_0_0_1 (fun _ b => b) (broadcastInDim S49152 ![] bcast_S_S49152 (constantI S_ 32 16384#32)) (colW (rowW x) 49152#32)
    (Host.gather gather_S32768_S32768x1_S32768_n_0_n_n_0_1_1 tokW (colW (sortW x) 32768#32))
def resultW (x : IVec S16384x2 32) (hp : IVec S16384x1024 32) : IVec S49152x1024 32 :=
  Host.gather gather_S16385x1024_S49152x1_S49152x1024_1_0_n_n_0_1_11024
    (concatenate S16385x1024 0 [⟨S16384x1024, hp⟩, ⟨S1x1024, broadcastInDim S1x1024 ![] bcast_S_S1x1024 (constantI S_ 32 0#32)⟩] concatenates_S16384x1024_S1x1024_S16385x1024_d0)
    (broadcastInDim S49152x1 ![0] bcast_S49152_S49152x1_0 (select (cmpi .slt (fromW x) (broadcastInDim S49152 ![] bcast_S_S49152 (constantI S_ 32 0#32)))
      (addi (fromW x) (broadcastInDim S49152 ![] bcast_S_S49152 (constantI S_ 32 16385#32))) (fromW x)))

/-! ## What they hold -/

theorem small : 32768 < 2 ^ 31 := by norm_num
theorem small64 : 64 < 2 ^ 31 := by norm_num

/-- A row of an array with one row appended, before the last. -/
theorem append_old {n k : ℕ} (u : IVec (shape2 n k) 32) (v : IVec (shape2 1 k) 32) (h : Shape.Concatenates [shape2 n k, shape2 1 k] (shape2 (n + 1) k) 0)
    (i : Fin n) (y : Fin k) (i' : Fin (n + 1)) (hi : i'.val = i.val) :
    concatenate (shape2 (n + 1) k) 0 [⟨shape2 n k, u⟩, ⟨shape2 1 k, v⟩] h (ix2 i' y) = u (ix2 i y) := by
  refine concatenate_pair_apply_left _ u v h (ix2 i' y) rfl (ix2 i y) fun b => ?_
  match b with
  | ⟨0, _⟩ => exact hi.symm
  | ⟨1, _⟩ => rfl

/-- The row appended. -/
theorem append_new {n k : ℕ} (u : IVec (shape2 n k) 32) (v : IVec (shape2 1 k) 32) (h : Shape.Concatenates [shape2 n k, shape2 1 k] (shape2 (n + 1) k) 0)
    (y : Fin k) (i' : Fin (n + 1)) (hi : i'.val = n) :
    concatenate (shape2 (n + 1) k) 0 [⟨shape2 n k, u⟩, ⟨shape2 1 k, v⟩] h (ix2 i' y) = v (ix2 (0 : Fin 1) y) := by
  refine concatenate_pair_apply_right _ u v h (ix2 i' y) rfl rfl (ix2 (0 : Fin 1) y) (fun b hb => ?_) ((Nat.zero_add n).trans hi.symm)
  match b with
  | ⟨0, _⟩ => exact absurd rfl hb
  | ⟨1, _⟩ => rfl

theorem tokW_ap (a : Fin 32768) : tokW (ix1 a) = BitVec.ofNat 32 (a.val / 2) := by
  refine (cast21 (a := 16384) (b := 2) (n := 32768) _ _ ⟨a.val / 2, by omega⟩ ⟨a.val % 2, by omega⟩ a (by show a.val = a.val / 2 * 2 + a.val % 2; omega)).trans ?_
  rfl

section

variable (x : IVec S16384x2 32) (he : ∀ i, i < 32768 → expertOf x i < 64)
include he

theorem sortW_ap (p : Fin 32768) : sortW x (ix1 p) = BitVec.ofNat 32 (order (N := 32768) (expertOf x) p).val := by
  have hd : 0 < (shape1 32768).rank := Nat.zero_lt_one
  have halong : ∀ c : Fin 32768, (ix1 p : (shape1 32768).Idx).along (⟨0, hd⟩ : Fin (shape1 32768).rank) c = ix1 c := fun c =>
    (Shape.Idx.along_rank1 _ c).trans (ofFin_eq_ix1 c)
  have hkey : ∀ c : Fin 32768, flatW x ((ix1 p : (shape1 32768).Idx).along (⟨0, hd⟩ : Fin (shape1 32768).rank) c) = BitVec.ofNat 32 (expertOf x c.val) := fun c =>
    (congrArg (flatW x) (halong c)).trans (flat_word x _ c)
  have hbefore : (fun a b : Fin 32768 => comparator_i32_i32_d0
        (flatW x ((ix1 p : (shape1 32768).Idx).along (⟨0, hd⟩ : Fin (shape1 32768).rank) a), iotaInDim S32768 32 0 ((ix1 p : (shape1 32768).Idx).along (⟨0, hd⟩ : Fin (shape1 32768).rank) a))
        (flatW x ((ix1 p : (shape1 32768).Idx).along (⟨0, hd⟩ : Fin (shape1 32768).rank) b), iotaInDim S32768 32 0 ((ix1 p : (shape1 32768).Idx).along (⟨0, hd⟩ : Fin (shape1 32768).rank) b)) == 1#1)
      = fun a b => decide (expertOf x a.val < expertOf x b.val) := by
    funext a b
    show (BitVec.ofBool (BitVec.slt (flatW x _) (flatW x _)) == 1#1) = _
    rw [hkey a, hkey b, slt_ofNat32 ((he _ a.isLt).trans (by omega)) ((he _ b.isLt).trans (by omega))]
    by_cases h : expertOf x a.val < expertOf x b.val <;> simp [h]
  unfold sortW Host.sort2
  rw [dif_pos hd]
  have hsrc := congrFun (congrArg (fun f => sortedFrom f) hbefore) p
  refine (congrArg (fun c : Fin 32768 => iotaInDim S32768 32 0 ((ix1 p : (shape1 32768).Idx).along (⟨0, hd⟩ : Fin (shape1 32768).rank) c)) hsrc).trans ?_
  change iotaInDim S32768 32 0 ((ix1 p : (shape1 32768).Idx).along (⟨0, hd⟩ : Fin (shape1 32768).rank) (order (N := 32768) (expertOf x) p)) = _
  generalize order (N := 32768) (expertOf x) p = o
  exact (congrArg (iotaInDim (shape1 32768) 32 0) (halong o)).trans (iota1_ap o)

theorem sortCol_ap (p : Fin 32768) : colW (sortW x) 32768#32 (ix2 p (0 : Fin 1)) = BitVec.ofNat 32 (order (N := 32768) (expertOf x) p).val :=
  wrap_col _ _ (sortW x) _ p (sortW_ap x he p) ((order (N := 32768) (expertOf x) p).isLt.trans (by omega))

theorem sortedW_ap (p : Fin 32768) : sortedW x (ix1 p) = BitVec.ofNat 32 (expertOf x (order (N := 32768) (expertOf x) p).val) := by
  have h1 := sortCol_ap x he p
  have h2 := flat_word x shapeCasts_S16384x2_S32768 (order (N := 32768) (expertOf x) p)
  generalize order (N := 32768) (expertOf x) p = o at h1 h2 ⊢
  have h3 := gather_take1 (N := 32768) (n := 32768) gather_S32768_S32768x1_S32768_n_0_n_n_0_1_1 rfl rfl rfl rfl (flatW x) (colW (sortW x) 32768#32) p o h1 small
  exact h3.trans h2

theorem sortedCol_ap (p : Fin 32768) : colW (sortedW x) 64#32 (ix2 p (0 : Fin 1)) = BitVec.ofNat 32 (expertOf x (order (N := 32768) (expertOf x) p).val) :=
  wrap_col _ _ (sortedW x) _ p (sortedW_ap x he p) ((he _ (order (N := 32768) (expertOf x) p).isLt).trans (by omega))

theorem histW_ap (q : Fin 64) : histW x (ix1 q) = BitVec.ofNat 32 (cnt (expertOf x) q.val) := by
  refine hist (M := 64) (N := 32768) scatter_S64_S32768x1_S32768_n_0_0_1 rfl rfl rfl _ (fun i => ?_) _ _ (fun i => ?_) (expertOf x) (fun i => ?_)
    (fun i => (he _ i.isLt).trans (by omega)) q
  · exact bc0 _ _ _
  · exact bc0 _ _ _
  · refine wrap_col _ _ _ _ i ?_ ((he _ i.isLt).trans (by omega))
    refine Eq.trans (b := IntOp.maxsi 0#32 (flatW x (ix1 i))) rfl ?_
    rw [show flatW x (ix1 i) = BitVec.ofNat 32 (expertOf x i.val) from flat_word x _ i]
    exact maxsi_zero_left ((he _ i.isLt).trans (by omega))

theorem takeSorted (y : IVec S64 32) (g : ℕ → ℕ) (hy : ∀ q : Fin 64, y (ix1 q) = BitVec.ofNat 32 (g q.val)) (p : Fin 32768) :
    Host.gather gather_S64_S32768x1_S32768_n_0_n_n_0_1_1 y (colW (sortedW x) 64#32) (ix1 p) = BitVec.ofNat 32 (g (expertOf x (order (N := 32768) (expertOf x) p).val)) := by
  have h1 := sortedCol_ap x he p
  have h4 := he _ (order (N := 32768) (expertOf x) p).isLt
  generalize order (N := 32768) (expertOf x) p = o at h1 h4 ⊢
  have h3 := gather_take1 (N := 64) (n := 32768) gather_S64_S32768x1_S32768_n_0_n_n_0_1_1 rfl rfl rfl rfl y (colW (sortedW x) 64#32) p ⟨expertOf x o.val, h4⟩ h1 small64
  exact h3.trans (hy ⟨expertOf x o.val, h4⟩)

theorem rowW_ap (p : Fin 32768) : rowW x (ix1 p) = BitVec.ofNat 32 (dest (expertOf x) (order (N := 32768) (expertOf x) p).val) := by
  have hpad := padW_ap (histW x) (cnt (expertOf x)) (fun i => cnt_le (expertOf x) i) (histW_ap x he)
  have h1 := takeSorted x he (startW (padW (histW x))) (pst (expertOf x)) (fun q => startW_ap _ (fun y => pad (cnt (expertOf x) y)) hpad q) p
  have h2 := takeSorted x he (startW (histW x)) (fun y => ((List.range y).map (cnt (expertOf x))).sum) (fun q => startW_ap _ (cnt (expertOf x)) (histW_ap x he) q) p
  unfold rowW
  rw [addi_ap, subi_ap, h1, h2]
  show _ + (BitVec.ofNat 32 p.val - _) = _
  rw [sum_cnt]
  have h3 := order_pos (N := 32768) (expertOf x) p
  rw [ofNat32_sub (by omega), ← BitVec.ofNat_add]
  refine congrArg (BitVec.ofNat 32) ?_
  unfold dest
  omega

theorem rowCol_ap (p : Fin 32768) : colW (rowW x) 49152#32 (ix2 p (0 : Fin 1)) = BitVec.ofNat 32 (dest (expertOf x) (order (N := 32768) (expertOf x) p).val) :=
  wrap_col _ _ (rowW x) _ p (rowW_ap x he p) ((dest_lt (expertOf x) he (order (N := 32768) (expertOf x) p).isLt).trans (by omega))

theorem landsRow (p : Fin 32768) (r : Fin 49152) :
    scatter_S49152_S32768x1_S32768_n_0_0_1.resultIdx? (ix1 p) (colW (rowW x) 49152#32) = some (ix1 r)
      ↔ dest (expertOf x) (order (N := 32768) (expertOf x) p).val = r.val :=
  lands (M := 49152) (N := 32768) scatter_S49152_S32768x1_S32768_n_0_0_1 rfl rfl rfl _ p _ (rowCol_ap x he p)
    ((dest_lt (expertOf x) he (order (N := 32768) (expertOf x) p).isLt).trans (by omega)) r

theorem fromW_hit {a : ℕ} (ha : a < 32768) (r : Fin 49152) (hr : r.val = dest (expertOf x) a) : fromW x (ix1 r) = BitVec.ofNat 32 (a / 2) := by
  obtain ⟨p, hp⟩ := (order_bijective (N := 32768) (expertOf x)).2 ⟨a, ha⟩
  have hpv : (order (N := 32768) (expertOf x) p).val = a := congrArg Fin.val hp
  refine scatter_set_hit _ _ _ _ (ix1 r) _ (fun k hk => ?_) (ix1 p) ((landsRow x he p r).2 (by rw [hpv, hr]))
  obtain ⟨q, rfl⟩ : ∃ q : Fin 32768, k = ix1 q := ⟨k 0, funext fun b => by match b with | ⟨0, _⟩ => rfl⟩
  have hq : (order (N := 32768) (expertOf x) q).val = a :=
    dest_inj (expertOf x) (order (N := 32768) (expertOf x) q).isLt ha (((landsRow x he q r).1 hk).trans hr)
  refine (gather_take1 (N := 32768) (n := 32768) gather_S32768_S32768x1_S32768_n_0_n_n_0_1_1 rfl rfl rfl rfl tokW (colW (sortW x) 32768#32) q
    (order (N := 32768) (expertOf x) q) (sortCol_ap x he q) small).trans ((tokW_ap (order (N := 32768) (expertOf x) q)).trans ?_)
  exact congrArg (fun n => BitVec.ofNat 32 (n / 2)) hq

theorem fromW_miss (r : Fin 49152) (hr : ∀ a, a < 32768 → r.val ≠ dest (expertOf x) a) : fromW x (ix1 r) = BitVec.ofNat 32 16384 := by
  refine (scatter_set_miss _ _ _ _ (ix1 r) fun k hk => ?_).trans (bc0 _ _ _)
  obtain ⟨q, rfl⟩ : ∃ q : Fin 32768, k = ix1 q := ⟨k 0, funext fun b => by match b with | ⟨0, _⟩ => rfl⟩
  exact hr _ (order (N := 32768) (expertOf x) q).isLt ((landsRow x he q r).1 hk).symm

/-- The reference's result is what the kernel's copies leave. -/
theorem resultW_eq (hp : IVec S16384x1024 32) : resultW x hp = filled (dest (expertOf x)) hp 32768 := by
  funext z
  obtain ⟨r, y, rfl⟩ : ∃ (r : Fin 49152) (y : Fin 1024), z = ix2 r y := ⟨z 0, z 1, funext fun b => by match b with | ⟨0, _⟩ => rfl | ⟨1, _⟩ => rfl⟩
  by_cases h : ∃ a, a < 32768 ∧ r.val = dest (expertOf x) a
  · obtain ⟨a, ha, hr⟩ := h
    rw [filled_hit (fun j j' hj hj' => dest_inj (expertOf x) hj hj') hp ha ha (ix2 r y) hr]
    refine (gather_row (nb := 16385) (B := 1024) (n := 49152) gather_S16385x1024_S49152x1_S49152x1024_1_0_n_n_0_1_11024 rfl rfl rfl rfl rfl _ _ r y ⟨a / 2, by omega⟩
      (wrap_col (n := 49152) _ _ (fromW x) _ r (fromW_hit x he ha r hr) (by omega)) (by omega)).trans ?_
    exact append_old (n := 16384) (k := 1024) hp _ _ ⟨a / 2, by omega⟩ y ⟨a / 2, by omega⟩ rfl
  · rw [filled_miss hp (ix2 r y) fun j hj _ hr => h ⟨j, hj, hr⟩]
    refine (gather_row (nb := 16385) (B := 1024) (n := 49152) gather_S16385x1024_S49152x1_S49152x1024_1_0_n_n_0_1_11024 rfl rfl rfl rfl rfl _ _ r y ⟨16384, by omega⟩
      (wrap_col (n := 49152) _ _ (fromW x) _ r (fromW_miss x he r fun a ha hr => h ⟨a, ha, hr⟩) (by omega)) (by omega)).trans ?_
    exact (append_new (n := 16384) (k := 1024) hp _ _ y ⟨16384, by omega⟩ rfl).trans (bc0 _ _ _)

end

end Cert.Scattered

end
-- ==== Proof.Same.lean ====
/-
  Hand-written. The kernel as written and the kernel read at the ideal instance are one program over any float
  values: nothing in the text is replaced by an ideal operation.
-/
module

public import proofs.«01_k».proof.Proof.Gen.Kernel
public import proofs.«01_k».proof.Proof.Gen.KernelIdeal

@[expose] public section

noncomputable section

namespace Cert.Same

open Idealize.ShloMosaic Idealize.ShloMosaic.TcCoe Idealize.SL.Sem

variable {F : FTy → Type} [FloatOps F]

/-! ## The body tables -/

theorem bodies : @Cert.Kernel.defs₀ F _ = @Cert.KernelIdeal.defs₀ F _ := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))

theorem tables : @Cert.Kernel.defs F _ = @Cert.KernelIdeal.defs F _ := congrArg (Pipeline.defs _) bodies

/-! ## The host functions -/

theorem running (a) : Cert.Kernel.fn_cumsum.body (F := F) a Cert.Kernel.main_call0
    = Cert.KernelIdeal.fn_cumsum.body (F := F) a Cert.KernelIdeal.main_call0 := rfl

theorem rows (a) : Cert.Kernel.fn_cumsum_1.body (F := F) a Cert.Kernel.main_call2
    = Cert.KernelIdeal.fn_cumsum_1.body (F := F) a Cert.KernelIdeal.main_call2 := rfl

theorem where_same (a b c) (φ : Cert.Kernel.fn_where.Bufs) :
    Cert.Kernel.fn_where.body (F := F) a b c φ = Cert.KernelIdeal.fn_where.body (F := F) a b c ⟨φ.v0⟩ := rfl

set_option maxHeartbeats 2000000 in
theorem floored (a b) (φ : Cert.Kernel.fn_floor_divide.Bufs) :
    Cert.Kernel.fn_floor_divide.body (F := F) a b φ
      = Cert.KernelIdeal.fn_floor_divide.body (F := F) a b
          ⟨φ.v0, φ.v1, φ.v2, φ.v3, φ.v4, φ.v5, φ.v6, φ.v7, φ.v8, φ.c, φ.v9, φ.v10, φ.v11, φ.c_0, φ.v12, φ.v13, ⟨φ.call0.v0⟩⟩ := rfl

/-! ## The whole -/

set_option maxRecDepth 8192 in
set_option maxHeartbeats 2000000 in
theorem main_same : @Cert.Kernel.main F _ = @Cert.KernelIdeal.main F _ := by
  funext c
  unfold Cert.Kernel.main Cert.KernelIdeal.main
  rw [running, rows, floored]
  rfl

end Cert.Same

end
-- ==== Proof.Experts.Spec.lean ====
/-
  Hand-written. The experts' network of one row, at the ideal values: the gated product of the row with an expert's two
  up-projections, carried down by its third.
-/
module

public import Idealize.ShloMosaic.Lib.Pointwise
public import Idealize.ShloMosaic.PureOps.Ideal

@[expose] public section

noncomputable section

namespace Cert.Experts

open Idealize.ShloMosaic

/-- The value of a word's upper half and of its lower half, each a bf16 pattern. -/
def upper (w : BitVec 32) : EReal := Ideal.ofBits .bf16 ((w >>> 16).setWidth 16)
def lower (w : BitVec 32) : EReal := Ideal.ofBits .bf16 (w.setWidth 16)

/-- A pattern of bf16 followed by sixteen zeros, read as f32, has the value of the bf16 pattern. -/
theorem ieee_widen (v : BitVec 32) (b : BitVec 16) (h : v.toNat = b.toNat * 65536) : Ideal.ofBits .f32 v = Ideal.ofBits .bf16 b := by
  have hb := b.isLt
  have hs : v.extractLsb' (8 + 23) 1 = b.extractLsb' (8 + 7) 1 :=
    BitVec.eq_of_toNat_eq (by simp only [BitVec.extractLsb'_toNat, Nat.shiftRight_eq_div_pow]; omega)
  have he : v.extractLsb' 23 8 = b.extractLsb' 7 8 :=
    BitVec.eq_of_toNat_eq (by simp only [BitVec.extractLsb'_toNat, Nat.shiftRight_eq_div_pow]; omega)
  have hf : (v.extractLsb' 0 23).toNat = (b.extractLsb' 0 7).toNat * 65536 := by
    simp only [BitVec.extractLsb'_toNat, Nat.shiftRight_eq_div_pow]; omega
  show Ideal.ieee 8 23 v = Ideal.ieee 8 7 b
  unfold Ideal.ieee
  dsimp only
  rw [hs, he, hf]
  generalize (b.extractLsb' 0 7).toNat = f
  generalize (b.extractLsb' 7 8).toNat = x
  generalize (if (b.extractLsb' (8 + 7) 1 == 1#1) = true then (-1 : ℝ) else 1) = sg
  have h0 : (f * 65536 = 0) = (f = 0) := propext (by omega)
  have hp : ∀ k : Int, (65536 : ℝ) * 2 ^ (k - 23) = 2 ^ (k - 7) := fun k => by
    rw [show (65536 : ℝ) = 2 ^ (16 : Int) by norm_num, ← zpow_add₀ (by norm_num : (2 : ℝ) ≠ 0)]
    exact congrArg _ (by omega)
  have hz : sg * ((f * 65536 : ℕ) : ℝ) * 2 ^ (1 - (2 ^ (8 - 1) - 1) - (23 : ℕ) : Int) = sg * (f : ℝ) * 2 ^ (1 - (2 ^ (8 - 1) - 1) - (7 : ℕ) : Int) := by
    rw [Nat.cast_mul, mul_assoc, mul_assoc, mul_assoc]
    exact congrArg (fun z => sg * ((f : ℝ) * z)) (hp (1 - (2 ^ (8 - 1) - 1)))
  have hn : sg * ((2 ^ 23 + f * 65536 : ℕ) : ℝ) * 2 ^ ((x : Int) - (2 ^ (8 - 1) - 1) - (23 : ℕ)) = sg * ((2 ^ 7 + f : ℕ) : ℝ) * 2 ^ ((x : Int) - (2 ^ (8 - 1) - 1) - (7 : ℕ)) := by
    rw [show 2 ^ 23 + f * 65536 = (2 ^ 7 + f) * 65536 by omega, Nat.cast_mul, mul_assoc, mul_assoc, mul_assoc]
    exact congrArg (fun z => sg * (((2 ^ 7 + f : ℕ) : ℝ) * z)) (hp ((x : Int) - (2 ^ (8 - 1) - 1)))
  have hz' := congrArg (fun y : ℝ => (y : EReal)) hz
  have hn' := congrArg (fun y : ℝ => (y : EReal)) hn
  simp only [h0]
  rw [hz']
  split_ifs <;> first | rfl | exact hn'

theorem ofBits_upper (w : BitVec 32) : Ideal.ofBits .f32 (w &&& 4294901760#32) = upper w := by
  refine ieee_widen _ _ ?_
  have hm : ∀ i : Fin 32, (4294901760#32).getLsbD i.val = decide (16 ≤ i.val) := by decide
  have h : w &&& 4294901760#32 = (w >>> 16) <<< 16 := by
    refine BitVec.eq_of_getLsbD_eq fun i hi => ?_
    rw [BitVec.getLsbD_and, hm ⟨i, hi⟩, BitVec.getLsbD_shiftLeft, BitVec.getLsbD_ushiftRight]
    by_cases h16 : 16 ≤ i
    · simp [h16, hi, show 16 + (i - 16) = i by omega]
    · simp [h16]
  have hw := w.isLt
  rw [h]
  simp only [BitVec.toNat_shiftLeft, BitVec.toNat_ushiftRight, BitVec.toNat_setWidth, Nat.shiftRight_eq_div_pow, Nat.shiftLeft_eq]
  omega

theorem ofBits_lower (w : BitVec 32) : Ideal.ofBits .f32 (w <<< 16) = lower w := by
  refine ieee_widen _ _ ?_
  simp only [BitVec.toNat_shiftLeft, BitVec.toNat_setWidth, Nat.shiftLeft_eq]
  omega

/-- The rows the words hold: the upper halves in the first 1024 columns, the lower ones in the last. -/
def rows (W : (⟨2, ![49152, 1024]⟩ : Shape).Idx → BitVec 32) : (⟨2, ![49152, 2048]⟩ : Shape).Idx → EReal := fun i =>
  if h : (i 1).val < 1024 then upper (W (ix2 (i 0) ⟨(i 1).val, h⟩))
  else lower (W (ix2 (i 0) ⟨(i 1).val - 1024, by have h' : (i 1).val < 2048 := (i 1).isLt; omega⟩))

theorem rows_left (W : (⟨2, ![49152, 1024]⟩ : Shape).Idx → BitVec 32) (R : Fin 49152) (j : Fin 1024) :
    rows W (ix2 R ⟨j.val, by omega⟩) = upper (W (ix2 R j)) := dif_pos j.isLt

theorem rows_right (W : (⟨2, ![49152, 1024]⟩ : Shape).Idx → BitVec 32) (R : Fin 49152) (j : Fin 1024) :
    rows W (ix2 R ⟨1024 + j.val, by omega⟩) = lower (W (ix2 R j)) :=
  (dif_neg (by show ¬ 1024 + j.val < 1024; omega)).trans
    (congrArg (fun k => lower (W (ix2 R k))) (Fin.ext (show 1024 + j.val - 1024 = j.val by omega)))

/-- A row by an expert's up-projection, at a column. -/
def up (X : (⟨2, ![49152, 2048]⟩ : Shape).Idx → EReal) (W : (⟨3, ![64, 2048, 512]⟩ : Shape).Idx → EReal) (e : Fin 64) (R : Fin 49152) (f : Fin 512) : EReal :=
  ∑ j : Fin 2048, X (ix2 R j) * W (ix3 e j f)

/-- The row's result at a column. -/
def ffn (X : (⟨2, ![49152, 2048]⟩ : Shape).Idx → EReal) (G U : (⟨3, ![64, 2048, 512]⟩ : Shape).Idx → EReal)
    (D : (⟨3, ![64, 512, 2048]⟩ : Shape).Idx → EReal) (e : Fin 64) (R : Fin 49152) (c : Fin 2048) : EReal :=
  ∑ f : Fin 512, up X G e R f * Ideal.logistic (up X G e R f) * up X U e R f * D (ix3 e f c)

/-- The result of all rows, in blocks of 256: `e` a block's expert, `n` the number of blocks in use. -/
def result (n : BitVec 32) (e : Fin 192 → Fin 64) (X : (⟨2, ![49152, 2048]⟩ : Shape).Idx → EReal) (G U : (⟨3, ![64, 2048, 512]⟩ : Shape).Idx → EReal)
    (D : (⟨3, ![64, 512, 2048]⟩ : Shape).Idx → EReal) (R : Fin 49152) (c : Fin 2048) : EReal :=
  if (BitVec.ofNat 32 (R.val / 256)).slt n = true then ffn X G U D (e ⟨R.val / 256, by omega⟩) R c else 0

/-- A sum over 2048 places in two halves. -/
theorem sum_halves (f : Fin 2048 → EReal) :
    (∑ j : Fin 1024, f ⟨j.val, by omega⟩) + ∑ j : Fin 1024, f ⟨1024 + j.val, by omega⟩ = ∑ j, f j :=
  (Fin.sum_univ_add (a := 1024) (b := 1024) f).symm

end Cert.Experts
-- ==== Proof.Experts.Paths.lean ====
/-
  Hand-written. The body of the experts' call along its three control paths: a block of rows that loads its expert's
  weights and uses them, one that uses the weights already loaded, and one past the blocks in use.
-/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

/-- The two tables and the three scratch buffers, whole. -/
abbrev tbE : Memref sig .tc .smem S192 .i32 := Memref.whole main_arg0
abbrev tbU : Memref sig .tc .smem S1 .i32 := Memref.whole main_arg1
abbrev scG : Memref sig .tc .vmem S2048x512 .bf16 := Memref.whole cc0_scratch0
abbrev scU : Memref sig .tc .vmem S2048x512 .bf16 := Memref.whole cc0_scratch1
abbrev scD : Memref sig .tc .vmem S512x2048 .bf16 := Memref.whole cc0_scratch2

/-- The words the body reads at a point: this block's expert, the expert of the block before, the blocks in use. -/
abbrev wdE (i : grid0.Coords) (T0 : S192.Idx → Elt F .i32) : Elt F .i32 :=
  View.readAt (Elt F) tbE.view (Rect.unit (s := S192) (k0_off1 i) S1.size (k0_off1_inb i)).toLoadRect T0 (Shape.Idx.first (numel1_S1.symm ▸ Nat.one_pos))
abbrev wdP (i : grid0.Coords) (T0 : S192.Idx → Elt F .i32) : Elt F .i32 :=
  View.readAt (Elt F) tbE.view (Rect.unit (s := S192) (k0_off2 i) S1.size (k0_off2_inb i)).toLoadRect T0 (Shape.Idx.first (numel1_S1.symm ▸ Nat.one_pos))
abbrev wdN (T1 : S1.Idx → Elt F .i32) : Elt F .i32 :=
  View.readAt (Elt F) tbU.view (Rect.unit (s := S1) ![0] S1.size inb_S1_S1_0).toLoadRect T1 (Shape.Idx.first (numel1_S1.symm ▸ Nat.one_pos))

/-- The first condition of the body: the block is in use and its expert is not the one of the block before. -/
abbrev condLoad (i : grid0.Coords) (e p n : BitVec 32) : BitVec 1 :=
  Scalar.cmpi .ne (Scalar.extui (Scalar.andi (Scalar.ori (Scalar.cmpi .eq (BitVec.ofNat 32 (i 0).val) 0#32) (Scalar.cmpi .ne e p))
    (Scalar.cmpi .slt (BitVec.ofNat 32 (i 0).val) n)) : BitVec 32) 0#32

variable (c : Dev nD) (i : grid0.Coords)
  (a3 : Memref sig .tc .vmem S256x1024 .i32) (h3 : a3.IsWhole) (a4 : Memref sig .tc .vmem S1x2048x512 .f32) (h4 : a4.IsWhole)
  (a5 : Memref sig .tc .vmem S1x2048x512 .f32) (h5 : a5.IsWhole) (a6 : Memref sig .tc .vmem S1x512x2048 .f32) (h6 : a6.IsWhole)
  (a7 : Memref sig .tc .vmem S256x2048 .bf16) (h7 : a7.IsWhole)
  (T0 : S192.Idx → Elt F .i32) (T1 : S1.Idx → Elt F .i32)
  (x0 : S256x1024.Idx → Elt F .i32) (x1 x2 : S1x2048x512.Idx → Elt F .f32) (x3 : S1x512x2048.Idx → Elt F .f32)
  (g : Buf (Elt F) ((c : Thread nD τ).loc cc0_scratch0)) (u : Buf (Elt F) ((c : Thread nD τ).loc cc0_scratch1))
  (d : Buf (Elt F) ((c : Thread nD τ).loc cc0_scratch2))

/-- What the body holds at a point: the staged blocks, the tables, the output buffer as said, the scratch as said. -/
def held (out : sProp 𝕄) (g : Buf (Elt F) ((c : Thread nD τ).loc cc0_scratch0)) (u : Buf (Elt F) ((c : Thread nD τ).loc cc0_scratch1))
    (d : Buf (Elt F) ((c : Thread nD τ).loc cc0_scratch2)) : sProp 𝕄 :=
  iprop((a3.view.loc (c : Thread nD τ) ↦[a3.view.set]{fullShare} a3.view.rep x0)
    ∗ (a4.view.loc (c : Thread nD τ) ↦[a4.view.set]{fullShare} a4.view.rep x1)
    ∗ (a5.view.loc (c : Thread nD τ) ↦[a5.view.set]{fullShare} a5.view.rep x2)
    ∗ (a6.view.loc (c : Thread nD τ) ↦[a6.view.set]{fullShare} a6.view.rep x3)
    ∗ (tbE.view.loc (c : Thread nD τ) ↦{fullShare.right} T0)
    ∗ (tbU.view.loc (c : Thread nD τ) ↦{fullShare.right} T1)
    ∗ out
    ∗ (scG.view.loc (c : Thread nD τ) ↦{fullShare} g)
    ∗ (scU.view.loc (c : Thread nD τ) ↦{fullShare} u)
    ∗ (scD.view.loc (c : Thread nD τ) ↦{fullShare} d))

/-- The body at a point, on its staging buffers. -/
abbrev body : Prog (TpuEff nD τ sig (Elt F) Λ₀ .tc) PUnit :=
  cc0_experts i tbE (Memref.isWhole_whole _) tbU (Memref.isWhole_whole _) a3 h3 a4 h4 a5 h5 a6 h6 a7 h7
    scG (Memref.isWhole_whole _) scU (Memref.isWhole_whole _) scD (Memref.isWhole_whole _)

set_option backward.proofsInPublic true in
set_option maxHeartbeats 8000000 in
/-- A block that loads its expert's weights. -/
def runLoad (hc : condLoad i (wdE i T0) (wdP i T0) (wdN T1) = 1#1) (hu : k0_cond2 i (wdN T1) = 1#1) (hn : ¬(k0_cond3 i (wdN T1) = 1#1)) :
    Σ' (o : List (View.Piece (Elt F) S256x2048 .bf16)) (g' : Buf (Elt F) ((c : Thread nD τ).loc cc0_scratch0)) (u' : Buf (Elt F) ((c : Thread nD τ).loc cc0_scratch1)),
      { d' : Buf (Elt F) ((c : Thread nD τ).loc cc0_scratch2) //
      ∀ (K : PUnit → sProp 𝕄),
        iprop(held c a3 a4 a5 a6 T0 T1 x0 x1 x2 x3 iprop(∃ d, owns (c : Thread nD τ) a7 fullShare d) g u d
          ∗ (held c a3 a4 a5 a6 T0 T1 x0 x1 x2 x3 iprop(∃ f, a7.view.loc (c : Thread nD τ) ↦[a7.view.set]{fullShare} a7.view.writes (Elt F) f o) g' u' d' -∗ K ⟨⟩))
        ⊢ wp frame (wpE (defs₀ (F := F)) Variants.none c none) Set.univ (body i a3 h3 a4 h4 a5 h5 a6 h6 a7 h7) K } :=
  ⟨_, _, _, _, fun K => by
    unfold held body owns
    rw [cc0_experts_eq_skeleton]; unfold cc0_experts_skel
    iintro ⟨⟨H0, H1, H2, H3, HT0, HT1, ⟨%d4, %f4, -, HO4⟩, HS0, HS1, HS2⟩, Hk⟩
    have hS0 : scG.IsWhole := Memref.isWhole_whole _
    have hS1 : scU.IsWhole := Memref.isWhole_whole _
    have hS2 : scD.IsWhole := Memref.isWhole_whole _
    have hT0 : tbE.IsWhole := Memref.isWhole_whole _
    have hT1 : tbU.IsWhole := Memref.isWhole_whole _
    sl_exec! (disch := first | (guard_target = Scalar.cmpi _ _ _ = _; exact hc) | (guard_target = k0_cond2 _ _ = _; exact hu) | (guard_target = ¬(k0_cond3 _ _ = _); exact hn))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- A block that uses the weights already loaded. -/
def runKeep (hc : ¬(condLoad i (wdE i T0) (wdP i T0) (wdN T1) = 1#1)) (hu : k0_cond2 i (wdN T1) = 1#1) (hn : ¬(k0_cond3 i (wdN T1) = 1#1)) :
    { o : List (View.Piece (Elt F) S256x2048 .bf16) //
      ∀ (K : PUnit → sProp 𝕄),
        iprop(held c a3 a4 a5 a6 T0 T1 x0 x1 x2 x3 iprop(∃ d, owns (c : Thread nD τ) a7 fullShare d) g u d
          ∗ (held c a3 a4 a5 a6 T0 T1 x0 x1 x2 x3 iprop(∃ f, a7.view.loc (c : Thread nD τ) ↦[a7.view.set]{fullShare} a7.view.writes (Elt F) f o) g u d -∗ K ⟨⟩))
        ⊢ wp frame (wpE (defs₀ (F := F)) Variants.none c none) Set.univ (body i a3 h3 a4 h4 a5 h5 a6 h6 a7 h7) K } :=
  ⟨_, fun K => by
    unfold held body owns
    rw [cc0_experts_eq_skeleton]; unfold cc0_experts_skel
    iintro ⟨⟨H0, H1, H2, H3, HT0, HT1, ⟨%d4, %f4, -, HO4⟩, HS0, HS1, HS2⟩, Hk⟩
    have hS0 : scG.IsWhole := Memref.isWhole_whole _
    have hS1 : scU.IsWhole := Memref.isWhole_whole _
    have hS2 : scD.IsWhole := Memref.isWhole_whole _
    have hT0 : tbE.IsWhole := Memref.isWhole_whole _
    have hT1 : tbU.IsWhole := Memref.isWhole_whole _
    sl_exec! (disch := first | (guard_target = ¬(Scalar.cmpi _ _ _ = _); exact hc) | (guard_target = k0_cond2 _ _ = _; exact hu) | (guard_target = ¬(k0_cond3 _ _ = _); exact hn))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- A block past those in use. -/
def runZero (hc : ¬(condLoad i (wdE i T0) (wdP i T0) (wdN T1) = 1#1)) (hu : ¬(k0_cond2 i (wdN T1) = 1#1)) (hn : k0_cond3 i (wdN T1) = 1#1) :
    { o : List (View.Piece (Elt F) S256x2048 .bf16) //
      ∀ (K : PUnit → sProp 𝕄),
        iprop(held c a3 a4 a5 a6 T0 T1 x0 x1 x2 x3 iprop(∃ d, owns (c : Thread nD τ) a7 fullShare d) g u d
          ∗ (held c a3 a4 a5 a6 T0 T1 x0 x1 x2 x3 iprop(∃ f, a7.view.loc (c : Thread nD τ) ↦[a7.view.set]{fullShare} a7.view.writes (Elt F) f o) g u d -∗ K ⟨⟩))
        ⊢ wp frame (wpE (defs₀ (F := F)) Variants.none c none) Set.univ (body i a3 h3 a4 h4 a5 h5 a6 h6 a7 h7) K } :=
  ⟨_, fun K => by
    unfold held body owns
    rw [cc0_experts_eq_skeleton]; unfold cc0_experts_skel
    iintro ⟨⟨H0, H1, H2, H3, HT0, HT1, ⟨%d4, %f4, -, HO4⟩, HS0, HS1, HS2⟩, Hk⟩
    have hS0 : scG.IsWhole := Memref.isWhole_whole _
    have hS1 : scU.IsWhole := Memref.isWhole_whole _
    have hS2 : scD.IsWhole := Memref.isWhole_whole _
    have hT0 : tbE.IsWhole := Memref.isWhole_whole _
    have hT1 : tbU.IsWhole := Memref.isWhole_whole _
    sl_exec! (disch := first | (guard_target = ¬(Scalar.cmpi _ _ _ = _); exact hc) | (guard_target = ¬(k0_cond2 _ _ = _); exact hu) | (guard_target = k0_cond3 _ _ = _; exact hn))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

end Cert.Kernel2Ideal.Experts
-- ==== Proof.Experts.Points.lean ====
/-
  Hand-written. What each control path of the experts' body leaves: the scratch buffers hold the loaded weights, the
  output block is the payload of the rows and the weights, or zeros.
-/
module

public import proofs.«01_k».proof.Proof.Experts.Paths
public import Idealize.ShloMosaic.Lib.VecWindow

@[expose] public section

set_option maxRecDepth 16384

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

/-- The block a point in use stores: the payload of its words and the weights, the first two cut in two halves
    of rows. -/
def outOf (x0 : S256x1024.Idx → Elt F .i32) (G U : S2048x512.Idx → Elt F .bf16) (D : S512x2048.Idx → Elt F .bf16) : S256x2048.Idx → Elt F .bf16 :=
  k0_pay4 x0 (VecWindow.window G ![0, 0] S1024x512.size inb_S2048x512_S1024x512_0_0) (VecWindow.window G ![1024, 0] S1024x512.size inb_S2048x512_S1024x512_1024_0)
    (VecWindow.window U ![0, 0] S1024x512.size inb_S2048x512_S1024x512_0_0) (VecWindow.window U ![1024, 0] S1024x512.size inb_S2048x512_S1024x512_1024_0) D

/-- A single write over a view's whole block reads back as the written payload. -/
theorem read_one {sp : Space} {s : Shape} {e : EltTy} (v : View sig .tc sp s e) (f : v.ty.Contents (Elt F)) {off : Fin s.rank → ℕ}
    (h : off = fun _ => 0) (inb : ∀ a, off a + s.size a ≤ s.size a) (p : s.Idx → Elt F e) :
    v.read (Elt F) (v.writes (Elt F) f [⟨Rect.unit off s.size inb, p⟩]) = p := by
  subst h; exact View.read_writes_whole v f p

/-- The same of a whole buffer, as contents; -/
theorem writes_one (b : Ref sig .tc) (f : b.ty.Contents (Elt F)) {off : Fin b.ty.shape.rank → ℕ}
    (h : off = fun _ => 0) (inb : ∀ a, off a + b.ty.shape.size a ≤ b.ty.shape.size a) (p : b.ty.Contents (Elt F)) :
    (View.whole b).writes (Elt F) f [⟨Rect.unit off b.ty.shape.size inb, p⟩] = p :=
  (show (View.whole b).read (Elt F) ((View.whole b).writes (Elt F) f [⟨Rect.unit off b.ty.shape.size inb, p⟩]) = p from
    read_one (View.whole b) f h inb p)

/-- and of a load of a window after the write. -/
theorem readCov_one {sp : Space} {s : Shape} {e : EltTy} (v : View sig .tc sp s e) {off off' size : Fin s.rank → ℕ}
    (h : off = fun _ => 0) (inb : ∀ a, off a + s.size a ≤ s.size a) (p : s.Idx → Elt F e) (inb' : ∀ a, off' a + size a ≤ s.size a) :
    v.readCov [⟨Rect.unit off s.size inb, p⟩] (Rect.unit off' size inb').toLoadRect = VecWindow.window p off' size inb' := by
  unfold View.readCov
  rw [View.readAt_unit v _ inb' rfl inb', read_one v _ h]

theorem window_full {α : Type} {s : Shape} (x : s.Idx → α) {off : Fin s.rank → ℕ} (h : off = fun _ => 0) (inb : ∀ a, off a + s.size a ≤ s.size a) :
    VecWindow.window x off s.size inb = x := by
  subst h; funext y; unfold VecWindow.window; rw [show (Rect.unit (fun _ => 0) s.size inb).emb y = y from Rect.emb_whole_apply s y]

theorem zero2 : (![0, 0] : Fin 2 → ℕ) = fun _ => 0 := by decide
theorem zero3 : (![0, 0, 0] : Fin 3 → ℕ) = fun _ => 0 := by decide

variable (c : Dev nD) (i : grid0.Coords)
  (a3 : Memref sig .tc .vmem S256x1024 .i32) (h3 : a3.IsWhole) (a4 : Memref sig .tc .vmem S1x2048x512 .f32) (h4 : a4.IsWhole)
  (a5 : Memref sig .tc .vmem S1x2048x512 .f32) (h5 : a5.IsWhole) (a6 : Memref sig .tc .vmem S1x512x2048 .f32) (h6 : a6.IsWhole)
  (a7 : Memref sig .tc .vmem S256x2048 .bf16) (h7 : a7.IsWhole)
  (T0 : S192.Idx → Elt F .i32) (T1 : S1.Idx → Elt F .i32)
  (x0 : S256x1024.Idx → Elt F .i32) (x1 x2 : S1x2048x512.Idx → Elt F .f32) (x3 : S1x512x2048.Idx → Elt F .f32)
  (g : Buf (Elt F) ((c : Thread nD τ).loc cc0_scratch0)) (u : Buf (Elt F) ((c : Thread nD τ).loc cc0_scratch1))
  (d : Buf (Elt F) ((c : Thread nD τ).loc cc0_scratch2))

section Load
variable (hc : condLoad i (wdE i T0) (wdP i T0) (wdN T1) = 1#1) (hu : k0_cond2 i (wdN T1) = 1#1) (hn : ¬(k0_cond3 i (wdN T1) = 1#1))

theorem load_g : (runLoad c i a3 h3 a4 h4 a5 h5 a6 h6 a7 h7 T0 T1 x0 x1 x2 x3 g u d hc hu hn).2.1 = k0_pay1 x1 := by
  unfold runLoad; dsimp only; unfold runLoad.sl.HS0_1
  rw [View.readAt_rep_full (Val := Elt F) a4.view x1]
  exact writes_one cc0_scratch0 _ zero2 inb_S2048x512_S2048x512_0_0 (k0_pay1 x1)
theorem load_u : (runLoad c i a3 h3 a4 h4 a5 h5 a6 h6 a7 h7 T0 T1 x0 x1 x2 x3 g u d hc hu hn).2.2.1 = k0_pay2 x2 := by
  unfold runLoad; dsimp only; unfold runLoad.sl.HS1_1
  rw [View.readAt_rep_full (Val := Elt F) a5.view x2]
  exact writes_one cc0_scratch1 _ zero2 inb_S2048x512_S2048x512_0_0 (k0_pay2 x2)
theorem load_d : (runLoad c i a3 h3 a4 h4 a5 h5 a6 h6 a7 h7 T0 T1 x0 x1 x2 x3 g u d hc hu hn).2.2.2.1 = k0_pay3 x3 := by
  unfold runLoad; dsimp only; unfold runLoad.sl.HS2_1
  rw [View.readAt_rep_full (Val := Elt F) a6.view x3]
  exact writes_one cc0_scratch2 _ zero2 inb_S512x2048_S512x2048_0_0 (k0_pay3 x3)

theorem load_out (f) : a7.view.read (Elt F) (a7.view.writes (Elt F) f (runLoad c i a3 h3 a4 h4 a5 h5 a6 h6 a7 h7 T0 T1 x0 x1 x2 x3 g u d hc hu hn).1)
    = outOf x0 (k0_pay1 x1) (k0_pay2 x2) (k0_pay3 x3) := by
  unfold runLoad; dsimp only; unfold runLoad.sl.HO4_1
  rw [read_one a7.view _ zero2]
  rw [View.readAt_rep_full (Val := Elt F) a3.view x0]
  unfold runLoad.sl.v28 runLoad.sl.v30 runLoad.sl.v33 runLoad.sl.v35 runLoad.sl.v42 runLoad.sl.HS0_1 runLoad.sl.HS1_1 runLoad.sl.HS2_1
  rw [View.readAt_rep_full (Val := Elt F) a4.view x1, View.readAt_rep_full (Val := Elt F) a5.view x2, View.readAt_rep_full (Val := Elt F) a6.view x3]
  rw [readCov_one scG.view zero2, readCov_one scG.view zero2, readCov_one scU.view zero2, readCov_one scU.view zero2, readCov_one scD.view zero2,
    window_full _ zero2]
  rfl
end Load

section Keep
variable (hc : ¬(condLoad i (wdE i T0) (wdP i T0) (wdN T1) = 1#1)) (hu : k0_cond2 i (wdN T1) = 1#1) (hn : ¬(k0_cond3 i (wdN T1) = 1#1))

theorem keep_out (f) : a7.view.read (Elt F) (a7.view.writes (Elt F) f (runKeep c i a3 h3 a4 h4 a5 h5 a6 h6 a7 h7 T0 T1 x0 x1 x2 x3 g u d hc hu hn).1)
    = outOf x0 g u d := by
  unfold runKeep; dsimp only; unfold runKeep.sl.HO4_1
  rw [read_one a7.view _ zero2]
  unfold outOf
  congr 1
  · exact View.readAt_rep_full _ _ _
  · exact View.readAt_full scD.view d _
end Keep

theorem zero_out (hc : ¬(condLoad i (wdE i T0) (wdP i T0) (wdN T1) = 1#1)) (hu : ¬(k0_cond2 i (wdN T1) = 1#1)) (hn : k0_cond3 i (wdN T1) = 1#1) (f) :
    a7.view.read (Elt F) (a7.view.writes (Elt F) f (runZero c i a3 h3 a4 h4 a5 h5 a6 h6 a7 h7 T0 T1 x0 x1 x2 x3 g u d hc hu hn).1) = k0_pay5 := by
  unfold runZero; dsimp only; unfold runZero.sl.HO4_1
  rw [read_one a7.view _ zero2]

end Cert.Kernel2Ideal.Experts
-- ==== Proof.Experts.Words.lean ====
/-
  Hand-written. The words that steer the experts' body: which conditions hold at a point, said of the number of blocks in
  use and of the experts of the block and of the block before.
-/
module

public import proofs.«01_k».proof.Proof.Experts.Points

@[expose] public section

set_option maxRecDepth 16384

noncomputable section

namespace Cert.Kernel2Ideal.Experts

open Cert.Kernel2Ideal Cert.Kernel2Ideal.Gen
open Idealize.ShloMosaic
open Idealize.ShloMosaic.TcCoe

variable {F : FTy → Type} [FloatOps F] [∀ e, Nonempty (Elt F e)]

/-- A point's place in the table of experts. -/
def at192 (k : Fin 192) : S192.Idx := fun | 0 => k

theorem wdE_eq (i : grid0.Coords) (T0 : S192.Idx → Elt F .i32) : wdE i T0 = T0 (at192 (i 0)) := by
  refine congrArg T0 (funext fun a => ?_)
  match a with
  | 0 =>
    refine Fin.ext ?_
    show (BitVec.ofNat 32 (i 0).val).toNat + 1 * 0 = (i 0).val
    have h : (i 0).val < 192 := (i 0).isLt
    rw [BitVec.toNat_ofNat, Nat.mod_eq_of_lt (by omega)]; rfl

theorem wdP_eq (i : grid0.Coords) (h0 : (i 0).val ≠ 0) (T0 : S192.Idx → Elt F .i32) :
    wdP i T0 = T0 (at192 ⟨(i 0).val - 1, by have h : (i 0).val < 192 := (i 0).isLt; omega⟩) := by
  refine congrArg T0 (funext fun a => ?_)
  match a with
  | 0 =>
    refine Fin.ext ?_
    have h : (i 0).val < 192 := (i 0).isLt
    show (Scalar.maxsi (Scalar.subi (BitVec.ofNat 32 (i 0).val) 1#32) 0#32 : BitVec 32).toNat + 1 * 0 = (i 0).val - 1
    generalize (i 0).val = k at h h0
    have : ∀ k : Fin 192, k.val ≠ 0 → (Scalar.maxsi (Scalar.subi (BitVec.ofNat 32 k.val) 1#32) 0#32 : BitVec 32).toNat + 1 * 0 = k.val - 1 := by decide +kernel
    exact this ⟨k, h⟩ h0

/-- A point is in use. -/
def Used (k : Fin 192) (n : BitVec 32) : Prop := (BitVec.ofNat 32 k.val).slt n = true

instance (k : Fin 192) (n : BitVec 32) : Decidable (Used k n) := by unfold Used; infer_instance

theorem used_iff (k : Fin 192) (n : BitVec 32) : Used k n ↔ (k.val : Int) < n.toInt := by
  unfold Used; rw [BitVec.slt_iff_toInt_lt]
  have : ∀ k : Fin 192, (BitVec.ofNat 32 k.val).toInt = k.val := by decide +kernel
  rw [this]

theorem cond2_iff (i : grid0.Coords) (n : BitVec 32) : k0_cond2 i n = 1#1 ↔ Used (i 0) n := by
  unfold k0_cond2 Used
  show Scalar.cmpi .ne (Scalar.extui (BitVec.ofBool ((BitVec.ofNat 32 (i 0).val).slt n)) : BitVec 32) 0#32 = 1#1 ↔ _
  generalize (BitVec.ofNat 32 (i 0).val).slt n = b
  revert b; decide

theorem cond3_iff (i : grid0.Coords) (n : BitVec 32) : k0_cond3 i n = 1#1 ↔ ¬ Used (i 0) n := by
  unfold k0_cond3 Used
  show Scalar.cmpi .ne (Scalar.extui (Scalar.xori (BitVec.ofBool ((BitVec.ofNat 32 (i 0).val).slt n)) 1#1) : BitVec 32) 0#32 = 1#1 ↔ _
  generalize (BitVec.ofNat 32 (i 0).val).slt n = b
  revert b; decide

theorem condLoad_iff (i : grid0.Coords) (e p n : BitVec 32) : condLoad i e p n = 1#1 ↔ ((i 0).val = 0 ∨ e ≠ p) ∧ Used (i 0) n := by
  unfold condLoad Used
  show Scalar.cmpi .ne (Scalar.extui (Scalar.andi (Scalar.ori (BitVec.ofBool (BitVec.ofNat 32 (i 0).val == 0#32)) (BitVec.ofBool (e != p)))
    (BitVec.ofBool ((BitVec.ofNat 32 (i 0).val).slt n))) : BitVec 32) 0#32 = 1#1 ↔ _
  have h1 : (BitVec.ofNat 32 (i 0).val == 0#32) = true ↔ (i 0).val = 0 := by
    have : ∀ k : Fin 192, (BitVec.ofNat 32 k.val == 0#32) = true ↔ k.val = 0 := by decide +kernel
    exact this (i 0)
  have h2 : (e != p) = true ↔ e ≠ p := by simp
  rw [← h1, ← h2]
  generalize (BitVec.ofNat 32 (i 0).val).slt n = b
  generalize (BitVec.ofNat 32 (i 0).val == 0#32) = b1
  generalize (e != p) = b2
  revert b b1 b2; decide

/-- The blocks in use are a first run of the blocks. -/
theorem used_pred {k j : Fin 192} {n : BitVec 32} (h : Used k n) (hj : j.val ≤ k.val) : Used j n := by
  rw [used_iff] at h ⊢; omega

end Cert.Kernel2Ideal.Experts
-- ==== Proof.Experts.Launch.lean ====
/-
  Hand-written. The experts' call run from any memory whose table of experts stays within the 64 experts: the blocks the
  windows stage, the invariant on the scratch buffers (past a block in use they hold that block's expert's weights), the
  body's obligation by its three paths, and the launch. Its set-up follows the generated certificate of the same launch.
-/
module

public import proofs.«01_k».proof.Proof.Experts.Words
public import Idealize.ShloMosaic.Lib.Pipeline.Quiescent
public import Idealize.ShloMosaic.Lib.Pipeline.ValueKit

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig Unit (Elt F) ℕ (UR sig nD τ) ℕ

/-- The resource algebra of the staging cells. -/
abbrev EP : Emb (UR sig nD τ) (MT nD τ sig Unit (Elt F) ℕ (UR sig nD τ) ℕ) := emb₁

variable (a : (pcfg0 (F := F)).Adm)

abbrev cfgA : Pipeline.Cfg sig Λ₀ := cfg0 (F := F) a
abbrev pcs : Fin 1 → Pipeline.Cfg sig Λ₀ := Pipeline.pin (pcfgs (F := F)) fun _ => a

variable (m : (ℓ : Loc nD τ sig) → Buf (Elt F) ℓ) (ρ : Dev nD → PrngReg)

/-- The tables. -/
abbrev tE : S192.Idx → Elt F .i32 := a.1 0
abbrev tU : S1.Idx → Elt F .i32 := a.1 1

abbrev crd (t : Fin (cfgA a).N) : (cfgA a).grid.Coords := (cfgA a).grid.coords t

theorem crd_val (t : Fin (cfgA a).N) : ((crd a t) 0).val = t.val :=
  (by decide +kernel : ∀ t : Fin grid0.N, ((grid0.coords t) 0).val = t.val) t

abbrev ms0 (t : Fin (cfgA a).N) : Memref sig .tc .vmem S256x1024 .i32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x2048x512 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x2048x512 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x512x2048 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S256x2048 .bf16 := spec0_4.stage ((cfgA a).slots t (4 : Fin 5))
abbrev hs4 (t : Fin (cfgA a).N) : (ms4 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-! ## The blocks, element by element -/

theorem expert_lt (t : Fin (cfgA a).N) : (tE a (at192 ((crd a t) 0))).toNat < 64 := by
  have h := (a.2.1 (crd a t)).elim fun h _ => h 0
  have e : (a.1.at 0 (Rect.unit (s := S192) (k0_off1 (crd a t)) S1.size (k0_off1_inb (crd a t))) numel1_S1 : BitVec 32) = tE a (at192 ((crd a t) 0)) :=
    wdE_eq (F := F) (crd a t) (tE a)
  have h' : (((a.1.at 0 (Rect.unit (s := S192) (k0_off1 (crd a t)) S1.size (k0_off1_inb (crd a t))) numel1_S1 : BitVec 32)).toNat + 1) * 1 ≤ 64 := h
  rw [e] at h'; omega

/-- The expert of a point. -/
def expert (t : Fin (cfgA a).N) : Fin 64 := ⟨(tE a (at192 ((crd a t) 0))).toNat, expert_lt a t⟩

/-- A place in the block of rows, in the rows; -/
def rowIx (t : Fin 192) (y : S256x1024.Idx) : S49152x1024.Idx :=
  fun | 0 => ⟨t.val * 256 + (y 0).val, by have h : (y 0).val < 256 := (y 0).isLt; show _ < 49152; omega⟩ | 1 => y 1
/-- a place in an expert's weights, in the weights of all. -/
def upIx (e : Fin 64) (y : S1x2048x512.Idx) : S64x2048x512.Idx := fun | 0 => e | 1 => y 1 | 2 => y 2
def downIx (e : Fin 64) (y : S1x512x2048.Idx) : S64x512x2048.Idx := fun | 0 => e | 1 => y 1 | 2 => y 2

theorem index0 (t : Fin (cfgA a).N) : ((cfgA a).win 0).index t = ![((crd a t) 0).val, 0] := by
  show ![(BitVec.ofNat 32 ((crd a t) 0).val).toNat, (0#32 : BitVec 32).toNat] = _
  have h : ((crd a t) 0).val < 192 := ((crd a t) 0).isLt
  rw [BitVec.toNat_ofNat, Nat.mod_eq_of_lt (by omega)]; rfl
theorem index4 (t : Fin (cfgA a).N) : ((cfgA a).win 4).index t = ![((crd a t) 0).val, 0] := by
  show ![(BitVec.ofNat 32 ((crd a t) 0).val).toNat, (0#32 : BitVec 32).toNat] = _
  have h : ((crd a t) 0).val < 192 := ((crd a t) 0).isLt
  rw [BitVec.toNat_ofNat, Nat.mod_eq_of_lt (by omega)]; rfl
theorem index1 (t : Fin (cfgA a).N) : ((cfgA a).win 1).index t = ![(expert a t).val, 0, 0] := by
  have e : (a.1.at 0 (Rect.unit (s := S192) (k0_off1 (crd a t)) S1.size (k0_off1_inb (crd a t))) numel1_S1 : BitVec 32) = tE a (at192 ((crd a t) 0)) :=
    wdE_eq (F := F) (crd a t) (tE a)
  show ![(a.1.at 0 (Rect.unit (s := S192) (k0_off1 (crd a t)) S1.size (k0_off1_inb (crd a t))) numel1_S1 : BitVec 32).toNat, (0#32 : BitVec 32).toNat, (0#32 : BitVec 32).toNat] = _
  rw [e]; rfl
theorem index2 (t : Fin (cfgA a).N) : ((cfgA a).win 2).index t = ![(expert a t).val, 0, 0] := index1 a t
theorem index3 (t : Fin (cfgA a).N) : ((cfgA a).win 3).index t = ![(expert a t).val, 0, 0] := index1 a t

theorem iblk0_eq (c : Dev nD) (t : Fin (cfgA a).N) (y : S256x1024.Idx) :
    iblk a m ρ c 0 t y = m ((c : Thread nD τ).loc main_arg2) (rowIx ((crd a t) 0) y) := by
  refine congrArg (m ((c : Thread nD τ).loc main_arg2)) (funext fun ax : Fin 2 => Fin.ext ?_)
  refine (Pipeline.Window.rect_emb_val ((cfgA a).win 0) t y ax).trans ?_
  rw [index0]
  match ax with
  | 0 => rfl
  | 1 => show 0 * 1024 + (y 1).val = (y 1).val; omega
theorem iblk1_eq (c : Dev nD) (t : Fin (cfgA a).N) (y : S1x2048x512.Idx) :
    iblk a m ρ c 1 t y = m ((c : Thread nD τ).loc main_arg3) (upIx (expert a t) y) := by
  refine congrArg (m ((c : Thread nD τ).loc main_arg3)) (funext fun ax : Fin 3 => Fin.ext ?_)
  refine (Pipeline.Window.rect_emb_val ((cfgA a).win 1) t y ax).trans ?_
  rw [index1]
  match ax with
  | 0 => have h : (y 0).val < 1 := (y 0).isLt; show (expert a t).val * 1 + (y 0).val = (expert a t).val; omega
  | 1 => show 0 * 2048 + (y 1).val = (y 1).val; omega
  | 2 => show 0 * 512 + (y 2).val = (y 2).val; omega
theorem iblk2_eq (c : Dev nD) (t : Fin (cfgA a).N) (y : S1x2048x512.Idx) :
    iblk a m ρ c 2 t y = m ((c : Thread nD τ).loc main_arg4) (upIx (expert a t) y) := by
  refine congrArg (m ((c : Thread nD τ).loc main_arg4)) (funext fun ax : Fin 3 => Fin.ext ?_)
  refine (Pipeline.Window.rect_emb_val ((cfgA a).win 2) t y ax).trans ?_
  rw [index2]
  match ax with
  | 0 => have h : (y 0).val < 1 := (y 0).isLt; show (expert a t).val * 1 + (y 0).val = (expert a t).val; omega
  | 1 => show 0 * 2048 + (y 1).val = (y 1).val; omega
  | 2 => show 0 * 512 + (y 2).val = (y 2).val; omega
theorem iblk3_eq (c : Dev nD) (t : Fin (cfgA a).N) (y : S1x512x2048.Idx) :
    iblk a m ρ c 3 t y = m ((c : Thread nD τ).loc main_arg5) (downIx (expert a t) y) := by
  refine congrArg (m ((c : Thread nD τ).loc main_arg5)) (funext fun ax : Fin 3 => Fin.ext ?_)
  refine (Pipeline.Window.rect_emb_val ((cfgA a).win 3) t y ax).trans ?_
  rw [index3]
  match ax with
  | 0 => have h : (y 0).val < 1 := (y 0).isLt; show (expert a t).val * 1 + (y 0).val = (expert a t).val; omega
  | 1 => show 0 * 512 + (y 1).val = (y 1).val; omega
  | 2 => show 0 * 2048 + (y 2).val = (y 2).val; omega

/-- What the scratch buffers hold past a point in use: its expert's weights. -/
def gW (c : Dev nD) (e : Fin 64) : S2048x512.Idx → Elt F .bf16 := k0_pay1 fun y => m ((c : Thread nD τ).loc main_arg3) (upIx e y)
def uW (c : Dev nD) (e : Fin 64) : S2048x512.Idx → Elt F .bf16 := k0_pay2 fun y => m ((c : Thread nD τ).loc main_arg4) (upIx e y)
def dW (c : Dev nD) (e : Fin 64) : S512x2048.Idx → Elt F .bf16 := k0_pay3 fun y => m ((c : Thread nD τ).loc main_arg5) (downIx e y)

theorem pay1_iblk (c : Dev nD) (t : Fin (cfgA a).N) : k0_pay1 (F := F) (iblk a m ρ c 1 t) = gW m c (expert a t) :=
  congrArg k0_pay1 (funext (iblk1_eq a m ρ c t))
theorem pay2_iblk (c : Dev nD) (t : Fin (cfgA a).N) : k0_pay2 (F := F) (iblk a m ρ c 2 t) = uW m c (expert a t) :=
  congrArg k0_pay2 (funext (iblk2_eq a m ρ c t))
theorem pay3_iblk (c : Dev nD) (t : Fin (cfgA a).N) : k0_pay3 (F := F) (iblk a m ρ c 3 t) = dW m c (expert a t) :=
  congrArg k0_pay3 (funext (iblk3_eq a m ρ c t))

open Classical in
/-- The block of the result at a point. -/
def oblk (c : Dev nD) (t : Fin (cfgA a).N) : S256x2048.Idx → Elt F .bf16 :=
  if Used ((crd a t) 0) (wdN (tU a)) then
    outOf (fun y => m ((c : Thread nD τ).loc main_arg2) (rowIx ((crd a t) 0) y)) (gW m c (expert a t)) (uW m c (expert a t)) (dW m c (expert a t))
  else k0_pay5

/-! ## The proof data -/

/-- What is known of the scratch buffers before position `n`. -/
def Inv (c : Dev nD) (n : ℕ) (g : Buf (Elt F) ((c : Thread nD τ).loc cc0_scratch0)) (u : Buf (Elt F) ((c : Thread nD τ).loc cc0_scratch1))
    (d : Buf (Elt F) ((c : Thread nD τ).loc cc0_scratch2)) : Prop :=
  ∀ p : Fin (cfgA a).N, p.val + 1 = n → Used ((crd a p) 0) (wdN (tU a)) → g = gW m c (expert a p) ∧ u = uW m c (expert a p) ∧ d = dW m c (expert a p)

def Phi (c : Dev nD) (n : ℕ) : sProp 𝕄 :=
  iprop(∃ g, ∃ u, ∃ d, ⌜Inv a m c n g u d⌝ ∗ (scG.view.loc (c : Thread nD τ) ↦{fullShare} g) ∗ (scU.view.loc (c : Thread nD τ) ↦{fullShare} u)
    ∗ (scD.view.loc (c : Thread nD τ) ↦{fullShare} d)
    ∗ (tbE.view.loc (c : Thread nD τ) ↦{fullShare.right} tE a) ∗ (tbU.view.loc (c : Thread nD τ) ↦{fullShare.right} tU a))

def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => oblk a m c t
  Φ t := Phi a m c t.val
  q _ := fullShare
  owed _ := 0

theorem after_0 (c : Dev nD) (t : Fin (cfgA a).N) : (dats a m ρ 0 c).after (0 : Fin 5) t = iblk a m ρ c (0 : Fin 5) t := rfl
theorem after_1 (c : Dev nD) (t : Fin (cfgA a).N) : (dats a m ρ 0 c).after (1 : Fin 5) t = iblk a m ρ c (1 : Fin 5) t := rfl
theorem after_2 (c : Dev nD) (t : Fin (cfgA a).N) : (dats a m ρ 0 c).after (2 : Fin 5) t = iblk a m ρ c (2 : Fin 5) t := rfl
theorem after_3 (c : Dev nD) (t : Fin (cfgA a).N) : (dats a m ρ 0 c).after (3 : Fin 5) t = iblk a m ρ c (3 : Fin 5) t := rfl
theorem after_4 (c : Dev nD) (t : Fin (cfgA a).N) : (dats a m ρ 0 c).after (4 : Fin 5) t = oblk a m c t := rfl

theorem before_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after_3]; unfold Dat.blockOf iblk; rfl) t d).trans
    (by unfold Dat.fetched Dat.blockOf iblk; rfl)

/-- The output is stored at every point. -/
theorem idle4 (t : Fin (cfgA a).N) : (cfgA a).idle (4 : Fin 5) ((cfgA a).grid.coords t) = false := by
  show (!(k0_cond2 (crd a t) (a.1.atD 1 ![0]) == 1#1) && !(k0_cond3 (crd a t) (a.1.atD 1 ![0]) == 1#1)) = false
  have h2 := cond2_iff (crd a t) (a.1.atD 1 ![0])
  have h3 := cond3_iff (crd a t) (a.1.atD 1 ![0])
  by_cases hu : Used ((crd a t) 0) (a.1.atD 1 ![0])
  · rw [h2.2 hu]; rfl
  · rw [h3.2 hu, Bool.and_comm]; rfl

abbrev bodyAt (t : Fin (cfgA a).N) : Prog (TpuEff nD τ sig (Elt F) Λ₀ .tc) PUnit :=
  cc0_experts (crd a t) (Memref.whole main_arg0) (Memref.isWhole_whole _) (Memref.whole main_arg1) (Memref.isWhole_whole _) (ms0 a t) (hs0 a t) (ms1 a t) (hs1 a t)
    (ms2 a t) (hs2 a t) (ms3 a t) (hs3 a t) (ms4 a t) (hs4 a t) (Memref.whole cc0_scratch0) (Memref.isWhole_whole _) (Memref.whole cc0_scratch1) (Memref.isWhole_whole _)
    (Memref.whole cc0_scratch2) (Memref.isWhole_whole _)

theorem inv_mk (c : Dev nD) (t : Fin (cfgA a).N) (g u d) (h : Used ((crd a t) 0) (wdN (tU a)) → g = gW m c (expert a t) ∧ u = uW m c (expert a t) ∧ d = dW m c (expert a t)) :
    Inv a m c (t.val + 1) g u d := by
  intro p hp hu
  have : p = t := Fin.ext (by omega)
  subst this; exact h hu

/-- At a point in use that loads nothing the scratch buffers hold its expert's weights. -/
theorem inv_keep (c : Dev nD) (t : Fin (cfgA a).N) (g u d) (hI : Inv a m c t.val g u d) (hu : Used ((crd a t) 0) (wdN (tU a)))
    (hc : ¬ (((crd a t) 0).val = 0 ∨ wdE (crd a t) (tE a) ≠ wdP (crd a t) (tE a))) :
    g = gW m c (expert a t) ∧ u = uW m c (expert a t) ∧ d = dW m c (expert a t) := by
  rw [not_or, not_not] at hc
  obtain ⟨h0, he⟩ := hc
  rw [wdE_eq, wdP_eq _ h0] at he
  have ht := crd_val a t
  have hlt : t.val - 1 < (cfgA a).N := by have := t.isLt; omega
  have hp := crd_val a ⟨t.val - 1, hlt⟩
  dsimp only at hp
  have e0 : (⟨((crd a t) 0).val - 1, by have h : ((crd a t) 0).val < 192 := ((crd a t) 0).isLt; omega⟩ : Fin 192) = (crd a ⟨t.val - 1, hlt⟩) 0 :=
    Fin.ext (by show ((crd a t) 0).val - 1 = ((crd a ⟨t.val - 1, hlt⟩) 0).val; omega)
  rw [e0] at he
  have hx : expert a t = expert a ⟨t.val - 1, hlt⟩ := Fin.ext (by show BitVec.toNat (tE a (at192 ((crd a t) 0))) = BitVec.toNat (tE a (at192 ((crd a ⟨t.val - 1, hlt⟩) 0))); rw [he])
  rw [hx]
  exact hI ⟨t.val - 1, hlt⟩ (by show t.val - 1 + 1 = t.val; omega)
    (used_pred (k := (crd a t) 0) hu (by show ((crd a ⟨t.val - 1, hlt⟩) 0).val ≤ ((crd a t) 0).val; omega))

set_option maxHeartbeats 4000000 in
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0, idle4]
  simp only [before_0, before_1, before_2, before_3, after_0, after_1, after_2, after_3, after_4]
  rewrite [show (dats a m ρ 0 c).Φ t.succ = Phi a m c (t.val + 1) from rfl, show (dats a m ρ 0 c).Φ t.castSucc = Phi a m c t.val from rfl,
    show (dats a m ρ 0 c).owesAt () t.succ = (dats a m ρ 0 c).owesAt () t.castSucc from rfl]
  unfold Phi
  have q2 := cond2_iff (crd a t) (wdN (tU a))
  have q3 := cond3_iff (crd a t) (wdN (tU a))
  have qL := condLoad_iff (crd a t) (wdE (crd a t) (tE a)) (wdP (crd a t) (tE a)) (wdN (tU a))
  iintro ⟨⟨%g, %u, %d, %hI, HS0, HS1, HS2, HT0, HT1⟩, Ho, ⟨%d0, H0⟩, ⟨%d1, H1⟩, ⟨%d2, H2⟩, ⟨%d3, H3⟩, ⟨%d4, H4⟩⟩
  by_cases hu : Used ((crd a t) 0) (wdN (tU a))
  · have ho : oblk a m c t = outOf (iblk a m ρ c (0 : Fin 5) t) (gW m c (expert a t)) (uW m c (expert a t)) (dW m c (expert a t)) := by
      unfold oblk; rw [if_pos hu]; exact congrArg (fun x => outOf x _ _ _) (funext (iblk0_eq a m ρ c t)).symm
    by_cases hc : ((crd a t) 0).val = 0 ∨ wdE (crd a t) (tE a) ≠ wdP (crd a t) (tE a)
    · iapply ((runLoad c (crd a t) (ms0 a t) (hs0 a t) (ms1 a t) (hs1 a t) (ms2 a t) (hs2 a t) (ms3 a t) (hs3 a t) (ms4 a t) (hs4 a t) (tE a) (tU a)
        (iblk a m ρ c (0 : Fin 5) t) (iblk a m ρ c (1 : Fin 5) t) (iblk a m ρ c (2 : Fin 5) t) (iblk a m ρ c (3 : Fin 5) t) g u d
        (qL.2 ⟨hc, hu⟩) (q2.2 hu) (fun h => q3.1 h hu)).2.2.2.2 _)
      unfold held
      isplitl [H0 H1 H2 H3 HT0 HT1 H4 HS0 HS1 HS2]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iexact HS2
      iintro ⟨H0, H1, H2, H3, HT0, HT1, ⟨%e4, H4⟩, HS0, HS1, HS2⟩
      isplitl [HS0 HS1 HS2 HT0 HT1]
      · iexists _; iexists _; iexists _
        isplitr; swap
        · isplitl [HS0]; · iexact HS0
          isplitl [HS1]; · iexact HS1
          isplitl [HS2]; · iexact HS2
          isplitl [HT0]; · iexact HT0
          iexact HT1
        · ipureintro
          refine inv_mk a m c t _ _ _ fun _ => ⟨?_, ?_, ?_⟩
          · rw [load_g]; exact pay1_iblk a m ρ c t
          · rw [load_u]; exact pay2_iblk a m ρ c t
          · rw [load_d]; exact pay3_iblk a m ρ c t
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro
        refine (load_out c (crd a t) (ms0 a t) (hs0 a t) (ms1 a t) (hs1 a t) (ms2 a t) (hs2 a t) (ms3 a t) (hs3 a t) (ms4 a t) (hs4 a t) (tE a) (tU a)
          (iblk a m ρ c (0 : Fin 5) t) (iblk a m ρ c (1 : Fin 5) t) (iblk a m ρ c (2 : Fin 5) t) (iblk a m ρ c (3 : Fin 5) t) g u d _ _ _ e4).trans ?_
        rw [ho, pay1_iblk, pay2_iblk, pay3_iblk]
    · obtain ⟨rfl, rfl, rfl⟩ := inv_keep a m c t g u d hI hu hc
      iapply ((runKeep c (crd a t) (ms0 a t) (hs0 a t) (ms1 a t) (hs1 a t) (ms2 a t) (hs2 a t) (ms3 a t) (hs3 a t) (ms4 a t) (hs4 a t) (tE a) (tU a)
        (iblk a m ρ c (0 : Fin 5) t) (iblk a m ρ c (1 : Fin 5) t) (iblk a m ρ c (2 : Fin 5) t) (iblk a m ρ c (3 : Fin 5) t) _ _ _
        (fun h => hc (qL.1 h).1) (q2.2 hu) (fun h => q3.1 h hu)).2 _)
      unfold held
      isplitl [H0 H1 H2 H3 HT0 HT1 H4 HS0 HS1 HS2]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iexact HS2
      iintro ⟨H0, H1, H2, H3, HT0, HT1, ⟨%e4, H4⟩, HS0, HS1, HS2⟩
      isplitl [HS0 HS1 HS2 HT0 HT1]
      · iexists _; iexists _; iexists _
        isplitr; swap
        · isplitl [HS0]; · iexact HS0
          isplitl [HS1]; · iexact HS1
          isplitl [HS2]; · iexact HS2
          isplitl [HT0]; · iexact HT0
          iexact HT1
        · ipureintro
          exact inv_mk a m c t _ _ _ fun _ => ⟨rfl, rfl, rfl⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro
        refine (keep_out c (crd a t) (ms0 a t) (hs0 a t) (ms1 a t) (hs1 a t) (ms2 a t) (hs2 a t) (ms3 a t) (hs3 a t) (ms4 a t) (hs4 a t) (tE a) (tU a)
          (iblk a m ρ c (0 : Fin 5) t) (iblk a m ρ c (1 : Fin 5) t) (iblk a m ρ c (2 : Fin 5) t) (iblk a m ρ c (3 : Fin 5) t) _ _ _ _ _ _ e4).trans ?_
        rw [ho]
  · have ho : oblk a m c t = k0_pay5 := by unfold oblk; rw [if_neg hu]
    iapply ((runZero c (crd a t) (ms0 a t) (hs0 a t) (ms1 a t) (hs1 a t) (ms2 a t) (hs2 a t) (ms3 a t) (hs3 a t) (ms4 a t) (hs4 a t) (tE a) (tU a)
        (iblk a m ρ c (0 : Fin 5) t) (iblk a m ρ c (1 : Fin 5) t) (iblk a m ρ c (2 : Fin 5) t) (iblk a m ρ c (3 : Fin 5) t) g u d
        (fun h => hu (qL.1 h).2) (fun h => hu (q2.1 h)) (q3.2 hu)).2 _)
    unfold held
    isplitl [H0 H1 H2 H3 HT0 HT1 H4 HS0 HS1 HS2]
    · isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iexact HS2
    iintro ⟨H0, H1, H2, H3, HT0, HT1, ⟨%e4, H4⟩, HS0, HS1, HS2⟩
    isplitl [HS0 HS1 HS2 HT0 HT1]
    · iexists _; iexists _; iexists _
      isplitr; swap
      · isplitl [HS0]; · iexact HS0
        isplitl [HS1]; · iexact HS1
        isplitl [HS2]; · iexact HS2
        isplitl [HT0]; · iexact HT0
        iexact HT1
      · ipureintro
        exact inv_mk a m c t _ _ _ fun h => absurd h hu
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      refine (zero_out c (crd a t) (ms0 a t) (hs0 a t) (ms1 a t) (hs1 a t) (ms2 a t) (hs2 a t) (ms3 a t) (hs3 a t) (ms4 a t) (hs4 a t) (tE a) (tU a)
          (iblk a m ρ c (0 : Fin 5) t) (iblk a m ρ c (1 : Fin 5) t) (iblk a m ρ c (2 : Fin 5) t) (iblk a m ρ c (3 : Fin 5) t) g u d _ _ _ e4).trans ho.symm

theorem body_obligation (c : Dev nD) : BodyObligation (dats a m ρ 0 c) (defs₀ (F := F)) Variants.none () Set.univ := fun t => by
  rw [bigSep_W0]
  exact sound_body a m ρ c t

/-! ## The launch -/

def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = Phi a m c 0 from rfl]
  unfold Phi
  iintro ⟨-, ⟨HT0, HT1⟩, ⟨%a0, HS0⟩, ⟨%a1, HS1⟩, ⟨%a2, HS2⟩⟩
  iexists a0; iexists a1; iexists a2
  isplitr
  · ipureintro; intro p hp; omega
  isplitl [HS0]; · iexact HS0
  isplitl [HS1]; · iexact HS1
  isplitl [HS2]; · iexact HS2
  isplitl [HT0]; · iexact HT0
  iexact HT1

theorem phi_last (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m c (Fin.last (cfgA a).N).val from rfl]
  unfold Phi
  iintro ⟨%a0, %a1, %a2, -, HS0, HS1, HS2, -, -⟩
  isplitr; · iempintro
  isplitl [HS0]; · iexists a0; iexact HS0
  isplitl [HS1]; · iexists a1; iexact HS1
  iexists a2; iexact HS2

/-- What the run ends in: every array at its final contents, every table as read. -/
def Ends : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
theorem run_ends (hp : ∀ (c : Dev nD) (j : Fin 2), m ((c : Thread nD τ).loc (pre0.ref j)) = a.1 j) :
    θ_run (defs (F := F)) (onTc (τ := τ) (main (F := F))) (s₀ m ρ) (fun r => Ends a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_first a m ρ)
    (hout := phi_last a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.Kernel2Ideal.Experts
-- ==== Proof.Experts.Value.lean ====
/-
  Hand-written. The experts' call at the ideal values: a block in use stores its rows' network by the block's expert, and
  the blocks lie one after another in the result.
-/
module

public import proofs.«01_k».proof.Proof.Experts.Spec
public import proofs.«01_k».proof.Proof.Experts.Launch

@[expose] public section

set_option maxRecDepth 16384

noncomputable section

namespace Cert.Kernel2Ideal.Experts

open Cert.Kernel2Ideal Cert.Kernel2Ideal.Gen
open Idealize.ShloMosaic

theorem window_apply {α : Type} {A B a b : ℕ} (x : (⟨2, ![A, B]⟩ : Shape).Idx → α) (o : Fin 2 → ℕ) (inb) (r : Fin a) (c : Fin b) (r' : Fin A) (c' : Fin B)
    (hr : r'.val = o 0 + r.val) (hc : c'.val = o 1 + c.val) :
    VecWindow.window (s := ⟨2, ![A, B]⟩) x o ![a, b] inb (ix2 r c) = x (ix2 r' c') := by
  refine congrArg x (funext fun ax : Fin 2 => Fin.ext ?_)
  match ax with
  | 0 => show o 0 + 1 * r.val = r'.val; omega
  | 1 => show o 1 + 1 * c.val = c'.val; omega

theorem outOf_apply (x0 : S256x1024.Idx → BitVec 32) (G U : S2048x512.Idx → EReal) (D : S512x2048.Idx → EReal) (r : Fin 256) (c : Fin 2048)
    (X : Fin 2048 → EReal) (hX0 : ∀ j : Fin 1024, X ⟨j.val, by omega⟩ = Cert.Experts.upper (x0 (ix2 r j)))
    (hX1 : ∀ j : Fin 1024, X ⟨1024 + j.val, by omega⟩ = Cert.Experts.lower (x0 (ix2 r j))) :
    outOf (F := Ideal) x0 G U D (ix2 r c) = ∑ f : Fin 512, (∑ j : Fin 2048, X j * G (ix2 j f)) * Ideal.logistic (∑ j : Fin 2048, X j * G (ix2 j f))
      * (∑ j : Fin 2048, X j * U (ix2 j f)) * D (ix2 f c) := by
  have hw0 : ∀ (W : S2048x512.Idx → EReal) (j : Fin 1024) (f : Fin 512), VecWindow.window W ![0, 0] S1024x512.size inb_S2048x512_S1024x512_0_0 (ix2 j f) = W (ix2 ⟨j.val, by omega⟩ f) :=
    fun W j f => window_apply W _ _ j f _ _ (Nat.zero_add _).symm (Nat.zero_add _).symm
  have hw1 : ∀ (W : S2048x512.Idx → EReal) (j : Fin 1024) (f : Fin 512), VecWindow.window W ![1024, 0] S1024x512.size inb_S2048x512_S1024x512_1024_0 (ix2 j f) = W (ix2 ⟨1024 + j.val, by omega⟩ f) :=
    fun W j f => window_apply W _ _ j f _ _ rfl (Nat.zero_add _).symm
  have hs : ∀ (W : S2048x512.Idx → EReal) (f : Fin 512), (∑ j : Fin 1024, X ⟨j.val, by omega⟩ * W (ix2 ⟨j.val, by omega⟩ f))
      + ∑ j : Fin 1024, X ⟨1024 + j.val, by omega⟩ * W (ix2 ⟨1024 + j.val, by omega⟩ f) = ∑ j : Fin 2048, X j * W (ix2 j f) :=
    fun W f => Cert.Experts.sum_halves fun j => X j * W (ix2 j f)
  unfold outOf
  have hg0 := hw0 G; have hg1 := hw1 G; have hu0 := hw0 U; have hu1 := hw1 U
  generalize VecWindow.window G ![0, 0] S1024x512.size inb_S2048x512_S1024x512_0_0 = G0 at hg0 ⊢
  generalize VecWindow.window G ![1024, 0] S1024x512.size inb_S2048x512_S1024x512_1024_0 = G1 at hg1 ⊢
  generalize VecWindow.window U ![0, 0] S1024x512.size inb_S2048x512_S1024x512_0_0 = U0 at hu0 ⊢
  generalize VecWindow.window U ![1024, 0] S1024x512.size inb_S2048x512_S1024x512_1024_0 = U1 at hu1 ⊢
  have hx0 : ∀ j : Fin 1024, (truncf (F := Ideal) .bf16 (bitcastToFloat (F := Ideal) .f32 (andi x0 (broadcast S256x1024 4294901760#32))) bitsLt_bf16_f32) (ix2 r j) = X ⟨j.val, by omega⟩ :=
    fun j => (Cert.Experts.ofBits_upper (x0 (ix2 r j))).trans (hX0 j).symm
  have hx1 : ∀ j : Fin 1024, (truncf (F := Ideal) .bf16 (bitcastToFloat (F := Ideal) .f32 (shli x0 (broadcast S256x1024 16#32))) bitsLt_bf16_f32) (ix2 r j) = X ⟨1024 + j.val, by omega⟩ :=
    fun j => (Cert.Experts.ofBits_lower (x0 (ix2 r j))).trans (hX1 j).symm
  unfold k0_pay4
  generalize truncf (F := Ideal) .bf16 (bitcastToFloat (F := Ideal) .f32 (andi x0 (broadcast S256x1024 4294901760#32))) bitsLt_bf16_f32 = X0 at hx0 ⊢
  generalize truncf (F := Ideal) .bf16 (bitcastToFloat (F := Ideal) .f32 (shli x0 (broadcast S256x1024 16#32))) bitsLt_bf16_f32 = X1 at hx1 ⊢
  pointwise
  simp only [hx0, hx1, hg0, hg1, hu0, hu1, hs]

theorem pay1_apply (W : S1x2048x512.Idx → EReal) (j : Fin 2048) (f : Fin 512) : k0_pay1 (F := Ideal) W (ix2 j f) = W (ix3 0 j f) := by
  unfold k0_pay1; pointwise
theorem pay2_apply (W : S1x2048x512.Idx → EReal) (j : Fin 2048) (f : Fin 512) : k0_pay2 (F := Ideal) W (ix2 j f) = W (ix3 0 j f) := by
  unfold k0_pay2; pointwise
theorem pay3_apply (W : S1x512x2048.Idx → EReal) (f : Fin 512) (j : Fin 2048) : k0_pay3 (F := Ideal) W (ix2 f j) = W (ix3 0 f j) := by
  unfold k0_pay3; pointwise
theorem pay5_apply (r : Fin 256) (c : Fin 2048) : k0_pay5 (F := Ideal) (ix2 r c) = (0 : EReal) := by
  unfold k0_pay5; pointwise

theorem upIx_ix3 (e : Fin 64) (j : Fin 2048) (f : Fin 512) : upIx e (ix3 0 j f) = ix3 e j f :=
  funext fun a : Fin 3 => match a with | 0 => rfl | 1 => rfl | 2 => rfl
theorem downIx_ix3 (e : Fin 64) (f : Fin 512) (j : Fin 2048) : downIx e (ix3 0 f j) = ix3 e f j :=
  funext fun a : Fin 3 => match a with | 0 => rfl | 1 => rfl | 2 => rfl
theorem rowIx_ix2 (t : Fin 192) (r : Fin 256) (c : Fin 1024) (R : Fin 49152) (h : R.val = t.val * 256 + r.val) : rowIx t (ix2 r c) = ix2 R c :=
  funext fun a : Fin 2 => match a with | 0 => Fin.ext h.symm | 1 => rfl

variable (a : (pcfg0 (F := Ideal)).Adm) (m : (ℓ : Loc nD τ sig) → Buf (Elt Ideal) ℓ) (ρ : Dev nD → PrngReg)

/-- A block of the result, at a place. -/
theorem oblk_apply (c : Dev nD) (t : Fin (cfgA a).N) (e : Fin 192 → Fin 64) (he : e ((crd a t) 0) = expert a t) (r : Fin 256) (k : Fin 2048) (R : Fin 49152)
    (h : R.val = ((crd a t) 0).val * 256 + r.val) :
    oblk a m c t (ix2 r k) = Cert.Experts.result (wdN (tU a)) e (Cert.Experts.rows (m (c.tc.loc main_arg2))) (m (c.tc.loc main_arg3)) (m (c.tc.loc main_arg4)) (m (c.tc.loc main_arg5)) R k := by
  have hq : R.val / 256 = ((crd a t) 0).val := by omega
  have hk : (⟨R.val / 256, by omega⟩ : Fin 192) = (crd a t) 0 := Fin.ext hq
  unfold oblk Cert.Experts.result
  rw [hk, he, hq]
  by_cases hu : Used ((crd a t) 0) (wdN (tU a))
  · rw [if_pos hu, if_pos (show (BitVec.ofNat 32 ((crd a t) 0).val).slt (wdN (tU a)) = true from hu),
      outOf_apply (X := fun j => Cert.Experts.rows (m (c.tc.loc main_arg2)) (ix2 R j))
        (hX0 := fun j => by rw [rowIx_ix2 ((crd a t) 0) r j R h]; exact Cert.Experts.rows_left _ R j)
        (hX1 := fun j => by rw [rowIx_ix2 ((crd a t) 0) r j R h]; exact Cert.Experts.rows_right _ R j)]
    unfold gW uW dW Cert.Experts.ffn Cert.Experts.up
    simp only [pay1_apply, pay2_apply, pay3_apply, upIx_ix3, downIx_ix3]
  · rw [if_neg hu, if_neg (show ¬ (BitVec.ofNat 32 ((crd a t) 0).val).slt (wdN (tU a)) = true from hu), pay5_apply]

/-- The result array over all rows. -/
def final (c : Dev nD) (e : Fin 192 → Fin 64) : S49152x2048.Idx → EReal := fun i =>
  Cert.Experts.result (wdN (tU a)) e (Cert.Experts.rows (m (c.tc.loc main_arg2))) (m (c.tc.loc main_arg3)) (m (c.tc.loc main_arg4)) (m (c.tc.loc main_arg5)) (i 0) (i 1)

theorem flush4 (t : Fin (cfgA a).N) : ((cfgA a).win 4).flush t = true := by
  show (true && (decide (t.val + 1 = (cfgA a).N) || decide (∃ h, ((cfgA a).win 4).index ⟨t.val + 1, h⟩ ≠ ((cfgA a).win 4).index t))) = true
  by_cases h : t.val + 1 = (cfgA a).N
  · rw [decide_eq_true h]; rfl
  · have h' : ∃ h, ((cfgA a).win 4).index ⟨t.val + 1, h⟩ ≠ ((cfgA a).win 4).index t := by
      have hN : (cfgA a).grid.N = (cfgA a).N := rfl
      have hlt : t.val < (cfgA a).N := t.isLt
      refine ⟨by omega, fun he => ?_⟩
      rw [index4, index4] at he
      have h0 : ((crd a ⟨t.val + 1, by omega⟩) 0).val = ((crd a t) 0).val := congrFun he 0
      rw [crd_val, crd_val] at h0
      exact absurd h0 (Nat.succ_ne_self _)
    rw [decide_eq_true h', Bool.or_true]; rfl

theorem flushed4 (c : Dev nD) (e : Fin 192 → Fin 64) (he : ∀ t, e ((crd a t) 0) = expert a t) (t : Fin (cfgA a).N) :
    (dats a m ρ 0 c).flushed 4 t = (((cfgA a).win 4).blk t).view.read (Elt Ideal) (final a m c e) := by
  show ((cfgA a).win 4).cut (grid0.coords t) ((dats a m ρ 0 c).after 4 t) = _
  rw [after_4]
  refine funext fun y : S256x2048.Idx => ?_
  have hy0 : (y 0).val < 256 := (y 0).isLt
  have ht : ((crd a t) 0).val < 192 := ((crd a t) 0).isLt
  have hy : y = ix2 (y 0) (y 1) := funext fun ax : Fin 2 => match ax with | 0 => rfl | 1 => rfl
  show oblk a m c t y = _
  refine (congrArg (oblk a m c t) hy).trans ?_
  refine (oblk_apply a m c t e (he t) (y 0) (y 1) ⟨((crd a t) 0).val * 256 + (y 0).val, by omega⟩ rfl).trans ?_
  refine congrArg (final a m c e) (a₁ := ix2 ⟨((crd a t) 0).val * 256 + (y 0).val, _⟩ (y 1)) (funext fun ax : Fin 2 => Fin.ext ?_)
  refine Eq.trans ?_ (Pipeline.Window.rect_emb_val ((cfgA a).win 4) t y ax).symm
  rw [index4]
  match ax with
  | 0 => rfl
  | 1 => show (y 1).val = 0 * 2048 + (y 1).val; omega

theorem cover4 (i : S49152x2048.Idx) : ∃ t : Fin (cfgA a).N, ((cfgA a).win 4).flush t = true ∧ i ∈ (((cfgA a).win 4).blk t).view.set := by
  have h0 : (i 0).val < 49152 := (i 0).isLt
  have h1 : (i 1).val < 2048 := (i 1).isLt
  have hN : (cfgA a).N = 192 := N_0
  refine ⟨⟨(i 0).val / 256, by omega⟩, flush4 a _, ?_⟩
  refine (Pipeline.Window.emb_mem_blk_iff ((cfgA a).win 4) _ i).2 ?_
  rw [index4, crd_val]
  intro ax
  match ax with
  | ⟨0, _⟩ => show (i 0).val / 256 * 256 ≤ (i 0).val ∧ (i 0).val < (i 0).val / 256 * 256 + 256; omega
  | ⟨1, _⟩ => show 0 * 2048 ≤ (i 1).val ∧ (i 1).val < 0 * 2048 + 2048; omega

theorem arr4 (c : Dev nD) (e : Fin 192 → Fin 64) (he : ∀ t, e ((crd a t) 0) = expert a t) :
    (dats a m ρ 0 c).arrAt 4 (cfgA a).N = final a m c e :=
  (dats a m ρ 0 c).arrAt_eq_of_cover 4 (final a m c e) (fun t _ => flushed4 a m ρ c e he t) (cover4 a)

end Cert.Kernel2Ideal.Experts
-- ==== Proof.Experts.Ref.lean ====
/-
  Hand-written. The reference of the experts' call at an index: the network of the row by its block's expert where the
  block is in use, zero past the blocks in use.
-/
module

public import proofs.«01_k».proof.Proof.Experts.Spec
public import proofs.«01_k».proof.Proof.Gen.Reference2Ideal.Run

@[expose] public section

set_option maxRecDepth 16384

noncomputable section

namespace Cert.Reference2Ideal.Experts

open Cert.Reference2Ideal Cert.Reference2Ideal.Gen
open Idealize.ShloMosaic

theorem toNat_ofNat64 (e : Fin 64) : (BitVec.ofNat 32 e.val).toInt.toNat = e.val := by
  revert e; decide

theorem gather_up {α : Type} (x : S64x2048x512.Idx → α) (idx : IVec S192x1 32) (t : Fin 192) (j : Fin 2048) (f : Fin 512) (e : Fin 64)
    (h : idx (ix2 t 0) = BitVec.ofNat 32 e.val) :
    Host.gather gather_S64x2048x512_S192x1_S192x2048x512_12_0_n_n_0_1_12048512 x idx (ix3 t j f) = x (ix3 e j f) := by
  have s1 : GatherDims.start gather_S64x2048x512_S192x1_S192x2048x512_12_0_n_n_0_1_12048512 (ix3 t j f) idx 1 = 0 := rfl
  have s2 : GatherDims.start gather_S64x2048x512_S192x1_S192x2048x512_12_0_n_n_0_1_12048512 (ix3 t j f) idx 2 = 0 := rfl
  have o0 : GatherDims.offCoord gather_S64x2048x512_S192x1_S192x2048x512_12_0_n_n_0_1_12048512 (ix3 t j f) 0 = 0 := rfl
  have o1 : GatherDims.offCoord gather_S64x2048x512_S192x1_S192x2048x512_12_0_n_n_0_1_12048512 (ix3 t j f) 1 = j.val := rfl
  have o2 : GatherDims.offCoord gather_S64x2048x512_S192x1_S192x2048x512_12_0_n_n_0_1_12048512 (ix3 t j f) 2 = f.val := rfl
  have hb : ∀ a, GatherDims.batchCoord gather_S64x2048x512_S192x1_S192x2048x512_12_0_n_n_0_1_12048512 (ix3 t j f) a = 0 := fun _ => rfl
  have s0 : GatherDims.start gather_S64x2048x512_S192x1_S192x2048x512_12_0_n_n_0_1_12048512 (ix3 t j f) idx 0 = min (idx (ix2 t 0)).toInt.toNat 63 := by
    refine congrArg (fun i => min (idx i).toInt.toNat 63) (funext fun a : Fin 2 => ?_)
    match a with
    | 0 => rfl
    | 1 => rfl
  have he : (idx (ix2 t 0)).toInt.toNat = e.val := by
    rw [h]; exact toNat_ofNat64 e
  unfold Host.gather
  refine congrArg x (funext fun a : Fin 3 => Fin.ext ?_)
  match a with
  | 0 =>
    refine (congrArg₂ (· + ·) (congrArg₂ (· + ·) s0 (hb 0)) o0).trans ?_
    show min _ 63 + 0 + 0 = e.val
    rw [he]; omega
  | 1 =>
    refine (congrArg₂ (· + ·) (congrArg₂ (· + ·) s1 (hb 1)) o1).trans ?_
    exact Nat.zero_add _
  | 2 =>
    refine (congrArg₂ (· + ·) (congrArg₂ (· + ·) s2 (hb 2)) o2).trans ?_
    exact Nat.zero_add _

theorem gather_down {α : Type} (x : S64x512x2048.Idx → α) (idx : IVec S192x1 32) (t : Fin 192) (j : Fin 512) (f : Fin 2048) (e : Fin 64)
    (h : idx (ix2 t 0) = BitVec.ofNat 32 e.val) :
    Host.gather gather_S64x512x2048_S192x1_S192x512x2048_12_0_n_n_0_1_15122048 x idx (ix3 t j f) = x (ix3 e j f) := by
  have s1 : GatherDims.start gather_S64x512x2048_S192x1_S192x512x2048_12_0_n_n_0_1_15122048 (ix3 t j f) idx 1 = 0 := rfl
  have s2 : GatherDims.start gather_S64x512x2048_S192x1_S192x512x2048_12_0_n_n_0_1_15122048 (ix3 t j f) idx 2 = 0 := rfl
  have o0 : GatherDims.offCoord gather_S64x512x2048_S192x1_S192x512x2048_12_0_n_n_0_1_15122048 (ix3 t j f) 0 = 0 := rfl
  have o1 : GatherDims.offCoord gather_S64x512x2048_S192x1_S192x512x2048_12_0_n_n_0_1_15122048 (ix3 t j f) 1 = j.val := rfl
  have o2 : GatherDims.offCoord gather_S64x512x2048_S192x1_S192x512x2048_12_0_n_n_0_1_15122048 (ix3 t j f) 2 = f.val := rfl
  have hb : ∀ a, GatherDims.batchCoord gather_S64x512x2048_S192x1_S192x512x2048_12_0_n_n_0_1_15122048 (ix3 t j f) a = 0 := fun _ => rfl
  have s0 : GatherDims.start gather_S64x512x2048_S192x1_S192x512x2048_12_0_n_n_0_1_15122048 (ix3 t j f) idx 0 = min (idx (ix2 t 0)).toInt.toNat 63 := by
    refine congrArg (fun i => min (idx i).toInt.toNat 63) (funext fun a : Fin 2 => ?_)
    match a with
    | 0 => rfl
    | 1 => rfl
  have he : (idx (ix2 t 0)).toInt.toNat = e.val := by
    rw [h]; exact toNat_ofNat64 e
  unfold Host.gather
  refine congrArg x (funext fun a : Fin 3 => Fin.ext ?_)
  match a with
  | 0 =>
    refine (congrArg₂ (· + ·) (congrArg₂ (· + ·) s0 (hb 0)) o0).trans ?_
    show min _ 63 + 0 + 0 = e.val
    rw [he]; omega
  | 1 =>
    refine (congrArg₂ (· + ·) (congrArg₂ (· + ·) s1 (hb 1)) o1).trans ?_
    exact Nat.zero_add _
  | 2 =>
    refine (congrArg₂ (· + ·) (congrArg₂ (· + ·) s2 (hb 2)) o2).trans ?_
    exact Nat.zero_add _

/-- The reference's place of a block's expert, taken from the front where it is negative. -/
def place (be : S192.Idx → BitVec 32) : IVec S192x1 32 :=
  broadcastInDim S192x1 ![0] bcast_S192_S192x1_0 (select (cmpi .slt be (broadcastInDim S192 ![] bcast_S_S192 (constantI S_ 32 0#32)))
    (addi be (broadcastInDim S192 ![] bcast_S_S192 (constantI S_ 32 64#32))) be)

/-- The result of the reference over the weights taken per block. -/
def term (nu : S1.Idx → BitVec 32) (X : S49152x2048.Idx → EReal) (G U : S192x2048x512.Idx → EReal) (D : S192x512x2048.Idx → EReal) : S49152x2048.Idx → EReal :=
  truncf (F := Ideal) (φ := .f32) .bf16 (shapeCast (α := EReal) S49152x2048 (select (broadcastInDim S192x256x2048 ![0, 1, 2] bcast_S192x1x1_S192x256x2048_0_1_2 (broadcastInDim S192x1x1 ![0] bcast_S192_S192x1x1_0 (cmpi .slt (iotaInDim S192 32 0) (broadcastInDim S192 ![] bcast_S_S192 (shapeCast S_ nu shapeCasts_S1_S_)))))
    (Host.dotGeneral (F := Ideal) (φ₁ := .f32) (φ₂ := .f32) dot_S192x256x512_S192x512x2048_S192x256x2048_2_1_1_2_0_0 none (mulf (F := Ideal) (mulf (F := Ideal)
      (Host.dotGeneral (F := Ideal) (φ₁ := .f32) (φ₂ := .f32) dot_S192x256x2048_S192x2048x512_S192x256x512_2_1_1_2_0_0 none (shapeCast S192x256x2048 (extf (F := Ideal) (φ := .bf16) .f32 X bitsLt_bf16_f32) shapeCasts_S49152x2048_S192x256x2048) G)
      (Host.divf (F := Ideal) (broadcastInDim S192x256x512 ![] bcast_S_S192x256x512 (constant S_ .f32 0x3F800000#32)) (addf (broadcastInDim S192x256x512 ![] bcast_S_S192x256x512 (constant S_ .f32 0x3F800000#32)) (Host.exp (Host.negf
        (Host.dotGeneral (F := Ideal) (φ₁ := .f32) (φ₂ := .f32) dot_S192x256x2048_S192x2048x512_S192x256x512_2_1_1_2_0_0 none (shapeCast S192x256x2048 (extf (F := Ideal) (φ := .bf16) .f32 X bitsLt_bf16_f32) shapeCasts_S49152x2048_S192x256x2048) G))))))
      (Host.dotGeneral (F := Ideal) (φ₁ := .f32) (φ₂ := .f32) dot_S192x256x2048_S192x2048x512_S192x256x512_2_1_1_2_0_0 none (shapeCast S192x256x2048 (extf (F := Ideal) (φ := .bf16) .f32 X bitsLt_bf16_f32) shapeCasts_S49152x2048_S192x256x2048) U)) D)
    (broadcastInDim S192x256x2048 ![] bcast_S_S192x256x2048 (id (constant (F := Ideal) S_ .f32 0x00000000#32)))) shapeCasts_S192x256x2048_S49152x2048) bitsLt_bf16_f32

/-- The rows the reference reads from the words. -/
def termRows (W : S49152x1024.Idx → BitVec 32) : S49152x2048.Idx → EReal :=
  concatenate S49152x2048 1 [⟨S49152x1024, (bitcastToFloat (F := Ideal) .bf16 (trunci 16 (Host.shrui W (broadcastInDim S49152x1024 ![] bcast_S_S49152x1024 (constantI S_ 32 16#32))) natLt_16_32))⟩,
    ⟨S49152x1024, (bitcastToFloat (F := Ideal) .bf16 (trunci 16 W natLt_16_32))⟩] concatenates_S49152x1024_S49152x1024_S49152x2048_d1

theorem termRows_eq (W : S49152x1024.Idx → BitVec 32) : termRows W = Cert.Experts.rows W := by
  refine funext fun i => ?_
  have hi : i = ix2 (i 0) (i 1) := funext fun ax : Fin 2 => match ax with | 0 => rfl | 1 => rfl
  rw [hi]
  generalize (i 0) = R
  generalize (i 1) = k
  unfold termRows Cert.Experts.rows
  pointwise
  rfl

theorem select_slt (a b : BitVec 32) (x y : EReal) : Scalar.select (IntOp.cmpi .slt a b) x y = if a.slt b = true then x else y := by
  show (if BitVec.ofBool (a.slt b) = 1#1 then x else y) = _
  cases a.slt b <;> rfl

theorem term_apply (nu : S1.Idx → BitVec 32) (e : Fin 192 → Fin 64) (X : S49152x2048.Idx → EReal) (G U : S192x2048x512.Idx → EReal) (D : S192x512x2048.Idx → EReal)
    (G' U' : S64x2048x512.Idx → EReal) (D' : S64x512x2048.Idx → EReal) (hG : ∀ t j f, G (ix3 t j f) = G' (ix3 (e t) j f))
    (hU : ∀ t j f, U (ix3 t j f) = U' (ix3 (e t) j f)) (hD : ∀ t f j, D (ix3 t f j) = D' (ix3 (e t) f j)) (R : Fin 49152) (c : Fin 2048) :
    term nu X G U D (ix2 R c) = Cert.Experts.result (nu (ix1 0)) e X G' U' D' R c := by
  unfold term
  simp only [id_eq]
  pointwise
  rw [select_slt]
  simp only [hG, hU, hD]
  rfl

theorem place_apply (be : S192.Idx → BitVec 32) (t : Fin 192) (h : 0 ≤ (be (ix1 t)).toInt) : place be (ix2 t 0) = be (ix1 t) := by
  unfold place
  pointwise
  have hs : (be (ix1 t)).slt 0#32 = false := by
    rw [← Bool.not_eq_true, BitVec.slt_iff_toInt_lt]; exact not_lt.2 h
  show (if BitVec.ofBool ((be (ix1 t)).slt 0#32) = 1#1 then _ else _) = _
  rw [hs]; rfl

/-- The reference's result, where every block's expert is one of the 64. -/
theorem reference_apply (be : S192.Idx → BitVec 32) (e : Fin 192 → Fin 64) (he : ∀ t, be (ix1 t) = BitVec.ofNat 32 (e t).val)
    (nu : S1.Idx → BitVec 32) (X : S49152x2048.Idx → EReal) (G U : S64x2048x512.Idx → EReal) (D : S64x512x2048.Idx → EReal) (R : Fin 49152) (c : Fin 2048) :
    term nu X (Host.gather gather_S64x2048x512_S192x1_S192x2048x512_12_0_n_n_0_1_12048512 G (place be))
      (Host.gather gather_S64x2048x512_S192x1_S192x2048x512_12_0_n_n_0_1_12048512 U (place be))
      (Host.gather gather_S64x512x2048_S192x1_S192x512x2048_12_0_n_n_0_1_15122048 D (place be)) (ix2 R c)
      = Cert.Experts.result (nu (ix1 0)) e X G U D R c := by
  have hp : ∀ t, place be (ix2 t 0) = BitVec.ofNat 32 (e t).val := fun t => by
    have h0 : ∀ k : Fin 64, 0 ≤ (BitVec.ofNat 32 k.val).toInt := by decide
    rw [place_apply be t (by rw [he]; exact h0 _), he]
  exact term_apply nu e X _ _ _ G U D (fun t j f => gather_up G _ t j f (e t) (hp t)) (fun t j f => gather_up U _ t j f (e t) (hp t))
    (fun t f j => gather_down D _ t f j (e t) (hp t)) R c

end Cert.Reference2Ideal.Experts
-- ==== Proof.Experts.Run.lean ====
/-
  Hand-written. The experts' call from any memory whose experts are of the 64: the tables it reads are in range, its run
  ends, and leaves every argument as it was.
-/
module

public import proofs.«01_k».proof.Proof.Experts.Launch
public import proofs.«01_k».proof.Proof.Gen.Pre_experts_in_range
public import proofs.«01_k».proof.Pre_experts_in_range
public import Idealize.ShloMosaic.Lib.Pointwise
public import Idealize.ShloMosaic.Lib.Routing.Ops

@[expose] public section

noncomputable section

namespace Cert.Kernel2Ideal.Experts

open Cert.Kernel2Ideal Cert.Kernel2Ideal.Gen
open Idealize.ShloMosaic Idealize.ShloMosaic.TcCoe Idealize.SL.Sem

variable {F : FTy → Type} [FloatOps F] [∀ e, Nonempty (Elt F e)]

/-- Every block's expert is one of the 64. -/
def InRange (be : S192.Idx → BitVec 32) : Prop := ∀ k : Fin 192, (be (at192 k)).toNat < 64

/-- A conjunction over a set that comes to one is one at each of its members. -/
theorem one_of_fold {ι : Type} (f : ι → BitVec 1) (s : Finset ι) (h : s.fold IntOp.andi 1#1 f = 1#1) (i : ι) (hi : i ∈ s) : f i = 1#1 := by
  classical
  have hb : ∀ u v : BitVec 1, IntOp.andi u v = 1#1 → u = 1#1 ∧ v = 1#1 := by decide
  rw [← Finset.insert_erase hi, Finset.fold_insert (Finset.notMem_erase i s)] at h
  exact (hb _ _ h).1

theorem inRange_of_pre (be : IVec Cert.Pre_experts_in_range.S192 32) (n x g u d)
    (h : Cert.Pre_experts_in_range.fn (F := F) be n x g u d = fun _ => 1#1) : InRange be := by
  intro k
  have h1 := congrFun h ValueIdx.ix0
  unfold Cert.Pre_experts_in_range.fn at h1
  change Host.reduce IntOp.andi _ _ _ _ ValueIdx.ix0 = 1#1 at h1
  rw [Host.reduce_eq_fold] at h1
  have h3 := one_of_fold _ _ h1 (at192 k) (Finset.mem_filter.2 ⟨Finset.mem_univ _, funext fun b => b.elim0⟩)
  change IntOp.andi (IntOp.cmpi .sge (be (at192 k)) 0#32) (IntOp.cmpi .slt (be (at192 k)) 64#32) = 1#1 at h3
  generalize be (at192 k) = w at h3 ⊢
  have hb : ∀ u v : BitVec 1, IntOp.andi u v = 1#1 → u = 1#1 ∧ v = 1#1 := by decide
  obtain ⟨h4, h5⟩ := hb _ _ h3
  have h6 : (0#32).sle w = true := (StableHlo.Predicate.ofBool_eq_one_iff _).1 h4
  have h7 : w.slt 64#32 = true := (StableHlo.Predicate.ofBool_eq_one_iff _).1 h5
  have h8 : (0#32).toInt ≤ w.toInt := of_decide_eq_true h6
  have h9 : w.toInt < (64#32).toInt := of_decide_eq_true h7
  rw [show (0#32).toInt = 0 from rfl] at h8
  rw [show (64#32).toInt = 64 from rfl] at h9
  rw [BitVec.toInt_eq_toNat_cond] at h8 h9
  have := w.isLt
  split at h8 <;> omega

/-! ## The tables -/

theorem block_up (T : pre0.Contents (Elt F)) (h : InRange (T 0)) (i : grid0.Coords) (ax : Fin 3) :
    (cc0_transform_1 k0_off1_inb numel1_S1 T i ax + 1) * S1x2048x512.size ax ≤ S64x2048x512.size ax := by
  have e : (T.at 0 (Rect.unit (s := S192) (k0_off1 i) S1.size (k0_off1_inb i)) numel1_S1 : BitVec 32) = T 0 (at192 (i 0)) :=
    wdE_eq (F := F) i (T 0)
  match ax with
  | 0 =>
    show ((T.at 0 (Rect.unit (s := S192) (k0_off1 i) S1.size (k0_off1_inb i)) numel1_S1 : BitVec 32).toNat + 1) * 1 ≤ 64
    have := h (i 0)
    rw [e]
    generalize hw : (T 0 (at192 (i 0)) : BitVec 32) = w at this ⊢
    change BitVec.toNat w < 64 at this
    omega
  | 1 => show (0 + 1) * 2048 ≤ 2048; omega
  | 2 => show (0 + 1) * 512 ≤ 512; omega

theorem block_down (T : pre0.Contents (Elt F)) (h : InRange (T 0)) (i : grid0.Coords) (ax : Fin 3) :
    (cc0_transform_3 k0_off1_inb numel1_S1 T i ax + 1) * S1x512x2048.size ax ≤ S64x512x2048.size ax := by
  have h0 := block_up T h i 0
  match ax with
  | 0 => exact h0
  | 1 => show (0 + 1) * 512 ≤ 512; omega
  | 2 => show (0 + 1) * 2048 ≤ 2048; omega

theorem ok_of_range (T : pre0.Contents (Elt F)) (h : InRange (T 0)) : ok0 T :=
  ⟨fun i => ⟨block_up T h i, .inl rfl⟩, fun i => ⟨block_up T h i, .inl rfl⟩, fun i => ⟨block_down T h i, .inl rfl⟩⟩

variable (m : (ℓ : Loc nD τ sig) → Buf (Elt F) ℓ) (ρ : Dev nD → PrngReg)

/-- The tables, as the first device's memory holds them. -/
def tables : pre0.Contents (Elt F) := fun j => m (((0 : Dev nD) : Thread nD τ).loc (pre0.ref j))

/-- Read with their range. -/
def adm (h : InRange (m (((0 : Dev nD) : Thread nD τ).loc main_arg0))) : (pcfg0 (F := F)).Adm := ⟨tables m, ok_of_range _ h⟩

theorem run_of_range (h : InRange (m (((0 : Dev nD) : Thread nD τ).loc main_arg0))) :
    θ_run (defs (F := F)) (onTc (τ := τ) (main (F := F))) (s₀ m ρ) (fun r => Ends (adm m h) m ρ r ∧ r.2.sem = fun _ => 0) :=
  run_ends (adm m h) m ρ fun c j => by rw [Subsingleton.elim c (0 : Dev nD)]; rfl

/-- What is left of the arguments. -/
theorem unchanged (h : InRange (m (((0 : Dev nD) : Thread nD τ).loc main_arg0))) {r : PUnit × MemSt nD τ sig (Elt F)} (hr : Ends (adm m h) m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  have hc : c = (0 : Dev nD) := Subsingleton.elim _ _
  refine ⟨((hr c).2 0).trans (by rw [hc]; rfl), ((hr c).2 1).trans (by rw [hc]; rfl),
    ((hr c).1 (0 : Fin 5)).trans ((dats (adm m h) m ρ 0 c).arrAt_in (0 : Fin 5) rfl _),
    ((hr c).1 (1 : Fin 5)).trans ((dats (adm m h) m ρ 0 c).arrAt_in (1 : Fin 5) rfl _),
    ((hr c).1 (2 : Fin 5)).trans ((dats (adm m h) m ρ 0 c).arrAt_in (2 : Fin 5) rfl _),
    ((hr c).1 (3 : Fin 5)).trans ((dats (adm m h) m ρ 0 c).arrAt_in (3 : Fin 5) rfl _)⟩

end Cert.Kernel2Ideal.Experts
-- ==== Proof.Experts.Same.lean ====
/-
  Hand-written. The experts' call as written and as read at the ideal instance are one program over any float values:
  nothing in its text is replaced by an ideal operation.
-/
module

public import proofs.«01_k».proof.Proof.Gen.Kernel2
public import proofs.«01_k».proof.Proof.Gen.Kernel2Ideal

@[expose] public section

noncomputable section

namespace Cert.Experts.Same

open Idealize.ShloMosaic Idealize.ShloMosaic.TcCoe Idealize.SL.Sem

variable {F : FTy → Type} [FloatOps F]

theorem bodies : @Cert.Kernel2.defs₀ F _ _ = @Cert.Kernel2Ideal.defs₀ F _ _ := by
  unfold Cert.Kernel2.defs₀ Cert.Kernel2Ideal.defs₀
  refine congrArg Defs.onTc (funext fun l => funext fun a => ?_)
  match l, a with
  | 0, (t, s) => rfl
  | ⟨n + 1, h⟩, _ => exact absurd h (Nat.not_lt.2 (Nat.le_add_left _ _))

theorem tables : @Cert.Kernel2.defs F _ _ = @Cert.Kernel2Ideal.defs F _ _ := congrArg (Pipeline.defs _) bodies

theorem main_same : @Cert.Kernel2.main F _ _ = @Cert.Kernel2Ideal.main F _ _ := rfl

/-- A run of one program is a run of an equal one. -/
theorem carry {D₁ D₂ : Defs Cert.Kernel2.nD Cert.Kernel2.τ Cert.Kernel2.sig (Elt F) (Pipeline.Sig Cert.Kernel2.Λ₀ (Fin 1) fun p => (Cert.Kernel2.pcfgs (F := F) p).Adm)}
    {p₁ p₂ : Dev Cert.Kernel2.nD → Prog (TpuEff Cert.Kernel2.nD Cert.Kernel2.τ Cert.Kernel2.sig (Elt F)
      (Pipeline.Sig Cert.Kernel2.Λ₀ (Fin 1) fun p => (Cert.Kernel2.pcfgs (F := F) p).Adm) .tc) PUnit}
    (hD : D₁ = D₂) (hp : p₁ = p₂) {s} {Q} (h : θ_run D₂ (onTc (τ := Cert.Kernel2.τ) p₂) s Q) : θ_run D₁ (onTc (τ := Cert.Kernel2.τ) p₁) s Q := by
  subst hD hp
  exact h

end Cert.Experts.Same
-- ==== Proof.Experts.Claims.lean ====
/-
  Hand-written. The claims of the experts' call: its runs end with every argument as it was, and at the ideal values with
  the reference's result.
-/
module

public import proofs.«01_k».proof.Defs
public import proofs.«01_k».proof.Proof.Experts.Value
public import proofs.«01_k».proof.Proof.Experts.Ref
public import proofs.«01_k».proof.Proof.Experts.Run
public import proofs.«01_k».proof.Proof.Experts.Same
public import proofs.«01_k».proof.Proof.Gen.Reference2.Run
public import Idealize.ShloMosaic.Lib.Quiescent

@[expose] public section

set_option maxRecDepth 16384

noncomputable section

namespace Cert.Experts

open Idealize.ShloMosaic Idealize.ShloMosaic.TcCoe Idealize.SL.Sem
open Cert.Kernel2Ideal.Experts

theorem frame_kernelIdeal : Cert.quiescent_Kernel2Ideal := fun m ρ hp =>
  have h := inRange_of_pre (F := Ideal) _ _ _ _ _ _ (hp 0)
  (θ_run (Cert.Kernel2Ideal.defs (F := Ideal)) _ _).mono (fun _ hr => ⟨fun c => unchanged m ρ h hr.1 c, hr.2⟩) (run_of_range m ρ h)

theorem frame_kernel : Cert.quiescent_Kernel2 := fun m ρ hp =>
  have h := inRange_of_pre (F := Bits) _ _ _ _ _ _ (hp 0)
  Same.carry Same.tables Same.main_same
    ((θ_run (Cert.Kernel2Ideal.defs (F := Bits)) _ _).mono (fun _ hr => ⟨fun c => unchanged (F := Bits) m ρ h hr.1 c, hr.2⟩) (run_of_range (F := Bits) m ρ h))

theorem frame_reference : Cert.quiescent_Reference2 := fun m ρ _ =>
  (θ_run (Cert.Reference2.defs (F := Bits)) _ _).mono (fun r h => ⟨fun c => (h c).2, sem_eq_zero_of_no_sems rfl r.2⟩) (Cert.Reference2.Value.run (F := Bits) m ρ)

theorem frame_referenceIdeal : Cert.quiescent_Reference2Ideal := fun m ρ _ =>
  (θ_run (Cert.Reference2Ideal.defs (F := Ideal)) _ _).mono (fun r h => ⟨fun c => (h c).2, sem_eq_zero_of_no_sems rfl r.2⟩)
    (Cert.Reference2Ideal.Value.run (F := Ideal) m ρ)

/-- A block's expert, as read from the first argument. -/
def expertOf (be : (⟨1, ![192]⟩ : Shape).Idx → BitVec 32) (h : InRange be) (k : Fin 192) : Fin 64 := ⟨(be (at192 k)).toNat, h k⟩

theorem reference_value (be : (⟨1, ![192]⟩ : Shape).Idx → BitVec 32) (h : InRange be) (nu : (⟨1, ![1]⟩ : Shape).Idx → BitVec 32)
    (W : (⟨2, ![49152, 1024]⟩ : Shape).Idx → BitVec 32) (G U : (⟨3, ![64, 2048, 512]⟩ : Shape).Idx → EReal) (D : (⟨3, ![64, 512, 2048]⟩ : Shape).Idx → EReal) :
    Cert.Reference2Ideal.Experts.term nu (Cert.Reference2Ideal.Experts.termRows W)
      (Host.gather Cert.Reference2Ideal.gather_S64x2048x512_S192x1_S192x2048x512_12_0_n_n_0_1_12048512 G (Cert.Reference2Ideal.Experts.place be))
      (Host.gather Cert.Reference2Ideal.gather_S64x2048x512_S192x1_S192x2048x512_12_0_n_n_0_1_12048512 U (Cert.Reference2Ideal.Experts.place be))
      (Host.gather Cert.Reference2Ideal.gather_S64x512x2048_S192x1_S192x512x2048_12_0_n_n_0_1_15122048 D (Cert.Reference2Ideal.Experts.place be))
      = fun i => result (nu (ix1 0)) (expertOf be h) (rows W) G U D (i 0) (i 1) := by
  rw [Cert.Reference2Ideal.Experts.termRows_eq]
  refine funext fun i => ?_
  have hi : i = ix2 (i 0) (i 1) := funext fun ax : Fin 2 => match ax with | 0 => rfl | 1 => rfl
  refine (congrArg _ hi).trans (Cert.Reference2Ideal.Experts.reference_apply be (expertOf be h) (fun t => ?_) nu (rows W) G U D (i 0) (i 1))
  have hk : ix1 t = at192 t := funext fun ax : Fin 1 => match ax with | 0 => rfl
  rw [hk]
  exact BitVec.eq_of_toNat_eq ((BitVec.toNat_ofNat ..).trans (Nat.mod_eq_of_lt (be (at192 t)).isLt)).symm

/-- The kernel's result in the reference's words. -/
theorem final_eq (m : (ℓ : Loc Cert.Kernel2Ideal.nD Cert.Kernel2Ideal.τ Cert.Kernel2Ideal.sig) → Buf (Elt Ideal) ℓ)
    (h : InRange (m (((0 : Dev Cert.Kernel2Ideal.nD) : Thread Cert.Kernel2Ideal.nD Cert.Kernel2Ideal.τ).loc Cert.Kernel2Ideal.main_arg0))) (c : Dev Cert.Kernel2Ideal.nD) (e : Fin 192 → Fin 64) :
    final (adm m h) m c e = fun i => result ((m ((0 : Dev Cert.Kernel2Ideal.nD).tc.loc Cert.Kernel2Ideal.main_arg1) : (⟨1, ![1]⟩ : Shape).Idx → BitVec 32) (ix1 0)) e (rows (m (c.tc.loc Cert.Kernel2Ideal.main_arg2))) (m (c.tc.loc Cert.Kernel2Ideal.main_arg3))
      (m (c.tc.loc Cert.Kernel2Ideal.main_arg4)) (m (c.tc.loc Cert.Kernel2Ideal.main_arg5)) (i 0) (i 1) := by
  have hw : Cert.Kernel2Ideal.Experts.wdN (tU (adm m h))
      = (m ((0 : Dev Cert.Kernel2Ideal.nD).tc.loc Cert.Kernel2Ideal.main_arg1) : (⟨1, ![1]⟩ : Shape).Idx → BitVec 32) (ix1 0) :=
    congrArg (m ((0 : Dev Cert.Kernel2Ideal.nD).tc.loc Cert.Kernel2Ideal.main_arg1)) (funext fun ax : Fin 1 => match ax with | 0 => rfl)
  unfold final
  rw [hw]

theorem algebraic : Cert.algebraic_Kernel2Ideal_Reference2Ideal := fun m ρ m' ρ' hp hm =>
  have h := inRange_of_pre (F := Ideal) _ _ _ _ _ _ (hp 0)
  ⟨fun c => final (adm m h) m c (expertOf _ h),
    (θ_run (Cert.Kernel2Ideal.defs (F := Ideal)) _ _).mono (fun _ hr c =>
      ⟨(hr.1 c).1 (4 : Fin 5) |>.trans (arr4 (adm m h) m ρ c (expertOf _ h) fun _ => rfl), unchanged m ρ h hr.1 c⟩) (run_of_range m ρ h),
    (θ_run (Cert.Reference2Ideal.defs (F := Ideal)) _ _).mono (fun r hr c => ⟨(hr c).1.trans (by
      have hc : c = (0 : Dev Cert.Kernel2Ideal.nD) := Subsingleton.elim _ _
      subst hc
      obtain ⟨e0, e1, e2, e3, e4, e5⟩ := hm 0
      show Cert.Reference2Ideal.Value.res_out0 m' 0 = _
      unfold Cert.Reference2Ideal.Value.res_out0 Cert.Reference2Ideal.Value.res_main_v42
      rw [e0, e1, e2, e3, e4, e5]
      refine Eq.trans ?_ (final_eq m h 0 _).symm
      refine Eq.trans ?_ (reference_value _ h (m ((0 : Dev Cert.Kernel2Ideal.nD).tc.loc Cert.Kernel2Ideal.main_arg1)) (m ((0 : Dev Cert.Kernel2Ideal.nD).tc.loc Cert.Kernel2Ideal.main_arg2))
        (m ((0 : Dev Cert.Kernel2Ideal.nD).tc.loc Cert.Kernel2Ideal.main_arg3)) (m ((0 : Dev Cert.Kernel2Ideal.nD).tc.loc Cert.Kernel2Ideal.main_arg4))
        (m ((0 : Dev Cert.Kernel2Ideal.nD).tc.loc Cert.Kernel2Ideal.main_arg5)))
      rfl), (hr c).2⟩) (Cert.Reference2Ideal.Value.run (F := Ideal) m' ρ')⟩

end Cert.Experts
-- ==== Proof.Attn.Softmax.lean ====
/-
  Hand-written. Causal attention of one query over the extended reals: the row worked out as a diagonal block and the
  keys before it, divided once at the end, is the row of normalized weights.
-/
module

public import Idealize.ShloMosaic.Lib.Pointwise

@[expose] public section

noncomputable section

namespace Cert.Attn

open Idealize.ShloMosaic

/-! ## The row of normalized weights -/

/-- The score of key `j` for query `i`: minus infinity for a key after the query. -/
def seen (i : ℕ) (S : Fin 2048 → EReal) (j : Fin 2048) : EReal := if j.val ≤ i then S j else ⊥

/-- The greatest score. -/
def top (i : ℕ) (S : Fin 2048 → EReal) : EReal := Finset.univ.fold max ⊥ (seen i S)

/-- The exponential of a score less the greatest. -/
def weight (i : ℕ) (S : Fin 2048 → EReal) (j : Fin 2048) : EReal := Ideal.exp (seen i S j - top i S)

/-- The query's result in one column of the values: the values under the normalized weights. -/
def attend (i : ℕ) (S v : Fin 2048 → EReal) : EReal := ∑ j, v j * Ideal.div (weight i S j) (∑ k, weight i S k)

/-! ## The row as the blocks work it out -/

/-- The scores within the diagonal block that starts at `n`, for its row `r`. -/
def diag (n : ℕ) (hn : n + 256 ≤ 2048) (r : Fin 256) (S : Fin 2048 → EReal) (j : Fin 256) : EReal :=
  if j.val ≤ r.val then S ⟨n + j.val, by omega⟩ else ⊥

/-- The greatest score of the diagonal block and of the keys before it. -/
def blockTop (n : ℕ) (hn : n + 256 ≤ 2048) (r : Fin 256) (S : Fin 2048 → EReal) : EReal :=
  max (Finset.univ.fold max ⊥ (diag n hn r S)) (Finset.univ.fold max ⊥ fun j : Fin n => S ⟨j.val, by omega⟩)

/-- The row of the diagonal block that starts at `n`, from two sums divided at the end. -/
def blockRow (n : ℕ) (hn : n + 256 ≤ 2048) (r : Fin 256) (S v : Fin 2048 → EReal) : EReal :=
  Ideal.div
    ((∑ j : Fin 256, Ideal.exp (diag n hn r S j - blockTop n hn r S) * v ⟨n + j.val, by omega⟩)
      + ∑ j : Fin n, Ideal.exp (S ⟨j.val, by omega⟩ - blockTop n hn r S) * v ⟨j.val, by omega⟩)
    ((∑ j : Fin 256, Ideal.exp (diag n hn r S j - blockTop n hn r S))
      + ∑ j : Fin n, Ideal.exp (S ⟨j.val, by omega⟩ - blockTop n hn r S))

/-! ## The exponential -/

theorem exp_nonneg (x : EReal) : 0 ≤ Ideal.exp x := by
  induction x with
  | bot => exact le_refl _
  | top => exact le_top
  | coe r => exact EReal.coe_nonneg.2 (Real.exp_pos r).le

theorem exp_pos {x : EReal} (h : x ≠ ⊥) : 0 < Ideal.exp x := by
  induction x with
  | bot => exact absurd rfl h
  | top => exact EReal.zero_lt_top
  | coe r => exact EReal.coe_pos.2 (Real.exp_pos r)

theorem exp_bot_sub (x : EReal) : Ideal.exp (⊥ - x) = 0 := by
  rw [sub_eq_add_neg, EReal.bot_add]; rfl

/-! ## Sums -/

/-- A sum over all keys that stops at the end of a block is the block's and the keys' before it. -/
theorem sum_split (f : Fin 2048 → EReal) (n : ℕ) (hn : n + 256 ≤ 2048) (hz : ∀ j : Fin 2048, n + 256 ≤ j.val → f j = 0) :
    ∑ j, f j = (∑ j : Fin 256, f ⟨n + j.val, by omega⟩) + ∑ j : Fin n, f ⟨j.val, by omega⟩ := by
  obtain ⟨k, hk⟩ : ∃ k, 2048 = n + 256 + k := ⟨2048 - (n + 256), by omega⟩
  let g : ℕ → EReal := fun j => if h : j < 2048 then f ⟨j, h⟩ else 0
  have hg : ∀ (j : ℕ) (h : j < 2048), f ⟨j, h⟩ = g j := fun j h => (dif_pos (c := j < 2048) (t := fun h => f ⟨j, h⟩) (e := fun _ => (0 : EReal)) h).symm
  have h0 : ∑ j, f j = ∑ j ∈ Finset.range 2048, g j :=
    (Finset.sum_congr rfl fun j _ => hg j.val j.isLt).trans (Fin.sum_univ_eq_sum_range g 2048)
  have h1 : (∑ j : Fin 256, f ⟨n + j.val, by omega⟩) = ∑ j ∈ Finset.range 256, g (n + j) :=
    (Finset.sum_congr rfl fun j _ => hg (n + j.val) _).trans (Fin.sum_univ_eq_sum_range (fun j => g (n + j)) 256)
  have h2 : (∑ j : Fin n, f ⟨j.val, by omega⟩) = ∑ j ∈ Finset.range n, g j :=
    (Finset.sum_congr rfl fun j _ => hg j.val _).trans (Fin.sum_univ_eq_sum_range g n)
  have h3 : ∑ j ∈ Finset.range k, g (n + 256 + j) = 0 := Finset.sum_eq_zero fun j hj => by
    have hj' := Finset.mem_range.1 hj
    rw [← hg (n + 256 + j) (by omega)]
    exact hz _ (Nat.le_add_right _ _)
  rw [h0, h1, h2, hk, Finset.sum_range_add, Finset.sum_range_add, h3, add_zero, add_comm]

/-- A nonnegative factor that isn't infinite comes out of a sum. -/
theorem sum_mul_of_nonneg {ι : Type} (s : Finset ι) (f : ι → EReal) (c : EReal) (h0 : 0 ≤ c) (ht : c ≠ ⊤) :
    ∑ j ∈ s, f j * c = (∑ j ∈ s, f j) * c := by
  classical
  induction s using Finset.induction_on with
  | empty => rw [Finset.sum_empty, Finset.sum_empty, zero_mul]
  | insert a s ha ih => rw [Finset.sum_insert ha, Finset.sum_insert ha, ih, EReal.right_distrib_of_nonneg_of_ne_top h0 ht]

theorem inv_ne_top (x : EReal) : x⁻¹ ≠ ⊤ := by
  induction x with
  | bot => rw [EReal.inv_bot]; exact EReal.zero_ne_top
  | top => rw [EReal.inv_top]; exact EReal.zero_ne_top
  | coe r => rw [← EReal.coe_inv]; exact EReal.coe_ne_top _

/-! ## The two rows are one -/

section

variable (n : ℕ) (hn : n + 256 ≤ 2048) (r : Fin 256) (S v : Fin 2048 → EReal)

theorem seen_diag (j : Fin 256) : seen (n + r.val) S ⟨n + j.val, by omega⟩ = diag n hn r S j := by
  unfold seen diag
  exact if_congr (by show n + j.val ≤ n + r.val ↔ _; omega) rfl rfl

theorem seen_before (j : Fin n) : seen (n + r.val) S ⟨j.val, by omega⟩ = S ⟨j.val, by omega⟩ :=
  if_pos (by show j.val ≤ n + r.val; omega)

theorem seen_after (j : Fin 2048) (h : n + 256 ≤ j.val) : seen (n + r.val) S j = ⊥ :=
  if_neg (by omega)

theorem le_top_of (i : ℕ) (j : Fin 2048) : seen i S j ≤ top i S :=
  Finset.le_sup (f := seen i S) (Finset.mem_univ j)

theorem blockTop_eq : blockTop n hn r S = top (n + r.val) S := by
  refine le_antisymm (max_le (Finset.sup_le fun j _ => ?_) (Finset.sup_le fun j _ => ?_)) (Finset.sup_le fun j _ => ?_)
  · rw [← seen_diag n hn r S j]; exact le_top_of S _ _
  · rw [← seen_before n hn r S j]; exact le_top_of S _ _
  · by_cases h1 : j.val < n
    · have h := seen_before n hn r S ⟨j.val, h1⟩
      refine le_trans (le_of_eq h) (le_max_of_le_right ?_)
      exact Finset.le_sup (f := fun j : Fin n => S ⟨j.val, by omega⟩) (Finset.mem_univ (⟨j.val, h1⟩ : Fin n))
    · by_cases h2 : n + 256 ≤ j.val
      · rw [seen_after n r S j h2]; exact bot_le
      · have hj : (⟨n + (j.val - n), by omega⟩ : Fin 2048) = j := Fin.ext (by show n + (j.val - n) = j.val; omega)
        have h := seen_diag n hn r S ⟨j.val - n, by omega⟩
        rw [hj] at h
        refine le_trans (le_of_eq h) (le_max_of_le_left ?_)
        exact Finset.le_sup (f := diag n hn r S) (Finset.mem_univ (⟨j.val - n, by omega⟩ : Fin 256))

theorem top_ne_top (i : ℕ) (h : ∀ j, S j ≠ ⊤) : top i S ≠ ⊤ := by
  refine ne_of_lt ((Finset.sup_lt_iff (f := seen i S) bot_lt_top).2 fun j _ => ?_)
  unfold seen
  split
  · exact lt_top_iff_ne_top.2 (h j)
  · exact bot_lt_top

theorem weight_nonneg (i : ℕ) (j : Fin 2048) : 0 ≤ weight i S j := exp_nonneg _

theorem sum_weight_pos (i : Fin 2048) (h : ∀ j, S j ≠ ⊤) (h' : S i ≠ ⊥) : 0 < ∑ j, weight i.val S j := by
  refine lt_of_lt_of_le (exp_pos (x := seen i.val S i - top i.val S) ?_)
    (Finset.single_le_sum (f := weight i.val S) (fun j _ => weight_nonneg S _ j) (Finset.mem_univ i))
  have hs : seen i.val S i = S i := if_pos (le_refl _)
  rw [hs, sub_eq_add_neg]
  refine ne_of_gt (EReal.bot_lt_add_iff.2 ⟨bot_lt_iff_ne_bot.2 h', bot_lt_iff_ne_bot.2 fun hb => ?_⟩)
  exact top_ne_top S i.val h (EReal.neg_eq_bot_iff.1 hb)

theorem weight_after (j : Fin 2048) (h : n + 256 ≤ j.val) : weight (n + r.val) S j = 0 := by
  unfold weight; rw [seen_after n r S j h]; exact exp_bot_sub _

theorem sum_weight : ∑ j, weight (n + r.val) S j
    = (∑ j : Fin 256, Ideal.exp (diag n hn r S j - blockTop n hn r S))
      + ∑ j : Fin n, Ideal.exp (S ⟨j.val, by omega⟩ - blockTop n hn r S) := by
  rw [sum_split _ n hn (fun j h => weight_after n r S j h)]
  unfold weight
  rw [blockTop_eq]
  exact congrArg₂ (· + ·) (Finset.sum_congr rfl fun j _ => by rw [seen_diag n hn r S j])
    (Finset.sum_congr rfl fun j _ => by rw [seen_before n hn r S j])

theorem sum_weight_mul : ∑ j, weight (n + r.val) S j * v j
    = (∑ j : Fin 256, Ideal.exp (diag n hn r S j - blockTop n hn r S) * v ⟨n + j.val, by omega⟩)
      + ∑ j : Fin n, Ideal.exp (S ⟨j.val, by omega⟩ - blockTop n hn r S) * v ⟨j.val, by omega⟩ := by
  rw [sum_split _ n hn (fun j h => by rw [weight_after n r S j h, zero_mul])]
  unfold weight
  rw [blockTop_eq]
  exact congrArg₂ (· + ·) (Finset.sum_congr rfl fun j _ => by rw [seen_diag n hn r S j])
    (Finset.sum_congr rfl fun j _ => by rw [seen_before n hn r S j])

/-- The blocks' row is the row of normalized weights, where no score is plus infinity and the query's own score isn't
    minus infinity. -/
theorem blockRow_eq (h : ∀ j, S j ≠ ⊤) (h' : S ⟨n + r.val, by omega⟩ ≠ ⊥) : blockRow n hn r S v = attend (n + r.val) S v := by
  have hp : 0 < ∑ j, weight (n + r.val) S j := sum_weight_pos S ⟨n + r.val, by omega⟩ h h'
  unfold blockRow attend
  rw [← sum_weight n hn r S, ← sum_weight_mul n hn r S v]
  generalize (∑ j, weight (n + r.val) S j) = L at hp ⊢
  unfold Ideal.div
  simp only [if_neg (ne_of_gt hp)]
  rw [← sum_mul_of_nonneg _ _ _ (EReal.inv_nonneg_of_nonneg hp.le) (inv_ne_top L)]
  exact Finset.sum_congr rfl fun j _ => by rw [mul_comm (weight _ _ _), mul_assoc]

end

/-- The first block has no keys before it. -/
theorem blockRow_zero (hn : 0 + 256 ≤ 2048) (r : Fin 256) (S v : Fin 2048 → EReal) : blockRow 0 hn r S v
    = Ideal.div (∑ j : Fin 256, Ideal.exp (diag 0 hn r S j - Finset.univ.fold max ⊥ (diag 0 hn r S)) * v ⟨j.val, by omega⟩)
      (∑ j : Fin 256, Ideal.exp (diag 0 hn r S j - Finset.univ.fold max ⊥ (diag 0 hn r S))) := by
  have ht : blockTop 0 hn r S = Finset.univ.fold max ⊥ (diag 0 hn r S) := max_eq_left bot_le
  unfold blockRow
  rw [ht]
  simp only [Finset.univ_eq_empty, Finset.sum_empty, add_zero, Nat.zero_add]

end Cert.Attn
-- ==== Proof.Attn.Blocks.lean ====
/-
  Hand-written. What the attention call stores of one batch and head: at every row and column, the row of normalized
  weights over the scores.
-/
module

public import proofs.«01_k».proof.Proof.Attn.Softmax
public import proofs.«01_k».proof.Proof.Gen.Kernel3Ideal.Value
public import Idealize.ShloMosaic.Lib.Pipeline.ValueKit

@[expose] public section

set_option maxRecDepth 16384

noncomputable section

namespace Cert.Attn

open Cert.Kernel3Ideal Cert.Kernel3Ideal.Gen
open Idealize.ShloMosaic

/-- The score of a key for a query: the product of their rows. -/
def score (q k : S1x2048x256.Idx → EReal) (i j : Fin 2048) : EReal := ∑ d : Fin 256, q (ix3 0 i d) * k (ix3 0 j d)

/-- A column of the values. -/
def column (v : S1x2048x128.Idx → EReal) (c : Fin 128) (j : Fin 2048) : EReal := v (ix3 0 j c)

theorem mask_eq : Named.named (F := Ideal) (φ := .f32) κ "mask" 0xF149F2CA#32 = (⊥ : EReal) := rfl

theorem ofBits_neg_inf : Ideal.ofBits .f32 0xFF800000#32 = (⊥ : EReal) := by
  unfold Ideal.ofBits Ideal.ieee; rfl

theorem sle_small (x r : Fin 256) : (BitVec.ofNat 32 x.val).sle (BitVec.ofNat 32 r.val) = decide (x.val ≤ r.val) := by
  have hx : (BitVec.ofNat 32 x.val).toInt = (x.val : ℤ) := by
    have := x.isLt; rw [BitVec.toInt_eq_toNat_cond, BitVec.toNat_ofNat]; omega
  have hr : (BitVec.ofNat 32 r.val).toInt = (r.val : ℤ) := by
    have := r.isLt; rw [BitVec.toInt_eq_toNat_cond, BitVec.toNat_ofNat]; omega
  rw [BitVec.sle, hx, hr]
  exact decide_eq_decide.2 Int.ofNat_le

theorem select_sle (x r : Fin 256) (a b : EReal) :
    Scalar.select (IntOp.cmpi .sle (BitVec.ofNat 32 x.val) (BitVec.ofNat 32 r.val)) a b = if x.val ≤ r.val then a else b := by
  show Scalar.select (BitVec.ofBool ((BitVec.ofNat 32 x.val).sle (BitVec.ofNat 32 r.val))) a b = _
  rw [sle_small]
  by_cases h : x.val ≤ r.val
  · rw [if_pos h, decide_eq_true h]; rfl
  · rw [if_neg h, decide_eq_false h]; rfl

/-! ## The eight blocks of rows -/

theorem first_apply (x0 x1 : Vec Ideal S1x2048x256 .bf16) (x2 : Vec Ideal S1x2048x128 .bf16) (r : Fin 256) (c : Fin 128) :
    k0_pay3 (F := Ideal) (View.ld x0 r0_0) (View.ld x1 r0_0) (View.ld x2 r0_1) (ix3 0 r c)
      = blockRow 0 (by decide) r (score x0 x1 ⟨0 + r.val, by omega⟩) (column x2 c) := by
  rw [blockRow_zero]
  unfold k0_pay3 k0_pay2
  pointwise
  simp only [mask_eq, ofBits_neg_inf, select_sle]
  unfold diag score column
  simp only [Nat.zero_add]

theorem second_apply (x0 x1 : Vec Ideal S1x2048x256 .bf16) (x2 : Vec Ideal S1x2048x128 .bf16) (r : Fin 256) (c : Fin 128) :
    k0_pay6 (F := Ideal) (k0_pay45 x0 x1 x2) (k0_pay4 (View.ld x0 r0_2)) (k0_pay5 (View.ld x0 r0_2) (View.ld x1 r0_2)) (Named.named κ "mask" 0xF149F2CA#32) (View.ld x1 r0_0) (View.ld x2 r0_3) (View.ld x2 r0_1) (ix3 0 r c)
      = blockRow 256 (by decide) r (score x0 x1 ⟨256 + r.val, by omega⟩) (column x2 c) := by
  unfold k0_pay5 k0_pay4 k0_pay45 k0_pay2 k0_pay6
  pointwise
  simp only [mask_eq, ofBits_neg_inf, select_sle]
  rfl

theorem third_apply (x0 x1 : Vec Ideal S1x2048x256 .bf16) (x2 : Vec Ideal S1x2048x128 .bf16) (r : Fin 256) (c : Fin 128) :
    k0_pay8 (F := Ideal) (k0_pay7 (k0_pay45 x0 x1 x2) (View.ld x0 r0_4) (View.ld x1 r0_4) (View.ld x1 r0_5) (View.ld x2 r0_6) (View.ld x2 r0_7)) (ix3 0 r c)
      = blockRow 512 (by decide) r (score x0 x1 ⟨512 + r.val, by omega⟩) (column x2 c) := by
  unfold k0_pay45 k0_pay2 k0_pay7 k0_pay8
  pointwise
  simp only [mask_eq, ofBits_neg_inf, select_sle]
  rfl

theorem fourth_apply (x0 x1 : Vec Ideal S1x2048x256 .bf16) (x2 : Vec Ideal S1x2048x128 .bf16) (r : Fin 256) (c : Fin 128) :
    k0_pay18 (F := Ideal) (k0_pay14 (k0_pay45 x0 x1 x2) (View.ld x0 r0_8) (View.ld x1 r0_8) (View.ld x1 r0_9) (View.ld x2 r0_10)) (k0_pay16 (k0_pay45 x0 x1 x2) (View.ld x0 r0_8) (View.ld x1 r0_8) (View.ld x1 r0_9)) (k0_pay17 (k0_pay45 x0 x1 x2) (View.ld x0 r0_8) (View.ld x1 r0_8) (View.ld x1 r0_9)) (View.ld x2 r0_11) (ix3 0 r c)
      = blockRow 768 (by decide) r (score x0 x1 ⟨768 + r.val, by omega⟩) (column x2 c) := by
  unfold k0_pay17 k0_pay16 k0_pay15 k0_pay45 k0_pay2 k0_pay14 k0_pay13 k0_pay12 k0_pay11 k0_pay10 k0_pay9 k0_pay18
  pointwise
  simp only [mask_eq, ofBits_neg_inf, select_sle]
  rfl

theorem fifth_apply (x0 x1 : Vec Ideal S1x2048x256 .bf16) (x2 : Vec Ideal S1x2048x128 .bf16) (r : Fin 256) (c : Fin 128) :
    k0_pay27 (F := Ideal) (k0_pay24 (k0_pay45 x0 x1 x2) (View.ld x0 r0_12) (View.ld x1 r0_12) (View.ld x1 r0_13)) (k0_pay25 (k0_pay45 x0 x1 x2) (View.ld x0 r0_12) (View.ld x1 r0_12) (View.ld x1 r0_13) (View.ld x2 r0_14)) (k0_pay26 (k0_pay45 x0 x1 x2) (View.ld x0 r0_12) (View.ld x1 r0_12) (View.ld x1 r0_13)) (View.ld x2 r0_15) (ix3 0 r c)
      = blockRow 1024 (by decide) r (score x0 x1 ⟨1024 + r.val, by omega⟩) (column x2 c) := by
  unfold k0_pay26 k0_pay25 k0_pay45 k0_pay2 k0_pay24 k0_pay23 k0_pay22 k0_pay21 k0_pay20 k0_pay19 k0_pay27
  pointwise
  simp only [mask_eq, ofBits_neg_inf, select_sle]
  rfl

theorem sixth_apply (x0 x1 : Vec Ideal S1x2048x256 .bf16) (x2 : Vec Ideal S1x2048x128 .bf16) (r : Fin 256) (c : Fin 128) :
    k0_pay35 (F := Ideal) (k0_pay30 (View.ld x0 r0_16) (View.ld x1 r0_17)) (k0_pay31 (k0_pay45 x0 x1 x2) (View.ld x0 r0_16) (View.ld x1 r0_16) (View.ld x1 r0_17)) (k0_pay33 (k0_pay45 x0 x1 x2) (View.ld x0 r0_16) (View.ld x1 r0_16) (View.ld x1 r0_17)) (k0_pay34 (k0_pay45 x0 x1 x2) (View.ld x0 r0_16) (View.ld x1 r0_16) (View.ld x1 r0_17)) (View.ld x2 r0_18) (View.ld x2 r0_19) (ix3 0 r c)
      = blockRow 1280 (by decide) r (score x0 x1 ⟨1280 + r.val, by omega⟩) (column x2 c) := by
  unfold k0_pay34 k0_pay33 k0_pay32 k0_pay45 k0_pay2 k0_pay31 k0_pay29 k0_pay30 k0_pay28 k0_pay35
  pointwise
  simp only [mask_eq, ofBits_neg_inf, select_sle]
  rfl

theorem seventh_apply (x0 x1 : Vec Ideal S1x2048x256 .bf16) (x2 : Vec Ideal S1x2048x128 .bf16) (r : Fin 256) (c : Fin 128) :
    k0_pay41 (F := Ideal) (k0_pay37 (k0_pay45 x0 x1 x2) (View.ld x0 r0_20) (View.ld x1 r0_20)) (k0_pay38 (k0_pay45 x0 x1 x2) (View.ld x0 r0_20) (View.ld x1 r0_20)) (k0_pay39 (View.ld x0 r0_20) (View.ld x1 r0_21)) (k0_pay40 (View.ld x0 r0_20) (View.ld x1 r0_21)) (View.ld x2 r0_22) (View.ld x2 r0_23) (ix3 0 r c)
      = blockRow 1536 (by decide) r (score x0 x1 ⟨1536 + r.val, by omega⟩) (column x2 c) := by
  unfold k0_pay40 k0_pay39 k0_pay38 k0_pay45 k0_pay2 k0_pay37 k0_pay36 k0_pay41
  pointwise
  simp only [mask_eq, ofBits_neg_inf, select_sle]
  rfl

theorem eighth_apply (x0 x1 : Vec Ideal S1x2048x256 .bf16) (x2 : Vec Ideal S1x2048x128 .bf16) (r : Fin 256) (c : Fin 128) :
    k0_pay1 (F := Ideal) (k0_pay42 (View.ld x0 r0_24)) (k0_pay43 (k0_pay45 x0 x1 x2) (View.ld x0 r0_24) (View.ld x1 r0_24)) (k0_pay44 (k0_pay45 x0 x1 x2) (View.ld x0 r0_24) (View.ld x1 r0_24)) (View.ld x1 r0_25) (View.ld x2 r0_26) (View.ld x2 r0_27) (ix3 0 r c)
      = blockRow 1792 (by decide) r (score x0 x1 ⟨1792 + r.val, by omega⟩) (column x2 c) := by
  unfold k0_pay44 k0_pay45 k0_pay2 k0_pay43 k0_pay42 k0_pay1
  pointwise
  simp only [mask_eq, ofBits_neg_inf, select_sle]
  rfl

/-- A block's row at an index of the whole. -/
theorem block_eq (n : ℕ) (hn : n + 256 ≤ 2048) (x0 x1 : Vec Ideal S1x2048x256 .bf16) (x2 : Vec Ideal S1x2048x128 .bf16)
    (i : Fin 2048) (c : Fin 128) (p : Vec Ideal S1x256x128 .bf16)
    (hp : ∀ (r : Fin 256) (c : Fin 128), p (ix3 0 r c) = blockRow n hn r (score x0 x1 ⟨n + r.val, by omega⟩) (column x2 c))
    (x : S1x256x128.Idx) (h0 : ((ix3 (0 : Fin 1) i c : S1x2048x128.Idx) 0).val = (x 0).val)
    (h1 : ((ix3 (0 : Fin 1) i c : S1x2048x128.Idx) 1).val = n + (x 1).val)
    (h2 : ((ix3 (0 : Fin 1) i c : S1x2048x128.Idx) 2).val = (x 2).val)
    (h : ∀ j, score x0 x1 i j ≠ ⊤) (h' : score x0 x1 i i ≠ ⊥) :
    p x = attend i.val (score x0 x1 i) (column x2 c) := by
  have hi : i.val = n + (x 1).val := h1
  have hc : c = x 2 := Fin.ext h2
  have hr : (x 1).val < 256 := (x 1).isLt
  have ei : i = ⟨n + (x 1).val, by omega⟩ := Fin.ext hi
  have ex : x = ix3 0 (x 1) (x 2) := funext fun ax : Fin 3 => match ax with
    | 0 => Fin.ext (Nat.lt_one_iff.1 (x 0).isLt)
    | 1 => rfl
    | 2 => rfl
  subst hc
  refine (congrArg p ex).trans ((hp (x 1) (x 2)).trans ?_)
  have key := blockRow_eq n hn (x 1) (score x0 x1 i) (column x2 (x 2)) h (by rw [← ei]; exact h')
  rw [← ei, key, hi]

/-! ## The call's whole block -/

/-- At every row and column the call's block is the row of normalized weights over the scores: where no score is plus
    infinity, and a query's score of its own key isn't minus infinity. -/
theorem out_apply (x0 x1 : Vec Ideal S1x2048x256 .bf16) (x2 : Vec Ideal S1x2048x128 .bf16) (i : Fin 2048) (c : Fin 128)
    (ht : ∀ j, score x0 x1 i j ≠ ⊤) (hb : score x0 x1 i i ≠ ⊥) :
    out0_3 (F := Ideal) x0 x1 x2 (ix3 0 i c) = attend i.val (score x0 x1 i) (column x2 c) := by
  unfold out0_3
  canon_tiles x h
  case piece0 =>
    exact block_eq 1792 (by decide) x0 x1 x2 i c _ (eighth_apply x0 x1 x2) x h0 h1 h2 ht hb
  case piece1 =>
    exact block_eq 1536 (by decide) x0 x1 x2 i c _ (seventh_apply x0 x1 x2) x h0 h1 h2 ht hb
  case piece2 =>
    exact block_eq 1280 (by decide) x0 x1 x2 i c _ (sixth_apply x0 x1 x2) x h0 h1 h2 ht hb
  case piece3 =>
    exact block_eq 1024 (by decide) x0 x1 x2 i c _ (fifth_apply x0 x1 x2) x h0 h1 h2 ht hb
  case piece4 =>
    exact block_eq 768 (by decide) x0 x1 x2 i c _ (fourth_apply x0 x1 x2) x h0 h1 h2 ht hb
  case piece5 =>
    exact block_eq 512 (by decide) x0 x1 x2 i c _ (third_apply x0 x1 x2) x h0 h1 h2 ht hb
  case piece6 =>
    exact block_eq 256 (by decide) x0 x1 x2 i c _ (second_apply x0 x1 x2) x h0 h1 h2 ht hb
  case piece7 =>
    exact block_eq 0 (by decide) x0 x1 x2 i c _ (first_apply x0 x1 x2) x h0 (h1.trans (Nat.zero_add _).symm) h2 ht hb

end Cert.Attn
-- ==== Proof.Attn.Value.lean ====
/-
  Hand-written. The attention call at the ideal values: each grid point is a batch and a head, whose rows it reads from the
  arguments, and the blocks lie side by side in the result.
-/
module

public import proofs.«01_k».proof.Proof.Attn.Blocks
public import Idealize.ShloMosaic.Lib.Claim

@[expose] public section

set_option maxRecDepth 16384

noncomputable section

namespace Cert.Attn

open Idealize.ShloMosaic

/-! ## The result, of the arguments -/

/-- A token's row: its batch's rows lie together. -/
def token (b : Fin 8) (i : Fin 2048) : Fin 16384 := ⟨b.val * 2048 + i.val, by omega⟩

/-- A head's coordinate among all heads'. -/
def place (h : Fin 8) (d : Fin 256) : Fin 2048 := ⟨h.val * 256 + d.val, by omega⟩

/-- The score of a key for a query, of one batch and one head. -/
def scores (q k : (⟨2, ![16384, 2048]⟩ : Shape).Idx → EReal) (b h : Fin 8) (i j : Fin 2048) : EReal :=
  ∑ d : Fin 256, q (ix2 (token b i) (place h d)) * k (ix2 (token b j) (place h d))

/-- The head of a result's column. -/
def headOf (e : Fin 1024) : Fin 8 := ⟨e.val / 128, by omega⟩

/-- The attention's result. -/
def result (q k : (⟨2, ![16384, 2048]⟩ : Shape).Idx → EReal) (v : (⟨2, ![16384, 1024]⟩ : Shape).Idx → EReal)
    (y : (⟨3, ![8, 2048, 1024]⟩ : Shape).Idx) : EReal :=
  attend (y 1).val (scores q k (y 0) (headOf (y 2)) (y 1)) fun j => v (ix2 (token (y 0) j) (y 2))

end Cert.Attn

namespace Cert.Kernel3Ideal.Attn

open Cert.Kernel3Ideal Cert.Kernel3Ideal.Gen
open Idealize.ShloMosaic Idealize.ShloMosaic.TcCoe
open Cert.Attn

/-! ## Where a grid point reads and writes -/

/-- A grid point's batch. -/
def batch (t : Fin cfg0.N) : Fin 8 := (grid0.coords t) 0
/-- A grid point's head. -/
def head (t : Fin cfg0.N) : Fin 8 := (grid0.coords t) 1

theorem index_0 : ∀ t : Fin cfg0.N, win0_0.index t = ![(batch t).val, 0, (head t).val] := (by decide +kernel : ∀ t : Fin grid0.N, _)
theorem index_1 : ∀ t : Fin cfg0.N, win0_1.index t = ![(batch t).val, 0, (head t).val] := (by decide +kernel : ∀ t : Fin grid0.N, _)
theorem index_2 : ∀ t : Fin cfg0.N, win0_2.index t = ![(batch t).val, 0, (head t).val] := (by decide +kernel : ∀ t : Fin grid0.N, _)
theorem index_3 : ∀ t : Fin cfg0.N, win0_3.index t = ![(batch t).val, 0, (head t).val] := (by decide +kernel : ∀ t : Fin grid0.N, _)

variable (m : (ℓ : Loc nD τ sig) → Buf (Elt Ideal) ℓ)

/-! ## The blocks read -/

theorem cast_wide (x : S16384x2048.Idx → EReal) (b : Fin 8) (i : Fin 2048) (e : Fin 2048) :
    shapeCast S8x2048x2048 x shapeCasts_S16384x2048_S8x2048x2048 (ix3 b i e) = x (ix2 (token b i) e) := by
  pointwise
  rfl

theorem cast_narrow (x : S16384x1024.Idx → EReal) (b : Fin 8) (i : Fin 2048) (e : Fin 1024) :
    shapeCast S8x2048x1024 x shapeCasts_S16384x1024_S8x2048x1024 (ix3 b i e) = x (ix2 (token b i) e) := by
  pointwise
  rfl

theorem queries_apply (c : Dev nD) (t : Fin cfg0.N) (i : Fin 2048) (d : Fin 256) :
    (iblk m c 0 t : S1x2048x256.Idx → EReal) (ix3 0 i d) = m (c.tc.loc main_arg0) (ix2 (token (batch t) i) (place (head t) d)) := by
  have e : ((win0_0.blk t).view.emb (ix3 0 i d) : S8x2048x2048.Idx) = ix3 (batch t) i (place (head t) d) := by
    blk_ext [index_0 t, place]
  blk_simp [iblk]
  entry_read
  exact (congrArg _ e).trans (cast_wide _ _ _ _)

theorem keys_apply (c : Dev nD) (t : Fin cfg0.N) (i : Fin 2048) (d : Fin 256) :
    (iblk m c 1 t : S1x2048x256.Idx → EReal) (ix3 0 i d) = m (c.tc.loc main_arg1) (ix2 (token (batch t) i) (place (head t) d)) := by
  have e : ((win0_1.blk t).view.emb (ix3 0 i d) : S8x2048x2048.Idx) = ix3 (batch t) i (place (head t) d) := by
    blk_ext [index_1 t, place]
  blk_simp [iblk]
  entry_read
  exact (congrArg _ e).trans (cast_wide _ _ _ _)

theorem values_apply (c : Dev nD) (t : Fin cfg0.N) (i : Fin 2048) (d : Fin 128) :
    (iblk m c 2 t : S1x2048x128.Idx → EReal) (ix3 0 i d) = m (c.tc.loc main_arg2) (ix2 (token (batch t) i) ⟨(head t).val * 128 + d.val, by omega⟩) := by
  have e : ((win0_2.blk t).view.emb (ix3 0 i d) : S8x2048x1024.Idx) = ix3 (batch t) i ⟨(head t).val * 128 + d.val, by omega⟩ := by
    blk_ext [index_2 t]
  blk_simp [iblk]
  entry_read
  exact (congrArg _ e).trans (cast_narrow _ _ _ _)

theorem score_iblk (c : Dev nD) (t : Fin cfg0.N) (i : Fin 2048) :
    score (iblk m c 0 t) (iblk m c 1 t) i = scores (m (c.tc.loc main_arg0)) (m (c.tc.loc main_arg1)) (batch t) (head t) i :=
  funext fun j => Finset.sum_congr rfl fun d _ => congrArg₂ (· * ·) (queries_apply m c t i d) (keys_apply m c t j d)

/-! ## The result array -/

theorem emb_3 (t : Fin cfg0.N) (i : Fin 2048) (d : Fin 128) :
    ((win0_3.blk t).view.emb (ix3 0 i d) : S8x2048x1024.Idx) = ix3 (batch t) i ⟨(head t).val * 128 + d.val, by omega⟩ := by
  blk_ext [index_3 t]

theorem block_apply (c : Dev nD) (t : Fin cfg0.N) (i : Fin 2048) (d : Fin 128)
    (ht : ∀ b h i j, scores (m (c.tc.loc main_arg0)) (m (c.tc.loc main_arg1)) b h i j ≠ ⊤)
    (hb : ∀ b h i j, scores (m (c.tc.loc main_arg0)) (m (c.tc.loc main_arg1)) b h i j ≠ ⊥) :
    out0_3 (F := Ideal) (iblk m c 0 t) (iblk m c 1 t) (iblk m c 2 t) (ix3 0 i d)
      = result (m (c.tc.loc main_arg0)) (m (c.tc.loc main_arg1)) (m (c.tc.loc main_arg2)) (ix3 (batch t) i ⟨(head t).val * 128 + d.val, by omega⟩) := by
  have hd : headOf ⟨(head t).val * 128 + d.val, by omega⟩ = head t := Fin.ext (by
    show ((head t).val * 128 + d.val) / 128 = (head t).val; omega)
  rw [out_apply _ _ _ i d (by rw [score_iblk]; exact ht _ _ _) (by rw [score_iblk]; exact hb _ _ _ _), score_iblk]
  show _ = attend i.val (scores _ _ (batch t) (headOf ⟨(head t).val * 128 + d.val, _⟩) i) _
  rw [hd]
  exact congrArg (attend _ _) (funext fun j => values_apply m c t j d)

/-- The call's result array, where every score is a real number. -/
theorem array (c : Dev nD) (ht : ∀ b h i j, scores (m (c.tc.loc main_arg0)) (m (c.tc.loc main_arg1)) b h i j ≠ ⊤)
    (hb : ∀ b h i j, scores (m (c.tc.loc main_arg0)) (m (c.tc.loc main_arg1)) b h i j ≠ ⊥) :
    (dats m 0 c).arrAt 3 cfg0.N = result (m (c.tc.loc main_arg0)) (m (c.tc.loc main_arg1)) (m (c.tc.loc main_arg2)) := by
  refine (dats m 0 c).arrAt_eq_of_covers 3 _ (by decide +kernel) fun t hf (y : S1x2048x128.Idx) => ?_
  have hy : y = ix3 0 (y 1) (y 2) := funext fun ax : Fin 3 => match ax with
    | 0 => Fin.ext (Nat.lt_one_iff.1 (y 0).isLt)
    | 1 => rfl
    | 2 => rfl
  blk_simp
  rw [after0_3]
  refine (congrArg (out0_3 (F := Ideal) _ _ _) hy).trans ((block_apply m c t (y 1) (y 2) ht hb).trans ?_)
  exact congrArg (result _ _ _) ((congrArg (win0_3.blk t).view.emb hy).trans (emb_3 t (y 1) (y 2))).symm

end Cert.Kernel3Ideal.Attn
-- ==== Proof.Attn.Finite.lean ====
/-
  Hand-written. Queries and keys that are real numbers have scores that are.
-/
module

public import proofs.«01_k».proof.Proof.Attn.Value
public import proofs.«01_k».proof.Pre_finite_scores
public import proofs.«01_k».proof.Proof.Gen.Pre_finite_scores

@[expose] public section

set_option maxRecDepth 16384

noncomputable section

namespace Cert.Attn

open Idealize.ShloMosaic

/-- Every entry is a real number. -/
def AllReal (x : (⟨2, ![16384, 2048]⟩ : Shape).Idx → EReal) : Prop := ∀ i, x i ≠ ⊤ ∧ x i ≠ ⊥

/-- A conjunction that holds holds of each of its members. -/
theorem all_of_fold {ι : Type} (f : ι → BitVec 1) (s : Finset ι) (h : s.fold IntOp.andi 1#1 f = 1#1) (i : ι) (hi : i ∈ s) : f i = 1#1 := by
  classical
  have hb : ∀ u v : BitVec 1, IntOp.andi u v = 1#1 → u = 1#1 := by decide
  rw [← Finset.insert_erase hi, Finset.fold_insert (Finset.notMem_erase i s)] at h
  exact hb _ _ h

/-- The bound the precondition compares with is infinity. -/
theorem ofBits_inf : Ideal.ofBits .bf16 0x7F80#16 = (⊤ : EReal) := by
  unfold Ideal.ofBits Ideal.ieee; rfl

/-- What lies below infinity in absolute value is a real number. -/
theorem real_of_lt (x : EReal) (h : BitVec.ofBool (decide (max x (-x) < Ideal.ofBits .bf16 0x7F80#16)) = 1#1) : x ≠ ⊤ ∧ x ≠ ⊥ := by
  rw [ofBits_inf] at h
  have h' : max x (-x) < ⊤ := by
    by_contra hn
    rw [decide_eq_false hn] at h
    exact absurd h (by decide)
  refine ⟨fun e => ?_, fun e => ?_⟩
  · rw [e] at h'; exact absurd h' (not_lt_of_ge (le_max_left _ _))
  · rw [e, EReal.neg_bot] at h'; exact absurd h' (not_lt_of_ge (le_max_right _ _))

open Cert.Pre_finite_scores in
/-- What the precondition says of the queries and the keys. -/
theorem real_of_pre (q k : FVec Ideal S16384x2048 .bf16) (v : FVec Ideal S16384x1024 .bf16)
    (h : Cert.Pre_finite_scores.fn (F := Ideal) q k v = fun _ => 1#1) : AllReal q ∧ AllReal k := by
  have h1 := congrFun h ix0
  unfold Cert.Pre_finite_scores.fn at h1
  have hb : ∀ u v : BitVec 1, IntOp.andi u v = 1#1 → u = 1#1 ∧ v = 1#1 := by decide
  have h2 := hb _ _ h1
  have hq := h2.1
  have hk := h2.2
  change Host.reduce IntOp.andi _ _ _ _ ix0 = 1#1 at hq
  change Host.reduce IntOp.andi _ _ _ _ ix0 = 1#1 at hk
  rw [Host.reduce_eq_fold] at hq hk
  refine ⟨fun i => ?_, fun i => ?_⟩
  · exact real_of_lt _ (all_of_fold _ _ hq i (Finset.mem_filter.2 ⟨Finset.mem_univ _, funext fun b => b.elim0⟩))
  · exact real_of_lt _ (all_of_fold _ _ hk i (Finset.mem_filter.2 ⟨Finset.mem_univ _, funext fun b => b.elim0⟩))

/-- The real numbers' sum, read among the extended ones. -/
theorem coe_sum {n : ℕ} (f : Fin n → ℝ) : ((∑ d, f d : ℝ) : EReal) = ∑ d, (f d : EReal) :=
  map_sum (⟨⟨fun x : ℝ => (x : EReal), EReal.coe_zero⟩, EReal.coe_add⟩ : ℝ →+ EReal) f Finset.univ

/-- A sum of products of real numbers is a real number. -/
theorem sum_real {n : ℕ} (a b : Fin n → EReal) (ha : ∀ d, a d ≠ ⊤ ∧ a d ≠ ⊥) (hb : ∀ d, b d ≠ ⊤ ∧ b d ≠ ⊥) :
    (∑ d, a d * b d) ≠ ⊤ ∧ (∑ d, a d * b d) ≠ ⊥ := by
  have e : (∑ d, a d * b d) = ((∑ d, (a d).toReal * (b d).toReal : ℝ) : EReal) := by
    rw [coe_sum]
    refine Finset.sum_congr rfl fun d _ => ?_
    rw [EReal.coe_mul, EReal.coe_toReal (ha d).1 (ha d).2, EReal.coe_toReal (hb d).1 (hb d).2]
  rw [e]
  exact ⟨EReal.coe_ne_top _, EReal.coe_ne_bot _⟩

/-- The scores of real queries and keys are real numbers. -/
theorem scores_real (q k : (⟨2, ![16384, 2048]⟩ : Shape).Idx → EReal) (hq : AllReal q) (hk : AllReal k) (b h : Fin 8) (i j : Fin 2048) :
    scores q k b h i j ≠ ⊤ ∧ scores q k b h i j ≠ ⊥ :=
  sum_real _ _ (fun _ => hq _) (fun _ => hk _)

end Cert.Attn
-- ==== Proof.Attn.Ref.lean ====
/-
  Hand-written. The reference of the attention call, read entry by entry: the same row of normalized weights over the
  scores.
-/
module

public import proofs.«01_k».proof.Proof.Attn.Value
public import proofs.«01_k».proof.Proof.Gen.Reference3Ideal.Run

@[expose] public section

set_option maxRecDepth 16384

noncomputable section

namespace Cert.Reference3Ideal.Attn

open Cert.Reference3Ideal Cert.Reference3Ideal.Gen
open Idealize.ShloMosaic
open Cert.Attn

/-! ## A row's greatest entry and its sum -/

theorem reduce_max_apply {n0 n1 n2 n3 : ℕ} (x : (⟨4, ![n0, n1, n2, n3]⟩ : Shape).Idx → EReal) (init : (⟨0, ![]⟩ : Shape).Idx → EReal) (z : EReal) (hz : init ix0 = z)
    (r : (⟨4, ![n0, n1, n2, n3]⟩ : Shape).ReducesTo [3] ⟨3, ![n0, n1, n2]⟩) (hu : 0 < (⟨0, ![]⟩ : Shape).numel) (b : Fin n0) (h : Fin n1) (i : Fin n2) :
    Host.reduce (FloatOps.maximumf (F := Ideal) (φ := .f32)) x init r hu (ix3 b h i) = Finset.univ.fold max z fun k => x (ix4 b h i k) := by
  have hf : init (Shape.Idx.first hu) = z := (congrArg init (Subsingleton.elim _ _)).trans hz
  rw [Host.reduce_eq_fold, hf]
  exact Shape.ReducesTo.fold_fiber_r4_a3 r (ix3 b h i) _ _ _

theorem reduce_sum_apply {n0 n1 n2 n3 : ℕ} (x : (⟨4, ![n0, n1, n2, n3]⟩ : Shape).Idx → EReal) (init : (⟨0, ![]⟩ : Shape).Idx → EReal)
    (r : (⟨4, ![n0, n1, n2, n3]⟩ : Shape).ReducesTo [3] ⟨3, ![n0, n1, n2]⟩) (hu : 0 < (⟨0, ![]⟩ : Shape).numel) (b : Fin n0) (h : Fin n1) (i : Fin n2) :
    Host.reduceAdd (F := Ideal) (φ := .f32) x init r hu (ix3 b h i) = init (Shape.Idx.first hu) + ∑ k, x (ix4 b h i k) :=
  Ideal.hostReduceAdd_r4_a3 r x _ (ix3 b h i)

/-! ## The reference's steps -/

/-- Which keys a query sees. -/
def sees : S2048x2048.Idx → BitVec 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

theorem sle_small (x r : Fin 2048) : (BitVec.ofNat 32 x.val).sle (BitVec.ofNat 32 r.val) = decide (x.val ≤ r.val) := by
  have hx : (BitVec.ofNat 32 x.val).toInt = (x.val : ℤ) := by
    have := x.isLt; rw [BitVec.toInt_eq_toNat_cond, BitVec.toNat_ofNat]; omega
  have hr : (BitVec.ofNat 32 r.val).toInt = (r.val : ℤ) := by
    have := r.isLt; rw [BitVec.toInt_eq_toNat_cond, BitVec.toNat_ofNat]; omega
  rw [BitVec.sle, hx, hr]
  exact decide_eq_decide.2 Int.ofNat_le

theorem sees_apply (i j : Fin 2048) : sees (ix2 i j) = BitVec.ofBool (decide (j.val ≤ i.val)) := by
  unfold sees
  pointwise
  show BitVec.ofBool ((BitVec.ofNat 32 j.val).sle (BitVec.ofNat 32 i.val)) = _
  rw [sle_small]

/-- All scores. -/
def products (q k : S16384x2048.Idx → EReal) : S8x8x2048x2048.Idx → EReal :=
  Host.dotGeneral (F := Ideal) (φ₁ := .f32) (φ₂ := .f32) dot_S8x2048x8x256_S8x2048x8x256_S8x8x2048x2048_3_3_1_1_02_02 none (shapeCast _ q shapeCasts_S16384x2048_S8x2048x8x256) (shapeCast _ k shapeCasts_S16384x2048_S8x2048x8x256)

theorem products_apply (q k : S16384x2048.Idx → EReal) (b h : Fin 8) (i j : Fin 2048) : products q k (ix4 b h i j) = scores q k b h i j := by
  unfold products
  pointwise
  rfl

/-- The scores of the keys a query sees, minus infinity for the others. -/
def masked (s : S2048x2048.Idx → BitVec 1) (x : S8x8x2048x2048.Idx → EReal) : S8x8x2048x2048.Idx → EReal :=
  select (broadcastInDim S8x8x2048x2048 ![2, 3] bcast_S2048x2048_S8x8x2048x2048_2_3 s) x (broadcastInDim S8x8x2048x2048 ![] bcast_S_S8x8x2048x2048 (constant (F := Ideal) S_ .f32 0xFF800000#32))

theorem masked_apply (x : S8x8x2048x2048.Idx → EReal) (b h : Fin 8) (i j : Fin 2048) :
    masked sees x (ix4 b h i j) = if j.val ≤ i.val then x (ix4 b h i j) else ⊥ := by
  have hs := sees_apply i j
  generalize sees = s at hs
  unfold masked
  pointwise
  rw [hs, ofBits_neg_inf]
  by_cases h : j.val ≤ i.val
  · rw [if_pos h, decide_eq_true h]; rfl
  · rw [if_neg h, decide_eq_false h]; rfl

/-- Each row's greatest entry. -/
def largest (x : S8x8x2048x2048.Idx → EReal) : S8x8x2048.Idx → EReal :=
  maximumf (F := Ideal) (φ := .f32) (broadcastInDim S8x8x2048 ![] bcast_S_S8x8x2048 (constant S_ .f32 0xFF800000#32)) (Host.reduce FloatOps.maximumf x (constant S_ .f32 0xFF800000#32) reducesTo_S8x8x2048x2048_S8x8x2048_d3 h_S_)

theorem maximumf_apply {t : Shape} (A B : t.Idx → EReal) (j : t.Idx) : maximumf (F := Ideal) (φ := .f32) A B j = max (A j) (B j) := rfl

theorem bottom_apply (j : S8x8x2048.Idx) : broadcastInDim S8x8x2048 ![] bcast_S_S8x8x2048 (constant (F := Ideal) S_ .f32 0xFF800000#32) j = (⊥ : EReal) := ofBits_neg_inf

theorem row_apply (x : S8x8x2048x2048.Idx → EReal) (b h : Fin 8) (i : Fin 2048) :
    Host.reduce (FloatOps.maximumf (F := Ideal) (φ := .f32)) x (constant (F := Ideal) S_ .f32 0xFF800000#32) reducesTo_S8x8x2048x2048_S8x8x2048_d3 h_S_ (ix3 b h i)
      = Finset.univ.fold max ⊥ fun j => x (ix4 b h i j) :=
  reduce_max_apply x (constant (F := Ideal) S_ .f32 0xFF800000#32) ⊥ ofBits_neg_inf reducesTo_S8x8x2048x2048_S8x8x2048_d3 h_S_ b h i

theorem largest_apply (x : S8x8x2048x2048.Idx → EReal) (b h : Fin 8) (i : Fin 2048) :
    largest x (ix3 b h i) = Finset.univ.fold max ⊥ fun j => x (ix4 b h i j) :=
  (maximumf_apply _ _ _).trans ((congrArg₂ max (bottom_apply _) (row_apply x b h i)).trans (max_eq_right bot_le))

/-- Along each row. -/
def along (x : S8x8x2048.Idx → EReal) : S8x8x2048x2048.Idx → EReal :=
  broadcastInDim S8x8x2048x2048 ![0, 1, 2, 3] bcast_S8x8x2048x1_S8x8x2048x2048_0_1_2_3 (broadcastInDim S8x8x2048x1 ![0, 1, 2] bcast_S8x8x2048_S8x8x2048x1_0_1_2 x)

theorem along_apply (x : S8x8x2048.Idx → EReal) (b h : Fin 8) (i j : Fin 2048) : along x (ix4 b h i j) = x (ix3 b h i) := by
  unfold along
  pointwise

/-- Each row's sum. -/
def total (x : S8x8x2048x2048.Idx → EReal) : S8x8x2048.Idx → EReal :=
  Host.reduceAdd (F := Ideal) (φ := .f32) x (constant S_ .f32 0x00000000#32) reducesTo_S8x8x2048x2048_S8x8x2048_d3 h_S_

theorem total_apply (x : S8x8x2048x2048.Idx → EReal) (b h : Fin 8) (i : Fin 2048) : total x (ix3 b h i) = ∑ j, x (ix4 b h i j) := by
  refine (reduce_sum_apply x _ reducesTo_S8x8x2048x2048_S8x8x2048_d3 h_S_ b h i).trans ?_
  refine (congrArg (· + _) (?_ : _ = (0 : EReal))).trans (zero_add _)
  show Ideal.ofBits .f32 0x00000000#32 = 0
  unfold Ideal.ofBits Ideal.ieee; simp

/-- The weights before they are divided. -/
def raw (x : S8x8x2048x2048.Idx → EReal) : S8x8x2048x2048.Idx → EReal :=
  Host.exp (F := Ideal) (φ := .f32) (subf (F := Ideal) (φ := .f32) x (along (largest x)))

theorem raw_apply (x : S8x8x2048x2048.Idx → EReal) (b h : Fin 8) (i j : Fin 2048) :
    raw x (ix4 b h i j) = Ideal.exp (x (ix4 b h i j) - Finset.univ.fold max ⊥ fun j => x (ix4 b h i j)) := by
  have e := (along_apply (largest x) b h i j).trans (largest_apply x b h i)
  unfold raw
  generalize along (largest x) = L at e ⊢
  pointwise
  rw [e]

/-- The normalized weights. -/
def weights (w : S8x8x2048x2048.Idx → EReal) : S8x8x2048x2048.Idx → EReal :=
  Host.divf (F := Ideal) (φ := .f32) w (along (total w))

theorem weights_apply (w : S8x8x2048x2048.Idx → EReal) (b h : Fin 8) (i j : Fin 2048) :
    weights w (ix4 b h i j) = Ideal.div (w (ix4 b h i j)) (∑ j, w (ix4 b h i j)) := by
  have e := (along_apply (total w) b h i j).trans (total_apply w b h i)
  unfold weights
  generalize along (total w) = L at e ⊢
  pointwise
  rw [e]

/-- The values under the weights, each head's columns beside the next's. -/
def blend (p : S8x8x2048x2048.Idx → EReal) (v : S16384x1024.Idx → EReal) : S8x2048x1024.Idx → EReal :=
  shapeCast _ (transpose S8x2048x8x128 [0, 3, 1, 2] (Host.dotGeneral (F := Ideal) (φ₁ := .f32) (φ₂ := .f32) dot_S8x2048x8x128_S8x8x2048x2048_S8x8x128x2048_1_3_3_2_02_01 none (shapeCast _ v shapeCasts_S16384x1024_S8x2048x8x128) p) transposes_S8x8x128x2048_S8x2048x8x128_0_3_1_2) shapeCasts_S8x2048x8x128_S8x2048x1024

theorem blend_apply (p : S8x8x2048x2048.Idx → EReal) (v : S16384x1024.Idx → EReal) (b : Fin 8) (i : Fin 2048) (e : Fin 1024) :
    blend p v (ix3 b i e) = ∑ j, v (ix2 (token b j) e) * p (ix4 b (headOf e) i j) := by
  unfold blend
  pointwise
  rfl

/-- The reference's result, of its arguments. -/
def term (q k : S16384x2048.Idx → EReal) (v : S16384x1024.Idx → EReal) : S8x2048x1024.Idx → EReal :=
  blend (weights (raw (masked sees (products q k)))) v

theorem term_apply (q k : S16384x2048.Idx → EReal) (v : S16384x1024.Idx → EReal) (b : Fin 8) (i : Fin 2048) (e : Fin 1024) :
    term q k v (ix3 b i e) = result q k v (ix3 b i e) := by
  have hm : ∀ j, masked sees (products q k) (ix4 b (headOf e) i j) = seen i.val (scores q k b (headOf e) i) j := fun j => by
    rw [masked_apply, products_apply]; rfl
  have hr : ∀ j, raw (masked sees (products q k)) (ix4 b (headOf e) i j) = weight i.val (scores q k b (headOf e) i) j := fun j => by
    rw [raw_apply]
    simp only [hm]
    rfl
  unfold term
  rw [blend_apply]
  simp only [weights_apply, hr]
  rfl

theorem term_eq (q k : S16384x2048.Idx → EReal) (v : S16384x1024.Idx → EReal) : term q k v = result q k v := by
  refine funext fun y => ?_
  have hy : y = ix3 (y 0) (y 1) (y 2) := funext fun ax : Fin 3 => match ax with | 0 => rfl | 1 => rfl | 2 => rfl
  exact (congrArg (term q k v) hy).trans ((term_apply q k v (y 0) (y 1) (y 2)).trans (congrArg (result q k v) hy.symm))

end Cert.Reference3Ideal.Attn
-- ==== Proof.Attn.Claims.lean ====
/-
  Hand-written. The claims of the attention call: its runs end with every argument as it was, and at the ideal values with
  the reference's result.
-/
module

public import proofs.«01_k».proof.Defs
public import proofs.«01_k».proof.Proof.Attn.Finite
public import proofs.«01_k».proof.Proof.Attn.Ref
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3
public import proofs.«01_k».proof.Proof.Gen.Reference3.Run
public import proofs.«01_k».proof.Proof.Gen.Reference3Ideal
public import proofs.«01_k».proof.Proof.Gen.Reference3Ideal.Run
public import proofs.«01_k».proof.Proof.Gen.Pre_finite_scores
public import Idealize.ShloMosaic.Lib.Quiescent

@[expose] public section

set_option maxRecDepth 16384

noncomputable section

namespace Cert.Attn

open Idealize.ShloMosaic Idealize.ShloMosaic.TcCoe Idealize.SL.Sem

theorem frame_kernel : Cert.quiescent_Kernel3 := fun m ρ _ => Cert.Kernel3.Gen.frame (F := Bits) m ρ

theorem frame_kernelIdeal : Cert.quiescent_Kernel3Ideal := fun m ρ _ => Cert.Kernel3Ideal.Gen.frame (F := Ideal) m ρ

theorem frame_reference : Cert.quiescent_Reference3 := fun m ρ _ =>
  (θ_run (Cert.Reference3.defs (F := Bits)) _ _).mono (fun r h => ⟨fun c => (h c).2, sem_eq_zero_of_no_sems rfl r.2⟩) (Cert.Reference3.Value.run (F := Bits) m ρ)

theorem frame_referenceIdeal : Cert.quiescent_Reference3Ideal := fun m ρ _ =>
  (θ_run (Cert.Reference3Ideal.defs (F := Ideal)) _ _).mono (fun r h => ⟨fun c => (h c).2, sem_eq_zero_of_no_sems rfl r.2⟩)
    (Cert.Reference3Ideal.Value.run (F := Ideal) m ρ)

theorem preserves : Cert.preserves_Kernel3_Kernel3Ideal := IdealRules.named_const.statement _ _ _ _ _ rfl

/-- The reference's run ends with its term of the arguments. -/
theorem reference_value (m : (ℓ : Loc Cert.Reference3Ideal.nD Cert.Reference3Ideal.τ Cert.Reference3Ideal.sig) → Buf (Elt Ideal) ℓ) (c : Dev Cert.Reference3Ideal.nD) :
    Cert.Reference3Ideal.Value.res_main_v28 (F := Ideal) m c
      = Cert.Reference3Ideal.Attn.term (m (c.tc.loc Cert.Reference3Ideal.main_arg0)) (m (c.tc.loc Cert.Reference3Ideal.main_arg1)) (m (c.tc.loc Cert.Reference3Ideal.main_arg2)) := by
  unfold Cert.Reference3Ideal.Value.res_main_v28 Cert.Reference3Ideal.Attn.term Cert.Reference3Ideal.Attn.blend Cert.Reference3Ideal.Attn.weights
    Cert.Reference3Ideal.Attn.raw Cert.Reference3Ideal.Attn.total Cert.Reference3Ideal.Attn.along Cert.Reference3Ideal.Attn.largest
    Cert.Reference3Ideal.Attn.masked Cert.Reference3Ideal.Attn.products Cert.Reference3Ideal.Attn.sees
  rfl

theorem algebraic : Cert.algebraic_Kernel3Ideal_Reference3Ideal_pre_finite_scores := fun m ρ m' ρ' hp hm =>
  have hs := fun c : Dev Cert.Kernel3Ideal.nD => real_of_pre _ _ _ (hp c)
  ⟨fun c => result (m (c.tc.loc Cert.Kernel3Ideal.main_arg0)) (m (c.tc.loc Cert.Kernel3Ideal.main_arg1)) (m (c.tc.loc Cert.Kernel3Ideal.main_arg2)),
    (θ_run (Cert.Kernel3Ideal.defs (F := Ideal)) _ _).mono (fun _ hr c =>
      ⟨(hr c).1.trans (Cert.Kernel3Ideal.Attn.array m c (fun b h i j => (scores_real _ _ (hs c).1 (hs c).2 b h i j).1)
        fun b h i j => (scores_real _ _ (hs c).1 (hs c).2 b h i j).2), (hr c).2⟩) (Cert.Kernel3Ideal.Value.run_blocks (F := Ideal) m ρ),
    (θ_run (Cert.Reference3Ideal.defs (F := Ideal)) _ _).mono (fun r hr c => ⟨(hr c).1.trans (by
      obtain ⟨e0, e1, e2⟩ := hm c
      refine (reference_value m' c).trans ?_
      refine (Cert.Reference3Ideal.Attn.term_eq _ _ _).trans ?_
      rw [e0, e1, e2]), (hr c).2⟩) (Cert.Reference3Ideal.Value.run (F := Ideal) m' ρ')⟩

end Cert.Attn
-- ==== Proof.Combine.Rows.lean ====
/-
  Hand-written. One grid point of the combination: the two rows the destinations of each of 256 tokens name are copied
  out of the experts' rows into the two slots of a scratch buffer, all 512 copies in flight on one semaphore; then the
  copies are waited for, and the block's payload is stored in two halves of columns. Several copies may read one row, so
  each copy reads it at a share of its own. The statement is over any value instance.
-/
module

public import proofs.«01_k».proof.Proof.Gen.Kernel4Ideal.Frame
public import proofs.«01_k».proof.Proof.Gen.Kernel4Ideal.Skeleton
public import Idealize.ShloMosaic.Lib.Pipeline.Frame
public import Idealize.ShloMosaic.Lib.Pipeline.Routed
public import Idealize.ShloMosaic.Lib.Tactic
public import Idealize.ShloMosaic.Lib.Transfers
public import Idealize.ShloMosaic.Lib.Ring
public import Idealize.ShloMosaic.Lib.ValueIdxCore
public import Idealize.ShloMosaic.Lib.ValueLayout

@[expose] public section

noncomputable section

namespace Cert.Kernel4Ideal.Combine

open Cert.Kernel4Ideal Cert.Kernel4Ideal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The experts' rows, whole. -/
abbrev yM : Memref sig .tc .hbm S49152x1024 .i32 := Memref.whole main_arg4
/-- The scratch buffer, whole: two slots of 256 rows. -/
abbrev bM : Memref sig .tc .vmem S2x256x1024 .i32 := Memref.whole cc0_scratch0

/-! ## The rows -/

/-- The elements of row `r` of the experts' rows. -/
def sRow (r : ℕ) : Finset S49152x1024.Idx := Finset.univ.filter fun i => (i 0).val = r

theorem mem_sRow {r : ℕ} {i : S49152x1024.Idx} : i ∈ sRow r ↔ (i 0).val = r := by
  simp only [sRow, Finset.mem_filter, Finset.mem_univ, true_and]

/-- The elements of row `t` of slot `k` of the scratch buffer. -/
def bRow (k t : ℕ) : Finset S2x256x1024.Idx := Finset.univ.filter fun i => (i 0).val = k ∧ (i 1).val = t

theorem mem_bRow {k t : ℕ} {i : S2x256x1024.Idx} : i ∈ bRow k t ↔ (i 0).val = k ∧ (i 1).val = t := by
  simp only [bRow, Finset.mem_filter, Finset.mem_univ, true_and]

theorem lt0 (i : S2x256x1024.Idx) : (i 0).val < 2 := (i 0).isLt
theorem lt1 (i : S2x256x1024.Idx) : (i 1).val < 256 := (i 1).isLt
theorem lt2 (i : S2x256x1024.Idx) : (i 2).val < 1024 := (i 2).isLt

/-- The row at `r` cut out of the experts' rows is their row `r`. -/
theorem sRow_slice {off : Fin 2 → ℕ} {r : ℕ} (h0 : off 0 = r) (h1 : off 1 = 0)
    (inb : ∀ a, off a + S1x1024.size a ≤ S49152x1024.size a) :
    (yM.slice (Rect.unit (s := S49152x1024) off S1x1024.size inb) (fun _ => rfl)).view.set = sRow r := by
  refine (View.set_slice_whole main_arg4 (Rect.unit (s := S49152x1024) off S1x1024.size inb)).trans ?_
  ext i
  rw [Rect.mem_set_unit, mem_sRow]
  constructor
  · intro h
    have : off 0 ≤ (i 0).val ∧ (i 0).val < off 0 + 1 := h 0
    omega
  · intro h a
    match a with
    | ⟨0, _⟩ =>
      show off 0 ≤ (i 0).val ∧ (i 0).val < off 0 + 1
      omega
    | ⟨1, _⟩ =>
      show off 1 ≤ (i 1).val ∧ (i 1).val < off 1 + 1024
      have := idx2_lt1 i
      omega

/-- The row cut out of a slot of the scratch buffer, as a copy's target. -/
abbrev bCut (off : Fin 3 → ℕ) (inb : ∀ a, off a + S1x1x1024.size a ≤ S2x256x1024.size a) : Memref sig .tc .vmem S1x1024 .i32 :=
  (bM.slice (Rect.unit (s := S2x256x1024) off S1x1x1024.size inb) (fun _ => rfl)).squeeze S1x1024 squeezes_S1x1x1024_S1x1024

theorem bRow_slice {off : Fin 3 → ℕ} {k t : ℕ} (h : off = ![k, t, 0])
    (inb : ∀ a, off a + S1x1x1024.size a ≤ S2x256x1024.size a) :
    (bCut off inb).view.set = bRow k t := by
  subst h
  refine (View.set_reshape (v := (bM.slice (Rect.unit (s := S2x256x1024) ![k, t, 0] S1x1x1024.size inb) (fun _ => rfl)).view)
    squeezes_S1x1x1024_S1x1024.numel_eq).trans ?_
  refine (View.set_slice_whole cc0_scratch0 (Rect.unit (s := S2x256x1024) ![k, t, 0] S1x1x1024.size inb)).trans ?_
  ext i
  rw [Rect.mem_set_unit, mem_bRow]
  constructor
  · intro h
    have h0 : k ≤ (i 0).val ∧ (i 0).val < k + 1 := h 0
    have h1 : t ≤ (i 1).val ∧ (i 1).val < t + 1 := h 1
    omega
  · intro h a
    match a with
    | ⟨0, _⟩ =>
      show k ≤ (i 0).val ∧ (i 0).val < k + 1
      omega
    | ⟨1, _⟩ =>
      show t ≤ (i 1).val ∧ (i 1).val < t + 1
      omega
    | ⟨2, _⟩ =>
      show 0 ≤ (i 2).val ∧ (i 2).val < 0 + 1024
      have := lt2 i
      omega

/-- Dropping the leading axis of a row keeps the lane. -/
theorem squeeze_lane (x : S1x1024.Idx) :
    ((Shape.reshapeEquiv squeezes_S1x1x1024_S1x1024.numel_eq x : S1x1x1024.Idx) 2).val = (x 1).val := by
  have hx : x = ix2 (n0 := 1) (n1 := 1024) (x 0) (x 1) := by
    funext a
    match a with
    | ⟨0, _⟩ => rfl
    | ⟨1, _⟩ => rfl
  rw [hx]
  exact congrArg (fun z : S1x1x1024.Idx => (z 2).val)
    (reshapeEquiv_ix2_1ab (a := 1) (b := 1024) squeezes_S1x1x1024_S1x1024.numel_eq (x 0) (x 1))

/-- What a copy of row `r` leaves on row `t` of slot `k`, element by element. -/
theorem copied (c : Dev nD) {off : Fin 2 → ℕ} {off' : Fin 3 → ℕ} {r k t : ℕ}
    (h0 : off 0 = r) (h1 : off 1 = 0) (inb : ∀ b, off b + S1x1024.size b ≤ S49152x1024.size b)
    (h' : off' = ![k, t, 0]) (inb' : ∀ b, off' b + S1x1x1024.size b ≤ S2x256x1024.size b) (hr : r < 49152)
    (fs : Buf (Elt F) (yM.view.loc (c : Thread nD τ))) (fd : Buf (Elt F) (bM.view.loc (c : Thread nD τ)))
    (i : S2x256x1024.Idx) (hi : i ∈ bRow k t) :
    (bCut off' inb').view.write (Elt F) fd
        (ReadAs.same.apply ((yM.slice (Rect.unit (s := S49152x1024) off S1x1024.size inb) (fun _ => rfl)).view.read (Elt F) fs))
        Finset.univ i
      = fs (ix2 (n0 := 49152) (n1 := 1024) ⟨r, hr⟩ (i 2)) := by
  have hx : i ∈ (bCut off' inb').view.set := by
    rw [bRow_slice h']; exact hi
  unfold View.set at hx
  obtain ⟨x, -, rfl⟩ := Finset.mem_map.mp hx
  rw [View.write_emb_of_mem _ _ (Finset.mem_univ x)]
  have hx1 : (((bCut off' inb').view.emb x) 2).val = (x 1).val := by
    show off' 2 + 1 * ((Shape.reshapeEquiv squeezes_S1x1x1024_S1x1024.numel_eq x : S1x1x1024.Idx) 2).val = _
    rw [squeeze_lane, h']
    show 0 + 1 * (x 1).val = _
    omega
  rw [cast_eq, ReadAs.apply_same]
  show fs ((Rect.unit (s := S49152x1024) off S1x1024.size inb).emb x) = _
  congr 1
  funext b
  match b with
  | ⟨0, _⟩ =>
    apply Fin.ext
    show off 0 + 1 * (x 0).val = r
    have : (x 0).val < 1 := (x 0).isLt
    omega
  | ⟨1, _⟩ =>
    apply Fin.ext
    show off 1 + 1 * (x 1).val = (((bCut off' inb').view.emb x) 2).val
    rw [hx1]; omega

/-! ## The shares -/

/-- What is left of the whole share after `n` copies have taken theirs. -/
def rest : ℕ → PosShare TreeShare
  | 0 => fullShare
  | n + 1 => (rest n).right

/-- The share of copy `n`. -/
def sh (n : ℕ) : PosShare TreeShare := (rest n).left

/-! ## One trip of each loop -/

/-- The units one row's copy adds to the semaphore. -/
abbrev unit1 : ℕ := sig.dmaCredit Kind.tc (Kind.table Kind.tc Space.vmem) bM.view.buf S1x1024 EltTy.i32

theorem unit1_pos : 0 < unit1 := sig.dmaCredit_pos _ _ _ _ _ (by decide)

section Point

variable (c : Dev nD) (b : Memref sig .tc .smem S1x1x512 .i32)
  (d : ℕ → ℕ) (q : PosShare TreeShare)
  (f1 : Buf (Elt F) (b.view.loc (c : Thread nD τ))) (Ys : Buf (Elt F) (yM.view.loc (c : Thread nD τ)))
  (Z G : Buf (Elt F) (bM.view.loc (c : Thread nD τ)))

/-- A row of a slot of the scratch buffer at given contents. -/
abbrev bPt (k t : ℕ) (X : Buf (Elt F) (bM.view.loc (c : Thread nD τ))) : sProp 𝕄 :=
  bM.view.loc (c : Thread nD τ) ↦[bRow k t]{fullShare} X

/-- The row copy `j` reads, at its share, -/
abbrev sPt (j : ℕ) : sProp 𝕄 := yM.view.loc (c : Thread nD τ) ↦[sRow (d j)]{sh j} Ys
/-- and the other rows at that share. -/
abbrev oPt (j : ℕ) : sProp 𝕄 := yM.view.loc (c : Thread nD τ) ↦[Finset.univ \ sRow (d j)]{sh j} Ys

/-- What the two copies of token `t` take: its two target rows and the two source rows. -/
def piece (t : ℕ) : sProp 𝕄 :=
  iprop(bPt c 0 t Z ∗ bPt c 1 t Z ∗ sPt c d Ys (2 * t) ∗ sPt c d Ys (2 * t + 1))

/-- What the first copy of token `t` gives back. -/
def delivA (t : ℕ) : sProp 𝕄 := iprop(bPt c 0 t G ∗ sPt c d Ys (2 * t))
/-- What the second copy of token `t` gives back. -/
def delivB (t : ℕ) : sProp 𝕄 := iprop(bPt c 1 t G ∗ sPt c d Ys (2 * t + 1))

instance (t : ℕ) : Storable (upEmb : UEmb _ 𝕄) (delivA c d Ys G t) := by unfold delivA; infer_instance
instance (t : ℕ) : Storable (upEmb : UEmb _ 𝕄) (delivB c d Ys G t) := by unfold delivB; infer_instance

/-- The 512 deliveries in the order the copies are issued. -/
def deliv : Fin (2 * 256) → sProp 𝕄 := Ring.interleaved 256 (delivA c d Ys G) (delivB c d Ys G)

instance (t : Fin (2 * 256)) : Storable (upEmb : UEmb _ 𝕄) (deliv c d Ys G t) := by
  unfold deliv; infer_instance

/-- The batch of copies: `j` issued, `u` units waited for. -/
abbrev batch (j u : ℕ) : sProp 𝕄 :=
  Transfers.Batch (countersEmb (U := Pipeline.UC sig nD τ)) (c : Thread nD τ) (.dma cc0_scratch1.sem) () unit1 (deliv c d Ys G) j u

/-- Before trip `k` of the first loop. -/
def issueInv (k : ℕ) : sProp 𝕄 :=
  iprop(batch c d Ys G (2 * k) 0 ∗ bigSep (Ring.rangeSet 256 k 256) (fun t => piece c d Ys Z t.val)
    ∗ (b.view.loc (c : Thread nD τ) ↦[b.view.set]{q} f1))

/-- Before trip `k` of the second loop. -/
def drainInv (k : ℕ) : sProp 𝕄 :=
  iprop(batch c d Ys G (2 * 256) (unit1 * (2 * k)) ∗ ∃ W, owes (c : Thread nD τ) 0 W)

/-- Starting one copy: from the source row at its share, the target row and the batch with `j` copies issued, to the
    batch with `j + 1`. -/
theorem issue_one {α : Type} {off : Fin 2 → ℕ} {off' : Fin 3 → ℕ} {k t : ℕ} (j : ℕ) (hj : j < 2 * 256)
    (h0 : off 0 = d j) (h1 : off 1 = 0) (inb : ∀ b, off b + S1x1024.size b ≤ S49152x1024.size b)
    (h' : off' = ![k, t, 0]) (inb' : ∀ b, off' b + S1x1x1024.size b ≤ S2x256x1024.size b)
    (hr : d j < 49152)
    (hnew : ∀ z ∈ bRow k t, G z = Ys (ix2 (n0 := 49152) (n1 := 1024) ⟨d j, hr⟩ (z 2)))
    (hD : iprop(bPt c k t G ∗ sPt c d Ys j) ⊢ deliv c d Ys G ⟨j, hj⟩)
    {x1 x2 x3} (kk : PUnit → Prog (TpuEff nD τ sig (Elt F) Λ₀ .tc) α) (Q : α → sProp 𝕄) :
    iprop(sPt c d Ys j ∗ bPt c k t Z ∗ batch c d Ys G j 0)
      ⊢ iprop((batch c d Ys G (j + 1) 0 -∗ wp frame (wpE (defs₀ (F := F)) Variants.none (c : Thread nD τ) none) Set.univ (kk ⟨⟩) Q)
          -∗ wp frame (wpE (defs₀ (F := F)) Variants.none (c : Thread nD τ) none) Set.univ
              (Prog.op (TpuEff.enqueueDma (yM.slice (Rect.unit (s := S49152x1024) off S1x1024.size inb) (fun _ => rfl))
                (.here (bCut off' inb'))
                (.dma cc0_scratch1.sem) x1 x2 x3) kk) Q) := by
  have hs := sRow_slice h0 h1 inb
  have hd := bRow_slice h' inb'
  have hDD : iprop((bM.view.loc (c : Thread nD τ) ↦[bRow k t]{fullShare}
        (bCut off' inb').view.write (Elt F) Z
          (ReadAs.same.apply ((yM.slice (Rect.unit (s := S49152x1024) off S1x1024.size inb) (fun _ => rfl)).view.read (Elt F) Ys))
          Finset.univ)
      ∗ sPt c d Ys j) ⊢ deliv c d Ys G ⟨j, hj⟩ := by
    refine BIBase.Entails.trans (sep_mono_left (Entails.of_eq (pointsTo_congr (g := G) ?_))) hD
    intro z hz
    rw [hnew z hz]
    exact copied c h0 h1 inb h' inb' hr Ys Z z hz
  have key := Transfers.wp_dmaBatch (Q := Q) (k := kk) (q := sh j) (fs := Ys) (fd := Z) (D := deliv c d Ys G) (u := 0)
    (via := ReadAs.same) (hsrc := x1) (hdst := x2) (hsem := x3) (defs := defs₀ (F := F)) (Sd := bRow k t)
    (countersEmb (U := Pipeline.UC sig nD τ)) Variants.none (c : Thread nD τ) none
    (src := yM.slice (Rect.unit (s := S49152x1024) off S1x1024.size inb) (fun _ => rfl))
    (dst := bCut off' inb')
    (sm := .dma cc0_scratch1.sem) () unit1 rfl hd.le hj (Nat.zero_le _) (by rw [hs]; exact hDD)
  rw [hs] at key
  exact key

variable (a2 : Memref sig .tc .vmem S256x2048 .f32) (h2 : a2.IsWhole) (a3 : Memref sig .tc .vmem S256x128 .f32) (h3 : a3.IsWhole)
  (a4 : Memref sig .tc .vmem S1x2048 .f32) (h4 : a4.IsWhole) (a6 : Memref sig .tc .vmem S256x2048 .f32) (h6 : a6.IsWhole) (hb : b.IsWhole)

theorem issue_step (i : grid0.Coords) (k : Fin k0_t1_loop.trips) (acc : Unit)
    (hd : ∀ j (hj : j < 512), ((b.view.read (Elt F) f1 (fun | ⟨0, _⟩ => (0 : Fin 1) | ⟨1, _⟩ => (0 : Fin 1) | ⟨2, _⟩ => (⟨j, hj⟩ : Fin 512)) : Elt F .i32) : BitVec 32).toNat = d j)
    (hlt : ∀ j, j < 512 → d j < 49152)
    (hnew : ∀ j (hj : j < 512), ∀ z ∈ bRow (j % 2) (j / 2), G z = Ys (ix2 (n0 := 49152) (n1 := 1024) ⟨d j, hlt j hj⟩ (z 2))) :
    issueInv c b d q f1 Ys Z G k.val
      ⊢ wp frame (wpE (defs₀ (F := F)) Variants.none (c : Thread nD τ) none) Set.univ
          (k0_t1_body i b hb a2 h2 a3 h3 a4 h4 yM (Memref.isWhole_whole _) a6 h6 bM (Memref.isWhole_whole _) cc0_scratch1 k acc)
          (fun _ => issueInv c b d q f1 Ys Z G (k.val + 1)) := by
  unfold issueInv k0_t1_body
  have hk : k.val < 256 := k.isLt
  rw [Ring.bigSep_rangeSet_head (by exact hk) (by exact hk)]
  unfold piece
  iintro ⟨HB, ⟨⟨HA, HA', HS, HS'⟩, HP⟩, Hw⟩
  sl_exec
  have e1 : ((issue_step.sl.r c b f1 k : Elt F .i32) : BitVec 32).toNat = d (2 * k.val) := by
    rw [← hd (2 * k.val) (by omega)]
    refine congrArg BitVec.toNat ?_
    show b.view.read (Elt F) f1 _ = _
    congr 1
    funext x
    match x with
    | ⟨0, _⟩ => exact Subsingleton.elim (α := Fin 1) _ _
    | ⟨1, _⟩ => exact Subsingleton.elim (α := Fin 1) _ _
    | ⟨2, _⟩ =>
      apply Fin.ext
      show k0_off1 k 2 + 1 * 0 = 2 * k.val
      rw [k0_off1_eq]
      show 2 * k.val + 1 * 0 = _
      omega
  have w1 : k0_chk1 (issue_step.sl.r c b f1 k) := by
    have := hlt (2 * k.val) (by omega)
    intro x
    match x with
    | ⟨0, _⟩ => show BitVec.toNat _ + 1 ≤ 49152; rw [e1]; omega
    | ⟨1, _⟩ => show 0 + 1024 ≤ 1024; omega
  iapply (wp_assume Variants.none (c : Thread nD τ) none Set.univ w1)
  sl_whnfR [Prog.lift]
  iapply (issue_one c d Ys Z G (k := 0) (t := k.val) (2 * k.val) (by omega) e1 rfl (k0_off3_inb _ w1) (k0_off2_eq k) (k0_off2_inb k)
    (hlt _ (by omega)) (by
      intro z hz
      refine hnew (2 * k.val) (by omega) z ?_
      rw [show 2 * k.val % 2 = 0 by omega, show 2 * k.val / 2 = k.val by omega]
      exact hz) (by
      unfold deliv
      rw [Ring.interleaved_even]
      exact .rfl)) $$ [HS HA HB]
  · isplitl [HS]; · iexact HS
    isplitl [HA]; · iexact HA
    iexact HB
  iintro HB
  sl_whnfR [Prog.bind]
  sl_exec
  have e2 : ((issue_step.sl.r_1 c b f1 k : Elt F .i32) : BitVec 32).toNat = d (2 * k.val + 1) := by
    rw [← hd (2 * k.val + 1) (by omega)]
    refine congrArg BitVec.toNat ?_
    show b.view.read (Elt F) f1 _ = _
    congr 1
    funext x
    match x with
    | ⟨0, _⟩ => exact Subsingleton.elim (α := Fin 1) _ _
    | ⟨1, _⟩ => exact Subsingleton.elim (α := Fin 1) _ _
    | ⟨2, _⟩ =>
      apply Fin.ext
      show k0_off4 k 2 + 1 * 0 = 2 * k.val + 1
      rw [k0_off4_eq]
      show 2 * k.val + 1 + 1 * 0 = _
      omega
  have w2 : k0_chk2 (issue_step.sl.r_1 c b f1 k) := by
    have := hlt (2 * k.val + 1) (by omega)
    intro x
    match x with
    | ⟨0, _⟩ => show BitVec.toNat _ + 1 ≤ 49152; rw [e2]; omega
    | ⟨1, _⟩ => show 0 + 1024 ≤ 1024; omega
  iapply (wp_assume Variants.none (c : Thread nD τ) none Set.univ w2)
  sl_exec
  iapply (issue_one c d Ys Z G (k := 1) (t := k.val) (2 * k.val + 1) (by omega) e2 rfl (k0_off6_inb _ w2) (k0_off5_eq k) (k0_off5_inb k)
    (hlt _ (by omega)) (by
      intro z hz
      refine hnew (2 * k.val + 1) (by omega) z ?_
      rw [show (2 * k.val + 1) % 2 = 1 by omega, show (2 * k.val + 1) / 2 = k.val by omega]
      exact hz) (by
      unfold deliv
      rw [Ring.interleaved_odd]
      exact .rfl)) $$ [HS' HA' HB]
  · isplitl [HS']; · iexact HS'
    isplitl [HA']; · iexact HA'
    iexact HB
  iintro HB
  sl_exec
  sl_step
  isplitl [HB]; · iexact HB
  isplitl [HP]; · iexact HP
  iexact Hw

theorem drain_step (i : grid0.Coords) (k : Fin k0_t2_loop.trips) (acc : Unit) :
    drainInv c d Ys G k.val
      ⊢ wp frame (wpE (defs₀ (F := F)) Variants.none (c : Thread nD τ) none) Set.univ
          (k0_t2_body i b hb a2 h2 a3 h3 a4 h4 yM (Memref.isWhole_whole _) a6 h6 bM (Memref.isWhole_whole _) cc0_scratch1 k acc)
          (fun _ => drainInv c d Ys G (k.val + 1)) := by
  unfold drainInv k0_t2_body
  have hk : k.val < 256 := k.isLt
  iintro ⟨HB, ⟨%W, HO⟩⟩
  sl_whnfR [Prog.lift]
  have hmul : ∀ n : ℕ, unit1 * n + 1 * unit1 = unit1 * (n + 1) := fun n => by rw [Nat.one_mul, Nat.mul_succ]
  iapply (Transfers.wp_waitBatchMul (countersEmb (U := Pipeline.UC sig nD τ)) Variants.none (c : Thread nD τ) none () (N := unit1)
    (D := deliv c d Ys G) (j := 2 * 256) (u := unit1 * (2 * k.val)) (W := W) 1
    (Nat.one_mul _).symm (by rw [hmul]; exact Nat.mul_le_mul_left _ (by omega))) $$ [HB HO]
  · isplitl [HB]; · iexact HB
    iexact HO
  iintro ⟨HB, HO⟩
  sl_whnfR [Prog.bind]
  iapply (Transfers.wp_waitBatchMul (countersEmb (U := Pipeline.UC sig nD τ)) Variants.none (c : Thread nD τ) none () (N := unit1)
    (D := deliv c d Ys G) (j := 2 * 256) (u := unit1 * (2 * k.val) + 1 * unit1) (W := insert (SemLoc.dma cc0_scratch1.sem, ()) W) 1
    (Nat.one_mul _).symm (by rw [hmul, hmul]; exact Nat.mul_le_mul_left _ (by omega))) $$ [HB HO]
  · isplitl [HB]; · iexact HB
    iexact HO
  iintro ⟨HB, HO⟩
  rw [hmul, hmul]
  sl_whnfR [Prog.bind]
  sl_step
  isplitl [HB]; · iexact HB
  iexists _; iexact HO

/-! ## The rows taken out and put back -/

omit [FloatOps F] in
theorem eq_of_both {P Q : sProp 𝕄} (h : BIBase.BiEntails P Q) : P = Q := Idealize.SL.BI.Entails.antisymm h.1 h.2

omit [FloatOps F] in
theorem range_fin (Ψ : ℕ → sProp 𝕄) : bigSep (Finset.range 256) Ψ = bigSep Finset.univ fun t : Fin 256 => Ψ t.val := by
  have h := Ring.bigSep_rangeSet_eq_range (NB := 256) (Φ := fun t : Fin 256 => Ψ t.val) (lo := 0) (hi := 256) le_rfl Ψ
    (fun k h => congrArg Ψ (Nat.zero_add k).symm)
  rw [Ring.rangeSet_univ] at h
  exact h.symm

/-- The two target rows of token `t`. -/
def two (t : Fin 256) : Finset S2x256x1024.Idx := bRow 0 t.val ∪ bRow 1 t.val

theorem two_inner (t : Fin 256) : Disjoint (bRow 0 t.val) (bRow 1 t.val) := by
  rw [Finset.disjoint_left]; intro i hi hi'; rw [mem_bRow] at hi hi'; omega

theorem two_disjoint (t t' : Fin 256) (h : t ≠ t') : Disjoint (two t) (two t') := by
  have hv : t.val ≠ t'.val := fun e => h (Fin.ext e)
  rw [Finset.disjoint_left]; intro i hi hi'
  unfold two at hi hi'
  rw [Finset.mem_union, mem_bRow, mem_bRow] at hi hi'
  omega

theorem two_cover : (Finset.univ : Finset (Fin 256)).biUnion two = Finset.univ := by
  ext i
  simp only [Finset.mem_biUnion, Finset.mem_univ, true_and, iff_true]
  refine ⟨⟨(i 1).val, lt1 i⟩, ?_⟩
  unfold two
  rw [Finset.mem_union, mem_bRow, mem_bRow]
  have := lt0 i
  show ((i 0).val = 0 ∧ (i 1).val = (i 1).val) ∨ ((i 0).val = 1 ∧ (i 1).val = (i 1).val)
  omega

theorem scratch_eq (X : Buf (Elt F) (bM.view.loc (c : Thread nD τ))) :
    (bM.view.loc (c : Thread nD τ) ↦{fullShare} X : sProp 𝕄)
      = bigSep Finset.univ fun t : Fin 256 => iprop(bPt c 0 t.val X ∗ bPt c 1 t.val X) := by
  have ht : (Finset.univ : Finset (Idx (bM.view.loc (c : Thread nD τ))))
      = (Finset.univ : Finset (Fin 256)).biUnion fun t => (two t : Finset (Idx (bM.view.loc (c : Thread nD τ)))) := two_cover.symm
  rw [ht, pointsTo_biUnion _ _ (fun t _ t' _ hne => two_disjoint t t' hne)]
  refine congrArg _ (funext fun t => ?_)
  exact eq_of_both (pointsTo_union (two_inner t))

theorem share_step (n : ℕ) : (yM.view.loc (c : Thread nD τ) ↦{rest n} Ys : sProp 𝕄)
    = iprop((sPt c d Ys n ∗ oPt c d Ys n) ∗ (yM.view.loc (c : Thread nD τ) ↦{rest (n + 1)} Ys)) := by
  have e1 : (yM.view.loc (c : Thread nD τ) ↦{rest n} Ys : sProp 𝕄)
      = iprop((yM.view.loc (c : Thread nD τ) ↦{sh n} Ys) ∗ (yM.view.loc (c : Thread nD τ) ↦{rest (n + 1)} Ys)) :=
    eq_of_both (pointsTo_share (PosShare.mem_left_op_right (rest n)))
  have e2 : (yM.view.loc (c : Thread nD τ) ↦{sh n} Ys : sProp 𝕄) = iprop(sPt c d Ys n ∗ oPt c d Ys n) :=
    eq_of_both (pointsTo_split_subset (Finset.subset_univ _))
  rw [e1, e2]

/-- The rows of token `t`'s two copies at their shares, and the other rows at those shares. -/
def src (t : ℕ) : sProp 𝕄 := iprop((sPt c d Ys (2 * t) ∗ oPt c d Ys (2 * t)) ∗ (sPt c d Ys (2 * t + 1) ∗ oPt c d Ys (2 * t + 1)))

theorem source_range (n : ℕ) : (yM.view.loc (c : Thread nD τ) ↦{fullShare} Ys : sProp 𝕄)
    = iprop(bigSep (Finset.range n) (src c d Ys) ∗ (yM.view.loc (c : Thread nD τ) ↦{rest (2 * n)} Ys)) := by
  induction n with
  | zero =>
    rw [Finset.range_zero, bigSep_empty]
    exact (eq_of_both emp_sep).symm
  | succ n ih =>
    have hI : (bigSep (insert n (Finset.range n)) (src c d Ys) : sProp 𝕄)
        = iprop(src c d Ys n ∗ bigSep (Finset.range n) (src c d Ys)) := bigSep_insert Finset.notMem_range_self
    rw [ih, Finset.range_add_one, hI, share_step c d Ys (2 * n), share_step c d Ys (2 * n + 1)]
    rw [show src c d Ys n = iprop((sPt c d Ys (2 * n) ∗ oPt c d Ys (2 * n)) ∗ (sPt c d Ys (2 * n + 1) ∗ oPt c d Ys (2 * n + 1))) from rfl]
    apply eq_of_both
    constructor
    · iintro ⟨H, H1, H2, H3⟩
      isplitl [H H1 H2]
      · isplitl [H1 H2]
        · isplitl [H1] <;> iassumption
        · iexact H
      · iexact H3
    · iintro ⟨⟨⟨H1, H2⟩, H⟩, H3⟩
      isplitl [H]; · iexact H
      isplitl [H1]; · iexact H1
      isplitl [H2] <;> iassumption

/-- What no copy takes: the other rows at each copy's share, and the share no copy has. -/
def kept : sProp 𝕄 := iprop((bigSep Finset.univ fun t : Fin 256 => iprop(oPt c d Ys (2 * t.val) ∗ oPt c d Ys (2 * t.val + 1)))
  ∗ (yM.view.loc (c : Thread nD τ) ↦{rest 512} Ys))

theorem source_eq : (yM.view.loc (c : Thread nD τ) ↦{fullShare} Ys : sProp 𝕄)
    = iprop((bigSep Finset.univ fun t : Fin 256 => iprop(sPt c d Ys (2 * t.val) ∗ sPt c d Ys (2 * t.val + 1))) ∗ kept c d Ys) := by
  rw [source_range c d Ys 256, range_fin]
  have e : (bigSep Finset.univ (fun t : Fin 256 => src c d Ys t.val) : sProp 𝕄)
      = iprop((bigSep Finset.univ fun t : Fin 256 => iprop(sPt c d Ys (2 * t.val) ∗ sPt c d Ys (2 * t.val + 1)))
        ∗ bigSep Finset.univ fun t : Fin 256 => iprop(oPt c d Ys (2 * t.val) ∗ oPt c d Ys (2 * t.val + 1))) := by
    refine Eq.trans (congrArg _ (funext fun t => ?_)) (BI.bigSep_sep Finset.univ
      (fun t : Fin 256 => iprop(sPt c d Ys (2 * t.val) ∗ sPt c d Ys (2 * t.val + 1)))
      (fun t : Fin 256 => iprop(oPt c d Ys (2 * t.val) ∗ oPt c d Ys (2 * t.val + 1))))
    show iprop((sPt c d Ys (2 * t.val) ∗ oPt c d Ys (2 * t.val)) ∗ (sPt c d Ys (2 * t.val + 1) ∗ oPt c d Ys (2 * t.val + 1)))
      = iprop((sPt c d Ys (2 * t.val) ∗ sPt c d Ys (2 * t.val + 1)) ∗ (oPt c d Ys (2 * t.val) ∗ oPt c d Ys (2 * t.val + 1)))
    apply eq_of_both
    constructor
    · iintro ⟨⟨H1, H2⟩, H3, H4⟩
      isplitl [H1 H3]
      · isplitl [H1] <;> iassumption
      · isplitl [H2] <;> iassumption
    · iintro ⟨⟨H1, H2⟩, H3, H4⟩
      isplitl [H1 H3]
      · isplitl [H1] <;> iassumption
      · isplitl [H2] <;> iassumption
  rw [e]
  unfold kept
  exact eq_of_both sep_assoc

theorem take_out :
    iprop((yM.view.loc (c : Thread nD τ) ↦{fullShare} Ys) ∗ (bM.view.loc (c : Thread nD τ) ↦{fullShare} Z))
      ⊢ (iprop(bigSep (Ring.rangeSet 256 0 256) (fun t => piece c d Ys Z t.val) ∗ kept c d Ys) : sProp 𝕄) := by
  rw [source_eq c d, scratch_eq, Ring.rangeSet_univ]
  have e : (bigSep Finset.univ (fun t : Fin 256 => piece c d Ys Z t.val) : sProp 𝕄)
      = iprop((bigSep Finset.univ fun t : Fin 256 => iprop(bPt c 0 t.val Z ∗ bPt c 1 t.val Z))
        ∗ bigSep Finset.univ fun t : Fin 256 => iprop(sPt c d Ys (2 * t.val) ∗ sPt c d Ys (2 * t.val + 1))) := by
    refine Eq.trans (congrArg _ (funext fun t => ?_)) (BI.bigSep_sep Finset.univ
      (fun t : Fin 256 => iprop(bPt c 0 t.val Z ∗ bPt c 1 t.val Z))
      (fun t : Fin 256 => iprop(sPt c d Ys (2 * t.val) ∗ sPt c d Ys (2 * t.val + 1))))
    unfold piece
    exact (eq_of_both sep_assoc).symm
  rw [e]
  iintro ⟨⟨HS, HK⟩, HD⟩
  isplitl [HS HD]
  · isplitl [HD]; · iexact HD
    iexact HS
  iexact HK

/-- The deliveries together are the filled scratch buffer's rows and the source rows. -/
theorem deliv_all :
    (bigSep Finset.univ (deliv c d Ys G) : sProp 𝕄)
      = iprop((bigSep Finset.univ fun t : Fin 256 => iprop(bPt c 0 t.val G ∗ bPt c 1 t.val G))
        ∗ bigSep Finset.univ fun t : Fin 256 => iprop(sPt c d Ys (2 * t.val) ∗ sPt c d Ys (2 * t.val + 1))) := by
  unfold deliv
  rw [Ring.bigSep_interleaved, range_fin, range_fin]
  refine (BI.bigSep_sep Finset.univ _ _).symm.trans (Eq.trans (congrArg _ (funext fun t => ?_)) (BI.bigSep_sep Finset.univ
      (fun t : Fin 256 => iprop(bPt c 0 t.val G ∗ bPt c 1 t.val G))
      (fun t : Fin 256 => iprop(sPt c d Ys (2 * t.val) ∗ sPt c d Ys (2 * t.val + 1)))))
  unfold delivA delivB
  show iprop((bPt c 0 t.val G ∗ sPt c d Ys (2 * t.val)) ∗ (bPt c 1 t.val G ∗ sPt c d Ys (2 * t.val + 1)))
    = iprop((bPt c 0 t.val G ∗ bPt c 1 t.val G) ∗ (sPt c d Ys (2 * t.val) ∗ sPt c d Ys (2 * t.val + 1)))
  apply eq_of_both
  constructor
  · iintro ⟨⟨H1, H2⟩, H3, H4⟩
    isplitl [H1 H3]
    · isplitl [H1] <;> iassumption
    · isplitl [H2] <;> iassumption
  · iintro ⟨⟨H1, H2⟩, H3, H4⟩
    isplitl [H1 H3]
    · isplitl [H1] <;> iassumption
    · isplitl [H2] <;> iassumption

theorem put_back :
    iprop(bigSep Finset.univ (deliv c d Ys G) ∗ kept c d Ys)
      ⊢ (iprop((yM.view.loc (c : Thread nD τ) ↦{fullShare} Ys) ∗ (bM.view.loc (c : Thread nD τ) ↦{fullShare} G)) : sProp 𝕄) := by
  rw [deliv_all, source_eq c d, scratch_eq]
  iintro ⟨⟨HD, HS⟩, HK⟩
  isplitl [HS HK]
  · isplitl [HS]; · iexact HS
    iexact HK
  iexact HD

end Point

end Cert.Kernel4Ideal.Combine

end
-- ==== Proof.Combine.Point.lean ====
/-
  Hand-written. The whole of one grid point of the combination: what its body leaves of the staged blocks, the experts'
  rows and the scratch buffer, and the block it stores.
-/
module

public import proofs.«01_k».proof.Proof.Combine.Rows
public import Idealize.ShloMosaic.Lib.VecWindow

@[expose] public section

set_option maxRecDepth 16384

noncomputable section

namespace Cert.Kernel4Ideal.Combine

open Cert.Kernel4Ideal Cert.Kernel4Ideal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (b : Memref sig .tc .smem S1x1x512 .i32) (hb : b.IsWhole)
  (a2 : Memref sig .tc .vmem S256x2048 .f32) (h2 : a2.IsWhole) (a3 : Memref sig .tc .vmem S256x128 .f32) (h3 : a3.IsWhole)
  (a4 : Memref sig .tc .vmem S1x2048 .f32) (h4 : a4.IsWhole) (a6 : Memref sig .tc .vmem S256x2048 .f32) (h6 : a6.IsWhole)
  (d : ℕ → ℕ)
  (x1 : S1x1x512.Idx → Elt F .i32) (x2 : S256x2048.Idx → Elt F .f32) (x3 : S256x128.Idx → Elt F .f32) (x4 : S1x2048.Idx → Elt F .f32)
  (Ys : Buf (Elt F) (yM.view.loc (c : Thread nD τ)))
  (Z G : Buf (Elt F) (bM.view.loc (c : Thread nD τ)))

/-- What the body holds at a point: the staged blocks, the experts' rows, the output buffer as said, the scratch buffer
    as said. -/
def held (out : sProp 𝕄) (Z : Buf (Elt F) (bM.view.loc (c : Thread nD τ))) : sProp 𝕄 :=
  iprop((b.view.loc (c : Thread nD τ) ↦[b.view.set]{fullShare} b.view.rep x1)
    ∗ (a2.view.loc (c : Thread nD τ) ↦[a2.view.set]{fullShare} a2.view.rep x2)
    ∗ (a3.view.loc (c : Thread nD τ) ↦[a3.view.set]{fullShare} a3.view.rep x3)
    ∗ (a4.view.loc (c : Thread nD τ) ↦[a4.view.set]{fullShare} a4.view.rep x4)
    ∗ out
    ∗ (yM.view.loc (c : Thread nD τ) ↦{fullShare} Ys)
    ∗ (bM.view.loc (c : Thread nD τ) ↦{fullShare} Z)
    ∗ semVal ((c : Thread nD τ), SemLoc.dma cc0_scratch1.sem) 0
    ∗ ∃ W, owes (c : Thread nD τ) 0 W)

set_option backward.proofsInPublic true in
set_option maxHeartbeats 8000000 in
/-- One grid point: the body runs to its return with the staged blocks and the experts' rows as they were, the scratch
    buffer at the rows named by the destinations, and two pieces stored in the output buffer. -/
def run (i : grid0.Coords)
    (hd : ∀ j (hj : j < 512), ((x1 (fun | ⟨0, _⟩ => (0 : Fin 1) | ⟨1, _⟩ => (0 : Fin 1) | ⟨2, _⟩ => (⟨j, hj⟩ : Fin 512)) : Elt F .i32) : BitVec 32).toNat = d j)
    (hlt : ∀ j, j < 512 → d j < 49152)
    (hnew : ∀ j (hj : j < 512), ∀ z ∈ bRow (j % 2) (j / 2), G z = Ys (ix2 (n0 := 49152) (n1 := 1024) ⟨d j, hlt j hj⟩ (z 2))) :
    { o : List (View.Piece (Elt F) S256x2048 .f32) //
      ∀ (K : PUnit → sProp 𝕄),
        iprop(held c b a2 a3 a4 x1 x2 x3 x4 Ys iprop(∃ d, owns (c : Thread nD τ) a6 fullShare d) Z
          ∗ (held c b a2 a3 a4 x1 x2 x3 x4 Ys iprop(∃ f, a6.view.loc (c : Thread nD τ) ↦[a6.view.set]{fullShare} a6.view.writes (Elt F) f o) G -∗ K ⟨⟩))
        ⊢ wp frame (wpE (defs₀ (F := F)) Variants.none (c : Thread nD τ) none) Set.univ
          (cc0_combine i b hb a2 h2 a3 h3 a4 h4 yM (Memref.isWhole_whole _) a6 h6 bM (Memref.isWhole_whole _) cc0_scratch1) K } :=
  ⟨_, fun K => by
    unfold held owns
    simp only [cc0_combine_eq_skeleton]
    unfold cc0_combine_skel
    simp only [k0_part1_eq_skeleton]
    unfold k0_part1_skel
    simp only [bind_assoc]
    have hS : bM.IsWhole := Memref.isWhole_whole _
    iintro ⟨⟨H1, H2, H3, H4, ⟨%d6, %f6, -, HO6⟩, HY, HZ, HV, ⟨%W, HO⟩⟩, HK⟩
    ihave HT := (take_out c d Ys Z) $$ [HY HZ]
    · isplitl [HY] <;> iassumption
    icases HT with ⟨HP, HR⟩
    imod (Transfers.batch_alloc' (countersEmb (U := Pipeline.UC sig nD τ)) (c : Thread nD τ) (sm := .dma cc0_scratch1.sem) () unit1
      (deliv c d Ys G) (E := Set.univ)) $$ HV with HB
    sl_for (fun k (_ : Unit) => issueInv c b d fullShare (b.view.rep x1) Ys Z G k) $$ [HB HP H1]
    case region =>
      exact fun k acc => issue_step c b d fullShare (b.view.rep x1) Ys Z G a2 h2 a3 h3 a4 h4 a6 h6 hb i k acc
        (fun j hj => by rw [View.read_rep]; exact hd j hj) hlt hnew
    · unfold issueInv
      isplitl [HB]; · iexact HB
      isplitl [HP]; · iexact HP
      iexact H1
    iintro %acc HI
    unfold issueInv
    icases HI with ⟨HB, HE, H1⟩
    sl_for (fun k (_ : Unit) => drainInv c d Ys G k) $$ [HB HO]
    case region => exact fun k acc => drain_step c b d Ys G a2 h2 a3 h3 a4 h4 a6 h6 hb i k acc
    · unfold drainInv
      isplitl [HB]; · iexact HB
      iexists W; iexact HO
    iintro %acc2 HI
    unfold drainInv
    icases HI with ⟨HB, HO⟩
    ihave HBc := (Transfers.batch_collect' (countersEmb (U := Pipeline.UC sig nD τ)) (c := (c : Thread nD τ)) (sm := .dma cc0_scratch1.sem)
      (ι := ()) unit1_pos (D := deliv c d Ys G)) $$ [HB]
    · iexact HB
    imod HBc with ⟨HD, HV⟩
    ihave HT := (put_back c d Ys G) $$ [HD HR]
    · isplitl [HD] <;> iassumption
    icases HT with ⟨HY, HZ⟩
    sl_exec!
    sl_step
    iapply HK
    isplitl [H1]; · iexact H1
    isplitl [H2]; · iexact H2
    isplitl [H3]; · iexact H3
    isplitl [H4]; · iexact H4
    isplitl [HO6]; · iexists _; iexact HO6
    isplitl [HY]; · iexact HY
    isplitl [HZ]; · iexact HZ
    isplitl [HV]; · iexact HV
    iexact HO⟩

/-- The left half of columns of the block a point stores, of the staged blocks and the scratch buffer; -/
def outHi (x2 : S256x2048.Idx → Elt F .f32) (x3 : S256x128.Idx → Elt F .f32) (x4 : S1x2048.Idx → Elt F .f32) (G : S2x256x1024.Idx → Elt F .i32) :
    S256x1024.Idx → Elt F .f32 :=
  k0_pay3 (k0_pay7 x3 (VecWindow.window x2 ![0, 1024] S256x1024.size inb_S256x2048_S256x1024_0_1024) (VecWindow.window G ![0, 0, 0] S1x256x1024.size inb_S2x256x1024_S1x256x1024_0_0_0))
    (k0_pay9 (VecWindow.window G ![1, 0, 0] S1x256x1024.size inb_S2x256x1024_S1x256x1024_1_0_0))
    (k0_pay11 x3 (VecWindow.window x2 ![0, 0] S256x1024.size inb_S256x2048_S256x1024_0_0) (VecWindow.window G ![0, 0, 0] S1x256x1024.size inb_S2x256x1024_S1x256x1024_0_0_0)
      (VecWindow.window G ![1, 0, 0] S1x256x1024.size inb_S2x256x1024_S1x256x1024_1_0_0))
    (k0_pay12 x3) (VecWindow.window x4 ![0, 0] S1x1024.size inb_S1x2048_S1x1024_0_0)

/-- and the right half. -/
def outLo (x2 : S256x2048.Idx → Elt F .f32) (x3 : S256x128.Idx → Elt F .f32) (x4 : S1x2048.Idx → Elt F .f32) (G : S2x256x1024.Idx → Elt F .i32) :
    S256x1024.Idx → Elt F .f32 :=
  k0_pay4 (k0_pay7 x3 (VecWindow.window x2 ![0, 1024] S256x1024.size inb_S256x2048_S256x1024_0_1024) (VecWindow.window G ![0, 0, 0] S1x256x1024.size inb_S2x256x1024_S1x256x1024_0_0_0))
    (k0_pay9 (VecWindow.window G ![1, 0, 0] S1x256x1024.size inb_S2x256x1024_S1x256x1024_1_0_0))
    (k0_pay11 x3 (VecWindow.window x2 ![0, 0] S256x1024.size inb_S256x2048_S256x1024_0_0) (VecWindow.window G ![0, 0, 0] S1x256x1024.size inb_S2x256x1024_S1x256x1024_0_0_0)
      (VecWindow.window G ![1, 0, 0] S1x256x1024.size inb_S2x256x1024_S1x256x1024_1_0_0))
    (k0_pay12 x3) (VecWindow.window x4 ![0, 1024] S1x1024.size inb_S1x2048_S1x1024_0_1024)

/-- The block a point stores. -/
def outOf (x2 : S256x2048.Idx → Elt F .f32) (x3 : S256x128.Idx → Elt F .f32) (x4 : S1x2048.Idx → Elt F .f32) (G : S2x256x1024.Idx → Elt F .i32) :
    S256x2048.Idx → Elt F .f32 := fun y =>
  if h : (y 1).val < 1024 then outHi x2 x3 x4 G (ix2 (n0 := 256) (n1 := 1024) (y 0) ⟨(y 1).val, h⟩)
  else outLo x2 x3 x4 G (ix2 (n0 := 256) (n1 := 1024) (y 0) ⟨(y 1).val - 1024, by have := idx2_lt1 y; omega⟩)

theorem out_read (i : grid0.Coords) (hd) (hlt) (hnew) (f) :
    a6.view.read (Elt F) (a6.view.writes (Elt F) f (run c b hb a2 h2 a3 h3 a4 h4 a6 h6 d x1 x2 x3 x4 Ys Z G i hd hlt hnew).1)
      = outOf x2 x3 x4 G := by
  unfold run; dsimp only
  unfold run.sl.HO6_2
  dsimp only
  rw [View.readAt_rep_full (Val := Elt F) a3.view x3 inb_S256x128_S256x128_0_0,
    View.readAt_rep_unit (Val := Elt F) a2.view x2 inb_S256x2048_S256x1024_0_0 rfl inb_S256x2048_S256x1024_0_0,
    View.readAt_rep_unit (Val := Elt F) a2.view x2 inb_S256x2048_S256x1024_0_1024 rfl inb_S256x2048_S256x1024_0_1024,
    View.readAt_rep_unit (Val := Elt F) a4.view x4 inb_S1x2048_S1x1024_0_0 rfl inb_S1x2048_S1x1024_0_0,
    View.readAt_rep_unit (Val := Elt F) a4.view x4 inb_S1x2048_S1x1024_0_1024 rfl inb_S1x2048_S1x1024_0_1024,
    View.readAt_unit (Val := Elt F) bM.view G inb_S2x256x1024_S1x256x1024_0_0_0 rfl inb_S2x256x1024_S1x256x1024_0_0_0,
    View.readAt_unit (Val := Elt F) bM.view G inb_S2x256x1024_S1x256x1024_1_0_0 rfl inb_S2x256x1024_S1x256x1024_1_0_0]
  show a6.view.read (Elt F) (a6.view.writes (Elt F) f
    [⟨Rect.unit (s := S256x2048) ![0, 1024] S256x1024.size inb_S256x2048_S256x1024_0_1024, outLo x2 x3 x4 G⟩,
      ⟨Rect.unit (s := S256x2048) ![0, 0] S256x1024.size inb_S256x2048_S256x1024_0_0, outHi x2 x3 x4 G⟩]) = _
  funext y
  have hy1 := idx2_lt1 y
  unfold outOf
  by_cases h : (y 1).val < 1024
  · rw [dif_pos h, View.read_writes_cons_unit_of_not_mem a6.view f inb_S256x2048_S256x1024_0_1024 (outLo x2 x3 x4 G) _ y rfl
      (1 : Fin 2) (Or.inl h)]
    exact View.read_writes_cons_unit_of_mem a6.view f inb_S256x2048_S256x1024_0_0 (outHi x2 x3 x4 G) [] y
      (ix2 (n0 := 256) (n1 := 1024) (y 0) ⟨(y 1).val, h⟩) rfl fun
        | ⟨0, _⟩ => (Nat.zero_add _).symm
        | ⟨1, _⟩ => (Nat.zero_add _).symm
  · rw [dif_neg h]
    exact View.read_writes_cons_unit_of_mem a6.view f inb_S256x2048_S256x1024_0_1024 (outLo x2 x3 x4 G) _ y
      (ix2 (n0 := 256) (n1 := 1024) (y 0) ⟨(y 1).val - 1024, by omega⟩) rfl fun
        | ⟨0, _⟩ => (Nat.zero_add _).symm
        | ⟨1, _⟩ => by show (y 1).val = 1024 + ((y 1).val - 1024); omega

end Cert.Kernel4Ideal.Combine

end
-- ==== Proof.Combine.Launch.lean ====
/-
  Hand-written. The launch of the combination: 64 grid points in order, each storing one block of the result from its own
  staged blocks and the experts' rows its destinations name.
-/
module

public import proofs.«01_k».proof.Proof.Combine.Point
public import proofs.«01_k».proof.Proof.Gen.Kernel4Ideal.Points
public import proofs.«01_k».proof.Proof.Gen.Kernel4Ideal.Launch
public import Idealize.ShloMosaic.Lib.Pipeline.TableIdle

@[expose] public section

set_option maxRecDepth 16384

noncomputable section

namespace Cert.Kernel4Ideal.Combine

open Cert.Kernel4Ideal Cert.Kernel4Ideal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (Pipeline.UC sig nD τ) ℕ

variable (m : (ℓ : Loc nD τ sig) → Buf (Elt F) ℓ) (ρ : Dev nD → PrngReg)

/-! ## The staged blocks -/

theorem coords_val (t : Fin cfg0.N) : (grid0.coords t 0).val = t.val := by
  have h : ∀ t : Fin 64, (grid0.coords t 0).val = t.val := by decide
  exact h t

/-- The staged block of destinations at point `t`. -/
theorem words_at (c : Dev nD) (t : Fin cfg0.N) (j : ℕ) (hj : j < 512) :
    iblk m c 0 t (fun | ⟨0, _⟩ => (0 : Fin 1) | ⟨1, _⟩ => (0 : Fin 1) | ⟨2, _⟩ => (⟨j, hj⟩ : Fin 512))
      = V m c main_v1 (ix3 (n0 := 64) (n1 := 1) (n2 := 512) ⟨t.val, t.isLt⟩ 0 ⟨j, hj⟩) := by
  unfold iblk
  show V m c main_v1 _ = V m c main_v1 _
  congr 1
  funext a
  match a with
  | ⟨0, _⟩ =>
    apply Fin.ext
    show (BitVec.ofNat 32 (grid0.coords t 0).val).toNat * 1 + 1 * 0 = t.val
    rw [coords_val, BitVec.toNat_ofNat, Nat.mod_eq_of_lt (by have : t.val < 64 := t.isLt; omega)]; omega
  | ⟨1, _⟩ => apply Fin.ext; show 0 * 1 + 1 * 0 = 0; omega
  | ⟨2, _⟩ => apply Fin.ext; show 0 * 512 + 1 * j = j; omega

/-! ## The proof data -/

/-- The kernel's own semaphore, by its number in the pool. -/
abbrev osem0 : Fin 1 → SemLoc sig := fun j => (![SemLoc.dma 9] : Fin 1 → SemLoc sig) j
theorem ownSemFacts0 : Pipeline.OwnSemFacts spec0 osem0 := by decide
theorem ownSems00_eq (c : Dev nD) :
    (Pipeline.ownSems0 (Ix := Unit) (Name := ℕ) (U := Pipeline.UC sig nD τ) (Lvl := ℕ) (Val := Elt F) (τ := τ) osem0 c : sProp 𝕄)
      = semVal ((c : Thread nD τ), SemLoc.dma 9) 0 := by
  rw [Pipeline.ownSems0_eq_of_list c osem0 [0] (by decide) (by decide)]; rfl

/-- Row `n` of the experts' rows, at lane `x`; zero past the last row. -/
def rowAt (ys : S49152x1024.Idx → BitVec 32) (n : ℕ) (x : Fin 1024) : BitVec 32 :=
  if h : n < 49152 then ys (ix2 (n0 := 49152) (n1 := 1024) ⟨n, h⟩ x) else 0#32

theorem rowAt_eq (ys : S49152x1024.Idx → BitVec 32) {n : ℕ} (h : n < 49152) (x : Fin 1024) :
    rowAt ys n x = ys (ix2 (n0 := 49152) (n1 := 1024) ⟨n, h⟩ x) := dif_pos h

variable (dG : Dev nD → ℕ → ℕ)

/-- The scratch buffer at point `t` once every copy has landed: row `r` of slot `k` is the row destination `2 r + k` of the
    block names. -/
def gath (c : Dev nD) (t : ℕ) : S2x256x1024.Idx → BitVec 32 := fun z =>
  rowAt (m ((c : Thread nD τ).loc main_arg4)) (dG c (512 * t + (2 * (z 1).val + (z 0).val))) (z 2)

/-- The block point `t` stores. -/
def oblk (c : Dev nD) (t : Fin cfg0.N) : S256x2048.Idx → Elt F .f32 :=
  outOf (iblk m c 1 t) (iblk m c 2 t) (iblk m c 3 t) (gath m dG c t.val)

/-- The invariant at every point: the experts' rows as launched, the scratch buffer at some contents, the semaphore at
    zero, the generator register at some state. -/
def inv (c : Dev nD) : sProp 𝕄 :=
  iprop((yM.view.loc (c : Thread nD τ) ↦{fullShare} m ((c : Thread nD τ).loc main_arg4))
    ∗ (∃ Z : Buf (Elt F) (bM.view.loc (c : Thread nD τ)), bM.view.loc (c : Thread nD τ) ↦{fullShare} Z)
    ∗ semVal ((c : Thread nD τ), SemLoc.dma cc0_scratch1.sem) 0 ∗ ∃ r, prngReg c r)

/-- The proof data on core `c`: the staged arrays as the region finds them, each point leaving its blocks in place and
    storing its own. -/
def dats (_ : Fin 1) (c : Dev nD) : Dat τ (Elt F) Unit ℕ (Pipeline.UC sig nD τ) ℕ cfg0 c where
  A w := V m c (Pipeline.arrRef spec0 w)
  after := fun
    | 0 => fun t => iblk m c 0 t | 1 => fun t => iblk m c 1 t | 2 => fun t => iblk m c 2 t | 3 => fun t => iblk m c 3 t
    | 4 => fun t => oblk m dG c t
    | ⟨_ + 5, h⟩ => absurd h (Nat.not_lt.2 (Nat.le_add_left _ _))
  Φ _ := inv m c
  q _ := fullShare
  owed _ := 0

theorem A_eq (c : Dev nD) (w : Fin cfg0.W) : (dats m dG 0 c).A w = V m c (Pipeline.arrRef spec0 w) := by dsimp only [dats]
theorem after0_0 (c : Dev nD) (t : Fin cfg0.N) : (dats m dG 0 c).after 0 t = iblk m c 0 t := by dsimp only [dats]
theorem after0_1 (c : Dev nD) (t : Fin cfg0.N) : (dats m dG 0 c).after 1 t = iblk m c 1 t := by dsimp only [dats]
theorem after0_2 (c : Dev nD) (t : Fin cfg0.N) : (dats m dG 0 c).after 2 t = iblk m c 2 t := by dsimp only [dats]
theorem after0_3 (c : Dev nD) (t : Fin cfg0.N) : (dats m dG 0 c).after 3 t = iblk m c 3 t := by dsimp only [dats]
theorem after0_4 (c : Dev nD) (t : Fin cfg0.N) : (dats m dG 0 c).after 4 t = oblk m dG c t := by dsimp only [dats]
theorem before0_0 (c : Dev nD) (t : Fin cfg0.N) (d) : (dats m dG 0 c).before 0 t d = iblk m c 0 t :=
  ((dats m dG 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m dG 0 c).before 1 t d = iblk m c 1 t :=
  ((dats m dG 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m dG 0 c).before 2 t d = iblk m c 2 t :=
  ((dats m dG 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m dG 0 c).before 3 t d = iblk m c 3 t :=
  ((dats m dG 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- What is asked of the destinations: they name the rows `dG`, all below the array's height. -/
structure Targets (c : Dev nD) : Prop where
  words : ∀ (p : Fin 64) (j : Fin 512),
    ((V m c main_v1 (ix3 (n0 := 64) (n1 := 1) (n2 := 512) p 0 j) : Elt F .i32) : BitVec 32).toNat = dG c (512 * p.val + j.val)
  lt : ∀ j, j < 32768 → dG c j < 49152

section Body

variable {m dG} (hT : ∀ c, Targets m dG c)
include hT

set_option maxHeartbeats 4000000 in
/-- The body at a point, from the staged blocks and the invariant before the point to those after it. -/
theorem sound_body (c : Dev nD) (t : Fin cfg0.N) :
    iprop((dats m dG 0 c).Φ t.castSucc ∗ (dats m dG 0 c).owesAt () t.castSucc
        ∗ (∃ d, owns (c : Thread nD τ) (win0_0.stage (cfg0.slots t 0)) fullShare ((dats m dG 0 c).before 0 t d))
        ∗ (∃ d, owns (c : Thread nD τ) (win0_1.stage (cfg0.slots t 1)) fullShare ((dats m dG 0 c).before 1 t d))
        ∗ (∃ d, owns (c : Thread nD τ) (win0_2.stage (cfg0.slots t 2)) fullShare ((dats m dG 0 c).before 2 t d))
        ∗ (∃ d, owns (c : Thread nD τ) (win0_3.stage (cfg0.slots t 3)) fullShare ((dats m dG 0 c).before 3 t d))
        ∗ (∃ d, owns (c : Thread nD τ) (win0_4.stage (cfg0.slots t 4)) fullShare ((dats m dG 0 c).before 4 t d)))
      ⊢ wp frame (wpE (defs₀ (F := F)) Variants.none c none) Set.univ (bodyAt0 t)
          (fun _ => iprop((dats m dG 0 c).Φ t.succ ∗ (dats m dG 0 c).owesAt () t.succ
            ∗ owns (c : Thread nD τ) (win0_0.stage (cfg0.slots t 0)) fullShare (iblk m c 0 t)
            ∗ owns (c : Thread nD τ) (win0_1.stage (cfg0.slots t 1)) fullShare (iblk m c 1 t)
            ∗ owns (c : Thread nD τ) (win0_2.stage (cfg0.slots t 2)) fullShare (iblk m c 2 t)
            ∗ owns (c : Thread nD τ) (win0_3.stage (cfg0.slots t 3)) fullShare (iblk m c 3 t)
            ∗ owns (c : Thread nD τ) (win0_4.stage (cfg0.slots t 4)) fullShare (oblk m dG c t))) := by
  simp only [before0_0, before0_1, before0_2, before0_3]
  unfold bodyAt0
  rw [show (dats m dG 0 c).owesAt () t.succ = (dats m dG 0 c).owesAt () t.castSucc from rfl,
    show (dats m dG 0 c).Φ t.castSucc = inv m c from rfl,
    show (dats m dG 0 c).Φ t.succ = inv m c from rfl]
  unfold Dat.owesAt Pipeline.owesWithin inv
  rw [show (dats m dG 0 c).owed t.castSucc = 0 from rfl]
  have ht : t.val < 64 := t.isLt
  have hd : ∀ j (hj : j < 512), ((iblk m c 0 t (fun | ⟨0, _⟩ => (0 : Fin 1) | ⟨1, _⟩ => (0 : Fin 1) | ⟨2, _⟩ => (⟨j, hj⟩ : Fin 512)) : Elt F .i32) : BitVec 32).toNat
      = dG c (512 * t.val + j) := fun j hj =>
    (congrArg BitVec.toNat (words_at m c t j hj)).trans ((hT c).words ⟨t.val, ht⟩ ⟨j, hj⟩)
  have hlt : ∀ j, j < 512 → dG c (512 * t.val + j) < 49152 := fun j hj => (hT c).lt _ (by omega)
  have hnew : ∀ j (hj : j < 512), ∀ z ∈ bRow (j % 2) (j / 2), (gath m dG c t.val : Buf (Elt F) (bM.view.loc (c : Thread nD τ))) z
      = (m ((c : Thread nD τ).loc main_arg4) : Buf (Elt F) (yM.view.loc (c : Thread nD τ))) (ix2 (n0 := 49152) (n1 := 1024) ⟨dG c (512 * t.val + j), hlt j hj⟩ (z 2)) := by
    intro j hj z hz
    rw [mem_bRow] at hz
    show rowAt (m ((c : Thread nD τ).loc main_arg4)) (dG c (512 * t.val + (2 * (z 1).val + (z 0).val))) (z 2) = _
    rw [show 2 * (z 1).val + (z 0).val = j by omega]
    exact rowAt_eq _ (hlt j hj) _
  iintro ⟨⟨HY, ⟨%Z, HZ⟩, HV, Hg⟩, ⟨%W, %hW, HO⟩, ⟨%d0, H0⟩, ⟨%d1, H1⟩, ⟨%d2, H2⟩, ⟨%d3, H3⟩, ⟨%d4, H4⟩⟩
  iapply ((run c (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (fun j => dG c (512 * t.val + j))
    (iblk m c 0 t) (iblk m c 1 t) (iblk m c 2 t) (iblk m c 3 t) (m ((c : Thread nD τ).loc main_arg4)) Z (gath m dG c t.val) (grid0.coords t) hd hlt hnew).2 _)
  unfold held
  isplitl [H0 H1 H2 H3 H4 HY HZ HV HO]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iexists _; iexact H4
    isplitl [HY]; · iexact HY
    isplitl [HZ]; · iexact HZ
    isplitl [HV]; · iexact HV
    iexists W; iexact HO
  iintro ⟨H0, H1, H2, H3, ⟨%f4, H4⟩, HY, HZ, HV, ⟨%W', HO⟩⟩
  isplitl [HY HZ HV Hg]
  · isplitl [HY]; · iexact HY
    isplitl [HZ]; · iexists _; iexact HZ
    isplitl [HV]; · iexact HV
    iexact Hg
  isplitl [HO]
  · iexists W'; isplitr; · ipureintro; exact fun _ _ => Or.inl trivial
    iexact HO
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    exact out_read c (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (fun j => dG c (512 * t.val + j))
      (iblk m c 0 t) (iblk m c 1 t) (iblk m c 2 t) (iblk m c 3 t) (m ((c : Thread nD τ).loc main_arg4)) Z (gath m dG c t.val) (grid0.coords t) hd hlt hnew f4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m dG 0 c) (defs₀ (F := F)) Variants.none () Set.univ := fun t => by
  rw [bigSep_W0, bigSep_W0, defs₀_row hT]
  exact triple_restated (sound_body hT c t) rfl .rfl fun _ => .rfl

omit hT in
set_option maxHeartbeats 800000 in
theorem hmainC (𝒱₀ : Variants) :
    Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

/-- The array the kernel carries from point to point. -/
def R0 : Finset (Ref sig .tc) := {main_arg4}
omit hT in
theorem R0_sub : R0 ⊆ Pipeline.restRefs sig spec0 := by decide

set_option backward.isDefEq.respectTransparency.types false in
/-- Every weakly fair run of the launch ends with the result array at the stored blocks, the arguments as they were and
    every semaphore counter at zero. -/
theorem run_main :
    θ_run defs (onTc (τ := τ) (main (F := F))) (s₀ m ρ)
      (fun r => (∀ c : Dev nD,
        r.2.mem ((c : Thread nD τ).loc main_v2) = (dats m dG 0 c).arrAt 4 cfg0.N
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.sem = fun _ => 0) :=
  Pipeline.θ_run_frame_routed cfgs (dats m dG) (0 : Fin 1) launch0 (osem := osem0) ownSemFacts0 defs₀ Variants.none m ρ main
    (hbody := fun c => (body_obligation hT c).loose) (hshare := fun c => (dats m dG 0 c).share_full fun _ => rfl)
    (howed := fun _ _ => rfl) (V := V m) (hmain := hmainC Variants.none) (hA := A_eq m dG)
    (R := R0) (hR := R0_sub) (Y := V m)
    (hin := fun c => by
      unfold Pipeline.Ends R0
      rw [Pipeline.routed_singleton, ownSems00_eq, scopedRest0_eq, V_main_arg4 m c]
      rw [show (dats m dG 0 c).Φ 0 = inv m c from rfl]
      unfold inv
      iintro ⟨HY, HV, HZ, Hg⟩
      isplitl [HY]; · iexact HY
      isplitl [HZ]; · iexact HZ
      isplitl [HV]; · iexact HV
      iexact Hg)
    (hout := fun c => by
      unfold Pipeline.Ends R0
      rw [Pipeline.routed_singleton, ownSems00_eq, scopedRest0_eq, V_main_arg4 m c]
      rw [show (dats m dG 0 c).Φ (Fin.last (cfgs 0).N) = inv m c from rfl]
      unfold inv
      iintro ⟨HY, HZ, HV, Hg⟩
      isplitl [HY]; · iexact HY
      isplitl [HV]; · iexact HV
      isplitl [HZ]; · iexact HZ
      iexact Hg)
    (Q' := _) (hQ' := fun r h => by
      refine ⟨fun c => ⟨?_, ?_, ?_, ?_, ?_, ?_⟩, h.2⟩
      · exact (h.1 c).1 4
      · exact ((h.1 c).2.2 main_arg0 (Finset.mem_sdiff.2 ⟨Pipeline.mem_restRefs_of main_arg0 (by decide) (by decide), by decide⟩)).trans
          (V_main_arg0 m c)
      · exact ((h.1 c).1 1).trans ((Dat.arrAt_in _ 1 rfl _).trans ((A_eq m dG c 1).trans (V_main_arg1 m c)))
      · exact ((h.1 c).1 2).trans ((Dat.arrAt_in _ 2 rfl _).trans ((A_eq m dG c 2).trans (V_main_arg2 m c)))
      · exact ((h.1 c).2.2 main_arg3 (Finset.mem_sdiff.2 ⟨Pipeline.mem_restRefs_of main_arg3 (by decide) (by decide), by decide⟩)).trans
          (V_main_arg3 m c)
      · exact ((h.1 c).2.1 main_arg4 (Finset.mem_singleton_self _)).trans (V_main_arg4 m c))

end Body
end Cert.Kernel4Ideal.Combine

end
-- ==== Proof.Combine.Value.lean ====
/-
  Hand-written. The combination at the ideal values: a token's residual plus its two experts' rows by their gates, divided
  by its root mean square and scaled; first as a function of the arguments, then as what a stored block holds, then as the
  whole result array.
-/
module

public import proofs.«01_k».proof.Proof.Combine.Launch
public import proofs.«01_k».proof.Proof.Experts.Value

@[expose] public section

set_option maxRecDepth 16384

noncomputable section

namespace Cert.Combine

open Idealize.ShloMosaic

/-- A token's residual with its two experts' rows `E 0` and `E 1` added, each by its gate, at a column. -/
def mixed (x : Fin 2048 → EReal) (g : Fin 2 → EReal) (E : Fin 2 → Fin 2048 → EReal) (k : Fin 2048) : EReal :=
  x k + (g 0 * E 0 k + g 1 * E 1 k)

/-- A row divided by its root mean square, scaled, at a column. -/
def normed (y w : Fin 2048 → EReal) (k : Fin 2048) : EReal :=
  y k * Ideal.rsqrt ((∑ j, y j * y j) * Ideal.ofBits .f32 0x3A000000#32 + Ideal.ofBits .f32 0x358637BD#32) * w k

/-- The result at a token and column: `e R s` is the row the token's destination `s` names. -/
def result (e : Fin 16384 → Fin 2 → Fin 49152) (X : (⟨2, ![16384, 2048]⟩ : Shape).Idx → EReal) (G : (⟨2, ![16384, 128]⟩ : Shape).Idx → EReal)
    (w : (⟨1, ![2048]⟩ : Shape).Idx → EReal) (W : (⟨2, ![49152, 1024]⟩ : Shape).Idx → BitVec 32) (R : Fin 16384) (k : Fin 2048) : EReal :=
  normed (mixed (fun j => X (ix2 R j)) (fun s => G (ix2 R ⟨s.val, by omega⟩)) (fun s j => Cert.Experts.rows W (ix2 (e R s) j))) (fun j => w (ix1 j)) k

end Cert.Combine

namespace Cert.Kernel4Ideal.Combine

open Cert.Kernel4Ideal Cert.Kernel4Ideal.Gen
open Idealize.ShloMosaic Idealize.ShloMosaic.TcCoe
open Cert.Kernel2Ideal.Experts (window_apply)

/-- The left half of the rows before the norm. -/
theorem left_apply (x3 : S256x128.Idx → EReal) (A : S256x1024.Idx → EReal) (G0 G1 : S1x256x1024.Idx → BitVec 32) (r : Fin 256) (j : Fin 1024) :
    k0_pay11 (F := Ideal) x3 A G0 G1 (ix2 r j) = A (ix2 r j) + x3 (ix2 r 0) * Cert.Experts.upper (G0 (ix3 0 r j)) + x3 (ix2 r 1) * Cert.Experts.upper (G1 (ix3 0 r j)) := by
  unfold k0_pay11 k0_pay5 k0_pay6 k0_pay8 k0_pay10
  pointwise
  simp only [← Cert.Experts.ofBits_upper]
  rfl

/-- The right half of the rows before the norm. -/
theorem right_apply (x3 : S256x128.Idx → EReal) (A : S256x1024.Idx → EReal) (G0 G1 : S1x256x1024.Idx → BitVec 32) (r : Fin 256) (j : Fin 1024) :
    k0_pay1 (F := Ideal) (k0_pay7 x3 A G0) (k0_pay9 G1) (k0_pay12 x3) (ix2 r j)
      = A (ix2 r j) + x3 (ix2 r 0) * Cert.Experts.lower (G0 (ix3 0 r j)) + x3 (ix2 r 1) * Cert.Experts.lower (G1 (ix3 0 r j)) := by
  unfold k0_pay1 k0_pay7 k0_pay9 k0_pay12 k0_pay5 k0_pay6 k0_pay8 k0_pay10
  pointwise
  simp only [← Cert.Experts.ofBits_lower]
  rfl

/-- One over the root mean square of a row, from its two halves. -/
theorem scale_apply (v19 v27 v31 v32 : S256x1024.Idx → EReal) (r : Fin 256) :
    k0_pay2 (F := Ideal) v19 v27 v31 v32 (ix2 r 0) = Ideal.rsqrt (((∑ j : Fin 1024, v31 (ix2 r j) * v31 (ix2 r j))
      + ∑ j : Fin 1024, k0_pay1 (F := Ideal) v19 v27 v32 (ix2 r j) * k0_pay1 (F := Ideal) v19 v27 v32 (ix2 r j)) * Ideal.ofBits .f32 0x3A000000#32 + Ideal.ofBits .f32 0x358637BD#32) := by
  unfold k0_pay2
  generalize k0_pay1 (F := Ideal) v19 v27 v32 = L
  pointwise

theorem outLeft_apply (v19 v27 v31 v32 : S256x1024.Idx → EReal) (w : S1x1024.Idx → EReal) (r : Fin 256) (j : Fin 1024) :
    k0_pay3 (F := Ideal) v19 v27 v31 v32 w (ix2 r j) = v31 (ix2 r j) * k0_pay2 (F := Ideal) v19 v27 v31 v32 (ix2 r 0) * w (ix2 0 j) := by
  unfold k0_pay3
  generalize k0_pay2 (F := Ideal) v19 v27 v31 v32 = q
  pointwise

theorem outRight_apply (v19 v27 v31 v32 : S256x1024.Idx → EReal) (w : S1x1024.Idx → EReal) (r : Fin 256) (j : Fin 1024) :
    k0_pay4 (F := Ideal) v19 v27 v31 v32 w (ix2 r j) = k0_pay1 (F := Ideal) v19 v27 v32 (ix2 r j) * k0_pay2 (F := Ideal) v19 v27 v31 v32 (ix2 r 0) * w (ix2 0 j) := by
  unfold k0_pay4
  generalize k0_pay2 (F := Ideal) v19 v27 v31 v32 = q
  generalize k0_pay1 (F := Ideal) v19 v27 v32 = L
  pointwise

/-- A stored block at a place, from the two experts' rows of its token. -/
theorem outOf_apply (x2 : S256x2048.Idx → EReal) (x3 : S256x128.Idx → EReal) (x4 : S1x2048.Idx → EReal) (G : S2x256x1024.Idx → BitVec 32) (r : Fin 256) (k : Fin 2048)
    (E : Fin 2 → Fin 2048 → EReal) (hl : ∀ s (j : Fin 1024), E s ⟨j.val, by omega⟩ = Cert.Experts.upper (G (ix3 s r j)))
    (hr : ∀ s (j : Fin 1024), E s ⟨1024 + j.val, by omega⟩ = Cert.Experts.lower (G (ix3 s r j))) :
    outOf (F := Ideal) x2 x3 x4 G (ix2 r k)
      = Cert.Combine.normed (Cert.Combine.mixed (fun j => x2 (ix2 r j)) (fun s => x3 (ix2 r ⟨s.val, by omega⟩)) E) (fun j => x4 (ix2 0 j)) k := by
  have hG0 : ∀ j : Fin 1024, VecWindow.window G ![0, 0, 0] S1x256x1024.size inb_S2x256x1024_S1x256x1024_0_0_0 (ix3 0 r j) = G (ix3 0 r j) := fun j =>
    congrArg G (funext fun a : Fin 3 => Fin.ext (match a with
      | 0 => rfl | 1 => show 0 + 1 * r.val = r.val by omega | 2 => show 0 + 1 * j.val = j.val by omega))
  have hG1 : ∀ j : Fin 1024, VecWindow.window G ![1, 0, 0] S1x256x1024.size inb_S2x256x1024_S1x256x1024_1_0_0 (ix3 0 r j) = G (ix3 1 r j) := fun j =>
    congrArg G (funext fun a : Fin 3 => Fin.ext (match a with
      | 0 => rfl | 1 => show 0 + 1 * r.val = r.val by omega | 2 => show 0 + 1 * j.val = j.val by omega))
  have hA0 : ∀ j : Fin 1024, VecWindow.window x2 ![0, 0] S256x1024.size inb_S256x2048_S256x1024_0_0 (ix2 r j) = x2 (ix2 r ⟨j.val, by omega⟩) :=
    fun j => window_apply x2 _ _ r j _ _ (Nat.zero_add _).symm (Nat.zero_add _).symm
  have hA1 : ∀ j : Fin 1024, VecWindow.window x2 ![0, 1024] S256x1024.size inb_S256x2048_S256x1024_0_1024 (ix2 r j) = x2 (ix2 r ⟨1024 + j.val, by omega⟩) :=
    fun j => window_apply x2 _ _ r j _ _ (Nat.zero_add _).symm rfl
  have hW0 : ∀ j : Fin 1024, VecWindow.window x4 ![0, 0] S1x1024.size inb_S1x2048_S1x1024_0_0 (ix2 0 j) = x4 (ix2 0 ⟨j.val, by omega⟩) :=
    fun j => window_apply x4 _ _ 0 j _ _ rfl (Nat.zero_add _).symm
  have hW1 : ∀ j : Fin 1024, VecWindow.window x4 ![0, 1024] S1x1024.size inb_S1x2048_S1x1024_0_1024 (ix2 0 j) = x4 (ix2 0 ⟨1024 + j.val, by omega⟩) :=
    fun j => window_apply x4 _ _ 0 j _ _ rfl rfl
  unfold outOf outHi outLo
  generalize VecWindow.window G ![0, 0, 0] S1x256x1024.size inb_S2x256x1024_S1x256x1024_0_0_0 = G0 at hG0 ⊢
  generalize VecWindow.window G ![1, 0, 0] S1x256x1024.size inb_S2x256x1024_S1x256x1024_1_0_0 = G1 at hG1 ⊢
  generalize VecWindow.window x2 ![0, 0] S256x1024.size inb_S256x2048_S256x1024_0_0 = A0 at hA0 ⊢
  generalize VecWindow.window x2 ![0, 1024] S256x1024.size inb_S256x2048_S256x1024_0_1024 = A1 at hA1 ⊢
  generalize VecWindow.window x4 ![0, 0] S1x1024.size inb_S1x2048_S1x1024_0_0 = W0 at hW0 ⊢
  generalize VecWindow.window x4 ![0, 1024] S1x1024.size inb_S1x2048_S1x1024_0_1024 = W1 at hW1 ⊢
  generalize hY : Cert.Combine.mixed (fun j => x2 (ix2 r j)) (fun s => x3 (ix2 r ⟨s.val, by omega⟩)) E = Y
  have hL : ∀ j : Fin 1024, k0_pay11 (F := Ideal) x3 A0 G0 G1 (ix2 r j) = Y ⟨j.val, by omega⟩ := fun j => by
    rw [left_apply, hA0, hG0, hG1, ← hl, ← hl, add_assoc, ← hY]; rfl
  have hR : ∀ j : Fin 1024, k0_pay1 (F := Ideal) (k0_pay7 x3 A1 G0) (k0_pay9 G1) (k0_pay12 x3) (ix2 r j) = Y ⟨1024 + j.val, by omega⟩ := fun j => by
    rw [right_apply, hA1, hG0, hG1, ← hr, ← hr, add_assoc, ← hY]; rfl
  have hS : k0_pay2 (F := Ideal) (k0_pay7 x3 A1 G0) (k0_pay9 G1) (k0_pay11 x3 A0 G0 G1) (k0_pay12 x3) (ix2 r 0)
      = Ideal.rsqrt ((∑ j, Y j * Y j) * Ideal.ofBits .f32 0x3A000000#32 + Ideal.ofBits .f32 0x358637BD#32) := by
    rw [scale_apply]
    simp only [hL, hR]
    rw [Cert.Experts.sum_halves fun j => Y j * Y j]
  unfold Cert.Combine.normed
  by_cases h : k.val < 1024
  · rw [dif_pos (show ((ix2 r k : S256x2048.Idx) 1).val < 1024 from h)]
    refine (outLeft_apply _ _ _ _ _ r ⟨k.val, h⟩).trans ?_
    rw [hL, hS, hW0]
  · rw [dif_neg (show ¬ ((ix2 r k : S256x2048.Idx) 1).val < 1024 from h)]
    refine (outRight_apply _ _ _ _ _ r ⟨k.val - 1024, by omega⟩).trans ?_
    rw [hR, hS, hW1]
    have hk : (⟨1024 + (k.val - 1024), by omega⟩ : Fin 2048) = k := Fin.ext (by show 1024 + (k.val - 1024) = k.val; omega)
    show Y ⟨1024 + (k.val - 1024), _⟩ * _ * x4 (ix2 0 ⟨1024 + (k.val - 1024), _⟩) = _
    rw [hk]

variable (m : (ℓ : Loc nD τ sig) → Buf (Elt Ideal) ℓ) (dG : Dev nD → ℕ → ℕ)

/-! ## The staged blocks in the arrays -/

theorem coords_nat (t : Fin cfg0.N) : (BitVec.ofNat 32 (grid0.coords t 0).val).toNat = t.val := by
  rw [coords_val, BitVec.toNat_ofNat, Nat.mod_eq_of_lt (by have : t.val < 64 := t.isLt; omega)]

theorem residual_at (c : Dev nD) (t : Fin cfg0.N) (r : Fin 256) (j : Fin 2048) (R : Fin 16384) (h : R.val = t.val * 256 + r.val) :
    iblk m c 1 t (ix2 (n0 := 256) (n1 := 2048) r j) = m ((c : Thread nD τ).loc main_arg1) (ix2 (n0 := 16384) (n1 := 2048) R j) := by
  refine Eq.trans ?_ (congrFun (V_main_arg1 m c) _)
  unfold iblk
  show V m c main_arg1 _ = V m c main_arg1 _
  refine congrArg _ (funext fun a : Fin 2 => Fin.ext ?_)
  match a with
  | 0 => show (BitVec.ofNat 32 (grid0.coords t 0).val).toNat * 256 + 1 * r.val = R.val; rw [coords_nat]; omega
  | 1 => show 0 * 2048 + 1 * j.val = j.val; omega

theorem gate_at (c : Dev nD) (t : Fin cfg0.N) (r : Fin 256) (j : Fin 128) (R : Fin 16384) (h : R.val = t.val * 256 + r.val) :
    iblk m c 2 t (ix2 (n0 := 256) (n1 := 128) r j) = m ((c : Thread nD τ).loc main_arg2) (ix2 (n0 := 16384) (n1 := 128) R j) := by
  refine Eq.trans ?_ (congrFun (V_main_arg2 m c) _)
  unfold iblk
  show V m c main_arg2 _ = V m c main_arg2 _
  refine congrArg _ (funext fun a : Fin 2 => Fin.ext ?_)
  match a with
  | 0 => show (BitVec.ofNat 32 (grid0.coords t 0).val).toNat * 256 + 1 * r.val = R.val; rw [coords_nat]; omega
  | 1 => show 0 * 128 + 1 * j.val = j.val; omega

theorem weight_at (c : Dev nD) (t : Fin cfg0.N) (j : Fin 2048) :
    iblk m c 3 t (ix2 (n0 := 1) (n1 := 2048) 0 j) = V m c main_v0 (ix2 (n0 := 1) (n1 := 2048) 0 j) := by
  unfold iblk
  show V m c main_v0 _ = V m c main_v0 _
  refine congrArg _ (funext fun a : Fin 2 => Fin.ext ?_)
  match a with
  | 0 => rfl
  | 1 => show 0 * 2048 + 1 * j.val = j.val; omega

/-- A block of the result, at a place. -/
theorem oblk_apply (c : Dev nD) (t : Fin cfg0.N) (e : Fin 16384 → Fin 2 → Fin 49152) (he : ∀ R s, dG c (2 * R.val + s.val) = (e R s).val)
    (w : (⟨1, ![2048]⟩ : Shape).Idx → EReal) (hw : ∀ j : Fin 2048, V m c main_v0 (ix2 (n0 := 1) (n1 := 2048) 0 j) = w (ix1 j))
    (r : Fin 256) (k : Fin 2048) (R : Fin 16384) (h : R.val = t.val * 256 + r.val) :
    oblk m dG c t (ix2 r k) = Cert.Combine.result e (m ((c : Thread nD τ).loc main_arg1)) (m ((c : Thread nD τ).loc main_arg2)) w (m ((c : Thread nD τ).loc main_arg4)) R k := by
  have hg : ∀ (s : Fin 2) (j : Fin 1024), gath m dG c t.val (ix3 s r j) = m ((c : Thread nD τ).loc main_arg4) (ix2 (n0 := 49152) (n1 := 1024) (e R s) j) := fun s j => by
    show rowAt (m ((c : Thread nD τ).loc main_arg4)) (dG c (512 * t.val + (2 * r.val + s.val))) j = _
    rw [show 512 * t.val + (2 * r.val + s.val) = 2 * R.val + s.val by omega, he]
    exact rowAt_eq _ (e R s).isLt j
  unfold oblk Cert.Combine.result
  rw [outOf_apply (E := fun s j => Cert.Experts.rows (m ((c : Thread nD τ).loc main_arg4)) (ix2 (e R s) j))
    (hl := fun s j => by rw [hg]; exact Cert.Experts.rows_left _ _ j) (hr := fun s j => by rw [hg]; exact Cert.Experts.rows_right _ _ j)]
  refine congrArg₂ (fun y w => Cert.Combine.normed y w k) (congrArg₂ (fun x g => Cert.Combine.mixed x g _) (funext fun j => ?_) (funext fun s => ?_)) (funext fun j => ?_)
  · exact residual_at m c t r j R h
  · exact gate_at m c t r _ R h
  · exact (weight_at m c t j).trans (hw j)

/-- The result array. -/
def final (c : Dev nD) (e : Fin 16384 → Fin 2 → Fin 49152) (w : (⟨1, ![2048]⟩ : Shape).Idx → EReal) : S16384x2048.Idx → EReal := fun i =>
  Cert.Combine.result e (m ((c : Thread nD τ).loc main_arg1)) (m ((c : Thread nD τ).loc main_arg2)) w (m ((c : Thread nD τ).loc main_arg4)) (i 0) (i 1)

theorem index4 (t : Fin cfg0.N) : (cfg0.win 4).index t = ![t.val, 0] := by
  refine funext fun a : Fin 2 => ?_
  match a with
  | 0 => exact coords_nat t
  | 1 => rfl

theorem flushed4 (c : Dev nD) (e : Fin 16384 → Fin 2 → Fin 49152) (he : ∀ R s, dG c (2 * R.val + s.val) = (e R s).val)
    (w : (⟨1, ![2048]⟩ : Shape).Idx → EReal) (hw : ∀ j : Fin 2048, V m c main_v0 (ix2 (n0 := 1) (n1 := 2048) 0 j) = w (ix1 j)) (t : Fin cfg0.N) :
    (dats m dG 0 c).flushed 4 t = ((cfg0.win 4).blk t).view.read (Elt Ideal) (final m c e w) := by
  show (cfg0.win 4).cut (grid0.coords t) ((dats m dG 0 c).after 4 t) = _
  rw [after0_4]
  refine funext fun y : S256x2048.Idx => ?_
  have hy0 : (y 0).val < 256 := (y 0).isLt
  have ht : t.val < 64 := t.isLt
  have hy : y = ix2 (y 0) (y 1) := funext fun ax : Fin 2 => match ax with | 0 => rfl | 1 => rfl
  show oblk m dG c t y = _
  refine (congrArg (oblk m dG c t) hy).trans ?_
  refine (oblk_apply m dG c t e he w hw (y 0) (y 1) ⟨t.val * 256 + (y 0).val, by omega⟩ rfl).trans ?_
  refine congrArg (final m c e w) (a₁ := ix2 ⟨t.val * 256 + (y 0).val, _⟩ (y 1)) (funext fun ax : Fin 2 => Fin.ext ?_)
  refine Eq.trans ?_ (Pipeline.Window.rect_emb_val (cfg0.win 4) t y ax).symm
  rw [index4]
  match ax with
  | 0 => rfl
  | 1 => show (y 1).val = 0 * 2048 + (y 1).val; omega

theorem cover4 (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  have hN : cfg0.N = 64 := N_0
  refine ⟨⟨(i 0).val / 256, by omega⟩, flush0_4 _, ?_⟩
  refine (Pipeline.Window.emb_mem_blk_iff (cfg0.win 4) _ i).2 ?_
  rw [index4]
  intro ax
  match ax with
  | ⟨0, _⟩ => show (i 0).val / 256 * 256 ≤ (i 0).val ∧ (i 0).val < (i 0).val / 256 * 256 + 256; omega
  | ⟨1, _⟩ => show 0 * 2048 ≤ (i 1).val ∧ (i 1).val < 0 * 2048 + 2048; omega

theorem arr4 (c : Dev nD) (e : Fin 16384 → Fin 2 → Fin 49152) (he : ∀ R s, dG c (2 * R.val + s.val) = (e R s).val)
    (w : (⟨1, ![2048]⟩ : Shape).Idx → EReal) (hw : ∀ j : Fin 2048, V m c main_v0 (ix2 (n0 := 1) (n1 := 2048) 0 j) = w (ix1 j)) :
    (dats m dG 0 c).arrAt 4 cfg0.N = final m c e w :=
  (dats m dG 0 c).arrAt_eq_of_cover 4 (final m c e w) (fun t _ => flushed4 m dG c e he w hw t) cover4

end Cert.Kernel4Ideal.Combine

end
-- ==== Proof.Combine.Ref.lean ====
/-
  Hand-written. The reference of the combination at an index: the token's residual and its two gated rows, by the row's
  root mean square.
-/
module

public import proofs.«01_k».proof.Proof.Combine.Value
public import proofs.«01_k».proof.Proof.Experts.Ref
public import proofs.«01_k».proof.Proof.Gen.Reference4Ideal.Run

@[expose] public section

set_option maxRecDepth 16384

noncomputable section

namespace Cert.Reference4Ideal.Combine

open Cert.Reference4Ideal Cert.Reference4Ideal.Gen
open Idealize.ShloMosaic

theorem gather_row {α : Type} (x : S49152x2048.Idx → α) (idx : IVec S32768x1 32) (t : Fin 32768) (k : Fin 2048) (e : Fin 49152)
    (h : (idx (ix2 t 0)).toInt.toNat = e.val) :
    Host.gather gather_S49152x2048_S32768x1_S32768x2048_1_0_n_n_0_1_12048 x idx (ix2 t k) = x (ix2 e k) := by
  have s1 : GatherDims.start gather_S49152x2048_S32768x1_S32768x2048_1_0_n_n_0_1_12048 (ix2 t k) idx 1 = 0 := rfl
  have o0 : GatherDims.offCoord gather_S49152x2048_S32768x1_S32768x2048_1_0_n_n_0_1_12048 (ix2 t k) 0 = 0 := rfl
  have o1 : GatherDims.offCoord gather_S49152x2048_S32768x1_S32768x2048_1_0_n_n_0_1_12048 (ix2 t k) 1 = k.val := rfl
  have hb : ∀ a, GatherDims.batchCoord gather_S49152x2048_S32768x1_S32768x2048_1_0_n_n_0_1_12048 (ix2 t k) a = 0 := fun _ => rfl
  have s0 : GatherDims.start gather_S49152x2048_S32768x1_S32768x2048_1_0_n_n_0_1_12048 (ix2 t k) idx 0 = min (idx (ix2 t 0)).toInt.toNat 49151 := by
    refine congrArg (fun i => min (idx i).toInt.toNat 49151) (funext fun a : Fin 2 => ?_)
    match a with
    | 0 => rfl
    | 1 => rfl
  unfold Host.gather
  refine congrArg x (funext fun a : Fin 2 => Fin.ext ?_)
  match a with
  | 0 =>
    refine (congrArg₂ (· + ·) (congrArg₂ (· + ·) s0 (hb 0)) o0).trans ?_
    show min _ 49151 + 0 + 0 = e.val
    rw [h]; omega
  | 1 =>
    refine (congrArg₂ (· + ·) (congrArg₂ (· + ·) s1 (hb 1)) o1).trans ?_
    exact Nat.zero_add _

/-- The reference's place of a destination, taken from the end where it is negative. -/
def place (d : S32768.Idx → BitVec 32) : IVec S32768x1 32 :=
  broadcastInDim S32768x1 ![0] bcast_S32768_S32768x1_0 (select (cmpi .slt d (broadcastInDim S32768 ![] bcast_S_S32768 (constantI S_ 32 0#32)))
    (addi d (broadcastInDim S32768 ![] bcast_S_S32768 (constantI S_ 32 49152#32))) d)

theorem place_apply (d : S32768.Idx → BitVec 32) (t : Fin 32768) (h : 0 ≤ (d (ix1 t)).toInt) : place d (ix2 t 0) = d (ix1 t) := by
  unfold place
  pointwise
  have hs : (d (ix1 t)).slt 0#32 = false := by
    rw [← Bool.not_eq_true, BitVec.slt_iff_toInt_lt]; exact not_lt.2 h
  show (if BitVec.ofBool ((d (ix1 t)).slt 0#32) = 1#1 then _ else _) = _
  rw [hs]; rfl

/-- The rows the reference reads from the words. -/
def termRows (W : S49152x1024.Idx → BitVec 32) : S49152x2048.Idx → EReal :=
  concatenate S49152x2048 1 [⟨S49152x1024, (bitcastToFloat (F := Ideal) .bf16 (trunci 16 (Host.shrui W (broadcastInDim S49152x1024 ![] bcast_S_S49152x1024 (constantI S_ 32 16#32))) natLt_16_32))⟩,
    ⟨S49152x1024, (bitcastToFloat (F := Ideal) .bf16 (trunci 16 W natLt_16_32))⟩] concatenates_S49152x1024_S49152x1024_S49152x2048_d1

theorem termRows_eq (W : S49152x1024.Idx → BitVec 32) : termRows W = Cert.Experts.rows W :=
  Cert.Reference2Ideal.Experts.termRows_eq W

/-- The residual with the gated rows added. -/
def termMixed (X : S16384x2048.Idx → EReal) (G : S16384x128.Idx → EReal) (E : S32768x2048.Idx → EReal) : S16384x2048.Idx → EReal :=
  addf (F := Ideal) (φ := .f32) X (Host.reduceAdd (F := Ideal) (φ := .f32) (mulf (F := Ideal) (φ := .f32) (broadcastInDim S16384x2x2048 ![0, 1, 2] bcast_S16384x2x1_S16384x2x2048_0_1_2 (broadcastInDim S16384x2x1 ![0, 1] bcast_S16384x2_S16384x2x1_0_1
    (extractStridedSlice S16384x2 ![0, 0] G slices_S16384x128_S16384x2_0_0))) (shapeCast S16384x2x2048 E shapeCasts_S32768x2048_S16384x2x2048)) (constant (F := Ideal) S_ .f32 0x00000000#32) reducesTo_S16384x2x2048_S16384x2048_d1 h_S_)

theorem pairs_apply (E : S32768x2048.Idx → EReal) (R : Fin 16384) (s : Fin 2) (k : Fin 2048) (t : Fin 32768) (ht : t.val = 2 * R.val + s.val) :
    shapeCast S16384x2x2048 E shapeCasts_S32768x2048_S16384x2x2048 (ix3 R s k) = E (ix2 t k) := by
  have h : t = ⟨R.val * 2 + s.val, by omega⟩ := Fin.ext (by show t.val = R.val * 2 + s.val; omega)
  rw [h]
  pointwise

theorem termMixed_apply (X : S16384x2048.Idx → EReal) (G : S16384x128.Idx → EReal) (E : S32768x2048.Idx → EReal) (R : Fin 16384) (k : Fin 2048)
    (E' : Fin 2 → Fin 2048 → EReal) (hE : ∀ s j, E (ix2 (n0 := 32768) (n1 := 2048) ⟨2 * R.val + s.val, by omega⟩ j) = E' s j) :
    termMixed X G E (ix2 R k) = Cert.Combine.mixed (fun j => X (ix2 R j)) (fun s => G (ix2 R ⟨s.val, by omega⟩)) E' k := by
  have hP : ∀ s j, shapeCast S16384x2x2048 E shapeCasts_S32768x2048_S16384x2x2048 (ix3 R s j) = E' s j := fun s j =>
    (pairs_apply E R s j _ rfl).trans (hE s j)
  unfold termMixed Cert.Combine.mixed
  generalize shapeCast S16384x2x2048 E shapeCasts_S32768x2048_S16384x2x2048 = P at hP ⊢
  pointwise
  simp only [hP, Fin.sum_univ_two]
  rfl

/-- The rows by their root mean squares, scaled. -/
def termNormed (Y : S16384x2048.Idx → EReal) (w : S2048.Idx → EReal) : S16384x2048.Idx → EReal :=
  mulf (F := Ideal) (φ := .f32) (mulf (F := Ideal) (φ := .f32) Y (broadcastInDim S16384x2048 ![0, 1] bcast_S16384x1_S16384x2048_0_1 (Host.rsqrt (F := Ideal) (φ := .f32) (addf (F := Ideal) (φ := .f32) (Host.divf (F := Ideal) (φ := .f32) (broadcastInDim S16384x1 ![0] bcast_S16384_S16384x1_0
    (Host.reduceAdd (F := Ideal) (φ := .f32) (mulf (F := Ideal) (φ := .f32) Y Y) (constant (F := Ideal) S_ .f32 0x00000000#32) reducesTo_S16384x2048_S16384_d1 h_S_)) (broadcastInDim S16384x1 ![] bcast_S_S16384x1 (constant (F := Ideal) S_ .f32 0x45000000#32)))
    (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 w))

theorem ofBits_2048 : Ideal.ofBits .f32 0x45000000#32 = ((2048 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

/-- Dividing by 2048 is multiplying by its inverse, at every extended real. -/
theorem div_2048 (x : EReal) : Ideal.div x (Ideal.ofBits .f32 0x45000000#32) = x * Ideal.ofBits .f32 0x3A000000#32 := by
  rw [ofBits_2048, ofBits_inv_2048]
  exact Ideal.div_coe (by norm_num) x

theorem termNormed_apply (Y : S16384x2048.Idx → EReal) (w : S2048.Idx → EReal) (R : Fin 16384) (k : Fin 2048) :
    termNormed Y w (ix2 R k) = Cert.Combine.normed (fun j => Y (ix2 R j)) (fun j => w (ix1 j)) k := by
  unfold termNormed Cert.Combine.normed
  pointwise
  simp only [div_2048]

/-- The reference's result, where every destination names a row. -/
theorem reference_apply (d : S32768.Idx → BitVec 32) (e : Fin 16384 → Fin 2 → Fin 49152)
    (he : ∀ R s, (d (ix1 ⟨2 * R.val + s.val, by omega⟩)).toInt = (e R s).val)
    (X : S16384x2048.Idx → EReal) (G : S16384x128.Idx → EReal) (w : S2048.Idx → EReal) (W : S49152x1024.Idx → BitVec 32) (R : Fin 16384) (k : Fin 2048) :
    termNormed (termMixed X G (Host.gather gather_S49152x2048_S32768x1_S32768x2048_1_0_n_n_0_1_12048 (termRows W) (place d))) w (ix2 R k)
      = Cert.Combine.result e X G w W R k := by
  rw [termRows_eq, termNormed_apply]
  unfold Cert.Combine.result
  refine congrArg (fun y => Cert.Combine.normed y _ k) (funext fun j => ?_)
  refine termMixed_apply X G _ R j _ fun s j => ?_
  have h0 : 0 ≤ (d (ix1 ⟨2 * R.val + s.val, by omega⟩)).toInt := by rw [he]; exact Int.natCast_nonneg _
  refine gather_row _ _ _ j (e R s) ?_
  rw [place_apply d _ h0, he]
  exact Int.toNat_natCast _

end Cert.Reference4Ideal.Combine

end
-- ==== Proof.Combine.Run.lean ====
/-
  Hand-written. The combination from any memory whose destinations name rows: what its run ends with.
-/
module

public import proofs.«01_k».proof.Proof.Combine.Value
public import proofs.«01_k».proof.Proof.Experts.Run
public import proofs.«01_k».proof.Proof.Gen.Pre_rows_in_range
public import proofs.«01_k».proof.Pre_rows_in_range
public import Idealize.ShloMosaic.Lib.Pointwise
public import Idealize.ShloMosaic.Lib.Routing.Ops

@[expose] public section

set_option maxRecDepth 16384

noncomputable section

namespace Cert.Kernel4Ideal.Combine

open Cert.Kernel4Ideal Cert.Kernel4Ideal.Gen
open Idealize.ShloMosaic Idealize.ShloMosaic.TcCoe Idealize.SL.Sem

variable {F : FTy → Type} [FloatOps F] [∀ e, Nonempty (Elt F e)]

/-- Every destination names one of the rows. -/
def InRange (d : S32768.Idx → BitVec 32) : Prop := ∀ t : Fin 32768, (d (ix1 t)).toNat < 49152

theorem inRange_of_pre (d : IVec Cert.Pre_rows_in_range.S32768 32) (x g w y)
    (h : Cert.Pre_rows_in_range.fn (F := F) d x g w y = fun _ => 1#1) : InRange d := by
  intro t
  have h1 := congrFun h ValueIdx.ix0
  unfold Cert.Pre_rows_in_range.fn at h1
  change Host.reduce IntOp.andi _ _ _ _ ValueIdx.ix0 = 1#1 at h1
  rw [Host.reduce_eq_fold] at h1
  have h3 := Cert.Kernel2Ideal.Experts.one_of_fold _ _ h1 (ix1 t) (Finset.mem_filter.2 ⟨Finset.mem_univ _, funext fun b => b.elim0⟩)
  change IntOp.andi (IntOp.cmpi .sge (d (ix1 t)) 0#32) (IntOp.cmpi .slt (d (ix1 t)) 49152#32) = 1#1 at h3
  generalize d (ix1 t) = v at h3 ⊢
  have hb : ∀ u v : BitVec 1, IntOp.andi u v = 1#1 → u = 1#1 ∧ v = 1#1 := by decide
  obtain ⟨h4, h5⟩ := hb _ _ h3
  have h6 : (0#32).sle v = true := (StableHlo.Predicate.ofBool_eq_one_iff _).1 h4
  have h7 : v.slt 49152#32 = true := (StableHlo.Predicate.ofBool_eq_one_iff _).1 h5
  have h8 : (0#32).toInt ≤ v.toInt := of_decide_eq_true h6
  have h9 : v.toInt < (49152#32).toInt := of_decide_eq_true h7
  rw [show (0#32).toInt = 0 from rfl] at h8
  rw [show (49152#32).toInt = 49152 from rfl] at h9
  rw [BitVec.toInt_eq_toNat_cond] at h8 h9
  have := v.isLt
  split at h8 <;> omega

/-- A destination in range, read with its sign. -/
theorem toInt_of_inRange {d : S32768.Idx → BitVec 32} (h : InRange d) (t : Fin 32768) : (d (ix1 t)).toInt = ((d (ix1 t)).toNat : ℤ) := by
  have := h t
  rw [BitVec.toInt_eq_toNat_cond]; omega

/-- The row destination `n` names. -/
def destOf (d : S32768.Idx → BitVec 32) (n : ℕ) : ℕ := if h : n < 32768 then (d (ix1 ⟨n, h⟩)).toNat else 0

/-- The row a token's destination names. -/
def rowOf (d : S32768.Idx → BitVec 32) (h : InRange d) (R : Fin 16384) (s : Fin 2) : Fin 49152 := ⟨(d (ix1 ⟨2 * R.val + s.val, by omega⟩)).toNat, h _⟩

theorem destOf_eq (d : S32768.Idx → BitVec 32) (h : InRange d) (R : Fin 16384) (s : Fin 2) : destOf d (2 * R.val + s.val) = (rowOf d h R s).val := by
  unfold destOf rowOf
  exact dif_pos (by omega)

variable (m : (ℓ : Loc nD τ sig) → Buf (Elt F) ℓ) (ρ : Dev nD → PrngReg)

theorem V_main_v1 (c : Dev nD) : V m c main_v1 = shapeCast S64x1x512 (m ((c : Thread nD τ).loc main_arg0) : S32768.Idx → BitVec 32) shapeCasts_S32768_S64x1x512 := by
  unfold V
  after_results_simp <;> rfl

theorem V_main_v0 (c : Dev nD) : V m c main_v0 = shapeCast S1x2048 (m ((c : Thread nD τ).loc main_arg3) : S2048.Idx → Elt F .f32) shapeCasts_S2048_S1x2048 := by
  unfold V
  after_results_simp <;> rfl

theorem weight_apply (c : Dev nD) (j : Fin 2048) :
    V m c main_v0 (ix2 (n0 := 1) (n1 := 2048) 0 j) = (m ((c : Thread nD τ).loc main_arg3) : S2048.Idx → Elt F .f32) (ix1 j) := by
  rw [V_main_v0]
  generalize (m ((c : Thread nD τ).loc main_arg3) : S2048.Idx → Elt F .f32) = w
  pointwise

theorem targets_of (h : ∀ c : Dev nD, InRange (m ((c : Thread nD τ).loc main_arg0))) (c : Dev nD) :
    Targets m (fun c => destOf (m ((c : Thread nD τ).loc main_arg0))) c where
  words p j := by
    have hp : 512 * p.val + j.val < 32768 := by omega
    rw [V_main_v1]
    refine (congrArg BitVec.toNat (Routing.cast13 (a := 64) (b := 1) (c := 512) (n := 32768) (m ((c : Thread nD τ).loc main_arg0) : S32768.Idx → BitVec 32) shapeCasts_S32768_S64x1x512 p 0 j
      ⟨512 * p.val + j.val, hp⟩ (by show 512 * p.val + j.val = (p.val * 1 + 0) * 512 + j.val; omega))).trans ?_
    show _ = destOf _ (512 * p.val + j.val)
    unfold destOf
    rw [dif_pos hp]
    exact congrArg (fun i => BitVec.toNat ((m ((c : Thread nD τ).loc main_arg0) : S32768.Idx → BitVec 32) i)) (funext fun ax : Fin 1 => match ax with | 0 => rfl)
  lt j hj := by
    show destOf _ j < 49152
    unfold destOf
    rw [dif_pos hj]
    exact h c _

end Cert.Kernel4Ideal.Combine

end
-- ==== Proof.Combine.Same.lean ====
/-
  Hand-written. The combination as written and as read at the ideal instance are one program over any float values:
  nothing in its text is replaced by an ideal operation.
-/
module

public import proofs.«01_k».proof.Proof.Gen.Kernel4
public import proofs.«01_k».proof.Proof.Gen.Kernel4Ideal

@[expose] public section

noncomputable section

namespace Cert.Combine.Same

open Idealize.ShloMosaic Idealize.ShloMosaic.TcCoe Idealize.SL.Sem

variable {F : FTy → Type} [FloatOps F]

theorem bodies : @Cert.Kernel4.defs₀ F _ _ = @Cert.Kernel4Ideal.defs₀ F _ _ := by
  unfold Cert.Kernel4.defs₀ Cert.Kernel4Ideal.defs₀
  refine congrArg Defs.onTc (funext fun l => funext fun a => ?_)
  match l, a with
  | 0, (t, s) => rfl
  | ⟨n + 1, h⟩, _ => exact absurd h (Nat.not_lt.2 (Nat.le_add_left _ _))

theorem tables : @Cert.Kernel4.defs F _ _ = @Cert.Kernel4Ideal.defs F _ _ := congrArg (Pipeline.defs _) bodies

theorem main_same : @Cert.Kernel4.main F _ = @Cert.Kernel4Ideal.main F _ := rfl

/-- A run of one program is a run of an equal one. -/
theorem carry {D₁ D₂ : Defs Cert.Kernel4.nD Cert.Kernel4.τ Cert.Kernel4.sig (Elt F) (Pipeline.Sig Cert.Kernel4.Λ₀ (Fin 1) fun p => (Cert.Kernel4.pcfgs (F := F) p).Adm)}
    {p₁ p₂ : Dev Cert.Kernel4.nD → Prog (TpuEff Cert.Kernel4.nD Cert.Kernel4.τ Cert.Kernel4.sig (Elt F)
      (Pipeline.Sig Cert.Kernel4.Λ₀ (Fin 1) fun p => (Cert.Kernel4.pcfgs (F := F) p).Adm) .tc) PUnit}
    (hD : D₁ = D₂) (hp : p₁ = p₂) {s} {Q} (h : θ_run D₂ (onTc (τ := Cert.Kernel4.τ) p₂) s Q) : θ_run D₁ (onTc (τ := Cert.Kernel4.τ) p₁) s Q := by
  subst hD hp
  exact h

end Cert.Combine.Same
-- ==== Proof.Combine.Claims.lean ====
/-
  Hand-written. The claims of the combination: its runs end with every argument as it was, and at the ideal values with the
  reference's result.
-/
module

public import proofs.«01_k».proof.Defs
public import proofs.«01_k».proof.Proof.Combine.Ref
public import proofs.«01_k».proof.Proof.Combine.Run
public import proofs.«01_k».proof.Proof.Combine.Same
public import proofs.«01_k».proof.Proof.Gen.Reference4
public import proofs.«01_k».proof.Proof.Gen.Reference4.Run
public import Idealize.ShloMosaic.Lib.Quiescent

@[expose] public section

set_option maxRecDepth 16384

noncomputable section

namespace Cert.Combine

open Idealize.ShloMosaic Idealize.ShloMosaic.TcCoe Idealize.SL.Sem
open Cert.Kernel4Ideal.Combine

theorem frame_kernelIdeal : Cert.quiescent_Kernel4Ideal := fun m ρ hp =>
  (θ_run (Cert.Kernel4Ideal.defs (F := Ideal)) _ _).mono (fun _ hr => ⟨fun c => (hr.1 c).2, hr.2⟩)
    (run_main (F := Ideal) ρ (targets_of m fun c => inRange_of_pre (F := Ideal) _ _ _ _ _ (hp c)))

theorem frame_kernel : Cert.quiescent_Kernel4 := fun m ρ hp =>
  Same.carry Same.tables Same.main_same
    ((θ_run (Cert.Kernel4Ideal.defs (F := Bits)) _ _).mono (fun _ hr => ⟨fun c => (hr.1 c).2, hr.2⟩)
      (run_main (F := Bits) ρ (targets_of m fun c => inRange_of_pre (F := Bits) _ _ _ _ _ (hp c))))

theorem frame_reference : Cert.quiescent_Reference4 := fun m ρ _ =>
  (θ_run (Cert.Reference4.defs (F := Bits)) _ _).mono (fun r h => ⟨fun c => (h c).2, sem_eq_zero_of_no_sems rfl r.2⟩) (Cert.Reference4.Value.run (F := Bits) m ρ)

theorem frame_referenceIdeal : Cert.quiescent_Reference4Ideal := fun m ρ _ =>
  (θ_run (Cert.Reference4Ideal.defs (F := Ideal)) _ _).mono (fun r h => ⟨fun c => (h c).2, sem_eq_zero_of_no_sems rfl r.2⟩)
    (Cert.Reference4Ideal.Value.run (F := Ideal) m ρ)

theorem reference_value (d : (⟨1, ![32768]⟩ : Shape).Idx → BitVec 32) (h : InRange d) (X : (⟨2, ![16384, 2048]⟩ : Shape).Idx → EReal)
    (G : (⟨2, ![16384, 128]⟩ : Shape).Idx → EReal) (w : (⟨1, ![2048]⟩ : Shape).Idx → EReal) (W : (⟨2, ![49152, 1024]⟩ : Shape).Idx → BitVec 32) :
    Cert.Reference4Ideal.Combine.termNormed (Cert.Reference4Ideal.Combine.termMixed X G (Host.gather Cert.Reference4Ideal.gather_S49152x2048_S32768x1_S32768x2048_1_0_n_n_0_1_12048
      (Cert.Reference4Ideal.Combine.termRows W) (Cert.Reference4Ideal.Combine.place d))) w
      = fun i => result (rowOf d h) X G w W (i 0) (i 1) := by
  refine funext fun i => ?_
  have hi : i = ix2 (i 0) (i 1) := funext fun ax : Fin 2 => match ax with | 0 => rfl | 1 => rfl
  exact (congrArg _ hi).trans (Cert.Reference4Ideal.Combine.reference_apply d (rowOf d h) (fun R s => toInt_of_inRange h _) X G w W (i 0) (i 1))

theorem algebraic : Cert.algebraic_Kernel4Ideal_Reference4Ideal := fun m ρ m' ρ' hp hm =>
  have h := fun c => inRange_of_pre (F := Ideal) _ _ _ _ _ (hp c)
  ⟨fun c => final m c (rowOf _ (h c)) (m (c.tc.loc Cert.Kernel4Ideal.main_arg3)),
    (θ_run (Cert.Kernel4Ideal.defs (F := Ideal)) _ _).mono (fun _ hr c =>
      ⟨(hr.1 c).1.trans (arr4 m _ c (rowOf _ (h c)) (destOf_eq _ (h c)) _ (weight_apply (F := Ideal) m c)), (hr.1 c).2⟩)
      (run_main (F := Ideal) ρ (targets_of m h)),
    (θ_run (Cert.Reference4Ideal.defs (F := Ideal)) _ _).mono (fun r hr c => ⟨(hr c).1.trans (by
      obtain ⟨e0, e1, e2, e3, e4⟩ := hm c
      show Cert.Reference4Ideal.Value.res_out0 m' c = _
      unfold Cert.Reference4Ideal.Value.res_out0 Cert.Reference4Ideal.Value.res_main_v34
      rw [e0, e1, e2, e3, e4]
      exact reference_value _ (h c) (m (c.tc.loc Cert.Kernel4Ideal.main_arg1)) (m (c.tc.loc Cert.Kernel4Ideal.main_arg2))
        (m (c.tc.loc Cert.Kernel4Ideal.main_arg3)) (m (c.tc.loc Cert.Kernel4Ideal.main_arg4))), (hr c).2⟩) (Cert.Reference4Ideal.Value.run (F := Ideal) m' ρ')⟩

end Cert.Combine

end
-- ==== Proof.Front.Spec.lean ====
/-
  Hand-written. What the front call computes of one row or one chunk, as sums and products of the extended reals.
-/
module

public import Idealize.ShloMosaic.Lib.Pipeline.ValueKit

@[expose] public section

noncomputable section

namespace Cert.Front

open Idealize.ShloMosaic

/-- A row by its root mean square, under a gain. -/
def rmsNorm {n : ℕ} (c : EReal) (y w : Fin n → EReal) (k : Fin n) : EReal :=
  y k * Ideal.rsqrt (Ideal.div (∑ j, y j * y j) c + Ideal.ofBits .f32 0x358637BD#32) * w k

/-- A row through a matrix. -/
def proj {n p : ℕ} (y : Fin n → EReal) (w : Fin n → Fin p → EReal) (c : Fin p) : EReal := ∑ k, y k * w k c

/-- The smooth gate of one number. -/
def gelu (v : EReal) : EReal :=
  Ideal.ofBits .f32 0x3F000000#32 * v * (Ideal.ofBits .f32 0x3F800000#32 + Ideal.tanh (Ideal.ofBits .f32 0x3F4C422A#32 * (v + Ideal.ofBits .f32 0x3D372713#32 * (v * v * v))))

/-- A row's mean. -/
def mean (y : Fin 1024 → EReal) : EReal := Ideal.div (∑ j, y j) (Ideal.ofBits .f32 0x44800000#32)

/-- A row with mean zero and variance one, under a gain and a shift. -/
def layerNorm (y w b : Fin 1024 → EReal) (k : Fin 1024) : EReal :=
  (y k - mean y) * Ideal.rsqrt (mean (fun j => (y j - mean y) * (y j - mean y)) + Ideal.ofBits .f32 0x3727C5AC#32) * w k + b k

/-- A row of the call's first product. -/
def zrow (y g : Fin 2048 → EReal) (w : Fin 2048 → Fin 2944 → EReal) : Fin 2944 → EReal :=
  proj (rmsNorm (Ideal.ofBits .f32 0x45000000#32) y g) w

/-- A row of scaled queries, from columns of the first product. -/
def qrow (z : Fin 2944 → EReal) (g : Fin 512 → EReal) (w : Fin 512 → Fin 2048 → EReal) (c : Fin 2048) : EReal :=
  proj (rmsNorm (Ideal.ofBits .f32 0x44000000#32) (fun j : Fin 512 => z ⟨2048 + j.val, by omega⟩) g) w c * Ideal.ofBits .f32 0x3D93CD3A#32

/-- A row of keys and values, from columns of the first product. -/
def kvrow (z : Fin 2944 → EReal) (g : Fin 256 → EReal) (w : Fin 256 → Fin 2048 → EReal) : Fin 2048 → EReal :=
  proj (rmsNorm (Ideal.ofBits .f32 0x43800000#32) (fun j : Fin 256 => z ⟨2560 + j.val, by omega⟩) g) w

/-- A vector of 128 numbers plus itself turned by half. -/
def turned (a : Fin 128 → EReal) (l : Fin 128) : EReal := a l + a ⟨(l.val + 128 - 64) % 128, Nat.mod_lt _ (by decide)⟩

/-- What is stored of a row of queries: each head's first half as it is, its second half rotated. -/
def qout (q : Fin 2048 → EReal) (cs : Fin 128 → EReal) (c : Fin 2048) : EReal :=
  if c.val % 256 < 128 then q c
  else turned (fun l => q ⟨c.val / 256 * 256 + 128 + l.val, by omega⟩ * cs l) ⟨c.val % 128, by omega⟩

/-- What is stored of a row of keys: each head's own half, then the rotated half they share and zeros. -/
def kout (kv : Fin 2048 → EReal) (a : Fin 128 → EReal) (c : Fin 2048) : EReal :=
  if c.val % 256 < 128 then kv c
  else if c.val % 128 < 64 then turned a ⟨c.val % 128, by omega⟩ else Ideal.ofBits .f32 0x00000000#32

/-- What is stored of a row of values. -/
def vout (kv : Fin 2048 → EReal) (c : Fin 1024) : EReal := kv ⟨c.val / 128 * 256 + 128 + c.val % 128, by omega⟩

end Cert.Front
-- ==== Proof.Front.Reads.lean ====
/-
  Hand-written. The front call's arguments as the grid points read them.
-/
module

public import proofs.«01_k».proof.Proof.Front.Spec
public import proofs.«01_k».proof.Proof.Gen.Kernel5Ideal.Value
public import Idealize.ShloMosaic.Lib.Claim

@[expose] public section

set_option maxRecDepth 16384

noncomputable section

namespace Cert.Front

open Idealize.ShloMosaic

/-- The two tables side by side, each twice, at a position. -/
def tables (C S : (⟨2, ![2048, 32]⟩ : Shape).Idx → EReal) (i : Fin 2048) (l : Fin 128) : EReal :=
  if h : l.val < 32 then C (ix2 i ⟨l.val, h⟩) else if h : l.val - 32 < 32 then C (ix2 i ⟨l.val - 32, h⟩)
  else if h : l.val - 32 - 32 < 32 then S (ix2 i ⟨l.val - 32 - 32, h⟩) else S (ix2 i ⟨l.val - 32 - 32 - 32, by omega⟩)

/-- The first product's weights: the argument's columns, then the shared key's rotated by a quarter turn. -/
def inWeights (W : (⟨2, ![2048, 2880]⟩ : Shape).Idx → EReal) (k : Fin 2048) (c : Fin 2944) : EReal :=
  if h : c.val < 2880 then W (ix2 k ⟨c.val, h⟩) else if h : c.val - 2880 < 32 then -W (ix2 k ⟨2816 + (32 + (c.val - 2880)), by omega⟩)
  else W (ix2 k ⟨2816 + (c.val - 2880 - 32), by omega⟩)

/-- The queries' weights: each head's columns, then its last 64 rotated by a quarter turn. -/
def upWeights (W : (⟨2, ![512, 1536]⟩ : Shape).Idx → EReal) (k : Fin 512) (c : Fin 2048) : EReal :=
  if h : c.val % 256 < 192 then W (ix2 k ⟨c.val / 256 * 192 + c.val % 256, by omega⟩)
  else if h : c.val % 256 - 192 < 32 then -W (ix2 k ⟨c.val / 256 * 192 + (128 + (32 + (c.val % 256 - 192))), by omega⟩)
  else W (ix2 k ⟨c.val / 256 * 192 + (128 + (c.val % 256 - 192 - 32)), by omega⟩)

/-- A weight of the mixing, where the read row isn't later. -/
def causal (W : (⟨3, ![8, 128, 128]⟩ : Shape).Idx → EReal) (g : Fin 8) (t s : Fin 128) : EReal :=
  if s.val ≤ t.val then W (ix3 g t s) else Ideal.ofBits .f32 0x00000000#32

theorem select_sge (t s : Fin 128) (a b : EReal) :
    Scalar.select (Scalar.select (IntOp.cmpi .sge (IntOp.addi (BitVec.ofNat 32 t.val) 0#32) (BitVec.ofNat 32 s.val)) 1#1 0#1) a b
      = if s.val ≤ t.val then a else b := by
  have ht : (BitVec.ofNat 32 t.val).toInt = (t.val : ℤ) := by
    have := t.isLt; rw [BitVec.toInt_eq_toNat_cond, BitVec.toNat_ofNat]; omega
  have hs : (BitVec.ofNat 32 s.val).toInt = (s.val : ℤ) := by
    have := s.isLt; rw [BitVec.toInt_eq_toNat_cond, BitVec.toNat_ofNat]; omega
  have e : IntOp.cmpi .sge (IntOp.addi (BitVec.ofNat 32 t.val) 0#32) (BitVec.ofNat 32 s.val) = BitVec.ofBool (decide (s.val ≤ t.val)) := by
    rw [show IntOp.addi (BitVec.ofNat 32 t.val) 0#32 = BitVec.ofNat 32 t.val from BitVec.add_zero _]
    show BitVec.ofBool ((BitVec.ofNat 32 s.val).sle (BitVec.ofNat 32 t.val)) = _
    rw [BitVec.sle, hs, ht]
    exact congrArg BitVec.ofBool (decide_eq_decide.2 Int.ofNat_le)
  rw [e]
  by_cases h : s.val ≤ t.val
  · rw [if_pos h, decide_eq_true h]; rfl
  · rw [if_neg h, decide_eq_false h]; rfl

end Cert.Front

namespace Cert.Kernel5Ideal.Front

open Cert.Kernel5Ideal Cert.Kernel5Ideal.Gen
open Idealize.ShloMosaic Idealize.ShloMosaic.TcCoe
open Cert.Front

theorem index_0 : ∀ t : Fin cfg0.N, win0_0.index t = ![t.val, 0] := (by decide +kernel : ∀ t : Fin grid0.N, _)
theorem index_12 : ∀ t : Fin cfg0.N, win0_12.index t = ![t.val % 4, 0] := (by decide +kernel : ∀ t : Fin grid0.N, _)
theorem index_13 : ∀ t : Fin cfg0.N, win0_13.index t = ![t.val, 0] := (by decide +kernel : ∀ t : Fin grid0.N, _)
theorem index_14 : ∀ t : Fin cfg0.N, win0_14.index t = ![t.val, 0] := (by decide +kernel : ∀ t : Fin grid0.N, _)
theorem index_15 : ∀ t : Fin cfg0.N, win0_15.index t = ![t.val, 0] := (by decide +kernel : ∀ t : Fin grid0.N, _)
theorem index_16 : ∀ t : Fin cfg0.N, win0_16.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_5 : ∀ t : Fin cfg0.N, win0_5.index t = ![0, 0, 0] := (by decide +kernel : ∀ t : Fin grid0.N, _)

variable (m : (ℓ : Loc nD τ sig) → Buf (Elt Ideal) ℓ)

/-- A grid point's row among all rows. -/
def row (t : Fin cfg0.N) (r : Fin 512) : Fin 16384 := ⟨t.val * 512 + r.val, by have : t.val < 32 := t.isLt; omega⟩

theorem read_0 (c : Dev nD) (t : Fin cfg0.N) (r : Fin 512) (j : Fin 2048) :
    (iblk m c 0 t : S512x2048.Idx → EReal) (ix2 r j) = m (c.tc.loc main_arg0) (ix2 (row t r) j) := by
  have e : ((win0_0.blk t).view.emb (ix2 r j) : S16384x2048.Idx) = ix2 (row t r) j := by
    blk_ext [index_0 t, row]
  blk_simp [iblk]
  entry_read
  exact congrArg _ e

theorem read_1 (c : Dev nD) (t : Fin cfg0.N) (j : Fin 2048) :
    (iblk m c 1 t : S1x2048.Idx → EReal) (ix2 0 j) = m (c.tc.loc main_arg1) (ix1 j) := by
  have e : ((win0_1.blk t).view.emb (ix2 0 j) : S1x2048.Idx) = ix2 0 j := by
    blk_ext [index_1 t]
  blk_simp [iblk]
  entry_read
  refine (congrArg _ e).trans ?_
  simp only [hostOps0, hostOps0_1, hostOps0_2, hostOps0_3, hostOps0_4, List.flatten_cons, List.flatten_nil, List.append_nil, List.cons_append, List.nil_append]
  after_results_simp
  pointwise

theorem read_3 (c : Dev nD) (t : Fin cfg0.N) (j : Fin 1024) :
    (iblk m c 3 t : S1x1024.Idx → EReal) (ix2 0 j) = m (c.tc.loc main_arg3) (ix1 j) := by
  have e : ((win0_3.blk t).view.emb (ix2 0 j) : S1x1024.Idx) = ix2 0 j := by
    blk_ext [index_3 t]
  blk_simp [iblk]
  entry_read
  refine (congrArg _ e).trans ?_
  simp only [hostOps0, hostOps0_1, hostOps0_2, hostOps0_3, hostOps0_4, List.flatten_cons, List.flatten_nil, List.append_nil, List.cons_append, List.nil_append]
  after_results_simp
  pointwise

theorem read_4 (c : Dev nD) (t : Fin cfg0.N) (j : Fin 1024) :
    (iblk m c 4 t : S1x1024.Idx → EReal) (ix2 0 j) = m (c.tc.loc main_arg4) (ix1 j) := by
  have e : ((win0_4.blk t).view.emb (ix2 0 j) : S1x1024.Idx) = ix2 0 j := by
    blk_ext [index_4 t]
  blk_simp [iblk]
  entry_read
  refine (congrArg _ e).trans ?_
  simp only [hostOps0, hostOps0_1, hostOps0_2, hostOps0_3, hostOps0_4, List.flatten_cons, List.flatten_nil, List.append_nil, List.cons_append, List.nil_append]
  after_results_simp
  pointwise

theorem read_7 (c : Dev nD) (t : Fin cfg0.N) (j : Fin 1024) :
    (iblk m c 7 t : S1x1024.Idx → EReal) (ix2 0 j) = m (c.tc.loc main_arg11) (ix1 j) := by
  have e : ((win0_7.blk t).view.emb (ix2 0 j) : S1x1024.Idx) = ix2 0 j := by
    blk_ext [index_7 t]
  blk_simp [iblk]
  entry_read
  refine (congrArg _ e).trans ?_
  simp only [hostOps0, hostOps0_1, hostOps0_2, hostOps0_3, hostOps0_4, List.flatten_cons, List.flatten_nil, List.append_nil, List.cons_append, List.nil_append]
  after_results_simp
  pointwise

theorem read_8 (c : Dev nD) (t : Fin cfg0.N) (j : Fin 512) :
    (iblk m c 8 t : S1x512.Idx → EReal) (ix2 0 j) = m (c.tc.loc main_arg7) (ix1 j) := by
  have e : ((win0_8.blk t).view.emb (ix2 0 j) : S1x512.Idx) = ix2 0 j := by
    blk_ext [index_8 t]
  blk_simp [iblk]
  entry_read
  refine (congrArg _ e).trans ?_
  simp only [hostOps0, hostOps0_1, hostOps0_2, hostOps0_3, hostOps0_4, List.flatten_cons, List.flatten_nil, List.append_nil, List.cons_append, List.nil_append]
  after_results_simp
  pointwise

theorem read_10 (c : Dev nD) (t : Fin cfg0.N) (j : Fin 256) :
    (iblk m c 10 t : S1x256.Idx → EReal) (ix2 0 j) = m (c.tc.loc main_arg9) (ix1 j) := by
  have e : ((win0_10.blk t).view.emb (ix2 0 j) : S1x256.Idx) = ix2 0 j := by
    blk_ext [index_10 t]
  blk_simp [iblk]
  entry_read
  refine (congrArg _ e).trans ?_
  simp only [hostOps0, hostOps0_1, hostOps0_2, hostOps0_3, hostOps0_4, List.flatten_cons, List.flatten_nil, List.append_nil, List.cons_append, List.nil_append]
  after_results_simp
  pointwise

theorem read_11 (c : Dev nD) (t : Fin cfg0.N) (r : Fin 256) (j : Fin 2048) :
    (iblk m c 11 t : S256x2048.Idx → EReal) (ix2 r j) = m (c.tc.loc main_arg10) (ix2 r j) := by
  have e : ((win0_11.blk t).view.emb (ix2 r j) : S256x2048.Idx) = ix2 r j := by
    blk_ext [index_11 t]
  blk_simp [iblk]
  entry_read
  refine (congrArg _ e).trans ?_
  simp only [hostOps0, hostOps0_1, hostOps0_2, hostOps0_3, hostOps0_4, List.flatten_cons, List.flatten_nil, List.append_nil, List.cons_append, List.nil_append]
  after_results_simp
  rfl

theorem read_2 (c : Dev nD) (t : Fin cfg0.N) (r : Fin 2048) (j : Fin 2944) :
    (iblk m c 2 t : S2048x2944.Idx → EReal) (ix2 r j) = inWeights (m (c.tc.loc main_arg2)) r j := by
  have e : ((win0_2.blk t).view.emb (ix2 r j) : S2048x2944.Idx) = ix2 r j := by
    blk_ext [index_2 t]
  blk_simp [iblk]
  entry_read
  refine (congrArg _ e).trans ?_
  simp only [hostOps0, hostOps0_1, hostOps0_2, hostOps0_3, hostOps0_4, List.flatten_cons, List.flatten_nil, List.append_nil, List.cons_append, List.nil_append]
  after_results_simp
  unfold inWeights
  pointwise
  after_results_simp
  pointwise

theorem read_9 (c : Dev nD) (t : Fin cfg0.N) (r : Fin 512) (j : Fin 2048) :
    (iblk m c 9 t : S512x2048.Idx → EReal) (ix2 r j) = upWeights (m (c.tc.loc main_arg8)) r j := by
  have e : ((win0_9.blk t).view.emb (ix2 r j) : S512x2048.Idx) = ix2 r j := by
    blk_ext [index_9 t]
  blk_simp [iblk]
  entry_read
  refine (congrArg _ e).trans ?_
  simp only [hostOps0, hostOps0_1, hostOps0_2, hostOps0_3, hostOps0_4, List.flatten_cons, List.flatten_nil, List.append_nil, List.cons_append, List.nil_append]
  after_results_simp
  unfold upWeights
  pointwise
  after_results_simp
  pointwise

theorem V_main_v21 (c : Dev nD) : V m c main_v21 = truncf (F := Ideal) (φ := .f32) .bf16 (select (broadcastInDim S8x128x128 ![0, 1, 2] bcast_S1x128x128_S8x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))))
    (m (c.tc.loc main_arg5) : S8x128x128.Idx → EReal) (broadcastInDim S8x128x128 ![] bcast_S_S8x128x128 (constant (F := Ideal) S_ .f32 0x00000000#32))) bitsLt_bf16_f32 := by
  unfold V
  simp only [hostOps0, hostOps0_1, hostOps0_2, hostOps0_3, hostOps0_4, List.flatten_cons, List.flatten_nil, List.append_nil, List.cons_append, List.nil_append]
  after_results_simp <;> rfl

theorem read_5 (c : Dev nD) (t : Fin cfg0.N) (g : Fin 8) (r j : Fin 128) :
    (iblk m c 5 t : S8x128x128.Idx → EReal) (ix3 g r j) = causal (m (c.tc.loc main_arg5)) g r j := by
  have e : ((win0_5.blk t).view.emb (ix3 g r j) : S8x128x128.Idx) = ix3 g r j := by
    blk_ext [index_5 t]
  blk_simp [iblk]
  refine (congrArg (V m c main_v21) e).trans ?_
  rw [V_main_v21]
  generalize (m (c.tc.loc main_arg5) : S8x128x128.Idx → EReal) = W
  unfold causal
  pointwise
  exact (select_sge r j _ _).trans rfl

theorem read_6 (c : Dev nD) (t : Fin cfg0.N) (r : Fin 128) (j : Fin 1024) :
    (iblk m c 6 t : S128x1024.Idx → EReal) (ix2 r j) = m (c.tc.loc main_arg6) (ix2 (⟨j.val / 128, by omega⟩ : Fin 8) r) := by
  have e : ((win0_6.blk t).view.emb (ix2 r j) : S128x1024.Idx) = ix2 r j := by
    blk_ext [index_6 t]
  blk_simp [iblk]
  entry_read
  refine (congrArg _ e).trans ?_
  simp only [hostOps0, hostOps0_1, hostOps0_2, hostOps0_3, hostOps0_4, List.flatten_cons, List.flatten_nil, List.append_nil, List.cons_append, List.nil_append]
  after_results_simp
  pointwise

theorem read_12 (c : Dev nD) (t : Fin cfg0.N) (r : Fin 512) (j : Fin 128) :
    (iblk m c 12 t : S512x128.Idx → EReal) (ix2 r j) = tables (m (c.tc.loc main_arg12)) (m (c.tc.loc main_arg13)) ⟨(row t r).val % 2048, by omega⟩ j := by
  have e : ((win0_12.blk t).view.emb (ix2 r j) : S2048x128.Idx) = ix2 ⟨(row t r).val % 2048, by omega⟩ j := by
    blk_ext [index_12 t, row]
    all_goals omega
  blk_simp [iblk]
  entry_read
  refine (congrArg _ e).trans ?_
  simp only [hostOps0, hostOps0_1, hostOps0_2, hostOps0_3, hostOps0_4, List.flatten_cons, List.flatten_nil, List.append_nil, List.cons_append, List.nil_append]
  after_results_simp
  unfold tables
  pointwise

end Cert.Kernel5Ideal.Front
-- ==== Proof.Front.Body.lean ====
/-
  Hand-written. What the front call stores of one block of rows, at an index.
-/
module

public import proofs.«01_k».proof.Proof.Front.Spec
public import proofs.«01_k».proof.Proof.Gen.Kernel5Ideal.Skeleton

@[expose] public section

set_option maxRecDepth 16384

noncomputable section

namespace Cert.Kernel5Ideal.Front

open Cert.Kernel5Ideal Cert.Kernel5Ideal.Gen
open Idealize.ShloMosaic
open Cert.Front

theorem projected_apply (x : S512x2048.Idx → EReal) (g : S1x2048.Idx → EReal) (w : S2048x2944.Idx → EReal) (r : Fin 512) (c : Fin 2944) :
    k0_pay4 (F := Ideal) x g w (ix2 r c)
      = proj (rmsNorm (Ideal.ofBits .f32 0x45000000#32) (fun j => x (ix2 r j)) fun j => g (ix2 0 j)) (fun k c => w (ix2 k c)) c := by
  unfold k0_pay4 proj rmsNorm
  pointwise

theorem upper_apply (x : S512x2048.Idx → EReal) (g : S1x2048.Idx → EReal) (w : S2048x2944.Idx → EReal) (r : Fin 512) (c : Fin 1024) :
    k0_pay5 (F := Ideal) x g w (ix2 r c) = gelu (k0_pay4 (F := Ideal) x g w (ix2 r ⟨c.val, by omega⟩)) := by
  unfold k0_pay5 gelu
  generalize k0_pay4 (F := Ideal) x g w = Z
  pointwise

theorem gated_apply (Z : S512x1024.Idx → EReal) (gv bv : S1x1024.Idx → EReal) (r : Fin 512) (c : Fin 1024) :
    k0_pay10 (F := Ideal) (mulf (F := Ideal) (φ := .f32) (broadcast S512x1024 (Scalar.ofBits (F := Ideal) .f32 0x3F000000#32)) Z)
      (addf (F := Ideal) (φ := .f32) Z (mulf (F := Ideal) (φ := .f32) (broadcast S512x1024 (Scalar.ofBits (F := Ideal) .f32 0x3D372713#32)) (mulf (F := Ideal) (φ := .f32) (mulf (F := Ideal) (φ := .f32) Z Z) Z))) (k0_pay9 (F := Ideal)) gv bv (ix2 r c)
      = layerNorm (fun j => gelu (Z (ix2 r j))) (fun j => gv (ix2 0 j)) (fun j => bv (ix2 0 j)) c := by
  unfold k0_pay10 k0_pay9 layerNorm mean gelu
  pointwise

end Cert.Kernel5Ideal.Front
-- ==== Proof.Front.Mix.lean ====
/-
  Hand-written. The mixing of each chunk's rows in the front call's block, and the norm over its columns.
-/
module

public import proofs.«01_k».proof.Proof.Front.Body
public import proofs.«01_k».proof.Proof.Gen.Kernel5Ideal.Value

@[expose] public section

set_option maxRecDepth 16384

noncomputable section

namespace Cert.Kernel5Ideal.Front

open Cert.Kernel5Ideal Cert.Kernel5Ideal.Gen
open Idealize.ShloMosaic
open Cert.Front

/-- Eight squares side by side, at an index. -/
theorem squares_apply (v0 v1 v2 v3 v4 v5 v6 v7 : S128x128.Idx → EReal) (V : Fin 8 → Fin 128 → EReal) (r : Fin 128) (e : Fin 1024)
    (h0 : ∀ j, v0 (ix2 r j) = V 0 j) (h1 : ∀ j, v1 (ix2 r j) = V 1 j) (h2 : ∀ j, v2 (ix2 r j) = V 2 j) (h3 : ∀ j, v3 (ix2 r j) = V 3 j)
    (h4 : ∀ j, v4 (ix2 r j) = V 4 j) (h5 : ∀ j, v5 (ix2 r j) = V 5 j) (h6 : ∀ j, v6 (ix2 r j) = V 6 j) (h7 : ∀ j, v7 (ix2 r j) = V 7 j) :
    concatenate S128x1024 1 [⟨S128x128, v0⟩, ⟨S128x128, v1⟩, ⟨S128x128, v2⟩, ⟨S128x128, v3⟩, ⟨S128x128, v4⟩, ⟨S128x128, v5⟩, ⟨S128x128, v6⟩, ⟨S128x128, v7⟩]
        concatenates_S128x128_S128x128_S128x128_S128x128_S128x128_S128x128_S128x128_S128x128_S128x1024_d1 (ix2 r e)
      = V ⟨e.val / 128, by omega⟩ ⟨e.val % 128, by omega⟩ := by
  have he := e.isLt
  pointwise
  simp only [h0, h1, h2, h3, h4, h5, h6, h7]
  by_cases c0 : e.val < 128
  · rw [dif_pos c0]; exact congrArg₂ V (Fin.ext (by show 0 = e.val / 128; omega)) (Fin.ext (by show e.val = e.val % 128; omega))
  rw [dif_neg c0]
  by_cases c1 : e.val - 128 < 128
  · rw [dif_pos c1]; exact congrArg₂ V (Fin.ext (by show 1 = e.val / 128; omega)) (Fin.ext (by show e.val - 128 = e.val % 128; omega))
  rw [dif_neg c1]
  by_cases c2 : e.val - 128 - 128 < 128
  · rw [dif_pos c2]; exact congrArg₂ V (Fin.ext (by show 2 = e.val / 128; omega)) (Fin.ext (by show e.val - 128 - 128 = e.val % 128; omega))
  rw [dif_neg c2]
  by_cases c3 : e.val - 128 - 128 - 128 < 128
  · rw [dif_pos c3]; exact congrArg₂ V (Fin.ext (by show 3 = e.val / 128; omega)) (Fin.ext (by show e.val - 128 - 128 - 128 = e.val % 128; omega))
  rw [dif_neg c3]
  by_cases c4 : e.val - 128 - 128 - 128 - 128 < 128
  · rw [dif_pos c4]; exact congrArg₂ V (Fin.ext (by show 4 = e.val / 128; omega)) (Fin.ext (by show e.val - 128 - 128 - 128 - 128 = e.val % 128; omega))
  rw [dif_neg c4]
  by_cases c5 : e.val - 128 - 128 - 128 - 128 - 128 < 128
  · rw [dif_pos c5]; exact congrArg₂ V (Fin.ext (by show 5 = e.val / 128; omega)) (Fin.ext (by show e.val - 128 - 128 - 128 - 128 - 128 = e.val % 128; omega))
  rw [dif_neg c5]
  by_cases c6 : e.val - 128 - 128 - 128 - 128 - 128 - 128 < 128
  · rw [dif_pos c6]; exact congrArg₂ V (Fin.ext (by show 6 = e.val / 128; omega)) (Fin.ext (by show e.val - 128 - 128 - 128 - 128 - 128 - 128 = e.val % 128; omega))
  rw [dif_neg c6]
  exact congrArg₂ V (Fin.ext (by show 7 = e.val / 128; omega)) (Fin.ext (by show e.val - 128 - 128 - 128 - 128 - 128 - 128 - 128 = e.val % 128; omega))

/-- Four chunks one under the other, at an index. -/
theorem chunks_apply (v0 v1 v2 v3 : S128x1024.Idx → EReal) (A : Fin 4 → Fin 128 → Fin 1024 → EReal) (r : Fin 512) (e : Fin 1024)
    (h0 : ∀ t e, v0 (ix2 t e) = A 0 t e) (h1 : ∀ t e, v1 (ix2 t e) = A 1 t e) (h2 : ∀ t e, v2 (ix2 t e) = A 2 t e) (h3 : ∀ t e, v3 (ix2 t e) = A 3 t e) :
    concatenate S512x1024 0 [⟨S128x1024, v0⟩, ⟨S128x1024, v1⟩, ⟨S128x1024, v2⟩, ⟨S128x1024, v3⟩]
        concatenates_S128x1024_S128x1024_S128x1024_S128x1024_S512x1024_d0 (ix2 r e)
      = A ⟨r.val / 128, by omega⟩ ⟨r.val % 128, by omega⟩ e := by
  have hr := r.isLt
  pointwise
  simp only [h0, h1, h2, h3]
  by_cases c0 : r.val < 128
  · rw [dif_pos c0]; exact congrArg₂ (fun a b => A a b e) (Fin.ext (by show 0 = r.val / 128; omega)) (Fin.ext (by show r.val = r.val % 128; omega))
  rw [dif_neg c0]
  by_cases c1 : r.val - 128 < 128
  · rw [dif_pos c1]; exact congrArg₂ (fun a b => A a b e) (Fin.ext (by show 1 = r.val / 128; omega)) (Fin.ext (by show r.val - 128 = r.val % 128; omega))
  rw [dif_neg c1]
  by_cases c2 : r.val - 128 - 128 < 128
  · rw [dif_pos c2]; exact congrArg₂ (fun a b => A a b e) (Fin.ext (by show 2 = r.val / 128; omega)) (Fin.ext (by show r.val - 128 - 128 = r.val % 128; omega))
  rw [dif_neg c2]
  exact congrArg₂ (fun a b => A a b e) (Fin.ext (by show 3 = r.val / 128; omega)) (Fin.ext (by show r.val - 128 - 128 - 128 = r.val % 128; omega))

/-- One chunk's products: a head's square times the chunk's rows. -/
def products (ws : S8x128x128.Idx → EReal) (N : S512x1024.Idx → EReal) (o : Fin 4) (t : Fin 128) (g : Fin 8) (j : Fin 128) : EReal :=
  ∑ s : Fin 128, ws (ix3 g t s) * N (ix2 ⟨o.val * 128 + s.val, by omega⟩ ⟨g.val * 128 + j.val, by omega⟩)

/-- One chunk mixed. -/
def mixedAt (U N : S512x1024.Idx → EReal) (ws : S8x128x128.Idx → EReal) (b : S128x1024.Idx → EReal) (o : Fin 4) (t : Fin 128) (e : Fin 1024) : EReal :=
  U (ix2 ⟨o.val * 128 + t.val, by omega⟩ e) * (products ws N o t ⟨e.val / 128, by omega⟩ ⟨e.val % 128, by omega⟩ + b (ix2 t e))

theorem second_apply (U N : S512x1024.Idx → EReal) (ws : S8x128x128.Idx → EReal) (b : S128x1024.Idx → EReal) (t : Fin 128) (e : Fin 1024) :
    k0_pay16 (F := Ideal) U (k0_pay15 (F := Ideal) N (k0_pay14 (F := Ideal) N (View.ld ws r0_4)) (View.ld ws r0_5) (View.ld ws r0_6) (View.ld ws r0_7) (View.ld ws r0_8) (View.ld ws r0_9) (View.ld ws r0_10) (View.ld ws r0_11)) (View.ld b r0_12) (ix2 t e)
      = mixedAt U N ws b 1 t e := by
  unfold k0_pay16 k0_pay15 mixedAt
  refine congrArg₂ (· * ·) ?_ (congrArg₂ (· + ·) (squares_apply _ _ _ _ _ _ _ _ (products ws N 1 t) t e ?_ ?_ ?_ ?_ ?_ ?_ ?_ ?_) ?_)
  · pointwise
  · intro j
    unfold k0_pay14 products
    pointwise
    all_goals rfl
  · intro j
    unfold products
    pointwise
    all_goals rfl
  · intro j
    unfold products
    pointwise
    all_goals rfl
  · intro j
    unfold products
    pointwise
    all_goals rfl
  · intro j
    unfold products
    pointwise
    all_goals rfl
  · intro j
    unfold products
    pointwise
    all_goals rfl
  · intro j
    unfold products
    pointwise
    all_goals rfl
  · intro j
    unfold products
    pointwise
    all_goals rfl
  · pointwise

theorem third_apply (U N : S512x1024.Idx → EReal) (ws : S8x128x128.Idx → EReal) (b : S128x1024.Idx → EReal) (t : Fin 128) (e : Fin 1024) :
    k0_pay24 (F := Ideal) U N (k0_pay17 (F := Ideal) N (View.ld ws r0_4)) (k0_pay18 (F := Ideal) N (View.ld ws r0_5)) (k0_pay19 (F := Ideal) N (View.ld ws r0_6)) (k0_pay20 (F := Ideal) N (View.ld ws r0_7)) (k0_pay21 (F := Ideal) N (View.ld ws r0_8)) (k0_pay22 (F := Ideal) N (View.ld ws r0_9)) (k0_pay23 (F := Ideal) N (View.ld ws r0_10)) (View.ld ws r0_11) (View.ld b r0_12) (ix2 t e)
      = mixedAt U N ws b 2 t e := by
  unfold k0_pay24 mixedAt
  refine congrArg₂ (· * ·) ?_ (congrArg₂ (· + ·) (squares_apply _ _ _ _ _ _ _ _ (products ws N 2 t) t e ?_ ?_ ?_ ?_ ?_ ?_ ?_ ?_) ?_)
  · pointwise
  · intro j
    unfold k0_pay17 products
    pointwise
    all_goals rfl
  · intro j
    unfold k0_pay18 products
    pointwise
    all_goals rfl
  · intro j
    unfold k0_pay19 products
    pointwise
    all_goals rfl
  · intro j
    unfold k0_pay20 products
    pointwise
    all_goals rfl
  · intro j
    unfold k0_pay21 products
    pointwise
    all_goals rfl
  · intro j
    unfold k0_pay22 products
    pointwise
    all_goals rfl
  · intro j
    unfold k0_pay23 products
    pointwise
    all_goals rfl
  · intro j
    unfold products
    pointwise
    all_goals rfl
  · pointwise

theorem first_apply (U : S512x1024.Idx → EReal) (α β γ : S512x1024.Idx → EReal) (δ ε : S1x1024.Idx → EReal) (ws : S8x128x128.Idx → EReal) (b : S128x1024.Idx → EReal) (t : Fin 128) (e : Fin 1024) :
    k0_pay13 (F := Ideal) U (k0_pay10 (F := Ideal) α β γ δ ε) (k0_pay11 (F := Ideal) α β γ δ ε (View.ld ws r0_4)) (k0_pay12 (F := Ideal) α β γ δ ε (View.ld ws r0_5)) (View.ld ws r0_6) (View.ld ws r0_7) (View.ld ws r0_8) (View.ld ws r0_9) (View.ld ws r0_10) (View.ld ws r0_11) (View.ld b r0_12) (ix2 t e)
      = mixedAt U (k0_pay10 (F := Ideal) α β γ δ ε) ws b 0 t e := by
  unfold k0_pay13 k0_pay11 k0_pay12 mixedAt
  generalize k0_pay10 (F := Ideal) α β γ δ ε = N
  refine congrArg₂ (· * ·) ?_ (congrArg₂ (· + ·) (squares_apply _ _ _ _ _ _ _ _ (products ws N 0 t) t e ?_ ?_ ?_ ?_ ?_ ?_ ?_ ?_) ?_)
  · pointwise
  · intro j
    unfold products
    pointwise
  · intro j
    unfold products
    pointwise
  · intro j
    unfold products
    pointwise
  · intro j
    unfold products
    pointwise
  · intro j
    unfold products
    pointwise
  · intro j
    unfold products
    pointwise
  · intro j
    unfold products
    pointwise
  · intro j
    unfold products
    pointwise
  · pointwise

/-- The norm over a row's columns. -/
theorem columns_apply (C : S512x1024.Idx → EReal) (w : S1x1024.Idx → EReal) (r : Fin 512) (e : Fin 1024) :
    (truncf (F := Ideal) .bf16 (mulf (F := Ideal) (φ := .f32) (mulf (F := Ideal) (φ := .f32) C (broadcastTo S512x1024 (rsqrt (F := Ideal) (φ := .f32) (addf (F := Ideal) (φ := .f32) (divf (F := Ideal) (φ := .f32) (shapeCast S512x1 (multiReduction (F := Ideal) (φ := .f32) .add [1] S512 (mulf (F := Ideal) (φ := .f32) C C) 0x00000000#32 reduces_S512x1024_S512 (.inl rfl) rfl) shapeCasts_S512_S512x1)
      (broadcast S512x1 (Scalar.ofBits (F := Ideal) .f32 0x44800000#32))) (broadcast S512x1 (Scalar.ofBits (F := Ideal) .f32 0x358637BD#32)))) broadcasts_S512x1_S512x1024)) (broadcastTo S512x1024 (shapeCast S1x1024 w shapeCasts_S1x1024_S1x1024) broadcasts_S1x1024_S512x1024)) bitsLt_bf16_f32 : S512x1024.Idx → EReal) (ix2 r e)
      = rmsNorm (Ideal.ofBits .f32 0x44800000#32) (fun e => C (ix2 r e)) (fun e => w (ix2 0 e)) e := by
  unfold rmsNorm
  pointwise

theorem normed_apply (U N : S512x1024.Idx → EReal) (ws : S8x128x128.Idx → EReal) (b : S128x1024.Idx → EReal) (w : S1x1024.Idx → EReal) (p0 p1 p2 : S128x1024.Idx → EReal)
    (h0 : ∀ t e, p0 (ix2 t e) = mixedAt U N ws b 0 t e)
    (h1 : ∀ t e, p1 (ix2 t e) = mixedAt U N ws b 1 t e)
    (h2 : ∀ t e, p2 (ix2 t e) = mixedAt U N ws b 2 t e)
    (r : Fin 512) (e : Fin 1024) :
    k0_pay30 (F := Ideal) U N p0 p1 p2 (k0_pay25 (F := Ideal) N (View.ld ws r0_4)) (k0_pay26 (F := Ideal) N (View.ld ws r0_5)) (k0_pay27 (F := Ideal) N (View.ld ws r0_6)) (k0_pay28 (F := Ideal) N (View.ld ws r0_7)) (k0_pay29 (F := Ideal) N (View.ld ws r0_8)) (View.ld ws r0_9) (View.ld ws r0_10) (View.ld ws r0_11) (View.ld b r0_12) w (ix2 r e)
      = rmsNorm (Ideal.ofBits .f32 0x44800000#32) (fun e => mixedAt U N ws b ⟨r.val / 128, by omega⟩ ⟨r.val % 128, by omega⟩ e) (fun e => w (ix2 0 e)) e := by
  unfold k0_pay30
  refine (columns_apply _ w r e).trans (congrArg (fun y => rmsNorm _ y _ e) (funext fun e => ?_))
  refine chunks_apply _ _ _ _ (mixedAt U N ws b) r e h0 h1 h2 fun t e => ?_
  unfold mixedAt
  refine congrArg₂ (· * ·) ?_ (congrArg₂ (· + ·) (squares_apply _ _ _ _ _ _ _ _ (products ws N 3 t) t e ?_ ?_ ?_ ?_ ?_ ?_ ?_ ?_) ?_)
  · pointwise
  · intro j
    unfold k0_pay25 products
    pointwise
    all_goals rfl
  · intro j
    unfold k0_pay26 products
    pointwise
    all_goals rfl
  · intro j
    unfold k0_pay27 products
    pointwise
    all_goals rfl
  · intro j
    unfold k0_pay28 products
    pointwise
    all_goals rfl
  · intro j
    unfold k0_pay29 products
    pointwise
    all_goals rfl
  · intro j
    unfold products
    pointwise
    all_goals rfl
  · intro j
    unfold products
    pointwise
    all_goals rfl
  · intro j
    unfold products
    pointwise
    all_goals rfl
  · pointwise

end Cert.Kernel5Ideal.Front
-- ==== Proof.Front.Branch.lean ====
/-
  Hand-written. The gated branch the front call stores of one block of rows, at an index.
-/
module

public import proofs.«01_k».proof.Proof.Front.Mix
public import proofs.«01_k».proof.Proof.Gen.Kernel5Ideal.Value

@[expose] public section

set_option maxRecDepth 16384

noncomputable section

namespace Cert.Kernel5Ideal.Front

open Cert.Kernel5Ideal Cert.Kernel5Ideal.Gen
open Idealize.ShloMosaic
open Cert.Front

/-- An index of the block as its two coordinates. -/
theorem block_idx (x : S512x1024.Idx) : x = ix2 (x 0) (x 1) := funext fun a : Fin 2 => match a with
  | 0 => rfl
  | 1 => rfl

theorem gate_apply (x0 : Vec Ideal S512x2048 .f32) (x1 : Vec Ideal S1x2048 .f32) (x2 : Vec Ideal S2048x2944 .bf16) (x3 : Vec Ideal S1x1024 .f32) (x4 : Vec Ideal S1x1024 .f32) (x5 : Vec Ideal S8x128x128 .bf16) (x6 : Vec Ideal S128x1024 .f32) (x7 : Vec Ideal S1x1024 .f32) (x8 : Vec Ideal S1x512 .f32) (x9 : Vec Ideal S512x2048 .bf16) (x10 : Vec Ideal S1x256 .f32) (x11 : Vec Ideal S256x2048 .bf16) (x12 : Vec Ideal S512x128 .f32) (r : Fin 512) (e : Fin 1024) :
    k0_pay70 (F := Ideal) x0 x1 x2 x3 x4 x5 x6 x7 x8 x9 x10 x11 x12 (ix2 r e) = gelu (k0_pay69 (F := Ideal) x0 x1 x2 x3 x4 x5 x6 x7 x8 x9 x10 x11 x12 (ix2 r ⟨e.val, by omega⟩)) := by
  unfold k0_pay70 k0_pay69
  exact upper_apply _ _ _ r e

theorem normal_apply (x0 : Vec Ideal S512x2048 .f32) (x1 : Vec Ideal S1x2048 .f32) (x2 : Vec Ideal S2048x2944 .bf16) (x3 : Vec Ideal S1x1024 .f32) (x4 : Vec Ideal S1x1024 .f32) (x5 : Vec Ideal S8x128x128 .bf16) (x6 : Vec Ideal S128x1024 .f32) (x7 : Vec Ideal S1x1024 .f32) (x8 : Vec Ideal S1x512 .f32) (x9 : Vec Ideal S512x2048 .bf16) (x10 : Vec Ideal S1x256 .f32) (x11 : Vec Ideal S256x2048 .bf16) (x12 : Vec Ideal S512x128 .f32) (r : Fin 512) (e : Fin 1024) :
    k0_pay74 (F := Ideal) x0 x1 x2 x3 x4 x5 x6 x7 x8 x9 x10 x11 x12 (ix2 r e)
      = layerNorm (fun j => gelu (k0_pay69 (F := Ideal) x0 x1 x2 x3 x4 x5 x6 x7 x8 x9 x10 x11 x12 (ix2 r ⟨1024 + j.val, by omega⟩))) (fun j => x3 (ix2 0 j)) (fun j => x4 (ix2 0 j)) e := by
  unfold k0_pay74 k0_pay71 k0_pay72 k0_pay73 k0_pay69 k0_pay7 k0_pay8 k0_pay6
  generalize k0_pay4 (F := Ideal) (View.ld x0 r0_0) (View.ld x1 r0_1) (View.ld x2 r0_2) = Z
  refine (gated_apply _ _ _ r e).trans ?_
  unfold layerNorm mean gelu
  pointwise

/-- The branch of a row of the block. -/
theorem branch_apply (x0 : Vec Ideal S512x2048 .f32) (x1 : Vec Ideal S1x2048 .f32) (x2 : Vec Ideal S2048x2944 .bf16) (x3 : Vec Ideal S1x1024 .f32) (x4 : Vec Ideal S1x1024 .f32) (x5 : Vec Ideal S8x128x128 .bf16) (x6 : Vec Ideal S128x1024 .f32) (x7 : Vec Ideal S1x1024 .f32) (x8 : Vec Ideal S1x512 .f32) (x9 : Vec Ideal S512x2048 .bf16) (x10 : Vec Ideal S1x256 .f32) (x11 : Vec Ideal S256x2048 .bf16) (x12 : Vec Ideal S512x128 .f32) (r : Fin 512) (e : Fin 1024) :
    out0_13 (F := Ideal) x0 x1 x2 x3 x4 x5 x6 x7 x8 x9 x10 x11 x12 (ix2 r e)
      = rmsNorm (Ideal.ofBits .f32 0x44800000#32)
          (fun e => mixedAt (k0_pay70 (F := Ideal) x0 x1 x2 x3 x4 x5 x6 x7 x8 x9 x10 x11 x12) (k0_pay74 (F := Ideal) x0 x1 x2 x3 x4 x5 x6 x7 x8 x9 x10 x11 x12) x5 x6 ⟨r.val / 128, by omega⟩ ⟨r.val % 128, by omega⟩ e)
          (fun e => x7 (ix2 0 e)) e := by
  have first := first_apply (k0_pay70 (F := Ideal) x0 x1 x2 x3 x4 x5 x6 x7 x8 x9 x10 x11 x12) (k0_pay71 (F := Ideal) x0 x1 x2 x3 x4 x5 x6 x7 x8 x9 x10 x11 x12) (k0_pay72 (F := Ideal) x0 x1 x2 x3 x4 x5 x6 x7 x8 x9 x10 x11 x12) (k0_pay73 (F := Ideal) x0 x1 x2 x3 x4 x5 x6 x7 x8 x9 x10 x11 x12) (View.ld x3 r0_3) (View.ld x4 r0_3) x5 x6
  rw [show k0_pay10 (F := Ideal) (k0_pay71 (F := Ideal) x0 x1 x2 x3 x4 x5 x6 x7 x8 x9 x10 x11 x12) (k0_pay72 (F := Ideal) x0 x1 x2 x3 x4 x5 x6 x7 x8 x9 x10 x11 x12) (k0_pay73 (F := Ideal) x0 x1 x2 x3 x4 x5 x6 x7 x8 x9 x10 x11 x12) (View.ld x3 r0_3) (View.ld x4 r0_3) = k0_pay74 (F := Ideal) x0 x1 x2 x3 x4 x5 x6 x7 x8 x9 x10 x11 x12 from rfl] at first
  unfold out0_13
  generalize k0_pay70 (F := Ideal) x0 x1 x2 x3 x4 x5 x6 x7 x8 x9 x10 x11 x12 = U at first ⊢
  generalize k0_pay74 (F := Ideal) x0 x1 x2 x3 x4 x5 x6 x7 x8 x9 x10 x11 x12 = N at first ⊢
  generalize k0_pay71 (F := Ideal) x0 x1 x2 x3 x4 x5 x6 x7 x8 x9 x10 x11 x12 = α at first ⊢
  generalize k0_pay72 (F := Ideal) x0 x1 x2 x3 x4 x5 x6 x7 x8 x9 x10 x11 x12 = β at first ⊢
  generalize k0_pay73 (F := Ideal) x0 x1 x2 x3 x4 x5 x6 x7 x8 x9 x10 x11 x12 = γ at first ⊢
  canon_tiles x h
  case piece0 =>
    have e0 : r = x 0 := Fin.ext h0
    have e1 : e = x 1 := Fin.ext h1
    rw [block_idx x, e0, e1]
    refine (normed_apply U N x5 x6 (View.ld x7 r0_3) _ _ _ first (second_apply U N x5 x6) (third_apply U N x5 x6) (x 0) (x 1)).trans ?_
    exact congrArg (fun w => rmsNorm _ _ w _) (funext fun e => by pointwise)

end Cert.Kernel5Ideal.Front
-- ==== Proof.Front.Heads.lean ====
/-
  Hand-written. The queries, keys and values the front call stores of one block of rows, at an index.
-/
module

public import proofs.«01_k».proof.Proof.Front.Body
public import proofs.«01_k».proof.Proof.Gen.Kernel5Ideal.Value

@[expose] public section

set_option maxRecDepth 16384

noncomputable section

namespace Cert.Kernel5Ideal.Front

open Cert.Kernel5Ideal Cert.Kernel5Ideal.Gen
open Idealize.ShloMosaic
open Cert.Front

/-- An index of a 128 wide piece as its two coordinates. -/
theorem piece_idx (x : S512x128.Idx) : x = ix2 (x 0) (x 1) := funext fun a : Fin 2 => match a with
  | 0 => rfl
  | 1 => rfl

theorem nope_eq (o : ℕ) (ho : o + 128 ≤ 2048) (ho' : o % 256 = 0) (P : S512x128.Idx → EReal) (q : Fin 512 → Fin 2048 → EReal) (cs : Fin 128 → EReal)
    (hP : ∀ r l, P (ix2 r l) = q r ⟨o + l.val, by omega⟩) (r : Fin 512) (c : Fin 2048) (x : S512x128.Idx)
    (h0 : ((ix2 r c : S512x2048.Idx) 0).val = (x 0).val) (h1 : ((ix2 r c : S512x2048.Idx) 1).val = o + (x 1).val) :
    P x = qout (q r) cs c := by
  have e0 : r = x 0 := Fin.ext h0
  have hc : c.val = o + (x 1).val := h1
  have hx : (x 1).val < 128 := (x 1).isLt
  rw [piece_idx x]
  refine (hP _ _).trans ?_
  unfold qout
  rw [if_pos (by omega), ← e0]
  exact congrArg (q r) (Fin.ext hc.symm)

theorem key_eq (o : ℕ) (ho : o + 128 ≤ 2048) (ho' : o % 256 = 0) (P : S512x128.Idx → EReal) (q : Fin 512 → Fin 2048 → EReal) (a : Fin 128 → EReal)
    (hP : ∀ r l, P (ix2 r l) = q r ⟨o + l.val, by omega⟩) (r : Fin 512) (c : Fin 2048) (x : S512x128.Idx)
    (h0 : ((ix2 r c : S512x2048.Idx) 0).val = (x 0).val) (h1 : ((ix2 r c : S512x2048.Idx) 1).val = o + (x 1).val) :
    P x = kout (q r) a c := by
  have e0 : r = x 0 := Fin.ext h0
  have hc : c.val = o + (x 1).val := h1
  have hx : (x 1).val < 128 := (x 1).isLt
  rw [piece_idx x]
  refine (hP _ _).trans ?_
  unfold kout
  rw [if_pos (by omega), ← e0]
  exact congrArg (q r) (Fin.ext hc.symm)

theorem rope_eq (o : ℕ) (ho : o + 128 ≤ 2048) (ho' : o % 256 = 128) (P : S512x128.Idx → EReal) (q : Fin 512 → Fin 2048 → EReal) (cs : Fin 512 → Fin 128 → EReal)
    (hP : ∀ r l, P (ix2 r l) = turned (fun l => q r ⟨o + l.val, by omega⟩ * cs r l) l) (r : Fin 512) (c : Fin 2048) (x : S512x128.Idx)
    (h0 : ((ix2 r c : S512x2048.Idx) 0).val = (x 0).val) (h1 : ((ix2 r c : S512x2048.Idx) 1).val = o + (x 1).val) :
    P x = qout (q r) (cs r) c := by
  have e0 : r = x 0 := Fin.ext h0
  have hc : c.val = o + (x 1).val := h1
  have hx : (x 1).val < 128 := (x 1).isLt
  rw [piece_idx x]
  refine (hP _ _).trans ?_
  unfold qout
  rw [if_neg (by omega), ← e0]
  refine congrArg₂ turned (funext fun l => congrArg (· * cs r l) (congrArg (q r) (Fin.ext ?_))) (Fin.ext ?_)
  · show o + l.val = c.val / 256 * 256 + 128 + l.val; omega
  · show (x 1).val = c.val % 128; omega

theorem shared_eq (o : ℕ) (ho : o + 128 ≤ 2048) (ho' : o % 256 = 128) (P : S512x128.Idx → EReal) (q : Fin 2048 → EReal) (a : Fin 512 → Fin 128 → EReal)
    (hP : ∀ r l, P (ix2 r l) = if l.val < 64 then turned (a r) l else Ideal.ofBits .f32 0x00000000#32) (r : Fin 512) (c : Fin 2048) (x : S512x128.Idx)
    (h0 : ((ix2 r c : S512x2048.Idx) 0).val = (x 0).val) (h1 : ((ix2 r c : S512x2048.Idx) 1).val = o + (x 1).val) :
    P x = kout q (a r) c := by
  have e0 : r = x 0 := Fin.ext h0
  have hc : c.val = o + (x 1).val := h1
  have hx : (x 1).val < 128 := (x 1).isLt
  have e1 : x 1 = (⟨c.val % 128, by omega⟩ : Fin 128) := Fin.ext (by show (x 1).val = c.val % 128; omega)
  rw [piece_idx x]
  refine (hP _ _).trans ?_
  have hn : ¬ c.val % 256 < 128 := by omega
  unfold kout
  refine Eq.trans ?_ (if_neg hn).symm
  rw [← e0, e1]

theorem value_eq (o : ℕ) (ho : o + 128 ≤ 1024) (ho' : o % 128 = 0) (P : S512x128.Idx → EReal) (q : Fin 512 → Fin 2048 → EReal)
    (hP : ∀ r l, P (ix2 r l) = q r ⟨o * 2 + 128 + l.val, by omega⟩) (r : Fin 512) (c : Fin 1024) (x : S512x128.Idx)
    (h0 : ((ix2 r c : S512x1024.Idx) 0).val = (x 0).val) (h1 : ((ix2 r c : S512x1024.Idx) 1).val = o + (x 1).val) :
    P x = vout (q r) c := by
  have e0 : r = x 0 := Fin.ext h0
  have hc : c.val = o + (x 1).val := h1
  have hx : (x 1).val < 128 := (x 1).isLt
  rw [piece_idx x]
  refine (hP _ _).trans ?_
  unfold vout
  rw [← e0]
  exact congrArg (q r) (Fin.ext (by show o * 2 + 128 + (x 1).val = c.val / 128 * 256 + 128 + c.val % 128; omega))

/-- The lane is in the lower half. -/
theorem lower (l : Fin 128) (a b : EReal) : Scalar.select (IntOp.cmpi .slt (BitVec.ofNat 32 l.val) 64#32) a b = if l.val < 64 then a else b := by
  have hl : (BitVec.ofNat 32 l.val).toInt = (l.val : ℤ) := by
    have := l.isLt; rw [BitVec.toInt_eq_toNat_cond, BitVec.toNat_ofNat]; omega
  show Scalar.select (BitVec.ofBool ((BitVec.ofNat 32 l.val).slt 64#32)) a b = _
  have e : (BitVec.ofNat 32 l.val).slt 64#32 = decide (l.val < 64) := by
    rw [BitVec.slt, hl]
    exact decide_eq_decide.2 (by show (l.val : ℤ) < 64 ↔ _; omega)
  rw [e]
  by_cases h : l.val < 64
  · rw [if_pos h, decide_eq_true h]; rfl
  · rw [if_neg h, decide_eq_false h]; rfl

theorem projected_row (x : S512x2048.Idx → EReal) (g : S1x2048.Idx → EReal) (w : S2048x2944.Idx → EReal) (r : Fin 512) :
    (fun c => k0_pay4 (F := Ideal) (View.ld x r0_0) (View.ld g r0_1) (View.ld w r0_2) (ix2 r c))
      = zrow (fun j => x (ix2 r j)) (fun j => g (ix2 0 j)) fun k c => w (ix2 k c) := by
  funext c
  refine (projected_apply _ _ _ r c).trans ?_
  unfold zrow proj rmsNorm
  pointwise

theorem query_row (Z : S512x2944.Idx → EReal) (g : S1x512.Idx → EReal) (w : S512x2048.Idx → EReal) (r : Fin 512) (c : Fin 2048) :
    k0_pay33 (F := Ideal) (k0_pay32 (F := Ideal) Z) (View.ld g r0_15) (View.ld w r0_0) (ix2 r c)
      = qrow (fun c => Z (ix2 r c)) (fun j => g (ix2 0 j)) (fun k c => w (ix2 k c)) c := by
  unfold k0_pay33 k0_pay32 qrow proj rmsNorm
  pointwise

theorem keyvalue_row (Z : S512x2944.Idx → EReal) (g : S1x256.Idx → EReal) (w : S256x2048.Idx → EReal) (r : Fin 512) (c : Fin 2048) :
    k0_pay34 (F := Ideal) Z (View.ld g r0_16) (View.ld w r0_17) (ix2 r c)
      = kvrow (fun c => Z (ix2 r c)) (fun j => g (ix2 0 j)) (fun k c => w (ix2 k c)) c := by
  unfold k0_pay34 kvrow proj rmsNorm
  pointwise

theorem shared_apply (Z : S512x2944.Idx → EReal) (cs : S512x128.Idx → EReal) (r : Fin 512) (l : Fin 128) :
    k0_pay37 (F := Ideal) (k0_pay35 (F := Ideal) Z (k0_pay31 (F := Ideal) (View.ld cs r0_14))) k0_pay36 (ix2 r l)
      = if l.val < 64 then turned (fun l => Z (ix2 r ⟨2816 + l.val, by omega⟩) * cs (ix2 r l)) l else Ideal.ofBits .f32 0x00000000#32 := by
  unfold k0_pay37 k0_pay35 k0_pay31 k0_pay36 turned
  pointwise
  exact lower l _ _

theorem queries_apply (x0 : Vec Ideal S512x2048 .f32) (x1 : Vec Ideal S1x2048 .f32) (x2 : Vec Ideal S2048x2944 .bf16) (x3 : Vec Ideal S1x1024 .f32) (x4 : Vec Ideal S1x1024 .f32) (x5 : Vec Ideal S8x128x128 .bf16) (x6 : Vec Ideal S128x1024 .f32) (x7 : Vec Ideal S1x1024 .f32) (x8 : Vec Ideal S1x512 .f32) (x9 : Vec Ideal S512x2048 .bf16) (x10 : Vec Ideal S1x256 .f32) (x11 : Vec Ideal S256x2048 .bf16) (x12 : Vec Ideal S512x128 .f32) (r : Fin 512) (c : Fin 2048) :
    out0_14 (F := Ideal) x0 x1 x2 x3 x4 x5 x6 x7 x8 x9 x10 x11 x12 (ix2 r c)
      = qout (fun c => k0_pay76 (F := Ideal) x0 x1 x2 x3 x4 x5 x6 x7 x8 x9 x10 x11 x12 (ix2 r c)) (fun l => x12 (ix2 r l)) c := by
  unfold out0_14 k0_pay75
  generalize k0_pay76 (F := Ideal) x0 x1 x2 x3 x4 x5 x6 x7 x8 x9 x10 x11 x12 = Q
  canon_tiles x h
  case piece0 =>
    exact rope_eq 1920 (by decide) (by decide) _ (fun r c => Q (ix2 r c)) (fun r l => x12 (ix2 r l)) (fun r l => by unfold k0_pay1 k0_pay67 k0_pay31 turned; pointwise) r c x h0 h1
  case piece1 =>
    exact nope_eq 1792 (by decide) (by decide) _ (fun r c => Q (ix2 r c)) _ (fun r l => by unfold k0_pay68; pointwise) r c x h0 h1
  case piece2 =>
    exact rope_eq 1664 (by decide) (by decide) _ (fun r c => Q (ix2 r c)) (fun r l => x12 (ix2 r l)) (fun r l => by unfold k0_pay64 k0_pay31 turned; pointwise) r c x h0 h1
  case piece3 =>
    exact nope_eq 1536 (by decide) (by decide) _ (fun r c => Q (ix2 r c)) _ (fun r l => by unfold k0_pay63; pointwise) r c x h0 h1
  case piece4 =>
    exact rope_eq 1408 (by decide) (by decide) _ (fun r c => Q (ix2 r c)) (fun r l => x12 (ix2 r l)) (fun r l => by unfold k0_pay60 k0_pay31 turned; pointwise) r c x h0 h1
  case piece5 =>
    exact nope_eq 1280 (by decide) (by decide) _ (fun r c => Q (ix2 r c)) _ (fun r l => by unfold k0_pay59; pointwise) r c x h0 h1
  case piece6 =>
    exact rope_eq 1152 (by decide) (by decide) _ (fun r c => Q (ix2 r c)) (fun r l => x12 (ix2 r l)) (fun r l => by unfold k0_pay56 k0_pay31 turned; pointwise) r c x h0 h1
  case piece7 =>
    exact nope_eq 1024 (by decide) (by decide) _ (fun r c => Q (ix2 r c)) _ (fun r l => by unfold k0_pay55; pointwise) r c x h0 h1
  case piece8 =>
    exact rope_eq 896 (by decide) (by decide) _ (fun r c => Q (ix2 r c)) (fun r l => x12 (ix2 r l)) (fun r l => by unfold k0_pay51 k0_pay31 turned; pointwise) r c x h0 h1
  case piece9 =>
    exact nope_eq 768 (by decide) (by decide) _ (fun r c => Q (ix2 r c)) _ (fun r l => by unfold k0_pay50; pointwise) r c x h0 h1
  case piece10 =>
    exact rope_eq 640 (by decide) (by decide) _ (fun r c => Q (ix2 r c)) (fun r l => x12 (ix2 r l)) (fun r l => by unfold k0_pay47 k0_pay31 turned; pointwise) r c x h0 h1
  case piece11 =>
    exact nope_eq 512 (by decide) (by decide) _ (fun r c => Q (ix2 r c)) _ (fun r l => by unfold k0_pay46; pointwise) r c x h0 h1
  case piece12 =>
    exact rope_eq 384 (by decide) (by decide) _ (fun r c => Q (ix2 r c)) (fun r l => x12 (ix2 r l)) (fun r l => by unfold k0_pay43 k0_pay31 turned; pointwise) r c x h0 h1
  case piece13 =>
    exact nope_eq 256 (by decide) (by decide) _ (fun r c => Q (ix2 r c)) _ (fun r l => by unfold k0_pay42; pointwise) r c x h0 h1
  case piece14 =>
    exact rope_eq 128 (by decide) (by decide) _ (fun r c => Q (ix2 r c)) (fun r l => x12 (ix2 r l)) (fun r l => by unfold k0_pay39 k0_pay31 turned; pointwise) r c x h0 h1
  case piece15 =>
    exact nope_eq 0 (by decide) (by decide) _ (fun r c => Q (ix2 r c)) _ (fun r l => by unfold k0_pay38; pointwise) r c x h0 (h1.trans (Nat.zero_add _).symm)

theorem keys_apply (x0 : Vec Ideal S512x2048 .f32) (x1 : Vec Ideal S1x2048 .f32) (x2 : Vec Ideal S2048x2944 .bf16) (x3 : Vec Ideal S1x1024 .f32) (x4 : Vec Ideal S1x1024 .f32) (x5 : Vec Ideal S8x128x128 .bf16) (x6 : Vec Ideal S128x1024 .f32) (x7 : Vec Ideal S1x1024 .f32) (x8 : Vec Ideal S1x512 .f32) (x9 : Vec Ideal S512x2048 .bf16) (x10 : Vec Ideal S1x256 .f32) (x11 : Vec Ideal S256x2048 .bf16) (x12 : Vec Ideal S512x128 .f32) (r : Fin 512) (c : Fin 2048) :
    out0_15 (F := Ideal) x0 x1 x2 x3 x4 x5 x6 x7 x8 x9 x10 x11 x12 (ix2 r c)
      = kout (fun c => k0_pay77 (F := Ideal) x0 x1 x2 x3 x4 x5 x6 x7 x8 x9 x10 x11 x12 (ix2 r c)) (fun l => k0_pay69 (F := Ideal) x0 x1 x2 x3 x4 x5 x6 x7 x8 x9 x10 x11 x12 (ix2 r ⟨2816 + l.val, by omega⟩) * x12 (ix2 r l)) c := by
  unfold out0_15 k0_pay80 k0_pay79 k0_pay78 k0_pay75
  generalize k0_pay77 (F := Ideal) x0 x1 x2 x3 x4 x5 x6 x7 x8 x9 x10 x11 x12 = Q
  generalize k0_pay69 (F := Ideal) x0 x1 x2 x3 x4 x5 x6 x7 x8 x9 x10 x11 x12 = Z
  canon_tiles x h
  case piece0 =>
    exact shared_eq 1920 (by decide) (by decide) _ _ (fun r l => Z (ix2 r ⟨2816 + l.val, by omega⟩) * x12 (ix2 r l)) (shared_apply Z x12) r c x h0 h1
  case piece1 =>
    exact key_eq 1792 (by decide) (by decide) _ (fun r c => Q (ix2 r c)) _ (fun r l => by unfold k0_pay2; pointwise) r c x h0 h1
  case piece2 =>
    exact shared_eq 1664 (by decide) (by decide) _ _ (fun r l => Z (ix2 r ⟨2816 + l.val, by omega⟩) * x12 (ix2 r l)) (shared_apply Z x12) r c x h0 h1
  case piece3 =>
    exact key_eq 1536 (by decide) (by decide) _ (fun r c => Q (ix2 r c)) _ (fun r l => by unfold k0_pay65; pointwise) r c x h0 h1
  case piece4 =>
    exact shared_eq 1408 (by decide) (by decide) _ _ (fun r l => Z (ix2 r ⟨2816 + l.val, by omega⟩) * x12 (ix2 r l)) (shared_apply Z x12) r c x h0 h1
  case piece5 =>
    exact key_eq 1280 (by decide) (by decide) _ (fun r c => Q (ix2 r c)) _ (fun r l => by unfold k0_pay61; pointwise) r c x h0 h1
  case piece6 =>
    exact shared_eq 1152 (by decide) (by decide) _ _ (fun r l => Z (ix2 r ⟨2816 + l.val, by omega⟩) * x12 (ix2 r l)) (shared_apply Z x12) r c x h0 h1
  case piece7 =>
    exact key_eq 1024 (by decide) (by decide) _ (fun r c => Q (ix2 r c)) _ (fun r l => by unfold k0_pay57; pointwise) r c x h0 h1
  case piece8 =>
    exact shared_eq 896 (by decide) (by decide) _ _ (fun r l => Z (ix2 r ⟨2816 + l.val, by omega⟩) * x12 (ix2 r l)) (shared_apply Z x12) r c x h0 h1
  case piece9 =>
    exact key_eq 768 (by decide) (by decide) _ (fun r c => Q (ix2 r c)) _ (fun r l => by unfold k0_pay53 k0_pay52; pointwise) r c x h0 h1
  case piece10 =>
    exact shared_eq 640 (by decide) (by decide) _ _ (fun r l => Z (ix2 r ⟨2816 + l.val, by omega⟩) * x12 (ix2 r l)) (shared_apply Z x12) r c x h0 h1
  case piece11 =>
    exact key_eq 512 (by decide) (by decide) _ (fun r c => Q (ix2 r c)) _ (fun r l => by unfold k0_pay48; pointwise) r c x h0 h1
  case piece12 =>
    exact shared_eq 384 (by decide) (by decide) _ _ (fun r l => Z (ix2 r ⟨2816 + l.val, by omega⟩) * x12 (ix2 r l)) (shared_apply Z x12) r c x h0 h1
  case piece13 =>
    exact key_eq 256 (by decide) (by decide) _ (fun r c => Q (ix2 r c)) _ (fun r l => by unfold k0_pay44; pointwise) r c x h0 h1
  case piece14 =>
    exact shared_eq 128 (by decide) (by decide) _ _ (fun r l => Z (ix2 r ⟨2816 + l.val, by omega⟩) * x12 (ix2 r l)) (shared_apply Z x12) r c x h0 h1
  case piece15 =>
    exact key_eq 0 (by decide) (by decide) _ (fun r c => Q (ix2 r c)) _ (fun r l => by unfold k0_pay40; pointwise) r c x h0 (h1.trans (Nat.zero_add _).symm)

theorem values_apply (x0 : Vec Ideal S512x2048 .f32) (x1 : Vec Ideal S1x2048 .f32) (x2 : Vec Ideal S2048x2944 .bf16) (x3 : Vec Ideal S1x1024 .f32) (x4 : Vec Ideal S1x1024 .f32) (x5 : Vec Ideal S8x128x128 .bf16) (x6 : Vec Ideal S128x1024 .f32) (x7 : Vec Ideal S1x1024 .f32) (x8 : Vec Ideal S1x512 .f32) (x9 : Vec Ideal S512x2048 .bf16) (x10 : Vec Ideal S1x256 .f32) (x11 : Vec Ideal S256x2048 .bf16) (x12 : Vec Ideal S512x128 .f32) (r : Fin 512) (c : Fin 1024) :
    out0_16 (F := Ideal) x0 x1 x2 x3 x4 x5 x6 x7 x8 x9 x10 x11 x12 (ix2 r c) = vout (fun c => k0_pay77 (F := Ideal) x0 x1 x2 x3 x4 x5 x6 x7 x8 x9 x10 x11 x12 (ix2 r c)) c := by
  unfold out0_16
  generalize k0_pay77 (F := Ideal) x0 x1 x2 x3 x4 x5 x6 x7 x8 x9 x10 x11 x12 = Q
  canon_tiles x h
  case piece0 =>
    exact value_eq 896 (by decide) (by decide) _ (fun r c => Q (ix2 r c)) (fun r l => by unfold k0_pay3; pointwise) r c x h0 h1
  case piece1 =>
    exact value_eq 768 (by decide) (by decide) _ (fun r c => Q (ix2 r c)) (fun r l => by unfold k0_pay66; pointwise) r c x h0 h1
  case piece2 =>
    exact value_eq 640 (by decide) (by decide) _ (fun r c => Q (ix2 r c)) (fun r l => by unfold k0_pay62; pointwise) r c x h0 h1
  case piece3 =>
    exact value_eq 512 (by decide) (by decide) _ (fun r c => Q (ix2 r c)) (fun r l => by unfold k0_pay58; pointwise) r c x h0 h1
  case piece4 =>
    exact value_eq 384 (by decide) (by decide) _ (fun r c => Q (ix2 r c)) (fun r l => by unfold k0_pay54; pointwise) r c x h0 h1
  case piece5 =>
    exact value_eq 256 (by decide) (by decide) _ (fun r c => Q (ix2 r c)) (fun r l => by unfold k0_pay49; pointwise) r c x h0 h1
  case piece6 =>
    exact value_eq 128 (by decide) (by decide) _ (fun r c => Q (ix2 r c)) (fun r l => by unfold k0_pay45; pointwise) r c x h0 h1
  case piece7 =>
    exact value_eq 0 (by decide) (by decide) _ (fun r c => Q (ix2 r c)) (fun r l => by unfold k0_pay41; pointwise) r c x h0 (h1.trans (Nat.zero_add _).symm)

end Cert.Kernel5Ideal.Front
-- ==== Proof.Front.Value.lean ====
/-
  Hand-written. The front call at the ideal values: what it leaves in its four result arrays, of its arguments.
-/
module

public import proofs.«01_k».proof.Proof.Front.Reads
public import proofs.«01_k».proof.Proof.Front.Branch
public import proofs.«01_k».proof.Proof.Front.Heads

@[expose] public section

set_option maxRecDepth 16384

noncomputable section

namespace Cert.Front

open Idealize.ShloMosaic

/-- The arguments' shapes. -/
abbrev Rows : Type := (⟨2, ![16384, 2048]⟩ : Shape).Idx → EReal

/-- The branch before its norm: a row's gate by its chunk's mixed rows, of all first products `z`. -/
def gatedAt (z : Fin 16384 → Fin 2944 → EReal) (gv bv : Fin 1024 → EReal) (ws : Fin 8 → Fin 128 → Fin 128 → EReal) (bs : Fin 8 → Fin 128 → EReal)
    (R : Fin 16384) (e : Fin 1024) : EReal :=
  gelu (z R ⟨e.val, by omega⟩) * ((∑ s : Fin 128, ws ⟨e.val / 128, by omega⟩ ⟨R.val % 128, by omega⟩ s
    * layerNorm (fun j => gelu (z ⟨R.val / 128 * 128 + s.val, by omega⟩ ⟨1024 + j.val, by omega⟩)) gv bv e) + bs ⟨e.val / 128, by omega⟩ ⟨R.val % 128, by omega⟩)

end Cert.Front

namespace Cert.Kernel5Ideal.Front

open Cert.Kernel5Ideal Cert.Kernel5Ideal.Gen
open Idealize.ShloMosaic Idealize.ShloMosaic.TcCoe
open Cert.Front

variable (m : (ℓ : Loc nD τ sig) → Buf (Elt Ideal) ℓ)

/-- The first products, of the arguments. -/
def firsts (c : Dev nD) (R : Fin 16384) : Fin 2944 → EReal :=
  zrow (fun j => m (c.tc.loc main_arg0) (ix2 R j)) (fun j => m (c.tc.loc main_arg1) (ix1 j)) (inWeights (m (c.tc.loc main_arg2)))

/-- A row's queries, of the arguments. -/
def queries (c : Dev nD) (R : Fin 16384) : Fin 2048 → EReal :=
  qrow (firsts m c R) (fun j => m (c.tc.loc main_arg7) (ix1 j)) (upWeights (m (c.tc.loc main_arg8)))

/-- A row's keys and values, of the arguments. -/
def keyvalues (c : Dev nD) (R : Fin 16384) : Fin 2048 → EReal :=
  kvrow (firsts m c R) (fun j => m (c.tc.loc main_arg9) (ix1 j)) (fun k e => m (c.tc.loc main_arg10) (ix2 k e))

/-- The tables' row of a row. -/
def angles (c : Dev nD) (R : Fin 16384) : Fin 128 → EReal :=
  tables (m (c.tc.loc main_arg12)) (m (c.tc.loc main_arg13)) ⟨R.val % 2048, by omega⟩

/-- The gated branch. -/
def resultA (c : Dev nD) (y : (⟨2, ![16384, 1024]⟩ : Shape).Idx) : EReal :=
  rmsNorm (Ideal.ofBits .f32 0x44800000#32)
    (gatedAt (firsts m c) (fun j => m (c.tc.loc main_arg3) (ix1 j)) (fun j => m (c.tc.loc main_arg4) (ix1 j)) (causal (m (c.tc.loc main_arg5)))
      (fun g t => m (c.tc.loc main_arg6) (ix2 g t)) (y 0))
    (fun j => m (c.tc.loc main_arg11) (ix1 j)) (y 1)

/-- The queries. -/
def resultQ (c : Dev nD) (y : (⟨2, ![16384, 2048]⟩ : Shape).Idx) : EReal := qout (queries m c (y 0)) (angles m c (y 0)) (y 1)

/-- The keys. -/
def resultK (c : Dev nD) (y : (⟨2, ![16384, 2048]⟩ : Shape).Idx) : EReal :=
  kout (keyvalues m c (y 0)) (fun l => firsts m c (y 0) ⟨2816 + l.val, by omega⟩ * angles m c (y 0) l) (y 1)

/-- The values. -/
def resultV (c : Dev nD) (y : (⟨2, ![16384, 1024]⟩ : Shape).Idx) : EReal := vout (keyvalues m c (y 0)) (y 1)

theorem firsts_apply (c : Dev nD) (t : Fin cfg0.N) (r : Fin 512) (e : Fin 2944) :
    k0_pay69 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) = firsts m c (row t r) e := by
  unfold k0_pay69 firsts
  refine (congrFun (projected_row _ _ _ r) e).trans ?_
  refine congrFun (congr (congrArg₂ zrow (funext fun j => read_0 m c t r j) (funext fun j => read_1 m c t j)) (funext fun k => funext fun e => read_2 m c t k e)) e

theorem queries_at (c : Dev nD) (t : Fin cfg0.N) (r : Fin 512) (e : Fin 2048) :
    k0_pay76 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) = queries m c (row t r) e := by
  unfold k0_pay76 queries
  refine (query_row _ _ _ r e).trans ?_
  refine congrFun (congr (congrArg₂ qrow (funext fun j => firsts_apply m c t r j) (funext fun j => read_8 m c t j)) (funext fun k => funext fun e => read_9 m c t k e)) e

theorem keyvalues_at (c : Dev nD) (t : Fin cfg0.N) (r : Fin 512) (e : Fin 2048) :
    k0_pay77 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) = keyvalues m c (row t r) e := by
  unfold k0_pay77 keyvalues
  refine (keyvalue_row _ _ _ r e).trans ?_
  refine congrFun (congr (congrArg₂ kvrow (funext fun j => firsts_apply m c t r j) (funext fun j => read_10 m c t j)) (funext fun k => funext fun e => read_11 m c t k e)) e

theorem angles_at (c : Dev nD) (t : Fin cfg0.N) (r : Fin 512) :
    (fun l => (iblk m c 12 t : S512x128.Idx → EReal) (ix2 r l)) = angles m c (row t r) :=
  funext fun l => read_12 m c t r l

theorem gate_at (c : Dev nD) (t : Fin cfg0.N) (r : Fin 512) (e : Fin 1024) :
    k0_pay70 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) = gelu (firsts m c (row t r) ⟨e.val, by omega⟩) :=
  (gate_apply _ _ _ _ _ _ _ _ _ _ _ _ _ r e).trans (congrArg gelu (firsts_apply m c t r _))

theorem normal_at (c : Dev nD) (t : Fin cfg0.N) (r : Fin 512) (e : Fin 1024) :
    k0_pay74 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e)
      = layerNorm (fun j => gelu (firsts m c (row t r) ⟨1024 + j.val, by omega⟩)) (fun j => m (c.tc.loc main_arg3) (ix1 j)) (fun j => m (c.tc.loc main_arg4) (ix1 j)) e := by
  refine (normal_apply _ _ _ _ _ _ _ _ _ _ _ _ _ r e).trans ?_
  exact congrFun (congr (congrArg₂ layerNorm (funext fun j => congrArg gelu (firsts_apply m c t r _)) (funext fun j => read_3 m c t j)) (funext fun j => read_4 m c t j)) e

theorem mixed_at (c : Dev nD) (t : Fin cfg0.N) (r : Fin 512) (e : Fin 1024) :
    mixedAt (k0_pay70 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay74 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 5 t) (iblk m c 6 t) ⟨r.val / 128, by omega⟩ ⟨r.val % 128, by omega⟩ e
      = gatedAt (firsts m c) (fun j => m (c.tc.loc main_arg3) (ix1 j)) (fun j => m (c.tc.loc main_arg4) (ix1 j)) (causal (m (c.tc.loc main_arg5)))
          (fun g t => m (c.tc.loc main_arg6) (ix2 g t)) (row t r) e := by
  have hR : (row t r).val % 128 = r.val % 128 := by show (t.val * 512 + r.val) % 128 = r.val % 128; omega
  have hD : (row t r).val / 128 = t.val * 4 + r.val / 128 := by show (t.val * 512 + r.val) / 128 = _; omega
  have hr : ∀ h, (⟨r.val / 128 * 128 + r.val % 128, h⟩ : Fin 512) = r := fun h => Fin.ext (by show r.val / 128 * 128 + r.val % 128 = r.val; omega)
  have he : ∀ h, (⟨e.val / 128 * 128 + e.val % 128, h⟩ : Fin 1024) = e := fun h => Fin.ext (by show e.val / 128 * 128 + e.val % 128 = e.val; omega)
  unfold mixedAt products gatedAt
  simp only [gate_at m c t, normal_at m c t, read_5 m c t, read_6 m c t]
  simp only [hr, he, hR]
  refine congrArg₂ (· * ·) rfl (congrArg (· + _) (Finset.sum_congr rfl fun s _ => congrArg₂ (· * ·) rfl ?_))
  have hs : ∀ h h', row t ⟨r.val / 128 * 128 + s.val, h⟩ = ⟨(row t r).val / 128 * 128 + s.val, h'⟩ := fun h h' => Fin.ext (by
    show t.val * 512 + (r.val / 128 * 128 + s.val) = (row t r).val / 128 * 128 + s.val
    rw [hD]; omega)
  rw [hs _ (by have := (row t r).isLt; have := s.isLt; omega)]

/-! ## The result arrays -/

theorem place_idx {n : ℕ} (x : (⟨2, ![512, n]⟩ : Shape).Idx) : x = ix2 (x 0) (x 1) := funext fun a : Fin 2 => match a with
  | 0 => rfl
  | 1 => rfl

theorem emb_13 (t : Fin cfg0.N) (r : Fin 512) (e : Fin 1024) : ((win0_13.blk t).view.emb (ix2 r e) : S16384x1024.Idx) = ix2 (row t r) e := by
  blk_ext [index_13 t, row]

theorem block_13 (c : Dev nD) (t : Fin cfg0.N) (r : Fin 512) (e : Fin 1024) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) = resultA m c (ix2 (row t r) e) := by
  refine (branch_apply _ _ _ _ _ _ _ _ _ _ _ _ _ r e).trans ?_
  refine congrFun (congrArg₂ (rmsNorm _) (funext fun e => mixed_at m c t r e) (funext fun e => read_7 m c t e)) e

theorem array_13 (c : Dev nD) : (dats m 0 c).arrAt 13 cfg0.N = resultA m c := by
  refine (dats m 0 c).arrAt_eq_of_covers 13 _ (by decide +kernel) fun t hf (y : S512x1024.Idx) => ?_
  have hy : y = ix2 (y 0) (y 1) := place_idx y
  blk_simp
  rw [after0_13]
  refine (congrArg (out0_13 (F := Ideal) _ _ _ _ _ _ _ _ _ _ _ _ _) hy).trans ((block_13 m c t (y 0) (y 1)).trans ?_)
  exact congrArg (resultA m c) ((congrArg (win0_13.blk t).view.emb hy).trans (emb_13 t (y 0) (y 1))).symm

theorem emb_14 (t : Fin cfg0.N) (r : Fin 512) (e : Fin 2048) : ((win0_14.blk t).view.emb (ix2 r e) : S16384x2048.Idx) = ix2 (row t r) e := by
  blk_ext [index_14 t, row]

theorem block_14 (c : Dev nD) (t : Fin cfg0.N) (r : Fin 512) (e : Fin 2048) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) = resultQ m c (ix2 (row t r) e) := by
  refine (queries_apply _ _ _ _ _ _ _ _ _ _ _ _ _ r e).trans ?_
  refine congrFun (congrArg₂ qout (funext fun e => queries_at m c t r e) (angles_at m c t r)) e

theorem array_14 (c : Dev nD) : (dats m 0 c).arrAt 14 cfg0.N = resultQ m c := by
  refine (dats m 0 c).arrAt_eq_of_covers 14 _ (by decide +kernel) fun t hf (y : S512x2048.Idx) => ?_
  have hy : y = ix2 (y 0) (y 1) := place_idx y
  blk_simp
  rw [after0_14]
  refine (congrArg (out0_14 (F := Ideal) _ _ _ _ _ _ _ _ _ _ _ _ _) hy).trans ((block_14 m c t (y 0) (y 1)).trans ?_)
  exact congrArg (resultQ m c) ((congrArg (win0_14.blk t).view.emb hy).trans (emb_14 t (y 0) (y 1))).symm

theorem emb_15 (t : Fin cfg0.N) (r : Fin 512) (e : Fin 2048) : ((win0_15.blk t).view.emb (ix2 r e) : S16384x2048.Idx) = ix2 (row t r) e := by
  blk_ext [index_15 t, row]

theorem block_15 (c : Dev nD) (t : Fin cfg0.N) (r : Fin 512) (e : Fin 2048) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) = resultK m c (ix2 (row t r) e) := by
  refine (keys_apply _ _ _ _ _ _ _ _ _ _ _ _ _ r e).trans ?_
  refine congrFun (congrArg₂ kout (funext fun e => keyvalues_at m c t r e) (funext fun l => congrArg₂ (· * ·) (firsts_apply m c t r _) (read_12 m c t r l))) e

theorem array_15 (c : Dev nD) : (dats m 0 c).arrAt 15 cfg0.N = resultK m c := by
  refine (dats m 0 c).arrAt_eq_of_covers 15 _ (by decide +kernel) fun t hf (y : S512x2048.Idx) => ?_
  have hy : y = ix2 (y 0) (y 1) := place_idx y
  blk_simp
  rw [after0_15]
  refine (congrArg (out0_15 (F := Ideal) _ _ _ _ _ _ _ _ _ _ _ _ _) hy).trans ((block_15 m c t (y 0) (y 1)).trans ?_)
  exact congrArg (resultK m c) ((congrArg (win0_15.blk t).view.emb hy).trans (emb_15 t (y 0) (y 1))).symm

theorem emb_16 (t : Fin cfg0.N) (r : Fin 512) (e : Fin 1024) : ((win0_16.blk t).view.emb (ix2 r e) : S16384x1024.Idx) = ix2 (row t r) e := by
  blk_ext [index_16 t, row]

theorem block_16 (c : Dev nD) (t : Fin cfg0.N) (r : Fin 512) (e : Fin 1024) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) = resultV m c (ix2 (row t r) e) := by
  refine (values_apply _ _ _ _ _ _ _ _ _ _ _ _ _ r e).trans ?_
  refine congrFun (congrArg vout (funext fun e => keyvalues_at m c t r e)) e

theorem array_16 (c : Dev nD) : (dats m 0 c).arrAt 16 cfg0.N = resultV m c := by
  refine (dats m 0 c).arrAt_eq_of_covers 16 _ (by decide +kernel) fun t hf (y : S512x1024.Idx) => ?_
  have hy : y = ix2 (y 0) (y 1) := place_idx y
  blk_simp
  rw [after0_16]
  refine (congrArg (out0_16 (F := Ideal) _ _ _ _ _ _ _ _ _ _ _ _ _) hy).trans ((block_16 m c t (y 0) (y 1)).trans ?_)
  exact congrArg (resultV m c) ((congrArg (win0_16.blk t).view.emb hy).trans (emb_16 t (y 0) (y 1))).symm

end Cert.Kernel5Ideal.Front
-- ==== Proof.Front.Rope.lean ====
/-
  Hand-written. Of real rows, gains and weights: columns with negated weights are negated columns, so the rotated columns turned by half
  are the rotation of each pair of coordinates.
-/
module

public import proofs.«01_k».proof.Proof.Attn.Finite
public import proofs.«01_k».proof.Proof.Front.Reads

@[expose] public section

set_option maxRecDepth 16384

noncomputable section

namespace Cert.Front

open Idealize.ShloMosaic

/-- A real number among the extended ones. -/
def IsReal (v : EReal) : Prop := v ≠ ⊤ ∧ v ≠ ⊥

theorem real_iff (v : EReal) : IsReal v ↔ ∃ r : ℝ, v = (r : EReal) :=
  ⟨fun h => ⟨v.toReal, (EReal.coe_toReal h.1 h.2).symm⟩, fun ⟨r, e⟩ => e ▸ ⟨EReal.coe_ne_top r, EReal.coe_ne_bot r⟩⟩

theorem IsReal.mul {a b : EReal} (ha : IsReal a) (hb : IsReal b) : IsReal (a * b) := by
  obtain ⟨r, rfl⟩ := (real_iff _).1 ha
  obtain ⟨s, rfl⟩ := (real_iff _).1 hb
  exact (real_iff _).2 ⟨r * s, (EReal.coe_mul r s).symm⟩

/-- Numbers whose normed rows are real: a positive real count, and the small number added. -/
def Count (c : EReal) : Prop := ∃ r : ℝ, 0 < r ∧ c = (r : EReal)

theorem count_2048 : Count (Ideal.ofBits .f32 0x45000000#32) := ⟨2048, by norm_num, by simp [Ideal.ofBits, Ideal.ieee, -EReal.coe_mul]; norm_num⟩

theorem count_512 : Count (Ideal.ofBits .f32 0x44000000#32) := ⟨512, by norm_num, by simp [Ideal.ofBits, Ideal.ieee, -EReal.coe_mul]; norm_num⟩

theorem small_pos : ∃ r : ℝ, 0 < r ∧ Ideal.ofBits .f32 0x358637BD#32 = (r : EReal) :=
  ⟨(1 + 407485 / 8388608) * 2 ^ (-20 : ℤ), by positivity, by simp [Ideal.ofBits, Ideal.ieee, -EReal.coe_mul]; norm_num⟩

/-- A real row normed under a real gain is real. -/
theorem rmsNorm_real {n : ℕ} (c : EReal) (hc : Count c) (y w : Fin n → EReal) (hy : ∀ j, IsReal (y j)) (hw : ∀ j, IsReal (w j)) (k : Fin n) :
    IsReal (rmsNorm c y w k) := by
  obtain ⟨r, hr, rfl⟩ := hc
  obtain ⟨s, hs, he⟩ := small_pos
  refine IsReal.mul (IsReal.mul (hy k) ?_) (hw k)
  have e : (∑ j, y j * y j) = ((∑ j, (y j).toReal * (y j).toReal : ℝ) : EReal) := by
    rw [Cert.Attn.coe_sum]
    refine Finset.sum_congr rfl fun d _ => ?_
    rw [EReal.coe_mul, EReal.coe_toReal (hy d).1 (hy d).2]
  have hp : 0 ≤ ∑ j, (y j).toReal * (y j).toReal := Finset.sum_nonneg fun j _ => mul_self_nonneg _
  rw [he, e, Ideal.div_coe hr.ne', ← EReal.coe_mul, ← EReal.coe_add, Ideal.rsqrt_coe]
  have hq : 0 < (∑ j, (y j).toReal * (y j).toReal) * (1 / r) + s := by positivity
  rw [if_neg (not_lt.2 hq.le), if_neg hq.ne']
  exact (real_iff _).2 ⟨_, rfl⟩

/-- A column of negated weights. -/
theorem sum_neg_real {n : ℕ} (a w : Fin n → EReal) (ha : ∀ j, IsReal (a j)) (hw : ∀ j, IsReal (w j)) : (∑ j, a j * -w j) = -∑ j, a j * w j := by
  have e1 : (∑ j, a j * -w j) = ((∑ j, (a j).toReal * -(w j).toReal : ℝ) : EReal) := by
    rw [Cert.Attn.coe_sum]
    refine Finset.sum_congr rfl fun d _ => ?_
    rw [EReal.coe_mul, EReal.coe_neg, EReal.coe_toReal (ha d).1 (ha d).2, EReal.coe_toReal (hw d).1 (hw d).2]
  have e2 : (∑ j, a j * w j) = ((∑ j, (a j).toReal * (w j).toReal : ℝ) : EReal) := by
    rw [Cert.Attn.coe_sum]
    refine Finset.sum_congr rfl fun d _ => ?_
    rw [EReal.coe_mul, EReal.coe_toReal (ha d).1 (ha d).2, EReal.coe_toReal (hw d).1 (hw d).2]
  rw [e1, e2, ← EReal.coe_neg]
  congr 1
  rw [← Finset.sum_neg_distrib]
  exact Finset.sum_congr rfl fun d _ => by ring

/-- The first product, plainly. -/
def zplain (y g : Fin 2048 → EReal) (W : (⟨2, ![2048, 2880]⟩ : Shape).Idx → EReal) : Fin 2880 → EReal :=
  proj (rmsNorm (Ideal.ofBits .f32 0x45000000#32) y g) (fun k c => W (ix2 k c))

/-- The scaled queries, plainly. -/
def qplain (z : Fin 2880 → EReal) (g : Fin 512 → EReal) (W : (⟨2, ![512, 1536]⟩ : Shape).Idx → EReal) (c : Fin 1536) : EReal :=
  proj (rmsNorm (Ideal.ofBits .f32 0x44000000#32) (fun j : Fin 512 => z ⟨2048 + j.val, by omega⟩) g) (fun k c => W (ix2 k c)) c * Ideal.ofBits .f32 0x3D93CD3A#32

/-- The keys and values, plainly. -/
def kvplain (z : Fin 2880 → EReal) (g : Fin 256 → EReal) (W : (⟨2, ![256, 2048]⟩ : Shape).Idx → EReal) : Fin 2048 → EReal :=
  proj (rmsNorm (Ideal.ofBits .f32 0x43800000#32) (fun j : Fin 256 => z ⟨2560 + j.val, by omega⟩) g) (fun k c => W (ix2 k c))

/-- The branch before its norm, of gates and normed rows. -/
def gatedOf (u n : Fin 16384 → Fin 1024 → EReal) (ws : Fin 8 → Fin 128 → Fin 128 → EReal) (bs : Fin 8 → Fin 128 → EReal) (R : Fin 16384) (e : Fin 1024) : EReal :=
  u R e * ((∑ s : Fin 128, n ⟨R.val / 128 * 128 + s.val, by omega⟩ e * ws ⟨e.val / 128, by omega⟩ ⟨R.val % 128, by omega⟩ s)
    + bs ⟨e.val / 128, by omega⟩ ⟨R.val % 128, by omega⟩)

/-- Each pair of coordinates rotated. -/
def rotated (p : Fin 64 → EReal) (C S : Fin 32 → EReal) (l : Fin 64) : EReal :=
  if h : l.val < 32 then p ⟨l.val, by omega⟩ * C ⟨l.val, h⟩ - p ⟨32 + l.val, by omega⟩ * S ⟨l.val, h⟩
  else p ⟨32 + (l.val - 32), by omega⟩ * C ⟨l.val - 32, by omega⟩ + p ⟨l.val - 32, by omega⟩ * S ⟨l.val - 32, by omega⟩

/-- A row of queries: each head's first coordinates, then its rotated ones twice. -/
def qref (q : Fin 1536 → EReal) (C S : Fin 32 → EReal) (c : Fin 2048) : EReal :=
  if h : c.val % 256 < 128 then q ⟨c.val / 256 * 192 + c.val % 256, by omega⟩
  else rotated (fun l => q ⟨c.val / 256 * 192 + (128 + l.val), by omega⟩) C S ⟨c.val % 64, by omega⟩

/-- A row of keys: each head's own coordinates, then the rotated ones they share, then zeros. -/
def kref (kv : Fin 2048 → EReal) (z : Fin 2880 → EReal) (C S : Fin 32 → EReal) (c : Fin 2048) : EReal :=
  if c.val % 256 < 128 then kv c
  else if c.val % 128 < 64 then rotated (fun l => z ⟨2816 + l.val, by omega⟩) C S ⟨c.val % 64, by omega⟩
  else Ideal.ofBits .f32 0x00000000#32

/-- The coordinates, then their quarter turn. -/
def extended (p : Fin 64 → EReal) (l : Fin 128) : EReal :=
  if h : l.val < 64 then p ⟨l.val, h⟩ else if h : l.val - 64 < 32 then -p ⟨32 + (l.val - 64), by omega⟩ else p ⟨l.val - 64 - 32, by omega⟩

/-- Turned by half, the extended coordinates times the tables are the rotated ones, twice. -/
theorem turned_extended (p : Fin 64 → EReal) (C S : (⟨2, ![2048, 32]⟩ : Shape).Idx → EReal) (i : Fin 2048) (l : Fin 128) :
    turned (fun l => extended p l * tables C S i l) l = rotated p (fun l => C (ix2 i l)) (fun l => S (ix2 i l)) ⟨l.val % 64, by omega⟩ := by
  obtain ⟨l, hl⟩ := l
  have hcases : l < 32 ∨ (32 ≤ l ∧ l < 64) ∨ (64 ≤ l ∧ l < 96) ∨ 96 ≤ l := by omega
  unfold turned rotated extended tables
  rcases hcases with h | h | h | h
  · have h1 : (l + 128 - 64) % 128 = l + 64 := by omega
    have h2 : l % 64 = l := by omega
    simp only [h1, h2]
    rw [dif_pos (by omega : l < 64), dif_pos h, dif_neg (by omega : ¬ l + 64 < 64), dif_pos (by omega : l + 64 - 64 < 32), dif_neg (by omega : ¬ l + 64 < 32),
      dif_neg (by omega : ¬ l + 64 - 32 < 32), dif_pos (by omega : l + 64 - 32 - 32 < 32), dif_pos h, EReal.neg_mul, ← sub_eq_add_neg]
    simp only [show l + 64 - 64 = l by omega, show l + 64 - 32 - 32 = l by omega]
  · have h1 : (l + 128 - 64) % 128 = l + 64 := by omega
    have h2 : l % 64 = l := by omega
    simp only [h1, h2]
    rw [dif_pos (by omega : l < 64), dif_neg (by omega : ¬ l < 32), dif_pos (by omega : l - 32 < 32), dif_neg (by omega : ¬ l + 64 < 64), dif_neg (by omega : ¬ l + 64 - 64 < 32),
      dif_neg (by omega : ¬ l + 64 < 32), dif_neg (by omega : ¬ l + 64 - 32 < 32), dif_neg (by omega : ¬ l + 64 - 32 - 32 < 32), dif_neg (by omega : ¬ l < 32)]
    simp only [show l + 64 - 64 - 32 = l - 32 by omega, show l + 64 - 32 - 32 - 32 = l - 32 by omega, show 32 + (l - 32) = l by omega]
  · have h1 : (l + 128 - 64) % 128 = l - 64 := by omega
    have h2 : l % 64 = l - 64 := by omega
    simp only [h1, h2]
    rw [dif_neg (by omega : ¬ l < 64), dif_pos (by omega : l - 64 < 32), dif_neg (by omega : ¬ l < 32), dif_neg (by omega : ¬ l - 32 < 32), dif_pos (by omega : l - 32 - 32 < 32),
      dif_pos (by omega : l - 64 < 64), dif_pos (by omega : l - 64 < 32), dif_pos (by omega : l - 64 < 32), EReal.neg_mul, add_comm, ← sub_eq_add_neg]
    simp only [show l - 32 - 32 = l - 64 by omega]
  · have h1 : (l + 128 - 64) % 128 = l - 64 := by omega
    have h2 : l % 64 = l - 64 := by omega
    simp only [h1, h2]
    rw [dif_neg (by omega : ¬ l < 64), dif_neg (by omega : ¬ l - 64 < 32), dif_neg (by omega : ¬ l < 32), dif_neg (by omega : ¬ l - 32 < 32), dif_neg (by omega : ¬ l - 32 - 32 < 32),
      dif_pos (by omega : l - 64 < 64), dif_neg (by omega : ¬ l - 64 < 32), dif_pos (by omega : l - 64 - 32 < 32), dif_neg (by omega : ¬ l - 64 < 32), add_comm]
    simp only [show l - 32 - 32 - 32 = l - 64 - 32 by omega, show 32 + (l - 64 - 32) = l - 64 by omega]

/-! ## The first product -/

section
variable (y g : Fin 2048 → EReal) (W : (⟨2, ![2048, 2880]⟩ : Shape).Idx → EReal)

theorem zrow_low (c : ℕ) (h : c < 2880) (h' : c < 2944) : zrow y g (inWeights W) ⟨c, h'⟩ = zplain y g W ⟨c, h⟩ := by
  unfold zrow zplain proj inWeights
  exact Finset.sum_congr rfl fun k _ => by rw [dif_pos h]

variable (hy : ∀ j, IsReal (y j)) (hg : ∀ j, IsReal (g j)) (hW : ∀ i, IsReal (W i))
include hy hg hW

theorem zplain_real (c : Fin 2880) : IsReal (zplain y g W c) :=
  Cert.Attn.sum_real _ _ (fun k => rmsNorm_real _ count_2048 y g hy hg k) fun k => hW _

theorem zrow_extended (l : Fin 128) : zrow y g (inWeights W) ⟨2816 + l.val, by omega⟩ = extended (fun l => zplain y g W ⟨2816 + l.val, by omega⟩) l := by
  unfold extended
  by_cases h : l.val < 64
  · rw [dif_pos h]; exact zrow_low y g W _ (by omega) _
  rw [dif_neg h]
  by_cases h2 : l.val - 64 < 32
  · rw [dif_pos h2]
    unfold zrow zplain proj inWeights
    rw [← sum_neg_real _ _ (fun k => rmsNorm_real _ count_2048 y g hy hg k) (fun k => hW _)]
    refine Finset.sum_congr rfl fun k _ => ?_
    rw [dif_neg (show ¬ 2816 + l.val < 2880 by omega), dif_pos (show 2816 + l.val - 2880 < 32 by omega)]
    simp only [show 2816 + l.val - 2880 = l.val - 64 by omega]
  · rw [dif_neg h2]
    unfold zrow zplain proj inWeights
    refine Finset.sum_congr rfl fun k _ => ?_
    rw [dif_neg (show ¬ 2816 + l.val < 2880 by omega), dif_neg (show ¬ 2816 + l.val - 2880 < 32 by omega)]
    simp only [show 2816 + l.val - 2880 - 32 = l.val - 64 - 32 by omega]

end

/-! ## The queries -/

section
variable (z : Fin 2944 → EReal) (zp : Fin 2880 → EReal) (hz : ∀ c h h', z ⟨c, h'⟩ = zp ⟨c, h⟩) (g : Fin 512 → EReal) (W : (⟨2, ![512, 1536]⟩ : Shape).Idx → EReal)
include hz

theorem qrow_low (c : Fin 2048) (h : c.val % 256 < 192) :
    qrow z g (upWeights W) c = qplain zp g W ⟨c.val / 256 * 192 + c.val % 256, by omega⟩ := by
  unfold qrow qplain proj upWeights
  have hz' : (fun j : Fin 512 => z ⟨2048 + j.val, by omega⟩) = fun j : Fin 512 => zp ⟨2048 + j.val, by omega⟩ := funext fun j => hz _ _ _
  rw [hz']
  refine congrArg (· * _) (Finset.sum_congr rfl fun k _ => ?_)
  rw [dif_pos h]

variable (hr : ∀ c, IsReal (zp c)) (hg : ∀ j, IsReal (g j)) (hW : ∀ i, IsReal (W i))
include hr hg hW

theorem qrow_extended (h : Fin 8) (l : Fin 128) :
    qrow z g (upWeights W) ⟨h.val * 256 + 128 + l.val, by omega⟩ = extended (fun l => qplain zp g W ⟨h.val * 192 + (128 + l.val), by omega⟩) l := by
  have hm : (h.val * 256 + 128 + l.val) % 256 = 128 + l.val := by omega
  have hd : (h.val * 256 + 128 + l.val) / 256 = h.val := by omega
  have hz' : (fun j : Fin 512 => z ⟨2048 + j.val, by omega⟩) = fun j : Fin 512 => zp ⟨2048 + j.val, by omega⟩ := funext fun j => hz _ _ _
  unfold extended
  by_cases h1 : l.val < 64
  · rw [dif_pos h1]
    refine (qrow_low z zp hz g W _ (by show (h.val * 256 + 128 + l.val) % 256 < 192; omega)).trans ?_
    exact congrArg (qplain zp g W) (Fin.ext (by show (h.val * 256 + 128 + l.val) / 256 * 192 + (h.val * 256 + 128 + l.val) % 256 = h.val * 192 + (128 + l.val); omega))
  rw [dif_neg h1]
  by_cases h2 : l.val - 64 < 32
  · rw [dif_pos h2]
    unfold qrow qplain proj upWeights
    rw [hz', ← EReal.neg_mul, ← sum_neg_real _ _ (fun k => rmsNorm_real _ count_512 _ g (fun j => hr _) hg k) (fun k => hW _)]
    refine congrArg (· * _) (Finset.sum_congr rfl fun k _ => ?_)
    simp only [hm, hd]
    rw [dif_neg (by omega : ¬ 128 + l.val < 192), dif_pos (by omega : 128 + l.val - 192 < 32)]
    simp only [show 128 + l.val - 192 = l.val - 64 by omega]
  · rw [dif_neg h2]
    unfold qrow qplain proj upWeights
    rw [hz']
    refine congrArg (· * _) (Finset.sum_congr rfl fun k _ => ?_)
    simp only [hm, hd]
    rw [dif_neg (by omega : ¬ 128 + l.val < 192), dif_neg (by omega : ¬ 128 + l.val - 192 < 32)]
    simp only [show 128 + l.val - 192 - 32 = l.val - 64 - 32 by omega]

end

end Cert.Front
-- ==== Proof.Front.Ref.lean ====
/-
  Hand-written. The front call's reference at the ideal values: its intermediate arrays and its results at an index.
-/
module

public import proofs.«01_k».proof.Proof.Front.Rope
public import proofs.«01_k».proof.Proof.Gen.Reference5Ideal
public import proofs.«01_k».proof.Proof.Gen.Reference5Ideal.Run
public import Idealize.ShloMosaic.Lib.Pipeline.ValueKit

@[expose] public section

set_option maxRecDepth 16384

noncomputable section

namespace Cert.Reference5Ideal.Front

open Cert.Reference5Ideal Cert.Reference5Ideal.Value Cert.Reference5Ideal.Gen
open Idealize.ShloMosaic Idealize.ShloMosaic.TcCoe Idealize.ShloMosaic.StableHlo
open Cert.Front

variable (V0 : Valuation τ sig (Elt Ideal))

/-- The first product's entries. -/
def first (R : Fin 16384) : Fin 2880 → EReal :=
  zplain (fun j => (V0 (Proc.devRef .tc main_arg0) : S16384x2048.Idx → EReal) (ix2 R j)) (fun j => (V0 (Proc.devRef .tc main_arg1) : S2048.Idx → EReal) (ix1 j))
    (V0 (Proc.devRef .tc main_arg2))

/-- The queries. -/
def query (R : Fin 16384) : Fin 1536 → EReal :=
  qplain (first V0 R) (fun j => (V0 (Proc.devRef .tc main_arg7) : S512.Idx → EReal) (ix1 j)) (V0 (Proc.devRef .tc main_arg8))

/-- The keys and values. -/
def keyvalue (R : Fin 16384) : Fin 2048 → EReal :=
  kvplain (first V0 R) (fun j => (V0 (Proc.devRef .tc main_arg9) : S256.Idx → EReal) (ix1 j)) (V0 (Proc.devRef .tc main_arg10))

theorem first_apply (R : Fin 16384) (c : Fin 2880) : (res_main_v13 V0 : S16384x2880.Idx → EReal) (ix2 R c) = first V0 R c := by
  unfold res_main_v13 first zplain proj rmsNorm
  generalize (V0 (Proc.devRef .tc main_arg0) : S16384x2048.Idx → EReal) = X
  generalize (V0 (Proc.devRef .tc main_arg1) : S2048.Idx → EReal) = G
  generalize (V0 (Proc.devRef .tc main_arg2) : S2048x2880.Idx → EReal) = W
  pointwise

theorem gate_apply (R : Fin 16384) (c : Fin 2048) :
    (res_main_v27 V0 : S16384x2048.Idx → EReal) (ix2 R c) = gelu (first V0 R ⟨c.val, by omega⟩) := by
  rw [← first_apply]
  unfold res_main_v27 res_main_v14 gelu
  generalize (res_main_v13 V0 : S16384x2880.Idx → EReal) = Z
  rw [mul_comm (Ideal.ofBits .f32 0x3F000000#32), mul_assoc]
  pointwise

theorem mixed_apply (R : Fin 16384) (e : Fin 1024) :
    (res_main_v66 V0 : S16384x1024.Idx → EReal) (ix2 R e)
      = gatedOf (fun R e => (res_main_v27 V0 : S16384x2048.Idx → EReal) (ix2 R ⟨e.val, by omega⟩))
          (fun R => layerNorm (fun j => (res_main_v27 V0 : S16384x2048.Idx → EReal) (ix2 R ⟨1024 + j.val, by omega⟩))
            (fun j => (V0 (Proc.devRef .tc main_arg3) : S1024.Idx → EReal) (ix1 j)) (fun j => (V0 (Proc.devRef .tc main_arg4) : S1024.Idx → EReal) (ix1 j)))
          (causal (V0 (Proc.devRef .tc main_arg5))) (fun g t => (V0 (Proc.devRef .tc main_arg6) : S8x128.Idx → EReal) (ix2 g t)) R e := by
  unfold res_main_v66 res_main_v35 res_main_v33 res_main_v29 gatedOf layerNorm mean causal
  generalize (res_main_v27 V0 : S16384x2048.Idx → EReal) = U
  generalize (V0 (Proc.devRef .tc main_arg3) : S1024.Idx → EReal) = gv
  generalize (V0 (Proc.devRef .tc main_arg4) : S1024.Idx → EReal) = bv
  generalize (V0 (Proc.devRef .tc main_arg5) : S8x128x128.Idx → EReal) = W
  generalize (V0 (Proc.devRef .tc main_arg6) : S8x128.Idx → EReal) = B
  pointwise
  refine congrArg₂ (· * ·) rfl (congrArg₂ (· + ·) (Finset.sum_congr rfl fun s _ => congrArg₂ (· * ·) rfl ?_) rfl)
  refine (select_sge (⟨R.val % 128, by omega⟩ : Fin 128) s _ _).trans (if_congr Iff.rfl rfl ?_)
  show Ideal.ofBits .f32 0x00000000#32 = 0
  simp [Ideal.ofBits, Ideal.ieee]

theorem query_apply (b : Fin 8) (s : Fin 2048) (h : Fin 8) (d : Fin 192) :
    (res_main_v97 V0 : S8x2048x8x192.Idx → EReal) (ix4 b s h d) = query V0 ⟨b.val * 2048 + s.val, by omega⟩ ⟨h.val * 192 + d.val, by omega⟩ := by
  unfold query qplain
  simp only [← first_apply]
  unfold res_main_v97 res_main_v80 proj rmsNorm
  generalize (res_main_v13 V0 : S16384x2880.Idx → EReal) = Z
  generalize (V0 (Proc.devRef .tc main_arg7) : S512.Idx → EReal) = G
  generalize (V0 (Proc.devRef .tc main_arg8) : S512x1536.Idx → EReal) = W
  pointwise

theorem keyvalue_apply (b : Fin 8) (s : Fin 2048) (h : Fin 8) (d : Fin 256) :
    (res_main_v113 V0 : S8x2048x8x256.Idx → EReal) (ix4 b s h d) = keyvalue V0 ⟨b.val * 2048 + s.val, by omega⟩ ⟨h.val * 256 + d.val, by omega⟩ := by
  unfold keyvalue kvplain
  simp only [← first_apply]
  unfold res_main_v113 res_main_v98 proj rmsNorm
  generalize (res_main_v13 V0 : S16384x2880.Idx → EReal) = Z
  generalize (V0 (Proc.devRef .tc main_arg9) : S256.Idx → EReal) = G
  generalize (V0 (Proc.devRef .tc main_arg10) : S256x2048.Idx → EReal) = W
  pointwise

theorem rotated_apply (b : Fin 8) (s : Fin 2048) (h : Fin 8) (d : Fin 64) :
    (res_main_v129 V0 : S8x2048x8x64.Idx → EReal) (ix4 b s h d)
      = rotated (fun l => (res_main_v97 V0 : S8x2048x8x192.Idx → EReal) (ix4 b s h ⟨128 + l.val, by omega⟩))
          (fun l => (V0 (Proc.devRef .tc main_arg12) : S2048x32.Idx → EReal) (ix2 s l)) (fun l => (V0 (Proc.devRef .tc main_arg13) : S2048x32.Idx → EReal) (ix2 s l)) d := by
  unfold res_main_v129 res_main_v117 res_main_v118 res_main_v115 res_main_v116 res_main_v114 rotated
  generalize (res_main_v97 V0 : S8x2048x8x192.Idx → EReal) = Q
  generalize (V0 (Proc.devRef .tc main_arg12) : S2048x32.Idx → EReal) = C
  generalize (V0 (Proc.devRef .tc main_arg13) : S2048x32.Idx → EReal) = S
  pointwise

/-- The gated branch. -/
def valueA (y : S16384x1024.Idx) : EReal :=
  rmsNorm (Ideal.ofBits .f32 0x44800000#32)
    (gatedOf (fun R e => gelu (first V0 R ⟨e.val, by omega⟩))
      (fun R => layerNorm (fun j => gelu (first V0 R ⟨1024 + j.val, by omega⟩))
        (fun j => (V0 (Proc.devRef .tc main_arg3) : S1024.Idx → EReal) (ix1 j)) (fun j => (V0 (Proc.devRef .tc main_arg4) : S1024.Idx → EReal) (ix1 j)))
      (causal (V0 (Proc.devRef .tc main_arg5))) (fun g t => (V0 (Proc.devRef .tc main_arg6) : S8x128.Idx → EReal) (ix2 g t)) (y 0))
    (fun j => (V0 (Proc.devRef .tc main_arg11) : S1024.Idx → EReal) (ix1 j)) (y 1)

/-- The queries. -/
def valueQ (y : S16384x2048.Idx) : EReal :=
  qref (query V0 (y 0)) (fun l => (V0 (Proc.devRef .tc main_arg12) : S2048x32.Idx → EReal) (ix2 ⟨(y 0).val % 2048, by omega⟩ l))
    (fun l => (V0 (Proc.devRef .tc main_arg13) : S2048x32.Idx → EReal) (ix2 ⟨(y 0).val % 2048, by omega⟩ l)) (y 1)

/-- The keys. -/
def valueK (y : S16384x2048.Idx) : EReal :=
  kref (keyvalue V0 (y 0)) (first V0 (y 0)) (fun l => (V0 (Proc.devRef .tc main_arg12) : S2048x32.Idx → EReal) (ix2 ⟨(y 0).val % 2048, by omega⟩ l))
    (fun l => (V0 (Proc.devRef .tc main_arg13) : S2048x32.Idx → EReal) (ix2 ⟨(y 0).val % 2048, by omega⟩ l)) (y 1)

/-- The values. -/
def valueV (y : S16384x1024.Idx) : EReal := vout (keyvalue V0 (y 0)) (y 1)

theorem place_idx {n p : ℕ} (x : (⟨2, ![n, p]⟩ : Shape).Idx) : x = ix2 (x 0) (x 1) := funext fun a : Fin 2 => match a with
  | 0 => rfl
  | 1 => rfl

/-- The run ends with these, every argument as it was. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v155) = valueA (launchContents m c)
      ∧ r.2.mem ((c.tc : Thread nD τ).loc main_v157) = valueQ (launchContents m c)
      ∧ r.2.mem ((c.tc : Thread nD τ).loc main_v159) = valueK (launchContents m c)
      ∧ r.2.mem ((c.tc : Thread nD τ).loc main_v161) = valueV (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run (defs (F := Ideal)) _ _).mono (fun r h c => ?_) (Cert.Reference5Ideal.Value.run (F := Ideal) m ρ)
  refine ⟨(h c).1.trans (funext fun (y : S16384x1024.Idx) => ?_), (h c).2.1.trans (funext fun (y : S16384x2048.Idx) => ?_),
    (h c).2.2.1.trans (funext fun (y : S16384x2048.Idx) => ?_), (h c).2.2.2.1.trans (funext fun (y : S16384x1024.Idx) => ?_), (h c).2.2.2.2⟩
  all_goals
    clear h
    generalize launchContents m c = V0
    obtain ⟨R, e, rfl⟩ : ∃ R e, y = ix2 R e := ⟨y 0, y 1, place_idx y⟩
  · refine Eq.trans (b := rmsNorm (Ideal.ofBits .f32 0x44800000#32) (fun e => (res_main_v66 V0 : S16384x1024.Idx → EReal) (ix2 R e))
      (fun j => (V0 (Proc.devRef .tc main_arg11) : S1024.Idx → EReal) (ix1 j)) e) ?_ ?_
    · unfold rmsNorm
      generalize (res_main_v66 V0 : S16384x1024.Idx → EReal) = U
      generalize (V0 (Proc.devRef .tc main_arg11) : S1024.Idx → EReal) = G
      pointwise
    · refine congrFun (congrArg (fun u => rmsNorm _ u _) (funext fun e => (mixed_apply V0 R e).trans ?_)) e
      simp only [gate_apply]
      rfl
  · have hb : ∀ h1 h2, (⟨R.val / 2048 * 2048 + R.val % 2048, h1⟩ : Fin 16384) = ⟨R.val, h2⟩ := fun h1 h2 => Fin.ext (Nat.div_add_mod' _ _)
    refine Eq.trans (b := if h : e.val % 256 < 128 then
        (res_main_v97 V0 : S8x2048x8x192.Idx → EReal) (ix4 (⟨R.val / 2048, by omega⟩ : Fin 8) (⟨R.val % 2048, by omega⟩ : Fin 2048) (⟨e.val / 256, by omega⟩ : Fin 8) (⟨e.val % 256, by omega⟩ : Fin 192))
      else if h2 : e.val % 256 - 128 < 64 then
        (res_main_v129 V0 : S8x2048x8x64.Idx → EReal) (ix4 (⟨R.val / 2048, by omega⟩ : Fin 8) (⟨R.val % 2048, by omega⟩ : Fin 2048) (⟨e.val / 256, by omega⟩ : Fin 8) (⟨e.val % 256 - 128, h2⟩ : Fin 64))
      else (res_main_v129 V0 : S8x2048x8x64.Idx → EReal) (ix4 (⟨R.val / 2048, by omega⟩ : Fin 8) (⟨R.val % 2048, by omega⟩ : Fin 2048) (⟨e.val / 256, by omega⟩ : Fin 8) (⟨e.val % 256 - 128 - 64, by omega⟩ : Fin 64))) ?_ ?_
    · generalize (res_main_v97 V0 : S8x2048x8x192.Idx → EReal) = Q
      generalize (res_main_v129 V0 : S8x2048x8x64.Idx → EReal) = T
      pointwise
    · change _ = qref (query V0 R) _ _ e
      unfold qref
      by_cases h1 : e.val % 256 < 128
      · rw [dif_pos h1, dif_pos h1, query_apply]
        simp only [hb _ R.isLt]
        try rfl
      rw [dif_neg h1, dif_neg h1]
      by_cases h2 : e.val % 256 - 128 < 64
      · rw [dif_pos h2, rotated_apply]
        simp only [query_apply, hb _ R.isLt, show e.val % 64 = e.val % 256 - 128 by omega]
        try rfl
      · rw [dif_neg h2, rotated_apply]
        simp only [query_apply, hb _ R.isLt, show e.val % 64 = e.val % 256 - 128 - 64 by omega]
        try rfl
  · have hb : ∀ h1 h2, (⟨R.val / 2048 * 2048 + R.val % 2048, h1⟩ : Fin 16384) = ⟨R.val, h2⟩ := fun h1 h2 => Fin.ext (Nat.div_add_mod' _ _)
    refine Eq.trans (b := if h : e.val % 256 < 128 then
        (res_main_v113 V0 : S8x2048x8x256.Idx → EReal) (ix4 (⟨R.val / 2048, by omega⟩ : Fin 8) (⟨R.val % 2048, by omega⟩ : Fin 2048) (⟨e.val / 256, by omega⟩ : Fin 8) (⟨e.val % 256, by omega⟩ : Fin 256))
      else if h2 : e.val % 256 - 128 < 64 then
        rotated (fun l => (res_main_v13 V0 : S16384x2880.Idx → EReal) (ix2 R ⟨2816 + l.val, by omega⟩))
          (fun l => (V0 (Proc.devRef .tc main_arg12) : S2048x32.Idx → EReal) (ix2 ⟨R.val % 2048, by omega⟩ l))
          (fun l => (V0 (Proc.devRef .tc main_arg13) : S2048x32.Idx → EReal) (ix2 ⟨R.val % 2048, by omega⟩ l)) ⟨e.val % 256 - 128, h2⟩
      else Ideal.ofBits .f32 0x00000000#32) ?_ ?_
    · unfold rotated res_main_v134 res_main_v135 res_main_v131 res_main_v132 res_main_v133
      generalize (res_main_v113 V0 : S8x2048x8x256.Idx → EReal) = K
      generalize (res_main_v13 V0 : S16384x2880.Idx → EReal) = Z
      generalize (V0 (Proc.devRef .tc main_arg12) : S2048x32.Idx → EReal) = C
      generalize (V0 (Proc.devRef .tc main_arg13) : S2048x32.Idx → EReal) = S
      pointwise
    · change _ = kref (keyvalue V0 R) (first V0 R) _ _ e
      unfold kref
      by_cases h1 : e.val % 256 < 128
      · rw [dif_pos h1, if_pos h1, keyvalue_apply]
        simp only [hb _ R.isLt]
        exact congrArg (keyvalue V0 R) (Fin.ext (Nat.div_add_mod' _ _))
      rw [dif_neg h1, if_neg h1]
      by_cases h2 : e.val % 256 - 128 < 64
      · rw [dif_pos h2, if_pos (by omega)]
        simp only [first_apply, show e.val % 64 = e.val % 256 - 128 by omega]
        try rfl
      · rw [dif_neg h2, if_neg (by omega)]
  · have hb : ∀ h1 h2, (⟨R.val / 2048 * 2048 + R.val % 2048, h1⟩ : Fin 16384) = ⟨R.val, h2⟩ := fun h1 h2 => Fin.ext (Nat.div_add_mod' _ _)
    refine Eq.trans (b := (res_main_v113 V0 : S8x2048x8x256.Idx → EReal) (ix4 (⟨R.val / 2048, by omega⟩ : Fin 8) (⟨R.val % 2048, by omega⟩ : Fin 2048) (⟨e.val / 128, by omega⟩ : Fin 8) (⟨128 + e.val % 128, by omega⟩ : Fin 256))) ?_ ?_
    · generalize (res_main_v113 V0 : S8x2048x8x256.Idx → EReal) = K
      pointwise
    · rw [keyvalue_apply]
      simp only [hb _ R.isLt]
      exact congrArg (keyvalue V0 R) (Fin.ext (Nat.add_assoc _ _ _).symm)

end Cert.Reference5Ideal.Front
-- ==== Proof.Front.Finite.lean ====
/-
  Hand-written. The front call's results are its reference's, of real rows, gains and weights.
-/
module

public import proofs.«01_k».proof.Proof.Front.Value
public import proofs.«01_k».proof.Proof.Front.Ref
public import proofs.«01_k».proof.Pre_finite_front
public import proofs.«01_k».proof.Proof.Gen.Pre_finite_front

@[expose] public section

set_option maxRecDepth 16384

noncomputable section

namespace Cert.Front

open Idealize.ShloMosaic Idealize.ShloMosaic.TcCoe

/-- What lies below infinity in absolute value is a real number. -/
theorem real_of_lt (x : EReal) (h : BitVec.ofBool (decide (max x (-x) < Ideal.ofBits .f32 0x7F800000#32)) = 1#1) : IsReal x := by
  have ht : Ideal.ofBits .f32 0x7F800000#32 = (⊤ : EReal) := by unfold Ideal.ofBits Ideal.ieee; rfl
  rw [ht] at h
  have h' : max x (-x) < ⊤ := by
    by_contra hn
    rw [decide_eq_false hn] at h
    exact absurd h (by decide)
  refine ⟨fun e => ?_, fun e => ?_⟩
  · rw [e] at h'; exact absurd h' (not_lt_of_ge (le_max_left _ _))
  · rw [e, EReal.neg_bot] at h'; exact absurd h' (not_lt_of_ge (le_max_right _ _))

open Cert.Pre_finite_front in
/-- What the precondition says of the rows, the gains and the weights. -/
theorem real_of_pre (a0 : FVec Ideal S16384x2048 .f32) (a1 : FVec Ideal S2048 .f32) (a2 : FVec Ideal S2048x2880 .f32) (a3 a4 : FVec Ideal S1024 .f32)
    (a5 : FVec Ideal S8x128x128 .f32) (a6 : FVec Ideal S8x128 .f32) (a7 : FVec Ideal S512 .f32) (a8 : FVec Ideal S512x1536 .f32) (a9 : FVec Ideal S256 .f32)
    (a10 : FVec Ideal S256x2048 .f32) (a11 : FVec Ideal S1024 .f32) (a12 a13 : FVec Ideal S2048x32 .f32)
    (h : Cert.Pre_finite_front.fn (F := Ideal) a0 a1 a2 a3 a4 a5 a6 a7 a8 a9 a10 a11 a12 a13 = fun _ => 1#1) :
    (∀ i, IsReal (a0 i)) ∧ (∀ i, IsReal (a1 i)) ∧ (∀ i, IsReal (a2 i)) ∧ (∀ i, IsReal (a7 i)) ∧ ∀ i, IsReal (a8 i) := by
  have h1 := congrFun h ix0
  unfold Cert.Pre_finite_front.fn Cert.Pre_finite_front.fn_part1 at h1
  have hb : ∀ u v : BitVec 1, IntOp.andi u v = 1#1 → u = 1#1 ∧ v = 1#1 := by decide
  have h2 := hb _ _ h1
  have h3 := hb _ _ h2.1
  have h4 := hb _ _ h3.1
  have h5 := hb _ _ h4.1
  have k0 := h5.1
  have k1 := h5.2
  have k2 := h4.2
  have k7 := h3.2
  have k8 := h2.2
  change Host.reduce IntOp.andi _ _ _ _ ix0 = 1#1 at k0
  change Host.reduce IntOp.andi _ _ _ _ ix0 = 1#1 at k1
  change Host.reduce IntOp.andi _ _ _ _ ix0 = 1#1 at k2
  change Host.reduce IntOp.andi _ _ _ _ ix0 = 1#1 at k7
  change Host.reduce IntOp.andi _ _ _ _ ix0 = 1#1 at k8
  rw [Host.reduce_eq_fold] at k0 k1 k2 k7 k8
  refine ⟨fun i => ?_, fun i => ?_, fun i => ?_, fun i => ?_, fun i => ?_⟩
  · exact real_of_lt _ (Cert.Attn.all_of_fold _ _ k0 i (Finset.mem_filter.2 ⟨Finset.mem_univ _, funext fun b => b.elim0⟩))
  · exact real_of_lt _ (Cert.Attn.all_of_fold _ _ k1 i (Finset.mem_filter.2 ⟨Finset.mem_univ _, funext fun b => b.elim0⟩))
  · exact real_of_lt _ (Cert.Attn.all_of_fold _ _ k2 i (Finset.mem_filter.2 ⟨Finset.mem_univ _, funext fun b => b.elim0⟩))
  · exact real_of_lt _ (Cert.Attn.all_of_fold _ _ k7 i (Finset.mem_filter.2 ⟨Finset.mem_univ _, funext fun b => b.elim0⟩))
  · exact real_of_lt _ (Cert.Attn.all_of_fold _ _ k8 i (Finset.mem_filter.2 ⟨Finset.mem_univ _, funext fun b => b.elim0⟩))

section

open Cert.Kernel5Ideal (nD τ sig)
open Cert.Kernel5Ideal.Front Cert.Reference5Ideal.Front

variable (m : (ℓ : Loc nD τ sig) → Buf (Elt Ideal) ℓ) (c : Dev nD) (V0 : Valuation Cert.Reference5Ideal.τ Cert.Reference5Ideal.sig (Elt Ideal))

/-- The two programs' arguments agree. -/
structure Agree : Prop where
  e0 : (V0 (Proc.devRef .tc Cert.Reference5Ideal.main_arg0) : Cert.Reference5Ideal.S16384x2048.Idx → EReal) = m (c.tc.loc Cert.Kernel5Ideal.main_arg0)
  e1 : (V0 (Proc.devRef .tc Cert.Reference5Ideal.main_arg1) : Cert.Reference5Ideal.S2048.Idx → EReal) = m (c.tc.loc Cert.Kernel5Ideal.main_arg1)
  e2 : (V0 (Proc.devRef .tc Cert.Reference5Ideal.main_arg2) : Cert.Reference5Ideal.S2048x2880.Idx → EReal) = m (c.tc.loc Cert.Kernel5Ideal.main_arg2)
  e3 : (V0 (Proc.devRef .tc Cert.Reference5Ideal.main_arg3) : Cert.Reference5Ideal.S1024.Idx → EReal) = m (c.tc.loc Cert.Kernel5Ideal.main_arg3)
  e4 : (V0 (Proc.devRef .tc Cert.Reference5Ideal.main_arg4) : Cert.Reference5Ideal.S1024.Idx → EReal) = m (c.tc.loc Cert.Kernel5Ideal.main_arg4)
  e5 : (V0 (Proc.devRef .tc Cert.Reference5Ideal.main_arg5) : Cert.Reference5Ideal.S8x128x128.Idx → EReal) = m (c.tc.loc Cert.Kernel5Ideal.main_arg5)
  e6 : (V0 (Proc.devRef .tc Cert.Reference5Ideal.main_arg6) : Cert.Reference5Ideal.S8x128.Idx → EReal) = m (c.tc.loc Cert.Kernel5Ideal.main_arg6)
  e7 : (V0 (Proc.devRef .tc Cert.Reference5Ideal.main_arg7) : Cert.Reference5Ideal.S512.Idx → EReal) = m (c.tc.loc Cert.Kernel5Ideal.main_arg7)
  e8 : (V0 (Proc.devRef .tc Cert.Reference5Ideal.main_arg8) : Cert.Reference5Ideal.S512x1536.Idx → EReal) = m (c.tc.loc Cert.Kernel5Ideal.main_arg8)
  e9 : (V0 (Proc.devRef .tc Cert.Reference5Ideal.main_arg9) : Cert.Reference5Ideal.S256.Idx → EReal) = m (c.tc.loc Cert.Kernel5Ideal.main_arg9)
  e10 : (V0 (Proc.devRef .tc Cert.Reference5Ideal.main_arg10) : Cert.Reference5Ideal.S256x2048.Idx → EReal) = m (c.tc.loc Cert.Kernel5Ideal.main_arg10)
  e11 : (V0 (Proc.devRef .tc Cert.Reference5Ideal.main_arg11) : Cert.Reference5Ideal.S1024.Idx → EReal) = m (c.tc.loc Cert.Kernel5Ideal.main_arg11)
  e12 : (V0 (Proc.devRef .tc Cert.Reference5Ideal.main_arg12) : Cert.Reference5Ideal.S2048x32.Idx → EReal) = m (c.tc.loc Cert.Kernel5Ideal.main_arg12)
  e13 : (V0 (Proc.devRef .tc Cert.Reference5Ideal.main_arg13) : Cert.Reference5Ideal.S2048x32.Idx → EReal) = m (c.tc.loc Cert.Kernel5Ideal.main_arg13)

variable (E : Agree m c V0)
include E

theorem first_eq (R : Fin 16384) (e : ℕ) (h : e < 2880) (h' : e < 2944) : firsts m c R ⟨e, h'⟩ = first V0 R ⟨e, h⟩ := by
  unfold firsts first
  rw [E.e0, E.e1, E.e2]
  exact zrow_low _ _ _ e h h'

theorem keyvalue_eq (R : Fin 16384) : keyvalues m c R = keyvalue V0 R := by
  unfold keyvalues keyvalue kvrow kvplain
  rw [E.e9, E.e10]
  have hz : (fun j : Fin 256 => firsts m c R ⟨2560 + j.val, by omega⟩) = fun j : Fin 256 => first V0 R ⟨2560 + j.val, by omega⟩ :=
    funext fun j => first_eq m c V0 E R _ _ _
  rw [hz]

theorem valueV_eq : valueV V0 = resultV m c := funext fun y => by
  exact congrFun (congrArg vout (keyvalue_eq m c V0 E (y 0)).symm) (y 1)

theorem valueA_eq : valueA V0 = resultA m c := funext fun y => by
  unfold valueA resultA
  rw [E.e3, E.e4, E.e5, E.e6, E.e11]
  refine congrFun (congrArg (fun u => rmsNorm _ u _) (funext fun e => ?_)) (y 1)
  unfold gatedOf gatedAt
  refine congrArg₂ (· * ·) (congrArg gelu (first_eq m c V0 E _ _ _ _).symm) (congrArg₂ (· + ·) (Finset.sum_congr rfl fun s _ => ?_) rfl)
  refine (mul_comm _ _).trans (congrArg₂ (· * ·) rfl ?_)
  exact congrFun (congrArg (fun u => layerNorm u _ _) (funext fun j => congrArg gelu (first_eq m c V0 E _ _ _ _).symm)) e

variable (h0 : ∀ i, IsReal ((m (c.tc.loc Cert.Kernel5Ideal.main_arg0) : Cert.Kernel5Ideal.S16384x2048.Idx → EReal) i)) (h1 : ∀ i, IsReal ((m (c.tc.loc Cert.Kernel5Ideal.main_arg1) : Cert.Kernel5Ideal.S2048.Idx → EReal) i)) (h2 : ∀ i, IsReal ((m (c.tc.loc Cert.Kernel5Ideal.main_arg2) : Cert.Kernel5Ideal.S2048x2880.Idx → EReal) i))
include h0 h1 h2

theorem first_real (R : Fin 16384) (e : Fin 2880) : IsReal (first V0 R e) := by
  unfold first
  rw [E.e0, E.e1, E.e2]
  exact zplain_real _ _ _ (fun _ => h0 _) (fun _ => h1 _) h2 e

theorem first_extended (R : Fin 16384) (l : Fin 128) :
    firsts m c R ⟨2816 + l.val, by omega⟩ = extended (fun l => first V0 R ⟨2816 + l.val, by omega⟩) l := by
  unfold firsts first
  rw [E.e0, E.e1, E.e2]
  exact zrow_extended _ _ _ (fun _ => h0 _) (fun _ => h1 _) h2 l

theorem valueK_eq : valueK V0 = resultK m c := funext fun y => by
  obtain ⟨R, e, rfl⟩ : ∃ R e, y = ix2 R e := ⟨y 0, y 1, Cert.Reference5Ideal.Front.place_idx y⟩
  change kref (keyvalue V0 R) (first V0 R) _ _ e = kout (keyvalues m c R) (fun l => firsts m c R ⟨2816 + l.val, _⟩ * angles m c R l) e
  unfold kref kout
  rw [keyvalue_eq m c V0 E, E.e12, E.e13]
  by_cases q1 : e.val % 256 < 128
  · rw [if_pos q1, if_pos q1]
  rw [if_neg q1, if_neg q1]
  by_cases q2 : e.val % 128 < 64
  · rw [if_pos q2, if_pos q2]
    simp only [first_extended m c V0 E h0 h1 h2]
    unfold angles
    rw [turned_extended]
    simp only [show e.val % 128 % 64 = e.val % 64 by omega]
    rfl
  · rw [if_neg q2, if_neg q2]

variable (h7 : ∀ i, IsReal ((m (c.tc.loc Cert.Kernel5Ideal.main_arg7) : Cert.Kernel5Ideal.S512.Idx → EReal) i)) (h8 : ∀ i, IsReal ((m (c.tc.loc Cert.Kernel5Ideal.main_arg8) : Cert.Kernel5Ideal.S512x1536.Idx → EReal) i))
include h7 h8

theorem query_extended (R : Fin 16384) (h : Fin 8) (l : Fin 128) :
    queries m c R ⟨h.val * 256 + 128 + l.val, by omega⟩ = extended (fun l => query V0 R ⟨h.val * 192 + (128 + l.val), by omega⟩) l := by
  unfold queries query
  rw [E.e7, E.e8]
  exact qrow_extended _ _ (first_eq m c V0 E R) _ _ (first_real m c V0 E h0 h1 h2 R) (fun _ => h7 _) h8 h l

omit h0 h1 h2 h7 h8 in
theorem query_low (R : Fin 16384) (e : Fin 2048) (h : e.val % 256 < 192) :
    queries m c R e = query V0 R ⟨e.val / 256 * 192 + e.val % 256, by omega⟩ := by
  unfold queries query
  rw [E.e7, E.e8]
  exact qrow_low _ _ (first_eq m c V0 E R) _ _ e h

theorem valueQ_eq : valueQ V0 = resultQ m c := funext fun y => by
  obtain ⟨R, e, rfl⟩ : ∃ R e, y = ix2 R e := ⟨y 0, y 1, Cert.Reference5Ideal.Front.place_idx y⟩
  change qref (query V0 R) _ _ e = qout (queries m c R) (angles m c R) e
  unfold qref qout
  rw [E.e12, E.e13]
  by_cases q1 : e.val % 256 < 128
  · rw [dif_pos q1, if_pos q1, query_low m c V0 E R e (by omega)]
  rw [dif_neg q1, if_neg q1]
  have hq : ∀ l : Fin 128, queries m c R ⟨e.val / 256 * 256 + 128 + l.val, by omega⟩ = _ := fun l =>
    query_extended m c V0 E h0 h1 h2 h7 h8 R ⟨e.val / 256, by omega⟩ l
  simp only [hq]
  unfold angles
  rw [turned_extended]
  simp only [show e.val % 128 % 64 = e.val % 64 by omega]
  rfl

end

end Cert.Front
-- ==== Proof.Front.Claims.lean ====
/-
  Hand-written. The claims of the front call: its runs end with every argument as it was, and at the ideal values with
  the reference's results.
-/
module

public import proofs.«01_k».proof.Defs
public import proofs.«01_k».proof.Proof.Front.Finite
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_front
public import Idealize.ShloMosaic.Lib.Quiescent

@[expose] public section

set_option maxRecDepth 16384

noncomputable section

namespace Cert.Front

open Idealize.ShloMosaic Idealize.ShloMosaic.TcCoe Idealize.SL.Sem

theorem frame_kernel : Cert.quiescent_Kernel5 := fun m ρ _ => Cert.Kernel5.Gen.frame (F := Bits) m ρ

theorem frame_kernelIdeal : Cert.quiescent_Kernel5Ideal := fun m ρ _ => Cert.Kernel5Ideal.Gen.frame (F := Ideal) m ρ

theorem frame_referenceIdeal : Cert.quiescent_Reference5Ideal := fun m ρ _ =>
  (θ_run (Cert.Reference5Ideal.defs (F := Ideal)) _ _).mono (fun r h => ⟨fun c => (h c).2.2.2.2, sem_eq_zero_of_no_sems rfl r.2⟩)
    (Cert.Reference5Ideal.Front.run_values m ρ)

theorem algebraic : Cert.algebraic_Kernel5Ideal_Reference5Ideal_pre_finite_front := fun m ρ m' ρ' hp hm =>
  have hs := fun c : Dev Cert.Kernel5Ideal.nD => real_of_pre _ _ _ _ _ _ _ _ _ _ _ _ _ _ (hp c)
  have E := fun c : Dev Cert.Kernel5Ideal.nD => (show Agree m c (StableHlo.launchContents m' c) from by
    obtain ⟨e0, e1, e2, e3, e4, e5, e6, e7, e8, e9, e10, e11, e12, e13⟩ := hm c
    exact ⟨e0, e1, e2, e3, e4, e5, e6, e7, e8, e9, e10, e11, e12, e13⟩)
  ⟨fun c => Cert.Kernel5Ideal.Front.resultA m c, fun c => Cert.Kernel5Ideal.Front.resultQ m c, fun c => Cert.Kernel5Ideal.Front.resultK m c,
    fun c => Cert.Kernel5Ideal.Front.resultV m c,
    (θ_run (Cert.Kernel5Ideal.defs (F := Ideal)) _ _).mono (fun _ hr c =>
      ⟨(hr c).1.trans (Cert.Kernel5Ideal.Front.array_13 m c), (hr c).2.1.trans (Cert.Kernel5Ideal.Front.array_14 m c),
        (hr c).2.2.1.trans (Cert.Kernel5Ideal.Front.array_15 m c), (hr c).2.2.2.1.trans (Cert.Kernel5Ideal.Front.array_16 m c), (hr c).2.2.2.2⟩)
      (Cert.Kernel5Ideal.Value.run_blocks (F := Ideal) m ρ),
    (θ_run (Cert.Reference5Ideal.defs (F := Ideal)) _ _).mono (fun _ hr c =>
      ⟨(hr c).1.trans (valueA_eq m c _ (E c)),
        (hr c).2.1.trans (valueQ_eq m c _ (E c) (hs c).1 (hs c).2.1 (hs c).2.2.1 (hs c).2.2.2.1 (hs c).2.2.2.2),
        (hr c).2.2.1.trans (valueK_eq m c _ (E c) (hs c).1 (hs c).2.1 (hs c).2.2.1),
        (hr c).2.2.2.1.trans (valueV_eq m c _ (E c)), (hr c).2.2.2.2⟩) (Cert.Reference5Ideal.Front.run_values m' ρ')⟩

end Cert.Front
-- ==== Proof.lean ====
/-
  Hand-written. The claims: every run of the kernel ends, its arguments as they were and its semaphores at zero, with
  the result array the reference computes.
-/
module

public import proofs.«01_k».proof.Defs
public import proofs.«01_k».proof.Proof.RefDest
public import proofs.«01_k».proof.Proof.Same
public import proofs.«01_k».proof.Proof.Experts.Claims
public import proofs.«01_k».proof.Proof.Attn.Claims
public import proofs.«01_k».proof.Proof.Combine.Claims
public import proofs.«01_k».proof.Proof.Front.Claims
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.Pre_in_range
public import proofs.«01_k».proof.Proof.Gen.ReferenceIdeal.Run
public import proofs.«01_k».proof.Proof.Gen.Reference.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Idealize.ShloMosaic.ValueIdx Idealize.ShloMosaic.Routing
open Cert.KernelIdeal.Scatter (expertOf filled targets_of V_main_v29 run_main)
open Cert.Ranks (dest)

/-! ## The precondition -/

/-- An AND over a set that comes to one is one everywhere. -/
theorem all_of_fold {ι : Type} (f : ι → BitVec 1) (s : Finset ι) (h : s.fold IntOp.andi 1#1 f = 1#1) : ∀ i ∈ s, f i = 1#1 := by
  classical
  induction s using Finset.induction_on with
  | empty => intro i hi; exact absurd hi (Finset.notMem_empty i)
  | insert a s ha ih =>
    rw [Finset.fold_insert ha] at h
    have hb : ∀ u v : BitVec 1, IntOp.andi u v = 1#1 → u = 1#1 ∧ v = 1#1 := by decide
    obtain ⟨h1, h2⟩ := hb _ _ h
    intro i hi
    rcases Finset.mem_insert.1 hi with rfl | hi
    · exact h1
    · exact ih h2 i hi

/-- Where the precondition holds every assignment's expert is below 64. -/
theorem experts_lt {F : FTy → Type} [FloatOps F] (x : IVec Cert.Pre_in_range.S16384x2 32) (hp : IVec Cert.Pre_in_range.S16384x1024 32)
    (h : Cert.Pre_in_range.fn (F := F) x hp = fun _ => 1#1) : ∀ i, i < 32768 → expertOf x i < 64 := by
  have h1 := congrFun h ValueIdx.ix0
  unfold Cert.Pre_in_range.fn at h1
  change Host.reduce IntOp.andi _ _ _ _ ValueIdx.ix0 = 1#1 at h1
  rw [Host.reduce_eq_fold] at h1
  have h2 := all_of_fold _ _ h1
  intro i hi
  unfold expertOf
  rw [dif_pos hi]
  have h3 := h2 (ValueIdx.ix2 (n0 := 16384) (n1 := 2) ⟨i / 2, by omega⟩ ⟨i % 2, by omega⟩) (Finset.mem_filter.2 ⟨Finset.mem_univ _, funext fun b => b.elim0⟩)
  generalize ValueIdx.ix2 (n0 := 16384) (n1 := 2) ⟨i / 2, _⟩ ⟨i % 2, _⟩ = k at h3 ⊢
  change IntOp.andi (IntOp.cmpi .sge (x k) 0#32) (IntOp.cmpi .slt (x k) 64#32) = 1#1 at h3
  have hb : ∀ u v : BitVec 1, IntOp.andi u v = 1#1 → u = 1#1 ∧ v = 1#1 := by decide
  obtain ⟨h4, h5⟩ := hb _ _ h3
  have h6 : (0#32).sle (x k) = true := (StableHlo.Predicate.ofBool_eq_one_iff _).1 h4
  have h7 : (x k).slt 64#32 = true := (StableHlo.Predicate.ofBool_eq_one_iff _).1 h5
  have h8 : 0 ≤ (x k).toInt := by
    have := of_decide_eq_true h6
    simpa using this
  have h9 := toNat_lt_of_toInt_nonneg _ h8
  have h10 : (x k).toInt < (64#32).toInt := of_decide_eq_true h7
  rw [StableHlo.Predicate.toInt_eq_toNat_of_lt h9, show (64#32).toInt = 64 from rfl] at h10
  omega

/-! ## The kernel's run -/

/-- What every run of the kernel ends with. -/
theorem kernel_run {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hp : ∀ c : Dev Cert.KernelIdeal.nD, Cert.Pre_in_range.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = (fun _ => 1#1)) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_v29)
          = filled (dest (expertOf (m ((c.tc : Thread Cert.KernelIdeal.nD Cert.KernelIdeal.τ).loc Cert.KernelIdeal.main_arg0))))
              (m ((c.tc : Thread Cert.KernelIdeal.nD Cert.KernelIdeal.τ).loc Cert.KernelIdeal.main_arg1)) 32768
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0) :=
  run_main (F := F) ρ (targets_of m fun c => experts_lt (F := F) _ _ (hp c)) (V_main_v29 m)

/-! ## Frames -/

/-- A run of one program is a run of an equal one. -/
theorem carry {D₁ D₂ : Defs Cert.Kernel.nD Cert.Kernel.τ Cert.Kernel.sig (Elt Bits) (Pipeline.Sig Cert.Kernel.Λ₀ (Fin 1) fun p => (Cert.Kernel.pcfgs (F := Bits) p).Adm)}
    {p₁ p₂ : Dev Cert.Kernel.nD → Prog (TpuEff Cert.Kernel.nD Cert.Kernel.τ Cert.Kernel.sig (Elt Bits)
      (Pipeline.Sig Cert.Kernel.Λ₀ (Fin 1) fun p => (Cert.Kernel.pcfgs (F := Bits) p).Adm) .tc) PUnit}
    (hD : D₁ = D₂) (hp : p₁ = p₂) {s} {Q} (h : θ_run D₂ (onTc (τ := Cert.Kernel.τ) p₂) s Q) : θ_run D₁ (onTc (τ := Cert.Kernel.τ) p₁) s Q := by
  subst hD hp
  exact h

theorem frame_kernel : Cert.quiescent_Kernel := fun m ρ hp =>
  carry Cert.Same.tables Cert.Same.main_same
    ((θ_run (Cert.KernelIdeal.defs (F := Bits)) _ _).mono (fun _ h => ⟨fun c => (h.1 c).2, h.2⟩) (kernel_run (F := Bits) m ρ hp))

theorem frame_kernelIdeal : Cert.quiescent_KernelIdeal := fun m ρ hp =>
  (θ_run (Cert.KernelIdeal.defs (F := Ideal)) _ _).mono (fun _ h => ⟨fun c => (h.1 c).2, h.2⟩) (kernel_run (F := Ideal) m ρ hp)

theorem frame_reference : Cert.quiescent_Reference := fun m ρ _ =>
  (θ_run (Cert.Reference.defs (F := Bits)) _ _).mono (fun r h => ⟨fun c => (h c).2, sem_eq_zero_of_no_sems rfl r.2⟩) (Cert.Reference.Value.run (F := Bits) m ρ)

theorem frame_referenceIdeal : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

/-! ## Values -/

set_option maxRecDepth 8192 in
theorem bitexact : Cert.bitexact_Kernel_Reference := fun m ρ m' ρ' hp hm =>
  ⟨fun c => filled (dest (expertOf (m ((c.tc : Thread Cert.KernelIdeal.nD Cert.KernelIdeal.τ).loc Cert.KernelIdeal.main_arg0))))
      (m ((c.tc : Thread Cert.KernelIdeal.nD Cert.KernelIdeal.τ).loc Cert.KernelIdeal.main_arg1)) 32768,
    carry Cert.Same.tables Cert.Same.main_same
      ((θ_run (Cert.KernelIdeal.defs (F := Bits)) _ _).mono (fun _ h => h.1) (kernel_run (F := Bits) m ρ hp)),
    (θ_run (Cert.Reference.defs (F := Bits)) _ _).mono (fun r h c => ⟨(h c).1.trans (by
      refine Eq.trans (b := Cert.Scattered.resultW (m' ((c.tc : Thread Cert.Reference.nD Cert.Reference.τ).loc Cert.Reference.main_arg0))
        (m' ((c.tc : Thread Cert.Reference.nD Cert.Reference.τ).loc Cert.Reference.main_arg1))) rfl ?_
      rw [(hm c).1, (hm c).2]
      exact Cert.Scattered.resultW_eq _ (experts_lt (F := Bits) _ _ (hp c)) _), (h c).2⟩) (Cert.Reference.Value.run (F := Bits) m' ρ')⟩

set_option maxRecDepth 8192 in
theorem algebraic : Cert.algebraic_KernelIdeal_ReferenceIdeal := fun m ρ m' ρ' hp hm =>
  ⟨fun c => filled (dest (expertOf (m ((c.tc : Thread Cert.KernelIdeal.nD Cert.KernelIdeal.τ).loc Cert.KernelIdeal.main_arg0))))
      (m ((c.tc : Thread Cert.KernelIdeal.nD Cert.KernelIdeal.τ).loc Cert.KernelIdeal.main_arg1)) 32768,
    (θ_run (Cert.KernelIdeal.defs (F := Ideal)) _ _).mono (fun _ h => h.1) (kernel_run (F := Ideal) m ρ hp),
    (θ_run (Cert.ReferenceIdeal.defs (F := Ideal)) _ _).mono (fun r h c => ⟨(h c).1.trans (by
      refine Eq.trans (b := Cert.Scattered.resultW (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))) rfl ?_
      rw [(hm c).1, (hm c).2]
      exact Cert.Scattered.resultW_eq _ (experts_lt (F := Ideal) _ _ (hp c)) _), (h c).2⟩) (Cert.ReferenceIdeal.Value.run (F := Ideal) m' ρ')⟩

theorem claim : Cert.Claim :=
  ⟨Cert.Kernel.Gen.facts, Cert.KernelIdeal.Gen.facts, Cert.Reference.Gen.facts, Cert.ReferenceIdeal.Gen.facts,
    Cert.Kernel2.Gen.facts, Cert.Kernel2Ideal.Gen.facts, Cert.Reference2.Gen.facts, Cert.Reference2Ideal.Gen.facts,
    Cert.Kernel3.Gen.facts, Cert.Kernel3Ideal.Gen.facts, Cert.Reference3.Gen.facts, Cert.Reference3Ideal.Gen.facts,
    Cert.Kernel4.Gen.facts, Cert.Kernel4Ideal.Gen.facts, Cert.Reference4.Gen.facts, Cert.Reference4Ideal.Gen.facts,
    Cert.Kernel5.Gen.facts, Cert.Kernel5Ideal.Gen.facts, Cert.Reference5Ideal.Gen.facts,
    Cert.Pre_in_range.Gen.facts, Cert.Pre_experts_in_range.Gen.facts, Cert.Pre_finite_scores.Gen.facts, Cert.Pre_rows_in_range.Gen.facts,
    Cert.Pre_finite_front.Gen.facts,
    frame_kernel, frame_kernelIdeal, frame_reference, fun m ρ _ => frame_reference m ρ trivial, frame_referenceIdeal,
    fun m ρ _ => frame_referenceIdeal m ρ trivial,
    Cert.Experts.frame_kernel, Cert.Experts.frame_kernelIdeal, Cert.Experts.frame_reference, Cert.Experts.frame_referenceIdeal,
    fun m ρ _ => Cert.Experts.frame_referenceIdeal m ρ trivial,
    Cert.Attn.frame_kernel, Cert.Attn.frame_kernelIdeal, fun m ρ _ => Cert.Attn.frame_kernelIdeal m ρ trivial,
    Cert.Attn.frame_reference, Cert.Attn.frame_referenceIdeal, fun m ρ _ => Cert.Attn.frame_referenceIdeal m ρ trivial,
    Cert.Combine.frame_kernel, Cert.Combine.frame_kernelIdeal, Cert.Combine.frame_reference, Cert.Combine.frame_referenceIdeal,
    fun m ρ _ => Cert.Combine.frame_referenceIdeal m ρ trivial,
    Cert.Front.frame_kernel, Cert.Front.frame_kernelIdeal, fun m ρ _ => Cert.Front.frame_kernelIdeal m ρ trivial,
    Cert.Front.frame_referenceIdeal, fun m ρ _ => Cert.Front.frame_referenceIdeal m ρ trivial,
    trivial, algebraic, bitexact, trivial, Cert.Experts.algebraic, Cert.Attn.preserves, Cert.Attn.algebraic,
    trivial, Cert.Combine.algebraic, trivial, Cert.Front.algebraic⟩

end Cert.Proof
